-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S100000x256 : Shape := ⟨2, ![100000, 256]⟩
abbrev S256x256 : Shape := ⟨2, ![256, 256]⟩
abbrev S100000 : Shape := ⟨1, ![100000]⟩
abbrev S256x512 : Shape := ⟨2, ![256, 512]⟩
abbrev S256 : Shape := ⟨1, ![256]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel

variable [Facts]

def fn {F : FTy → Type} [FloatOps F] (main_arg0 : FVec F S100000x256 .f32) (main_arg1 : FVec F S256x256 .f32) (main_arg2 : IVec S100000 32) (main_arg3 : FVec F S256x512 .f32) (main_arg4 : FVec F S256 .f32) : IVec S_ 1 :=
  let main_c : IVec S_ 32 := constantI S_ 32 0#32
  let main_v0 : IVec S100000 32 := broadcastInDim S100000 ![] bcast_S_S100000 main_c
  let main_v1 : IVec S100000 1 := cmpi .sge main_arg2 main_v0
  let main_c_0 : IVec S_ 32 := constantI S_ 32 256#32
  let main_v2 : IVec S100000 32 := broadcastInDim S100000 ![] bcast_S_S100000 main_c_0
  let main_v3 : IVec S100000 1 := cmpi .slt main_arg2 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  main_v5
-- ==== Kernel.lean ====
abbrev S100000x256 : Shape := ⟨2, ![100000, 256]⟩
abbrev S256x256 : Shape := ⟨2, ![256, 256]⟩
abbrev S100000 : Shape := ⟨1, ![100000]⟩
abbrev S256x512 : Shape := ⟨2, ![256, 512]⟩
abbrev S256 : Shape := ⟨1, ![256]⟩
abbrev S_ : Shape := ⟨0, ![]⟩
abbrev S0 : Shape := ⟨1, ![0]⟩
abbrev S32 : Shape := ⟨1, ![32]⟩
abbrev S1x32 : Shape := ⟨2, ![1, 32]⟩
abbrev S99968 : Shape := ⟨1, ![99968]⟩
abbrev S3124x32 : Shape := ⟨2, ![3124, 32]⟩
abbrev S3126x32 : Shape := ⟨2, ![3126, 32]⟩
abbrev S3126x32x1 : Shape := ⟨3, ![3126, 32, 1]⟩
abbrev S3126x32x16 : Shape := ⟨3, ![3126, 32, 16]⟩
abbrev S3126x512 : Shape := ⟨2, ![3126, 512]⟩
abbrev S32x256x256 : Shape := ⟨3, ![32, 256, 256]⟩
abbrev S512 : Shape := ⟨1, ![512]⟩
abbrev S32x256 : Shape := ⟨2, ![32, 256]⟩
abbrev S264x256 : Shape := ⟨2, ![264, 256]⟩
abbrev S16 : Shape := ⟨1, ![16]⟩
abbrev S1x16 : Shape := ⟨2, ![1, 16]⟩
abbrev S1x512 : Shape := ⟨2, ![1, 512]⟩
abbrev S1x256x256 : Shape := ⟨3, ![1, 256, 256]⟩
abbrev S1x256 : Shape := ⟨2, ![1, 256]⟩

abbrev nBuf : Table → Nat
  | .hbm => 23
  | .local .tc .vmem => 6
  | .local .scVector .vmem => 5
  | _ => 0

abbrev bufTy : (tb : Table) → Fin (nBuf tb) → BufTy
  | .hbm, ⟨0, _⟩ => ⟨S100000x256, .f32⟩
  | .hbm, ⟨1, _⟩ => ⟨S256x256, .f32⟩
  | .hbm, ⟨2, _⟩ => ⟨S100000, .i32⟩
  | .hbm, ⟨3, _⟩ => ⟨S256x512, .f32⟩
  | .hbm, ⟨4, _⟩ => ⟨S256, .f32⟩
  | .hbm, ⟨5, _⟩ => ⟨S_, .i32⟩
  | .hbm, ⟨6, _⟩ => ⟨S0, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S1x32, .i32⟩
  | .hbm, ⟨11, _⟩ => ⟨S99968, .i32⟩
  | .hbm, ⟨12, _⟩ => ⟨S3124x32, .i32⟩
  | .hbm, ⟨13, _⟩ => ⟨S1x32, .i32⟩
  | .hbm, ⟨14, _⟩ => ⟨S3126x32, .i32⟩
  | .hbm, ⟨15, _⟩ => ⟨S3126x32x1, .i32⟩
  | .hbm, ⟨16, _⟩ => ⟨S3126x32x16, .i32⟩
  | .hbm, ⟨17, _⟩ => ⟨S3126x512, .i32⟩
  | .hbm, ⟨18, _⟩ => ⟨S32x256x256, .f32⟩
  | .hbm, ⟨19, _⟩ => ⟨S256x256, .f32⟩
  | .hbm, ⟨20, _⟩ => ⟨S256x256, .f32⟩
  | .hbm, ⟨21, _⟩ => ⟨S1x256, .f32⟩
  | .hbm, ⟨22, _⟩ => ⟨S256x256, .f32⟩
  | .local .tc .vmem, ⟨0, _⟩ => ⟨S32x256x256, .f32⟩
  | .local .tc .vmem, ⟨1, _⟩ => ⟨S256x256, .f32⟩
  | .local .tc .vmem, ⟨2, _⟩ => ⟨S256x256, .f32⟩
  | .local .tc .vmem, ⟨3, _⟩ => ⟨S256x256, .f32⟩
  | .local .tc .vmem, ⟨4, _⟩ => ⟨S1x256, .f32⟩
  | .local .tc .vmem, ⟨5, _⟩ => ⟨S256x256, .f32⟩
  | .local .scVector .vmem, ⟨0, _⟩ => ⟨S512, .i32⟩
  | .local .scVector .vmem, ⟨1, _⟩ => ⟨S512, .i32⟩
  | .local .scVector .vmem, ⟨2, _⟩ => ⟨S32x256, .f32⟩
  | .local .scVector .vmem, ⟨3, _⟩ => ⟨S32x256, .f32⟩
  | .local .scVector .vmem, ⟨4, _⟩ => ⟨S264x256, .f32⟩
  | _, _ => ⟨S100000x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | ⟨10, _⟩ => true
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_arg0_scv : Ref sig .scVector := ⟨.hbm, 0, rfl⟩
abbrev main_v10_scv : Ref sig .scVector := ⟨.hbm, 17, rfl⟩
abbrev main_v11_scv : Ref sig .scVector := ⟨.hbm, 18, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c264_i32 : BitVec 32 := 264#32
  let v3 : BitVec 32 := Scalar.addi c0_i32_0 c264_i32
  let c1_i32 : BitVec 32 := 1#32
  ⟨c0_i32_0, v3, c1_i32⟩
def k0_off1 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v56 : Index := Scalar.indexCast arg14
  let c0 : Index := 0#32
  ![v56.toNat, 0]
def k0_off2 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v58 : Index := Scalar.indexCast arg14
  let c16 : Index := 16#32
  ![v58.toNat, 16]
def k0_off3 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v60 : Index := Scalar.indexCast arg14
  let c32 : Index := 32#32
  ![v60.toNat, 32]
def k0_off4 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v62 : Index := Scalar.indexCast arg14
  let c48 : Index := 48#32
  ![v62.toNat, 48]
def k0_off5 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v64 : Index := Scalar.indexCast arg14
  let c64 : Index := 64#32
  ![v64.toNat, 64]
def k0_off6 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v66 : Index := Scalar.indexCast arg14
  let c80 : Index := 80#32
  ![v66.toNat, 80]
def k0_off7 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v68 : Index := Scalar.indexCast arg14
  let c96 : Index := 96#32
  ![v68.toNat, 96]
def k0_off8 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v70 : Index := Scalar.indexCast arg14
  let c112 : Index := 112#32
  ![v70.toNat, 112]
def k0_off9 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v72 : Index := Scalar.indexCast arg14
  let c128 : Index := 128#32
  ![v72.toNat, 128]
def k0_off10 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v74 : Index := Scalar.indexCast arg14
  let c144 : Index := 144#32
  ![v74.toNat, 144]
def k0_off11 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v76 : Index := Scalar.indexCast arg14
  let c160 : Index := 160#32
  ![v76.toNat, 160]
def k0_off12 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v78 : Index := Scalar.indexCast arg14
  let c176 : Index := 176#32
  ![v78.toNat, 176]
def k0_off13 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v80 : Index := Scalar.indexCast arg14
  let c192 : Index := 192#32
  ![v80.toNat, 192]
def k0_off14 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v82 : Index := Scalar.indexCast arg14
  let c208 : Index := 208#32
  ![v82.toNat, 208]
def k0_off15 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v84 : Index := Scalar.indexCast arg14
  let c224 : Index := 224#32
  ![v84.toNat, 224]
def k0_off16 (k0_t1 : Fin k0_t1_loop.trips) : Fin 2 → Nat :=
  let c0_i32_0 : BitVec 32 := 0#32
  let c1_i32 : BitVec 32 := 1#32
  let arg14 : BitVec 32 := Scf.iv c0_i32_0 c1_i32 k0_t1
  let v86 : Index := Scalar.indexCast arg14
  let c240 : Index := 240#32
  ![v86.toNat, 240]
def k0_off17 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let v37 : BitVec 32 := Scalar.addi v1 c0_i32_3
  let c3125_i32 : BitVec 32 := 3125#32
  let v38 : BitVec 32 := Scalar.minsi v37 c3125_i32
  let c0_i32_5 : BitVec 32 := 0#32
  ![v38.toNat, 0]
def k0_off18 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_3 : BitVec 32 := 0#32
  let v37 : BitVec 32 := Scalar.addi v1 c0_i32_3
  let c3125_i32 : BitVec 32 := 3125#32
  let v38 : BitVec 32 := Scalar.minsi v37 c3125_i32
  let c32_i32_4 : BitVec 32 := 32#32
  let v39 : BitVec 32 := Scalar.muli v38 c32_i32_4
  let c99968_i32 : BitVec 32 := 99968#32
  let v40 : BitVec 32 := Scalar.minsi v39 c99968_i32
  let c0_i32_7 : BitVec 32 := 0#32
  ![v40.toNat, 0]
@[reducible] def k0_t2_loop : Scf.Loop 32 :=
  let c0_i32_9 : BitVec 32 := 0#32
  let c49_i32 : BitVec 32 := 49#32
  let v48 : BitVec 32 := Scalar.addi c0_i32_9 c49_i32
  let c1_i32_10 : BitVec 32 := 1#32
  ⟨c0_i32_9, v48, c1_i32_10⟩
def k0_off19 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_23 : BitVec 32 := 32#32
  let c2_i32_19 : BitVec 32 := 2#32
  let c0_i32_9 : BitVec 32 := 0#32
  let c1_i32_10 : BitVec 32 := 1#32
  let arg14 : BitVec 32 := Scf.iv c0_i32_9 c1_i32_10 k0_t2
  let v56 : BitVec 32 := Scalar.muli c2_i32_19 arg14
  let c0_i32_20 : BitVec 32 := 0#32
  let v57 : BitVec 32 := Scalar.addi v56 c0_i32_20
  let c2_i32_21 : BitVec 32 := 2#32
  let v58 : BitVec 32 := Scalar.addi v57 c2_i32_21
  let c1_i32_22 : BitVec 32 := 1#32
  let v59 : BitVec 32 := Scalar.subi v58 c1_i32_22
  let v60 : BitVec 32 := Scalar.muli c32_i32_23 v59
  let v61 : BitVec 32 := Scalar.addi v1 v60
  let c3125_i32_24 : BitVec 32 := 3125#32
  let v62 : BitVec 32 := Scalar.minsi v61 c3125_i32_24
  let c0_i32_27 : BitVec 32 := 0#32
  ![v62.toNat, 0]
def k0_off20 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_23 : BitVec 32 := 32#32
  let c2_i32_19 : BitVec 32 := 2#32
  let c0_i32_9 : BitVec 32 := 0#32
  let c1_i32_10 : BitVec 32 := 1#32
  let arg14 : BitVec 32 := Scf.iv c0_i32_9 c1_i32_10 k0_t2
  let v56 : BitVec 32 := Scalar.muli c2_i32_19 arg14
  let c0_i32_20 : BitVec 32 := 0#32
  let v57 : BitVec 32 := Scalar.addi v56 c0_i32_20
  let c2_i32_21 : BitVec 32 := 2#32
  let v58 : BitVec 32 := Scalar.addi v57 c2_i32_21
  let c1_i32_22 : BitVec 32 := 1#32
  let v59 : BitVec 32 := Scalar.subi v58 c1_i32_22
  let v60 : BitVec 32 := Scalar.muli c32_i32_23 v59
  let v61 : BitVec 32 := Scalar.addi v1 v60
  let c3125_i32_24 : BitVec 32 := 3125#32
  let v62 : BitVec 32 := Scalar.minsi v61 c3125_i32_24
  let c32_i32_25 : BitVec 32 := 32#32
  let v63 : BitVec 32 := Scalar.muli v62 c32_i32_25
  let c99968_i32_26 : BitVec 32 := 99968#32
  let v64 : BitVec 32 := Scalar.minsi v63 c99968_i32_26
  let c0_i32_29 : BitVec 32 := 0#32
  ![v64.toNat, 0]

def k0_chk1 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) : Prop :=
  (∀ a x, ((![arg15, v6] : Fin 2 → IVec S16 32) a x).toNat < S264x256.size a) ∧
  (∀ a x, ((![arg15, v8] : Fin 2 → IVec S16 32) a x).toNat < S264x256.size a) ∧
  (∀ a x, ((![arg15, v10] : Fin 2 → IVec S16 32) a x).toNat < S264x256.size a) ∧
  (∀ a x, ((![arg15, v12] : Fin 2 → IVec S16 32) a x).toNat < S264x256.size a) ∧
  (∀ a x, ((![arg15, v14] : Fin 2 → IVec S16 32) a x).toNat < S264x256.size a) ∧
  (∀ a x, ((![arg15, v16] : Fin 2 → IVec S16 32) a x).toNat < S264x256.size a) ∧
  (∀ a x, ((![arg15, v18] : Fin 2 → IVec S16 32) a x).toNat < S264x256.size a) ∧
  (∀ a x, ((![arg15, v20] : Fin 2 → IVec S16 32) a x).toNat < S264x256.size a) ∧
  (∀ a x, ((![arg15, v22] : Fin 2 → IVec S16 32) a x).toNat < S264x256.size a) ∧
  (∀ a x, ((![arg15, v24] : Fin 2 → IVec S16 32) a x).toNat < S264x256.size a) ∧
  (∀ a x, ((![arg15, v26] : Fin 2 → IVec S16 32) a x).toNat < S264x256.size a) ∧
  (∀ a x, ((![arg15, v28] : Fin 2 → IVec S16 32) a x).toNat < S264x256.size a) ∧
  (∀ a x, ((![arg15, v30] : Fin 2 → IVec S16 32) a x).toNat < S264x256.size a) ∧
  (∀ a x, ((![arg15, v32] : Fin 2 → IVec S16 32) a x).toNat < S264x256.size a) ∧
  (∀ a x, ((![arg15, v34] : Fin 2 → IVec S16 32) a x).toNat < S264x256.size a) ∧
  (∀ a x, ((![arg15, v36] : Fin 2 → IVec S16 32) a x).toNat < S264x256.size a)
theorem k0_idx1_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v6] : Fin 2 → IVec S16 32) a x).toNat < S264x256.size a := fun v6 v8 v10 v12 v14 v16 v18 v20 v22 v24 v26 v28 v30 v32 v34 v36 arg15 k0_hw1 => k0_hw1.1
theorem k0_idx2_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v8] : Fin 2 → IVec S16 32) a x).toNat < S264x256.size a := fun v6 v8 v10 v12 v14 v16 v18 v20 v22 v24 v26 v28 v30 v32 v34 v36 arg15 k0_hw1 => k0_hw1.2.1
theorem k0_idx3_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v10] : Fin 2 → IVec S16 32) a x).toNat < S264x256.size a := fun v6 v8 v10 v12 v14 v16 v18 v20 v22 v24 v26 v28 v30 v32 v34 v36 arg15 k0_hw1 => k0_hw1.2.2.1
theorem k0_idx4_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v12] : Fin 2 → IVec S16 32) a x).toNat < S264x256.size a := fun v6 v8 v10 v12 v14 v16 v18 v20 v22 v24 v26 v28 v30 v32 v34 v36 arg15 k0_hw1 => k0_hw1.2.2.2.1
theorem k0_idx5_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v14] : Fin 2 → IVec S16 32) a x).toNat < S264x256.size a := fun v6 v8 v10 v12 v14 v16 v18 v20 v22 v24 v26 v28 v30 v32 v34 v36 arg15 k0_hw1 => k0_hw1.2.2.2.2.1
theorem k0_idx6_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v16] : Fin 2 → IVec S16 32) a x).toNat < S264x256.size a := fun v6 v8 v10 v12 v14 v16 v18 v20 v22 v24 v26 v28 v30 v32 v34 v36 arg15 k0_hw1 => k0_hw1.2.2.2.2.2.1
theorem k0_idx7_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v18] : Fin 2 → IVec S16 32) a x).toNat < S264x256.size a := fun v6 v8 v10 v12 v14 v16 v18 v20 v22 v24 v26 v28 v30 v32 v34 v36 arg15 k0_hw1 => k0_hw1.2.2.2.2.2.2.1
theorem k0_idx8_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v20] : Fin 2 → IVec S16 32) a x).toNat < S264x256.size a := fun v6 v8 v10 v12 v14 v16 v18 v20 v22 v24 v26 v28 v30 v32 v34 v36 arg15 k0_hw1 => k0_hw1.2.2.2.2.2.2.2.1
theorem k0_idx9_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v22] : Fin 2 → IVec S16 32) a x).toNat < S264x256.size a := fun v6 v8 v10 v12 v14 v16 v18 v20 v22 v24 v26 v28 v30 v32 v34 v36 arg15 k0_hw1 => k0_hw1.2.2.2.2.2.2.2.2.1
theorem k0_idx10_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v24] : Fin 2 → IVec S16 32) a x).toNat < S264x256.size a := fun v6 v8 v10 v12 v14 v16 v18 v20 v22 v24 v26 v28 v30 v32 v34 v36 arg15 k0_hw1 => k0_hw1.2.2.2.2.2.2.2.2.2.1
theorem k0_idx11_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v26] : Fin 2 → IVec S16 32) a x).toNat < S264x256.size a := fun v6 v8 v10 v12 v14 v16 v18 v20 v22 v24 v26 v28 v30 v32 v34 v36 arg15 k0_hw1 => k0_hw1.2.2.2.2.2.2.2.2.2.2.1
theorem k0_idx12_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v28] : Fin 2 → IVec S16 32) a x).toNat < S264x256.size a := fun v6 v8 v10 v12 v14 v16 v18 v20 v22 v24 v26 v28 v30 v32 v34 v36 arg15 k0_hw1 => k0_hw1.2.2.2.2.2.2.2.2.2.2.2.1
theorem k0_idx13_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v30] : Fin 2 → IVec S16 32) a x).toNat < S264x256.size a := fun v6 v8 v10 v12 v14 v16 v18 v20 v22 v24 v26 v28 v30 v32 v34 v36 arg15 k0_hw1 => k0_hw1.2.2.2.2.2.2.2.2.2.2.2.2.1
theorem k0_idx14_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v32] : Fin 2 → IVec S16 32) a x).toNat < S264x256.size a := fun v6 v8 v10 v12 v14 v16 v18 v20 v22 v24 v26 v28 v30 v32 v34 v36 arg15 k0_hw1 => k0_hw1.2.2.2.2.2.2.2.2.2.2.2.2.2.1
theorem k0_idx15_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v34] : Fin 2 → IVec S16 32) a x).toNat < S264x256.size a := fun v6 v8 v10 v12 v14 v16 v18 v20 v22 v24 v26 v28 v30 v32 v34 v36 arg15 k0_hw1 => k0_hw1.2.2.2.2.2.2.2.2.2.2.2.2.2.2.1
theorem k0_idx16_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (arg15 : IVec S16 32) (k0_hw1 : k0_chk1 v6 v8 v10 v12 v14 v16 v18 v20 v22 v24 v26 v28 v30 v32 v34 v36 arg15), ∀ a x, ((![arg15, v36] : Fin 2 → IVec S16 32) a x).toNat < S264x256.size a := fun v6 v8 v10 v12 v14 v16 v18 v20 v22 v24 v26 v28 v30 v32 v34 v36 arg15 k0_hw1 => k0_hw1.2.2.2.2.2.2.2.2.2.2.2.2.2.2.2

def k0_chk2 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) : Prop :=
  (∀ a x, ((![v77, v6] : Fin 2 → IVec S16 32) a x).toNat < S264x256.size a) ∧
  (∀ a x, ((![v77, v8] : Fin 2 → IVec S16 32) a x).toNat < S264x256.size a) ∧
  (∀ a x, ((![v77, v10] : Fin 2 → IVec S16 32) a x).toNat < S264x256.size a) ∧
  (∀ a x, ((![v77, v12] : Fin 2 → IVec S16 32) a x).toNat < S264x256.size a) ∧
  (∀ a x, ((![v77, v14] : Fin 2 → IVec S16 32) a x).toNat < S264x256.size a) ∧
  (∀ a x, ((![v77, v16] : Fin 2 → IVec S16 32) a x).toNat < S264x256.size a) ∧
  (∀ a x, ((![v77, v18] : Fin 2 → IVec S16 32) a x).toNat < S264x256.size a) ∧
  (∀ a x, ((![v77, v20] : Fin 2 → IVec S16 32) a x).toNat < S264x256.size a) ∧
  (∀ a x, ((![v77, v22] : Fin 2 → IVec S16 32) a x).toNat < S264x256.size a) ∧
  (∀ a x, ((![v77, v24] : Fin 2 → IVec S16 32) a x).toNat < S264x256.size a) ∧
  (∀ a x, ((![v77, v26] : Fin 2 → IVec S16 32) a x).toNat < S264x256.size a) ∧
  (∀ a x, ((![v77, v28] : Fin 2 → IVec S16 32) a x).toNat < S264x256.size a) ∧
  (∀ a x, ((![v77, v30] : Fin 2 → IVec S16 32) a x).toNat < S264x256.size a) ∧
  (∀ a x, ((![v77, v32] : Fin 2 → IVec S16 32) a x).toNat < S264x256.size a) ∧
  (∀ a x, ((![v77, v34] : Fin 2 → IVec S16 32) a x).toNat < S264x256.size a) ∧
  (∀ a x, ((![v77, v36] : Fin 2 → IVec S16 32) a x).toNat < S264x256.size a)
theorem k0_idx17_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v6] : Fin 2 → IVec S16 32) a x).toNat < S264x256.size a := fun v6 v8 v10 v12 v14 v16 v18 v20 v22 v24 v26 v28 v30 v32 v34 v36 v77 k0_hw2 => k0_hw2.1
theorem k0_idx18_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v8] : Fin 2 → IVec S16 32) a x).toNat < S264x256.size a := fun v6 v8 v10 v12 v14 v16 v18 v20 v22 v24 v26 v28 v30 v32 v34 v36 v77 k0_hw2 => k0_hw2.2.1
theorem k0_idx19_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v10] : Fin 2 → IVec S16 32) a x).toNat < S264x256.size a := fun v6 v8 v10 v12 v14 v16 v18 v20 v22 v24 v26 v28 v30 v32 v34 v36 v77 k0_hw2 => k0_hw2.2.2.1
theorem k0_idx20_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v12] : Fin 2 → IVec S16 32) a x).toNat < S264x256.size a := fun v6 v8 v10 v12 v14 v16 v18 v20 v22 v24 v26 v28 v30 v32 v34 v36 v77 k0_hw2 => k0_hw2.2.2.2.1
theorem k0_idx21_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v14] : Fin 2 → IVec S16 32) a x).toNat < S264x256.size a := fun v6 v8 v10 v12 v14 v16 v18 v20 v22 v24 v26 v28 v30 v32 v34 v36 v77 k0_hw2 => k0_hw2.2.2.2.2.1
theorem k0_idx22_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v16] : Fin 2 → IVec S16 32) a x).toNat < S264x256.size a := fun v6 v8 v10 v12 v14 v16 v18 v20 v22 v24 v26 v28 v30 v32 v34 v36 v77 k0_hw2 => k0_hw2.2.2.2.2.2.1
theorem k0_idx23_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v18] : Fin 2 → IVec S16 32) a x).toNat < S264x256.size a := fun v6 v8 v10 v12 v14 v16 v18 v20 v22 v24 v26 v28 v30 v32 v34 v36 v77 k0_hw2 => k0_hw2.2.2.2.2.2.2.1
theorem k0_idx24_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v20] : Fin 2 → IVec S16 32) a x).toNat < S264x256.size a := fun v6 v8 v10 v12 v14 v16 v18 v20 v22 v24 v26 v28 v30 v32 v34 v36 v77 k0_hw2 => k0_hw2.2.2.2.2.2.2.2.1
theorem k0_idx25_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v22] : Fin 2 → IVec S16 32) a x).toNat < S264x256.size a := fun v6 v8 v10 v12 v14 v16 v18 v20 v22 v24 v26 v28 v30 v32 v34 v36 v77 k0_hw2 => k0_hw2.2.2.2.2.2.2.2.2.1
theorem k0_idx26_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v24] : Fin 2 → IVec S16 32) a x).toNat < S264x256.size a := fun v6 v8 v10 v12 v14 v16 v18 v20 v22 v24 v26 v28 v30 v32 v34 v36 v77 k0_hw2 => k0_hw2.2.2.2.2.2.2.2.2.2.1
theorem k0_idx27_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v26] : Fin 2 → IVec S16 32) a x).toNat < S264x256.size a := fun v6 v8 v10 v12 v14 v16 v18 v20 v22 v24 v26 v28 v30 v32 v34 v36 v77 k0_hw2 => k0_hw2.2.2.2.2.2.2.2.2.2.2.1
theorem k0_idx28_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v28] : Fin 2 → IVec S16 32) a x).toNat < S264x256.size a := fun v6 v8 v10 v12 v14 v16 v18 v20 v22 v24 v26 v28 v30 v32 v34 v36 v77 k0_hw2 => k0_hw2.2.2.2.2.2.2.2.2.2.2.2.1
theorem k0_idx29_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v30] : Fin 2 → IVec S16 32) a x).toNat < S264x256.size a := fun v6 v8 v10 v12 v14 v16 v18 v20 v22 v24 v26 v28 v30 v32 v34 v36 v77 k0_hw2 => k0_hw2.2.2.2.2.2.2.2.2.2.2.2.2.1
theorem k0_idx30_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v32] : Fin 2 → IVec S16 32) a x).toNat < S264x256.size a := fun v6 v8 v10 v12 v14 v16 v18 v20 v22 v24 v26 v28 v30 v32 v34 v36 v77 k0_hw2 => k0_hw2.2.2.2.2.2.2.2.2.2.2.2.2.2.1
theorem k0_idx31_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v34] : Fin 2 → IVec S16 32) a x).toNat < S264x256.size a := fun v6 v8 v10 v12 v14 v16 v18 v20 v22 v24 v26 v28 v30 v32 v34 v36 v77 k0_hw2 => k0_hw2.2.2.2.2.2.2.2.2.2.2.2.2.2.2.1
theorem k0_idx32_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v77 : IVec S16 32) (k0_hw2 : k0_chk2 v6 v8 v10 v12 v14 v16 v18 v20 v22 v24 v26 v28 v30 v32 v34 v36 v77), ∀ a x, ((![v77, v36] : Fin 2 → IVec S16 32) a x).toNat < S264x256.size a := fun v6 v8 v10 v12 v14 v16 v18 v20 v22 v24 v26 v28 v30 v32 v34 v36 v77 k0_hw2 => k0_hw2.2.2.2.2.2.2.2.2.2.2.2.2.2.2.2

def k0_chk3 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) : Prop :=
  (∀ a x, ((![v143, v6] : Fin 2 → IVec S16 32) a x).toNat < S264x256.size a) ∧
  (∀ a x, ((![v143, v8] : Fin 2 → IVec S16 32) a x).toNat < S264x256.size a) ∧
  (∀ a x, ((![v143, v10] : Fin 2 → IVec S16 32) a x).toNat < S264x256.size a) ∧
  (∀ a x, ((![v143, v12] : Fin 2 → IVec S16 32) a x).toNat < S264x256.size a) ∧
  (∀ a x, ((![v143, v14] : Fin 2 → IVec S16 32) a x).toNat < S264x256.size a) ∧
  (∀ a x, ((![v143, v16] : Fin 2 → IVec S16 32) a x).toNat < S264x256.size a) ∧
  (∀ a x, ((![v143, v18] : Fin 2 → IVec S16 32) a x).toNat < S264x256.size a) ∧
  (∀ a x, ((![v143, v20] : Fin 2 → IVec S16 32) a x).toNat < S264x256.size a) ∧
  (∀ a x, ((![v143, v22] : Fin 2 → IVec S16 32) a x).toNat < S264x256.size a) ∧
  (∀ a x, ((![v143, v24] : Fin 2 → IVec S16 32) a x).toNat < S264x256.size a) ∧
  (∀ a x, ((![v143, v26] : Fin 2 → IVec S16 32) a x).toNat < S264x256.size a) ∧
  (∀ a x, ((![v143, v28] : Fin 2 → IVec S16 32) a x).toNat < S264x256.size a) ∧
  (∀ a x, ((![v143, v30] : Fin 2 → IVec S16 32) a x).toNat < S264x256.size a) ∧
  (∀ a x, ((![v143, v32] : Fin 2 → IVec S16 32) a x).toNat < S264x256.size a) ∧
  (∀ a x, ((![v143, v34] : Fin 2 → IVec S16 32) a x).toNat < S264x256.size a) ∧
  (∀ a x, ((![v143, v36] : Fin 2 → IVec S16 32) a x).toNat < S264x256.size a)
theorem k0_idx33_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v6] : Fin 2 → IVec S16 32) a x).toNat < S264x256.size a := fun v6 v8 v10 v12 v14 v16 v18 v20 v22 v24 v26 v28 v30 v32 v34 v36 v143 k0_hw3 => k0_hw3.1
theorem k0_idx34_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v8] : Fin 2 → IVec S16 32) a x).toNat < S264x256.size a := fun v6 v8 v10 v12 v14 v16 v18 v20 v22 v24 v26 v28 v30 v32 v34 v36 v143 k0_hw3 => k0_hw3.2.1
theorem k0_idx35_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v10] : Fin 2 → IVec S16 32) a x).toNat < S264x256.size a := fun v6 v8 v10 v12 v14 v16 v18 v20 v22 v24 v26 v28 v30 v32 v34 v36 v143 k0_hw3 => k0_hw3.2.2.1
theorem k0_idx36_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v12] : Fin 2 → IVec S16 32) a x).toNat < S264x256.size a := fun v6 v8 v10 v12 v14 v16 v18 v20 v22 v24 v26 v28 v30 v32 v34 v36 v143 k0_hw3 => k0_hw3.2.2.2.1
theorem k0_idx37_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v14] : Fin 2 → IVec S16 32) a x).toNat < S264x256.size a := fun v6 v8 v10 v12 v14 v16 v18 v20 v22 v24 v26 v28 v30 v32 v34 v36 v143 k0_hw3 => k0_hw3.2.2.2.2.1
theorem k0_idx38_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v16] : Fin 2 → IVec S16 32) a x).toNat < S264x256.size a := fun v6 v8 v10 v12 v14 v16 v18 v20 v22 v24 v26 v28 v30 v32 v34 v36 v143 k0_hw3 => k0_hw3.2.2.2.2.2.1
theorem k0_idx39_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v18] : Fin 2 → IVec S16 32) a x).toNat < S264x256.size a := fun v6 v8 v10 v12 v14 v16 v18 v20 v22 v24 v26 v28 v30 v32 v34 v36 v143 k0_hw3 => k0_hw3.2.2.2.2.2.2.1
theorem k0_idx40_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v20] : Fin 2 → IVec S16 32) a x).toNat < S264x256.size a := fun v6 v8 v10 v12 v14 v16 v18 v20 v22 v24 v26 v28 v30 v32 v34 v36 v143 k0_hw3 => k0_hw3.2.2.2.2.2.2.2.1
theorem k0_idx41_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v22] : Fin 2 → IVec S16 32) a x).toNat < S264x256.size a := fun v6 v8 v10 v12 v14 v16 v18 v20 v22 v24 v26 v28 v30 v32 v34 v36 v143 k0_hw3 => k0_hw3.2.2.2.2.2.2.2.2.1
theorem k0_idx42_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v24] : Fin 2 → IVec S16 32) a x).toNat < S264x256.size a := fun v6 v8 v10 v12 v14 v16 v18 v20 v22 v24 v26 v28 v30 v32 v34 v36 v143 k0_hw3 => k0_hw3.2.2.2.2.2.2.2.2.2.1
theorem k0_idx43_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v26] : Fin 2 → IVec S16 32) a x).toNat < S264x256.size a := fun v6 v8 v10 v12 v14 v16 v18 v20 v22 v24 v26 v28 v30 v32 v34 v36 v143 k0_hw3 => k0_hw3.2.2.2.2.2.2.2.2.2.2.1
theorem k0_idx44_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v28] : Fin 2 → IVec S16 32) a x).toNat < S264x256.size a := fun v6 v8 v10 v12 v14 v16 v18 v20 v22 v24 v26 v28 v30 v32 v34 v36 v143 k0_hw3 => k0_hw3.2.2.2.2.2.2.2.2.2.2.2.1
theorem k0_idx45_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v30] : Fin 2 → IVec S16 32) a x).toNat < S264x256.size a := fun v6 v8 v10 v12 v14 v16 v18 v20 v22 v24 v26 v28 v30 v32 v34 v36 v143 k0_hw3 => k0_hw3.2.2.2.2.2.2.2.2.2.2.2.2.1
theorem k0_idx46_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v32] : Fin 2 → IVec S16 32) a x).toNat < S264x256.size a := fun v6 v8 v10 v12 v14 v16 v18 v20 v22 v24 v26 v28 v30 v32 v34 v36 v143 k0_hw3 => k0_hw3.2.2.2.2.2.2.2.2.2.2.2.2.2.1
theorem k0_idx47_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v34] : Fin 2 → IVec S16 32) a x).toNat < S264x256.size a := fun v6 v8 v10 v12 v14 v16 v18 v20 v22 v24 v26 v28 v30 v32 v34 v36 v143 k0_hw3 => k0_hw3.2.2.2.2.2.2.2.2.2.2.2.2.2.2.1
theorem k0_idx48_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v143 : IVec S16 32) (k0_hw3 : k0_chk3 v6 v8 v10 v12 v14 v16 v18 v20 v22 v24 v26 v28 v30 v32 v34 v36 v143), ∀ a x, ((![v143, v36] : Fin 2 → IVec S16 32) a x).toNat < S264x256.size a := fun v6 v8 v10 v12 v14 v16 v18 v20 v22 v24 v26 v28 v30 v32 v34 v36 v143 k0_hw3 => k0_hw3.2.2.2.2.2.2.2.2.2.2.2.2.2.2.2

def k0_chk4 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) : Prop :=
  (∀ a x, ((![v209, v6] : Fin 2 → IVec S16 32) a x).toNat < S264x256.size a) ∧
  (∀ a x, ((![v209, v8] : Fin 2 → IVec S16 32) a x).toNat < S264x256.size a) ∧
  (∀ a x, ((![v209, v10] : Fin 2 → IVec S16 32) a x).toNat < S264x256.size a) ∧
  (∀ a x, ((![v209, v12] : Fin 2 → IVec S16 32) a x).toNat < S264x256.size a) ∧
  (∀ a x, ((![v209, v14] : Fin 2 → IVec S16 32) a x).toNat < S264x256.size a) ∧
  (∀ a x, ((![v209, v16] : Fin 2 → IVec S16 32) a x).toNat < S264x256.size a) ∧
  (∀ a x, ((![v209, v18] : Fin 2 → IVec S16 32) a x).toNat < S264x256.size a) ∧
  (∀ a x, ((![v209, v20] : Fin 2 → IVec S16 32) a x).toNat < S264x256.size a) ∧
  (∀ a x, ((![v209, v22] : Fin 2 → IVec S16 32) a x).toNat < S264x256.size a) ∧
  (∀ a x, ((![v209, v24] : Fin 2 → IVec S16 32) a x).toNat < S264x256.size a) ∧
  (∀ a x, ((![v209, v26] : Fin 2 → IVec S16 32) a x).toNat < S264x256.size a) ∧
  (∀ a x, ((![v209, v28] : Fin 2 → IVec S16 32) a x).toNat < S264x256.size a) ∧
  (∀ a x, ((![v209, v30] : Fin 2 → IVec S16 32) a x).toNat < S264x256.size a) ∧
  (∀ a x, ((![v209, v32] : Fin 2 → IVec S16 32) a x).toNat < S264x256.size a) ∧
  (∀ a x, ((![v209, v34] : Fin 2 → IVec S16 32) a x).toNat < S264x256.size a) ∧
  (∀ a x, ((![v209, v36] : Fin 2 → IVec S16 32) a x).toNat < S264x256.size a)
theorem k0_idx49_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v6] : Fin 2 → IVec S16 32) a x).toNat < S264x256.size a := fun v6 v8 v10 v12 v14 v16 v18 v20 v22 v24 v26 v28 v30 v32 v34 v36 v209 k0_hw4 => k0_hw4.1
theorem k0_idx50_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v8] : Fin 2 → IVec S16 32) a x).toNat < S264x256.size a := fun v6 v8 v10 v12 v14 v16 v18 v20 v22 v24 v26 v28 v30 v32 v34 v36 v209 k0_hw4 => k0_hw4.2.1
theorem k0_idx51_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v10] : Fin 2 → IVec S16 32) a x).toNat < S264x256.size a := fun v6 v8 v10 v12 v14 v16 v18 v20 v22 v24 v26 v28 v30 v32 v34 v36 v209 k0_hw4 => k0_hw4.2.2.1
theorem k0_idx52_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v12] : Fin 2 → IVec S16 32) a x).toNat < S264x256.size a := fun v6 v8 v10 v12 v14 v16 v18 v20 v22 v24 v26 v28 v30 v32 v34 v36 v209 k0_hw4 => k0_hw4.2.2.2.1
theorem k0_idx53_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v14] : Fin 2 → IVec S16 32) a x).toNat < S264x256.size a := fun v6 v8 v10 v12 v14 v16 v18 v20 v22 v24 v26 v28 v30 v32 v34 v36 v209 k0_hw4 => k0_hw4.2.2.2.2.1
theorem k0_idx54_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v16] : Fin 2 → IVec S16 32) a x).toNat < S264x256.size a := fun v6 v8 v10 v12 v14 v16 v18 v20 v22 v24 v26 v28 v30 v32 v34 v36 v209 k0_hw4 => k0_hw4.2.2.2.2.2.1
theorem k0_idx55_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v18] : Fin 2 → IVec S16 32) a x).toNat < S264x256.size a := fun v6 v8 v10 v12 v14 v16 v18 v20 v22 v24 v26 v28 v30 v32 v34 v36 v209 k0_hw4 => k0_hw4.2.2.2.2.2.2.1
theorem k0_idx56_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v20] : Fin 2 → IVec S16 32) a x).toNat < S264x256.size a := fun v6 v8 v10 v12 v14 v16 v18 v20 v22 v24 v26 v28 v30 v32 v34 v36 v209 k0_hw4 => k0_hw4.2.2.2.2.2.2.2.1
theorem k0_idx57_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v22] : Fin 2 → IVec S16 32) a x).toNat < S264x256.size a := fun v6 v8 v10 v12 v14 v16 v18 v20 v22 v24 v26 v28 v30 v32 v34 v36 v209 k0_hw4 => k0_hw4.2.2.2.2.2.2.2.2.1
theorem k0_idx58_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v24] : Fin 2 → IVec S16 32) a x).toNat < S264x256.size a := fun v6 v8 v10 v12 v14 v16 v18 v20 v22 v24 v26 v28 v30 v32 v34 v36 v209 k0_hw4 => k0_hw4.2.2.2.2.2.2.2.2.2.1
theorem k0_idx59_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v26] : Fin 2 → IVec S16 32) a x).toNat < S264x256.size a := fun v6 v8 v10 v12 v14 v16 v18 v20 v22 v24 v26 v28 v30 v32 v34 v36 v209 k0_hw4 => k0_hw4.2.2.2.2.2.2.2.2.2.2.1
theorem k0_idx60_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v28] : Fin 2 → IVec S16 32) a x).toNat < S264x256.size a := fun v6 v8 v10 v12 v14 v16 v18 v20 v22 v24 v26 v28 v30 v32 v34 v36 v209 k0_hw4 => k0_hw4.2.2.2.2.2.2.2.2.2.2.2.1
theorem k0_idx61_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v30] : Fin 2 → IVec S16 32) a x).toNat < S264x256.size a := fun v6 v8 v10 v12 v14 v16 v18 v20 v22 v24 v26 v28 v30 v32 v34 v36 v209 k0_hw4 => k0_hw4.2.2.2.2.2.2.2.2.2.2.2.2.1
theorem k0_idx62_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v32] : Fin 2 → IVec S16 32) a x).toNat < S264x256.size a := fun v6 v8 v10 v12 v14 v16 v18 v20 v22 v24 v26 v28 v30 v32 v34 v36 v209 k0_hw4 => k0_hw4.2.2.2.2.2.2.2.2.2.2.2.2.2.1
theorem k0_idx63_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v34] : Fin 2 → IVec S16 32) a x).toNat < S264x256.size a := fun v6 v8 v10 v12 v14 v16 v18 v20 v22 v24 v26 v28 v30 v32 v34 v36 v209 k0_hw4 => k0_hw4.2.2.2.2.2.2.2.2.2.2.2.2.2.2.1
theorem k0_idx64_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v209 : IVec S16 32) (k0_hw4 : k0_chk4 v6 v8 v10 v12 v14 v16 v18 v20 v22 v24 v26 v28 v30 v32 v34 v36 v209), ∀ a x, ((![v209, v36] : Fin 2 → IVec S16 32) a x).toNat < S264x256.size a := fun v6 v8 v10 v12 v14 v16 v18 v20 v22 v24 v26 v28 v30 v32 v34 v36 v209 k0_hw4 => k0_hw4.2.2.2.2.2.2.2.2.2.2.2.2.2.2.2

def k0_chk5 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) : Prop :=
  (∀ a x, ((![v275, v6] : Fin 2 → IVec S16 32) a x).toNat < S264x256.size a) ∧
  (∀ a x, ((![v275, v8] : Fin 2 → IVec S16 32) a x).toNat < S264x256.size a) ∧
  (∀ a x, ((![v275, v10] : Fin 2 → IVec S16 32) a x).toNat < S264x256.size a) ∧
  (∀ a x, ((![v275, v12] : Fin 2 → IVec S16 32) a x).toNat < S264x256.size a) ∧
  (∀ a x, ((![v275, v14] : Fin 2 → IVec S16 32) a x).toNat < S264x256.size a) ∧
  (∀ a x, ((![v275, v16] : Fin 2 → IVec S16 32) a x).toNat < S264x256.size a) ∧
  (∀ a x, ((![v275, v18] : Fin 2 → IVec S16 32) a x).toNat < S264x256.size a) ∧
  (∀ a x, ((![v275, v20] : Fin 2 → IVec S16 32) a x).toNat < S264x256.size a) ∧
  (∀ a x, ((![v275, v22] : Fin 2 → IVec S16 32) a x).toNat < S264x256.size a) ∧
  (∀ a x, ((![v275, v24] : Fin 2 → IVec S16 32) a x).toNat < S264x256.size a) ∧
  (∀ a x, ((![v275, v26] : Fin 2 → IVec S16 32) a x).toNat < S264x256.size a) ∧
  (∀ a x, ((![v275, v28] : Fin 2 → IVec S16 32) a x).toNat < S264x256.size a) ∧
  (∀ a x, ((![v275, v30] : Fin 2 → IVec S16 32) a x).toNat < S264x256.size a) ∧
  (∀ a x, ((![v275, v32] : Fin 2 → IVec S16 32) a x).toNat < S264x256.size a) ∧
  (∀ a x, ((![v275, v34] : Fin 2 → IVec S16 32) a x).toNat < S264x256.size a) ∧
  (∀ a x, ((![v275, v36] : Fin 2 → IVec S16 32) a x).toNat < S264x256.size a)
theorem k0_idx65_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v6] : Fin 2 → IVec S16 32) a x).toNat < S264x256.size a := fun v6 v8 v10 v12 v14 v16 v18 v20 v22 v24 v26 v28 v30 v32 v34 v36 v275 k0_hw5 => k0_hw5.1
theorem k0_idx66_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v8] : Fin 2 → IVec S16 32) a x).toNat < S264x256.size a := fun v6 v8 v10 v12 v14 v16 v18 v20 v22 v24 v26 v28 v30 v32 v34 v36 v275 k0_hw5 => k0_hw5.2.1
theorem k0_idx67_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v10] : Fin 2 → IVec S16 32) a x).toNat < S264x256.size a := fun v6 v8 v10 v12 v14 v16 v18 v20 v22 v24 v26 v28 v30 v32 v34 v36 v275 k0_hw5 => k0_hw5.2.2.1
theorem k0_idx68_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v12] : Fin 2 → IVec S16 32) a x).toNat < S264x256.size a := fun v6 v8 v10 v12 v14 v16 v18 v20 v22 v24 v26 v28 v30 v32 v34 v36 v275 k0_hw5 => k0_hw5.2.2.2.1
theorem k0_idx69_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v14] : Fin 2 → IVec S16 32) a x).toNat < S264x256.size a := fun v6 v8 v10 v12 v14 v16 v18 v20 v22 v24 v26 v28 v30 v32 v34 v36 v275 k0_hw5 => k0_hw5.2.2.2.2.1
theorem k0_idx70_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v16] : Fin 2 → IVec S16 32) a x).toNat < S264x256.size a := fun v6 v8 v10 v12 v14 v16 v18 v20 v22 v24 v26 v28 v30 v32 v34 v36 v275 k0_hw5 => k0_hw5.2.2.2.2.2.1
theorem k0_idx71_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v18] : Fin 2 → IVec S16 32) a x).toNat < S264x256.size a := fun v6 v8 v10 v12 v14 v16 v18 v20 v22 v24 v26 v28 v30 v32 v34 v36 v275 k0_hw5 => k0_hw5.2.2.2.2.2.2.1
theorem k0_idx72_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v20] : Fin 2 → IVec S16 32) a x).toNat < S264x256.size a := fun v6 v8 v10 v12 v14 v16 v18 v20 v22 v24 v26 v28 v30 v32 v34 v36 v275 k0_hw5 => k0_hw5.2.2.2.2.2.2.2.1
theorem k0_idx73_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v22] : Fin 2 → IVec S16 32) a x).toNat < S264x256.size a := fun v6 v8 v10 v12 v14 v16 v18 v20 v22 v24 v26 v28 v30 v32 v34 v36 v275 k0_hw5 => k0_hw5.2.2.2.2.2.2.2.2.1
theorem k0_idx74_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v24] : Fin 2 → IVec S16 32) a x).toNat < S264x256.size a := fun v6 v8 v10 v12 v14 v16 v18 v20 v22 v24 v26 v28 v30 v32 v34 v36 v275 k0_hw5 => k0_hw5.2.2.2.2.2.2.2.2.2.1
theorem k0_idx75_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v26] : Fin 2 → IVec S16 32) a x).toNat < S264x256.size a := fun v6 v8 v10 v12 v14 v16 v18 v20 v22 v24 v26 v28 v30 v32 v34 v36 v275 k0_hw5 => k0_hw5.2.2.2.2.2.2.2.2.2.2.1
theorem k0_idx76_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v28] : Fin 2 → IVec S16 32) a x).toNat < S264x256.size a := fun v6 v8 v10 v12 v14 v16 v18 v20 v22 v24 v26 v28 v30 v32 v34 v36 v275 k0_hw5 => k0_hw5.2.2.2.2.2.2.2.2.2.2.2.1
theorem k0_idx77_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v30] : Fin 2 → IVec S16 32) a x).toNat < S264x256.size a := fun v6 v8 v10 v12 v14 v16 v18 v20 v22 v24 v26 v28 v30 v32 v34 v36 v275 k0_hw5 => k0_hw5.2.2.2.2.2.2.2.2.2.2.2.2.1
theorem k0_idx78_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v32] : Fin 2 → IVec S16 32) a x).toNat < S264x256.size a := fun v6 v8 v10 v12 v14 v16 v18 v20 v22 v24 v26 v28 v30 v32 v34 v36 v275 k0_hw5 => k0_hw5.2.2.2.2.2.2.2.2.2.2.2.2.2.1
theorem k0_idx79_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v34] : Fin 2 → IVec S16 32) a x).toNat < S264x256.size a := fun v6 v8 v10 v12 v14 v16 v18 v20 v22 v24 v26 v28 v30 v32 v34 v36 v275 k0_hw5 => k0_hw5.2.2.2.2.2.2.2.2.2.2.2.2.2.2.1
theorem k0_idx80_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v275 : IVec S16 32) (k0_hw5 : k0_chk5 v6 v8 v10 v12 v14 v16 v18 v20 v22 v24 v26 v28 v30 v32 v34 v36 v275), ∀ a x, ((![v275, v36] : Fin 2 → IVec S16 32) a x).toNat < S264x256.size a := fun v6 v8 v10 v12 v14 v16 v18 v20 v22 v24 v26 v28 v30 v32 v34 v36 v275 k0_hw5 => k0_hw5.2.2.2.2.2.2.2.2.2.2.2.2.2.2.2

def k0_chk6 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) : Prop :=
  (∀ a x, ((![v341, v6] : Fin 2 → IVec S16 32) a x).toNat < S264x256.size a) ∧
  (∀ a x, ((![v341, v8] : Fin 2 → IVec S16 32) a x).toNat < S264x256.size a) ∧
  (∀ a x, ((![v341, v10] : Fin 2 → IVec S16 32) a x).toNat < S264x256.size a) ∧
  (∀ a x, ((![v341, v12] : Fin 2 → IVec S16 32) a x).toNat < S264x256.size a) ∧
  (∀ a x, ((![v341, v14] : Fin 2 → IVec S16 32) a x).toNat < S264x256.size a) ∧
  (∀ a x, ((![v341, v16] : Fin 2 → IVec S16 32) a x).toNat < S264x256.size a) ∧
  (∀ a x, ((![v341, v18] : Fin 2 → IVec S16 32) a x).toNat < S264x256.size a) ∧
  (∀ a x, ((![v341, v20] : Fin 2 → IVec S16 32) a x).toNat < S264x256.size a) ∧
  (∀ a x, ((![v341, v22] : Fin 2 → IVec S16 32) a x).toNat < S264x256.size a) ∧
  (∀ a x, ((![v341, v24] : Fin 2 → IVec S16 32) a x).toNat < S264x256.size a) ∧
  (∀ a x, ((![v341, v26] : Fin 2 → IVec S16 32) a x).toNat < S264x256.size a) ∧
  (∀ a x, ((![v341, v28] : Fin 2 → IVec S16 32) a x).toNat < S264x256.size a) ∧
  (∀ a x, ((![v341, v30] : Fin 2 → IVec S16 32) a x).toNat < S264x256.size a) ∧
  (∀ a x, ((![v341, v32] : Fin 2 → IVec S16 32) a x).toNat < S264x256.size a) ∧
  (∀ a x, ((![v341, v34] : Fin 2 → IVec S16 32) a x).toNat < S264x256.size a) ∧
  (∀ a x, ((![v341, v36] : Fin 2 → IVec S16 32) a x).toNat < S264x256.size a)
theorem k0_idx81_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v6] : Fin 2 → IVec S16 32) a x).toNat < S264x256.size a := fun v6 v8 v10 v12 v14 v16 v18 v20 v22 v24 v26 v28 v30 v32 v34 v36 v341 k0_hw6 => k0_hw6.1
theorem k0_idx82_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v8] : Fin 2 → IVec S16 32) a x).toNat < S264x256.size a := fun v6 v8 v10 v12 v14 v16 v18 v20 v22 v24 v26 v28 v30 v32 v34 v36 v341 k0_hw6 => k0_hw6.2.1
theorem k0_idx83_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v10] : Fin 2 → IVec S16 32) a x).toNat < S264x256.size a := fun v6 v8 v10 v12 v14 v16 v18 v20 v22 v24 v26 v28 v30 v32 v34 v36 v341 k0_hw6 => k0_hw6.2.2.1
theorem k0_idx84_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v12] : Fin 2 → IVec S16 32) a x).toNat < S264x256.size a := fun v6 v8 v10 v12 v14 v16 v18 v20 v22 v24 v26 v28 v30 v32 v34 v36 v341 k0_hw6 => k0_hw6.2.2.2.1
theorem k0_idx85_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v14] : Fin 2 → IVec S16 32) a x).toNat < S264x256.size a := fun v6 v8 v10 v12 v14 v16 v18 v20 v22 v24 v26 v28 v30 v32 v34 v36 v341 k0_hw6 => k0_hw6.2.2.2.2.1
theorem k0_idx86_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v16] : Fin 2 → IVec S16 32) a x).toNat < S264x256.size a := fun v6 v8 v10 v12 v14 v16 v18 v20 v22 v24 v26 v28 v30 v32 v34 v36 v341 k0_hw6 => k0_hw6.2.2.2.2.2.1
theorem k0_idx87_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v18] : Fin 2 → IVec S16 32) a x).toNat < S264x256.size a := fun v6 v8 v10 v12 v14 v16 v18 v20 v22 v24 v26 v28 v30 v32 v34 v36 v341 k0_hw6 => k0_hw6.2.2.2.2.2.2.1
theorem k0_idx88_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v20] : Fin 2 → IVec S16 32) a x).toNat < S264x256.size a := fun v6 v8 v10 v12 v14 v16 v18 v20 v22 v24 v26 v28 v30 v32 v34 v36 v341 k0_hw6 => k0_hw6.2.2.2.2.2.2.2.1
theorem k0_idx89_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v22] : Fin 2 → IVec S16 32) a x).toNat < S264x256.size a := fun v6 v8 v10 v12 v14 v16 v18 v20 v22 v24 v26 v28 v30 v32 v34 v36 v341 k0_hw6 => k0_hw6.2.2.2.2.2.2.2.2.1
theorem k0_idx90_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v24] : Fin 2 → IVec S16 32) a x).toNat < S264x256.size a := fun v6 v8 v10 v12 v14 v16 v18 v20 v22 v24 v26 v28 v30 v32 v34 v36 v341 k0_hw6 => k0_hw6.2.2.2.2.2.2.2.2.2.1
theorem k0_idx91_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v26] : Fin 2 → IVec S16 32) a x).toNat < S264x256.size a := fun v6 v8 v10 v12 v14 v16 v18 v20 v22 v24 v26 v28 v30 v32 v34 v36 v341 k0_hw6 => k0_hw6.2.2.2.2.2.2.2.2.2.2.1
theorem k0_idx92_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v28] : Fin 2 → IVec S16 32) a x).toNat < S264x256.size a := fun v6 v8 v10 v12 v14 v16 v18 v20 v22 v24 v26 v28 v30 v32 v34 v36 v341 k0_hw6 => k0_hw6.2.2.2.2.2.2.2.2.2.2.2.1
theorem k0_idx93_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v30] : Fin 2 → IVec S16 32) a x).toNat < S264x256.size a := fun v6 v8 v10 v12 v14 v16 v18 v20 v22 v24 v26 v28 v30 v32 v34 v36 v341 k0_hw6 => k0_hw6.2.2.2.2.2.2.2.2.2.2.2.2.1
theorem k0_idx94_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v32] : Fin 2 → IVec S16 32) a x).toNat < S264x256.size a := fun v6 v8 v10 v12 v14 v16 v18 v20 v22 v24 v26 v28 v30 v32 v34 v36 v341 k0_hw6 => k0_hw6.2.2.2.2.2.2.2.2.2.2.2.2.2.1
theorem k0_idx95_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v34] : Fin 2 → IVec S16 32) a x).toNat < S264x256.size a := fun v6 v8 v10 v12 v14 v16 v18 v20 v22 v24 v26 v28 v30 v32 v34 v36 v341 k0_hw6 => k0_hw6.2.2.2.2.2.2.2.2.2.2.2.2.2.2.1
theorem k0_idx96_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v341 : IVec S16 32) (k0_hw6 : k0_chk6 v6 v8 v10 v12 v14 v16 v18 v20 v22 v24 v26 v28 v30 v32 v34 v36 v341), ∀ a x, ((![v341, v36] : Fin 2 → IVec S16 32) a x).toNat < S264x256.size a := fun v6 v8 v10 v12 v14 v16 v18 v20 v22 v24 v26 v28 v30 v32 v34 v36 v341 k0_hw6 => k0_hw6.2.2.2.2.2.2.2.2.2.2.2.2.2.2.2

def k0_chk7 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) : Prop :=
  (∀ a x, ((![v407, v6] : Fin 2 → IVec S16 32) a x).toNat < S264x256.size a) ∧
  (∀ a x, ((![v407, v8] : Fin 2 → IVec S16 32) a x).toNat < S264x256.size a) ∧
  (∀ a x, ((![v407, v10] : Fin 2 → IVec S16 32) a x).toNat < S264x256.size a) ∧
  (∀ a x, ((![v407, v12] : Fin 2 → IVec S16 32) a x).toNat < S264x256.size a) ∧
  (∀ a x, ((![v407, v14] : Fin 2 → IVec S16 32) a x).toNat < S264x256.size a) ∧
  (∀ a x, ((![v407, v16] : Fin 2 → IVec S16 32) a x).toNat < S264x256.size a) ∧
  (∀ a x, ((![v407, v18] : Fin 2 → IVec S16 32) a x).toNat < S264x256.size a) ∧
  (∀ a x, ((![v407, v20] : Fin 2 → IVec S16 32) a x).toNat < S264x256.size a) ∧
  (∀ a x, ((![v407, v22] : Fin 2 → IVec S16 32) a x).toNat < S264x256.size a) ∧
  (∀ a x, ((![v407, v24] : Fin 2 → IVec S16 32) a x).toNat < S264x256.size a) ∧
  (∀ a x, ((![v407, v26] : Fin 2 → IVec S16 32) a x).toNat < S264x256.size a) ∧
  (∀ a x, ((![v407, v28] : Fin 2 → IVec S16 32) a x).toNat < S264x256.size a) ∧
  (∀ a x, ((![v407, v30] : Fin 2 → IVec S16 32) a x).toNat < S264x256.size a) ∧
  (∀ a x, ((![v407, v32] : Fin 2 → IVec S16 32) a x).toNat < S264x256.size a) ∧
  (∀ a x, ((![v407, v34] : Fin 2 → IVec S16 32) a x).toNat < S264x256.size a) ∧
  (∀ a x, ((![v407, v36] : Fin 2 → IVec S16 32) a x).toNat < S264x256.size a)
theorem k0_idx97_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v6] : Fin 2 → IVec S16 32) a x).toNat < S264x256.size a := fun v6 v8 v10 v12 v14 v16 v18 v20 v22 v24 v26 v28 v30 v32 v34 v36 v407 k0_hw7 => k0_hw7.1
theorem k0_idx98_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v8] : Fin 2 → IVec S16 32) a x).toNat < S264x256.size a := fun v6 v8 v10 v12 v14 v16 v18 v20 v22 v24 v26 v28 v30 v32 v34 v36 v407 k0_hw7 => k0_hw7.2.1
theorem k0_idx99_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v10] : Fin 2 → IVec S16 32) a x).toNat < S264x256.size a := fun v6 v8 v10 v12 v14 v16 v18 v20 v22 v24 v26 v28 v30 v32 v34 v36 v407 k0_hw7 => k0_hw7.2.2.1
theorem k0_idx100_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v12] : Fin 2 → IVec S16 32) a x).toNat < S264x256.size a := fun v6 v8 v10 v12 v14 v16 v18 v20 v22 v24 v26 v28 v30 v32 v34 v36 v407 k0_hw7 => k0_hw7.2.2.2.1
theorem k0_idx101_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v14] : Fin 2 → IVec S16 32) a x).toNat < S264x256.size a := fun v6 v8 v10 v12 v14 v16 v18 v20 v22 v24 v26 v28 v30 v32 v34 v36 v407 k0_hw7 => k0_hw7.2.2.2.2.1
theorem k0_idx102_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v16] : Fin 2 → IVec S16 32) a x).toNat < S264x256.size a := fun v6 v8 v10 v12 v14 v16 v18 v20 v22 v24 v26 v28 v30 v32 v34 v36 v407 k0_hw7 => k0_hw7.2.2.2.2.2.1
theorem k0_idx103_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v18] : Fin 2 → IVec S16 32) a x).toNat < S264x256.size a := fun v6 v8 v10 v12 v14 v16 v18 v20 v22 v24 v26 v28 v30 v32 v34 v36 v407 k0_hw7 => k0_hw7.2.2.2.2.2.2.1
theorem k0_idx104_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v20] : Fin 2 → IVec S16 32) a x).toNat < S264x256.size a := fun v6 v8 v10 v12 v14 v16 v18 v20 v22 v24 v26 v28 v30 v32 v34 v36 v407 k0_hw7 => k0_hw7.2.2.2.2.2.2.2.1
theorem k0_idx105_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v22] : Fin 2 → IVec S16 32) a x).toNat < S264x256.size a := fun v6 v8 v10 v12 v14 v16 v18 v20 v22 v24 v26 v28 v30 v32 v34 v36 v407 k0_hw7 => k0_hw7.2.2.2.2.2.2.2.2.1
theorem k0_idx106_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v24] : Fin 2 → IVec S16 32) a x).toNat < S264x256.size a := fun v6 v8 v10 v12 v14 v16 v18 v20 v22 v24 v26 v28 v30 v32 v34 v36 v407 k0_hw7 => k0_hw7.2.2.2.2.2.2.2.2.2.1
theorem k0_idx107_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v26] : Fin 2 → IVec S16 32) a x).toNat < S264x256.size a := fun v6 v8 v10 v12 v14 v16 v18 v20 v22 v24 v26 v28 v30 v32 v34 v36 v407 k0_hw7 => k0_hw7.2.2.2.2.2.2.2.2.2.2.1
theorem k0_idx108_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v28] : Fin 2 → IVec S16 32) a x).toNat < S264x256.size a := fun v6 v8 v10 v12 v14 v16 v18 v20 v22 v24 v26 v28 v30 v32 v34 v36 v407 k0_hw7 => k0_hw7.2.2.2.2.2.2.2.2.2.2.2.1
theorem k0_idx109_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v30] : Fin 2 → IVec S16 32) a x).toNat < S264x256.size a := fun v6 v8 v10 v12 v14 v16 v18 v20 v22 v24 v26 v28 v30 v32 v34 v36 v407 k0_hw7 => k0_hw7.2.2.2.2.2.2.2.2.2.2.2.2.1
theorem k0_idx110_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v32] : Fin 2 → IVec S16 32) a x).toNat < S264x256.size a := fun v6 v8 v10 v12 v14 v16 v18 v20 v22 v24 v26 v28 v30 v32 v34 v36 v407 k0_hw7 => k0_hw7.2.2.2.2.2.2.2.2.2.2.2.2.2.1
theorem k0_idx111_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v34] : Fin 2 → IVec S16 32) a x).toNat < S264x256.size a := fun v6 v8 v10 v12 v14 v16 v18 v20 v22 v24 v26 v28 v30 v32 v34 v36 v407 k0_hw7 => k0_hw7.2.2.2.2.2.2.2.2.2.2.2.2.2.2.1
theorem k0_idx112_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v407 : IVec S16 32) (k0_hw7 : k0_chk7 v6 v8 v10 v12 v14 v16 v18 v20 v22 v24 v26 v28 v30 v32 v34 v36 v407), ∀ a x, ((![v407, v36] : Fin 2 → IVec S16 32) a x).toNat < S264x256.size a := fun v6 v8 v10 v12 v14 v16 v18 v20 v22 v24 v26 v28 v30 v32 v34 v36 v407 k0_hw7 => k0_hw7.2.2.2.2.2.2.2.2.2.2.2.2.2.2.2

def k0_chk8 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) : Prop :=
  (∀ a x, ((![v473, v6] : Fin 2 → IVec S16 32) a x).toNat < S264x256.size a) ∧
  (∀ a x, ((![v473, v8] : Fin 2 → IVec S16 32) a x).toNat < S264x256.size a) ∧
  (∀ a x, ((![v473, v10] : Fin 2 → IVec S16 32) a x).toNat < S264x256.size a) ∧
  (∀ a x, ((![v473, v12] : Fin 2 → IVec S16 32) a x).toNat < S264x256.size a) ∧
  (∀ a x, ((![v473, v14] : Fin 2 → IVec S16 32) a x).toNat < S264x256.size a) ∧
  (∀ a x, ((![v473, v16] : Fin 2 → IVec S16 32) a x).toNat < S264x256.size a) ∧
  (∀ a x, ((![v473, v18] : Fin 2 → IVec S16 32) a x).toNat < S264x256.size a) ∧
  (∀ a x, ((![v473, v20] : Fin 2 → IVec S16 32) a x).toNat < S264x256.size a) ∧
  (∀ a x, ((![v473, v22] : Fin 2 → IVec S16 32) a x).toNat < S264x256.size a) ∧
  (∀ a x, ((![v473, v24] : Fin 2 → IVec S16 32) a x).toNat < S264x256.size a) ∧
  (∀ a x, ((![v473, v26] : Fin 2 → IVec S16 32) a x).toNat < S264x256.size a) ∧
  (∀ a x, ((![v473, v28] : Fin 2 → IVec S16 32) a x).toNat < S264x256.size a) ∧
  (∀ a x, ((![v473, v30] : Fin 2 → IVec S16 32) a x).toNat < S264x256.size a) ∧
  (∀ a x, ((![v473, v32] : Fin 2 → IVec S16 32) a x).toNat < S264x256.size a) ∧
  (∀ a x, ((![v473, v34] : Fin 2 → IVec S16 32) a x).toNat < S264x256.size a) ∧
  (∀ a x, ((![v473, v36] : Fin 2 → IVec S16 32) a x).toNat < S264x256.size a)
theorem k0_idx113_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v6] : Fin 2 → IVec S16 32) a x).toNat < S264x256.size a := fun v6 v8 v10 v12 v14 v16 v18 v20 v22 v24 v26 v28 v30 v32 v34 v36 v473 k0_hw8 => k0_hw8.1
theorem k0_idx114_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v8] : Fin 2 → IVec S16 32) a x).toNat < S264x256.size a := fun v6 v8 v10 v12 v14 v16 v18 v20 v22 v24 v26 v28 v30 v32 v34 v36 v473 k0_hw8 => k0_hw8.2.1
theorem k0_idx115_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v10] : Fin 2 → IVec S16 32) a x).toNat < S264x256.size a := fun v6 v8 v10 v12 v14 v16 v18 v20 v22 v24 v26 v28 v30 v32 v34 v36 v473 k0_hw8 => k0_hw8.2.2.1
theorem k0_idx116_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v12] : Fin 2 → IVec S16 32) a x).toNat < S264x256.size a := fun v6 v8 v10 v12 v14 v16 v18 v20 v22 v24 v26 v28 v30 v32 v34 v36 v473 k0_hw8 => k0_hw8.2.2.2.1
theorem k0_idx117_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v14] : Fin 2 → IVec S16 32) a x).toNat < S264x256.size a := fun v6 v8 v10 v12 v14 v16 v18 v20 v22 v24 v26 v28 v30 v32 v34 v36 v473 k0_hw8 => k0_hw8.2.2.2.2.1
theorem k0_idx118_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v16] : Fin 2 → IVec S16 32) a x).toNat < S264x256.size a := fun v6 v8 v10 v12 v14 v16 v18 v20 v22 v24 v26 v28 v30 v32 v34 v36 v473 k0_hw8 => k0_hw8.2.2.2.2.2.1
theorem k0_idx119_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v18] : Fin 2 → IVec S16 32) a x).toNat < S264x256.size a := fun v6 v8 v10 v12 v14 v16 v18 v20 v22 v24 v26 v28 v30 v32 v34 v36 v473 k0_hw8 => k0_hw8.2.2.2.2.2.2.1
theorem k0_idx120_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v20] : Fin 2 → IVec S16 32) a x).toNat < S264x256.size a := fun v6 v8 v10 v12 v14 v16 v18 v20 v22 v24 v26 v28 v30 v32 v34 v36 v473 k0_hw8 => k0_hw8.2.2.2.2.2.2.2.1
theorem k0_idx121_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v22] : Fin 2 → IVec S16 32) a x).toNat < S264x256.size a := fun v6 v8 v10 v12 v14 v16 v18 v20 v22 v24 v26 v28 v30 v32 v34 v36 v473 k0_hw8 => k0_hw8.2.2.2.2.2.2.2.2.1
theorem k0_idx122_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v24] : Fin 2 → IVec S16 32) a x).toNat < S264x256.size a := fun v6 v8 v10 v12 v14 v16 v18 v20 v22 v24 v26 v28 v30 v32 v34 v36 v473 k0_hw8 => k0_hw8.2.2.2.2.2.2.2.2.2.1
theorem k0_idx123_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v26] : Fin 2 → IVec S16 32) a x).toNat < S264x256.size a := fun v6 v8 v10 v12 v14 v16 v18 v20 v22 v24 v26 v28 v30 v32 v34 v36 v473 k0_hw8 => k0_hw8.2.2.2.2.2.2.2.2.2.2.1
theorem k0_idx124_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v28] : Fin 2 → IVec S16 32) a x).toNat < S264x256.size a := fun v6 v8 v10 v12 v14 v16 v18 v20 v22 v24 v26 v28 v30 v32 v34 v36 v473 k0_hw8 => k0_hw8.2.2.2.2.2.2.2.2.2.2.2.1
theorem k0_idx125_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v30] : Fin 2 → IVec S16 32) a x).toNat < S264x256.size a := fun v6 v8 v10 v12 v14 v16 v18 v20 v22 v24 v26 v28 v30 v32 v34 v36 v473 k0_hw8 => k0_hw8.2.2.2.2.2.2.2.2.2.2.2.2.1
theorem k0_idx126_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v32] : Fin 2 → IVec S16 32) a x).toNat < S264x256.size a := fun v6 v8 v10 v12 v14 v16 v18 v20 v22 v24 v26 v28 v30 v32 v34 v36 v473 k0_hw8 => k0_hw8.2.2.2.2.2.2.2.2.2.2.2.2.2.1
theorem k0_idx127_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v34] : Fin 2 → IVec S16 32) a x).toNat < S264x256.size a := fun v6 v8 v10 v12 v14 v16 v18 v20 v22 v24 v26 v28 v30 v32 v34 v36 v473 k0_hw8 => k0_hw8.2.2.2.2.2.2.2.2.2.2.2.2.2.2.1
theorem k0_idx128_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v473 : IVec S16 32) (k0_hw8 : k0_chk8 v6 v8 v10 v12 v14 v16 v18 v20 v22 v24 v26 v28 v30 v32 v34 v36 v473), ∀ a x, ((![v473, v36] : Fin 2 → IVec S16 32) a x).toNat < S264x256.size a := fun v6 v8 v10 v12 v14 v16 v18 v20 v22 v24 v26 v28 v30 v32 v34 v36 v473 k0_hw8 => k0_hw8.2.2.2.2.2.2.2.2.2.2.2.2.2.2.2

def k0_chk9 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) : Prop :=
  (∀ a x, ((![v539, v6] : Fin 2 → IVec S16 32) a x).toNat < S264x256.size a) ∧
  (∀ a x, ((![v539, v8] : Fin 2 → IVec S16 32) a x).toNat < S264x256.size a) ∧
  (∀ a x, ((![v539, v10] : Fin 2 → IVec S16 32) a x).toNat < S264x256.size a) ∧
  (∀ a x, ((![v539, v12] : Fin 2 → IVec S16 32) a x).toNat < S264x256.size a) ∧
  (∀ a x, ((![v539, v14] : Fin 2 → IVec S16 32) a x).toNat < S264x256.size a) ∧
  (∀ a x, ((![v539, v16] : Fin 2 → IVec S16 32) a x).toNat < S264x256.size a) ∧
  (∀ a x, ((![v539, v18] : Fin 2 → IVec S16 32) a x).toNat < S264x256.size a) ∧
  (∀ a x, ((![v539, v20] : Fin 2 → IVec S16 32) a x).toNat < S264x256.size a) ∧
  (∀ a x, ((![v539, v22] : Fin 2 → IVec S16 32) a x).toNat < S264x256.size a) ∧
  (∀ a x, ((![v539, v24] : Fin 2 → IVec S16 32) a x).toNat < S264x256.size a) ∧
  (∀ a x, ((![v539, v26] : Fin 2 → IVec S16 32) a x).toNat < S264x256.size a) ∧
  (∀ a x, ((![v539, v28] : Fin 2 → IVec S16 32) a x).toNat < S264x256.size a) ∧
  (∀ a x, ((![v539, v30] : Fin 2 → IVec S16 32) a x).toNat < S264x256.size a) ∧
  (∀ a x, ((![v539, v32] : Fin 2 → IVec S16 32) a x).toNat < S264x256.size a) ∧
  (∀ a x, ((![v539, v34] : Fin 2 → IVec S16 32) a x).toNat < S264x256.size a) ∧
  (∀ a x, ((![v539, v36] : Fin 2 → IVec S16 32) a x).toNat < S264x256.size a)
theorem k0_idx129_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v6] : Fin 2 → IVec S16 32) a x).toNat < S264x256.size a := fun v6 v8 v10 v12 v14 v16 v18 v20 v22 v24 v26 v28 v30 v32 v34 v36 v539 k0_hw9 => k0_hw9.1
theorem k0_idx130_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v8] : Fin 2 → IVec S16 32) a x).toNat < S264x256.size a := fun v6 v8 v10 v12 v14 v16 v18 v20 v22 v24 v26 v28 v30 v32 v34 v36 v539 k0_hw9 => k0_hw9.2.1
theorem k0_idx131_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v10] : Fin 2 → IVec S16 32) a x).toNat < S264x256.size a := fun v6 v8 v10 v12 v14 v16 v18 v20 v22 v24 v26 v28 v30 v32 v34 v36 v539 k0_hw9 => k0_hw9.2.2.1
theorem k0_idx132_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v12] : Fin 2 → IVec S16 32) a x).toNat < S264x256.size a := fun v6 v8 v10 v12 v14 v16 v18 v20 v22 v24 v26 v28 v30 v32 v34 v36 v539 k0_hw9 => k0_hw9.2.2.2.1
theorem k0_idx133_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v14] : Fin 2 → IVec S16 32) a x).toNat < S264x256.size a := fun v6 v8 v10 v12 v14 v16 v18 v20 v22 v24 v26 v28 v30 v32 v34 v36 v539 k0_hw9 => k0_hw9.2.2.2.2.1
theorem k0_idx134_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v16] : Fin 2 → IVec S16 32) a x).toNat < S264x256.size a := fun v6 v8 v10 v12 v14 v16 v18 v20 v22 v24 v26 v28 v30 v32 v34 v36 v539 k0_hw9 => k0_hw9.2.2.2.2.2.1
theorem k0_idx135_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v18] : Fin 2 → IVec S16 32) a x).toNat < S264x256.size a := fun v6 v8 v10 v12 v14 v16 v18 v20 v22 v24 v26 v28 v30 v32 v34 v36 v539 k0_hw9 => k0_hw9.2.2.2.2.2.2.1
theorem k0_idx136_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v20] : Fin 2 → IVec S16 32) a x).toNat < S264x256.size a := fun v6 v8 v10 v12 v14 v16 v18 v20 v22 v24 v26 v28 v30 v32 v34 v36 v539 k0_hw9 => k0_hw9.2.2.2.2.2.2.2.1
theorem k0_idx137_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v22] : Fin 2 → IVec S16 32) a x).toNat < S264x256.size a := fun v6 v8 v10 v12 v14 v16 v18 v20 v22 v24 v26 v28 v30 v32 v34 v36 v539 k0_hw9 => k0_hw9.2.2.2.2.2.2.2.2.1
theorem k0_idx138_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v24] : Fin 2 → IVec S16 32) a x).toNat < S264x256.size a := fun v6 v8 v10 v12 v14 v16 v18 v20 v22 v24 v26 v28 v30 v32 v34 v36 v539 k0_hw9 => k0_hw9.2.2.2.2.2.2.2.2.2.1
theorem k0_idx139_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v26] : Fin 2 → IVec S16 32) a x).toNat < S264x256.size a := fun v6 v8 v10 v12 v14 v16 v18 v20 v22 v24 v26 v28 v30 v32 v34 v36 v539 k0_hw9 => k0_hw9.2.2.2.2.2.2.2.2.2.2.1
theorem k0_idx140_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v28] : Fin 2 → IVec S16 32) a x).toNat < S264x256.size a := fun v6 v8 v10 v12 v14 v16 v18 v20 v22 v24 v26 v28 v30 v32 v34 v36 v539 k0_hw9 => k0_hw9.2.2.2.2.2.2.2.2.2.2.2.1
theorem k0_idx141_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v30] : Fin 2 → IVec S16 32) a x).toNat < S264x256.size a := fun v6 v8 v10 v12 v14 v16 v18 v20 v22 v24 v26 v28 v30 v32 v34 v36 v539 k0_hw9 => k0_hw9.2.2.2.2.2.2.2.2.2.2.2.2.1
theorem k0_idx142_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v32] : Fin 2 → IVec S16 32) a x).toNat < S264x256.size a := fun v6 v8 v10 v12 v14 v16 v18 v20 v22 v24 v26 v28 v30 v32 v34 v36 v539 k0_hw9 => k0_hw9.2.2.2.2.2.2.2.2.2.2.2.2.2.1
theorem k0_idx143_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v34] : Fin 2 → IVec S16 32) a x).toNat < S264x256.size a := fun v6 v8 v10 v12 v14 v16 v18 v20 v22 v24 v26 v28 v30 v32 v34 v36 v539 k0_hw9 => k0_hw9.2.2.2.2.2.2.2.2.2.2.2.2.2.2.1
theorem k0_idx144_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v539 : IVec S16 32) (k0_hw9 : k0_chk9 v6 v8 v10 v12 v14 v16 v18 v20 v22 v24 v26 v28 v30 v32 v34 v36 v539), ∀ a x, ((![v539, v36] : Fin 2 → IVec S16 32) a x).toNat < S264x256.size a := fun v6 v8 v10 v12 v14 v16 v18 v20 v22 v24 v26 v28 v30 v32 v34 v36 v539 k0_hw9 => k0_hw9.2.2.2.2.2.2.2.2.2.2.2.2.2.2.2

def k0_chk10 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) : Prop :=
  (∀ a x, ((![v605, v6] : Fin 2 → IVec S16 32) a x).toNat < S264x256.size a) ∧
  (∀ a x, ((![v605, v8] : Fin 2 → IVec S16 32) a x).toNat < S264x256.size a) ∧
  (∀ a x, ((![v605, v10] : Fin 2 → IVec S16 32) a x).toNat < S264x256.size a) ∧
  (∀ a x, ((![v605, v12] : Fin 2 → IVec S16 32) a x).toNat < S264x256.size a) ∧
  (∀ a x, ((![v605, v14] : Fin 2 → IVec S16 32) a x).toNat < S264x256.size a) ∧
  (∀ a x, ((![v605, v16] : Fin 2 → IVec S16 32) a x).toNat < S264x256.size a) ∧
  (∀ a x, ((![v605, v18] : Fin 2 → IVec S16 32) a x).toNat < S264x256.size a) ∧
  (∀ a x, ((![v605, v20] : Fin 2 → IVec S16 32) a x).toNat < S264x256.size a) ∧
  (∀ a x, ((![v605, v22] : Fin 2 → IVec S16 32) a x).toNat < S264x256.size a) ∧
  (∀ a x, ((![v605, v24] : Fin 2 → IVec S16 32) a x).toNat < S264x256.size a) ∧
  (∀ a x, ((![v605, v26] : Fin 2 → IVec S16 32) a x).toNat < S264x256.size a) ∧
  (∀ a x, ((![v605, v28] : Fin 2 → IVec S16 32) a x).toNat < S264x256.size a) ∧
  (∀ a x, ((![v605, v30] : Fin 2 → IVec S16 32) a x).toNat < S264x256.size a) ∧
  (∀ a x, ((![v605, v32] : Fin 2 → IVec S16 32) a x).toNat < S264x256.size a) ∧
  (∀ a x, ((![v605, v34] : Fin 2 → IVec S16 32) a x).toNat < S264x256.size a) ∧
  (∀ a x, ((![v605, v36] : Fin 2 → IVec S16 32) a x).toNat < S264x256.size a)
theorem k0_idx145_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v6] : Fin 2 → IVec S16 32) a x).toNat < S264x256.size a := fun v6 v8 v10 v12 v14 v16 v18 v20 v22 v24 v26 v28 v30 v32 v34 v36 v605 k0_hw10 => k0_hw10.1
theorem k0_idx146_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v8] : Fin 2 → IVec S16 32) a x).toNat < S264x256.size a := fun v6 v8 v10 v12 v14 v16 v18 v20 v22 v24 v26 v28 v30 v32 v34 v36 v605 k0_hw10 => k0_hw10.2.1
theorem k0_idx147_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v10] : Fin 2 → IVec S16 32) a x).toNat < S264x256.size a := fun v6 v8 v10 v12 v14 v16 v18 v20 v22 v24 v26 v28 v30 v32 v34 v36 v605 k0_hw10 => k0_hw10.2.2.1
theorem k0_idx148_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v12] : Fin 2 → IVec S16 32) a x).toNat < S264x256.size a := fun v6 v8 v10 v12 v14 v16 v18 v20 v22 v24 v26 v28 v30 v32 v34 v36 v605 k0_hw10 => k0_hw10.2.2.2.1
theorem k0_idx149_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v14] : Fin 2 → IVec S16 32) a x).toNat < S264x256.size a := fun v6 v8 v10 v12 v14 v16 v18 v20 v22 v24 v26 v28 v30 v32 v34 v36 v605 k0_hw10 => k0_hw10.2.2.2.2.1
theorem k0_idx150_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v16] : Fin 2 → IVec S16 32) a x).toNat < S264x256.size a := fun v6 v8 v10 v12 v14 v16 v18 v20 v22 v24 v26 v28 v30 v32 v34 v36 v605 k0_hw10 => k0_hw10.2.2.2.2.2.1
theorem k0_idx151_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v18] : Fin 2 → IVec S16 32) a x).toNat < S264x256.size a := fun v6 v8 v10 v12 v14 v16 v18 v20 v22 v24 v26 v28 v30 v32 v34 v36 v605 k0_hw10 => k0_hw10.2.2.2.2.2.2.1
theorem k0_idx152_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v20] : Fin 2 → IVec S16 32) a x).toNat < S264x256.size a := fun v6 v8 v10 v12 v14 v16 v18 v20 v22 v24 v26 v28 v30 v32 v34 v36 v605 k0_hw10 => k0_hw10.2.2.2.2.2.2.2.1
theorem k0_idx153_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v22] : Fin 2 → IVec S16 32) a x).toNat < S264x256.size a := fun v6 v8 v10 v12 v14 v16 v18 v20 v22 v24 v26 v28 v30 v32 v34 v36 v605 k0_hw10 => k0_hw10.2.2.2.2.2.2.2.2.1
theorem k0_idx154_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v24] : Fin 2 → IVec S16 32) a x).toNat < S264x256.size a := fun v6 v8 v10 v12 v14 v16 v18 v20 v22 v24 v26 v28 v30 v32 v34 v36 v605 k0_hw10 => k0_hw10.2.2.2.2.2.2.2.2.2.1
theorem k0_idx155_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v26] : Fin 2 → IVec S16 32) a x).toNat < S264x256.size a := fun v6 v8 v10 v12 v14 v16 v18 v20 v22 v24 v26 v28 v30 v32 v34 v36 v605 k0_hw10 => k0_hw10.2.2.2.2.2.2.2.2.2.2.1
theorem k0_idx156_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v28] : Fin 2 → IVec S16 32) a x).toNat < S264x256.size a := fun v6 v8 v10 v12 v14 v16 v18 v20 v22 v24 v26 v28 v30 v32 v34 v36 v605 k0_hw10 => k0_hw10.2.2.2.2.2.2.2.2.2.2.2.1
theorem k0_idx157_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v30] : Fin 2 → IVec S16 32) a x).toNat < S264x256.size a := fun v6 v8 v10 v12 v14 v16 v18 v20 v22 v24 v26 v28 v30 v32 v34 v36 v605 k0_hw10 => k0_hw10.2.2.2.2.2.2.2.2.2.2.2.2.1
theorem k0_idx158_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v32] : Fin 2 → IVec S16 32) a x).toNat < S264x256.size a := fun v6 v8 v10 v12 v14 v16 v18 v20 v22 v24 v26 v28 v30 v32 v34 v36 v605 k0_hw10 => k0_hw10.2.2.2.2.2.2.2.2.2.2.2.2.2.1
theorem k0_idx159_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v34] : Fin 2 → IVec S16 32) a x).toNat < S264x256.size a := fun v6 v8 v10 v12 v14 v16 v18 v20 v22 v24 v26 v28 v30 v32 v34 v36 v605 k0_hw10 => k0_hw10.2.2.2.2.2.2.2.2.2.2.2.2.2.2.1
theorem k0_idx160_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v605 : IVec S16 32) (k0_hw10 : k0_chk10 v6 v8 v10 v12 v14 v16 v18 v20 v22 v24 v26 v28 v30 v32 v34 v36 v605), ∀ a x, ((![v605, v36] : Fin 2 → IVec S16 32) a x).toNat < S264x256.size a := fun v6 v8 v10 v12 v14 v16 v18 v20 v22 v24 v26 v28 v30 v32 v34 v36 v605 k0_hw10 => k0_hw10.2.2.2.2.2.2.2.2.2.2.2.2.2.2.2

def k0_chk11 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) : Prop :=
  (∀ a x, ((![v671, v6] : Fin 2 → IVec S16 32) a x).toNat < S264x256.size a) ∧
  (∀ a x, ((![v671, v8] : Fin 2 → IVec S16 32) a x).toNat < S264x256.size a) ∧
  (∀ a x, ((![v671, v10] : Fin 2 → IVec S16 32) a x).toNat < S264x256.size a) ∧
  (∀ a x, ((![v671, v12] : Fin 2 → IVec S16 32) a x).toNat < S264x256.size a) ∧
  (∀ a x, ((![v671, v14] : Fin 2 → IVec S16 32) a x).toNat < S264x256.size a) ∧
  (∀ a x, ((![v671, v16] : Fin 2 → IVec S16 32) a x).toNat < S264x256.size a) ∧
  (∀ a x, ((![v671, v18] : Fin 2 → IVec S16 32) a x).toNat < S264x256.size a) ∧
  (∀ a x, ((![v671, v20] : Fin 2 → IVec S16 32) a x).toNat < S264x256.size a) ∧
  (∀ a x, ((![v671, v22] : Fin 2 → IVec S16 32) a x).toNat < S264x256.size a) ∧
  (∀ a x, ((![v671, v24] : Fin 2 → IVec S16 32) a x).toNat < S264x256.size a) ∧
  (∀ a x, ((![v671, v26] : Fin 2 → IVec S16 32) a x).toNat < S264x256.size a) ∧
  (∀ a x, ((![v671, v28] : Fin 2 → IVec S16 32) a x).toNat < S264x256.size a) ∧
  (∀ a x, ((![v671, v30] : Fin 2 → IVec S16 32) a x).toNat < S264x256.size a) ∧
  (∀ a x, ((![v671, v32] : Fin 2 → IVec S16 32) a x).toNat < S264x256.size a) ∧
  (∀ a x, ((![v671, v34] : Fin 2 → IVec S16 32) a x).toNat < S264x256.size a) ∧
  (∀ a x, ((![v671, v36] : Fin 2 → IVec S16 32) a x).toNat < S264x256.size a)
theorem k0_idx161_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v6] : Fin 2 → IVec S16 32) a x).toNat < S264x256.size a := fun v6 v8 v10 v12 v14 v16 v18 v20 v22 v24 v26 v28 v30 v32 v34 v36 v671 k0_hw11 => k0_hw11.1
theorem k0_idx162_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v8] : Fin 2 → IVec S16 32) a x).toNat < S264x256.size a := fun v6 v8 v10 v12 v14 v16 v18 v20 v22 v24 v26 v28 v30 v32 v34 v36 v671 k0_hw11 => k0_hw11.2.1
theorem k0_idx163_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v10] : Fin 2 → IVec S16 32) a x).toNat < S264x256.size a := fun v6 v8 v10 v12 v14 v16 v18 v20 v22 v24 v26 v28 v30 v32 v34 v36 v671 k0_hw11 => k0_hw11.2.2.1
theorem k0_idx164_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v12] : Fin 2 → IVec S16 32) a x).toNat < S264x256.size a := fun v6 v8 v10 v12 v14 v16 v18 v20 v22 v24 v26 v28 v30 v32 v34 v36 v671 k0_hw11 => k0_hw11.2.2.2.1
theorem k0_idx165_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v14] : Fin 2 → IVec S16 32) a x).toNat < S264x256.size a := fun v6 v8 v10 v12 v14 v16 v18 v20 v22 v24 v26 v28 v30 v32 v34 v36 v671 k0_hw11 => k0_hw11.2.2.2.2.1
theorem k0_idx166_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v16] : Fin 2 → IVec S16 32) a x).toNat < S264x256.size a := fun v6 v8 v10 v12 v14 v16 v18 v20 v22 v24 v26 v28 v30 v32 v34 v36 v671 k0_hw11 => k0_hw11.2.2.2.2.2.1
theorem k0_idx167_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v18] : Fin 2 → IVec S16 32) a x).toNat < S264x256.size a := fun v6 v8 v10 v12 v14 v16 v18 v20 v22 v24 v26 v28 v30 v32 v34 v36 v671 k0_hw11 => k0_hw11.2.2.2.2.2.2.1
theorem k0_idx168_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v20] : Fin 2 → IVec S16 32) a x).toNat < S264x256.size a := fun v6 v8 v10 v12 v14 v16 v18 v20 v22 v24 v26 v28 v30 v32 v34 v36 v671 k0_hw11 => k0_hw11.2.2.2.2.2.2.2.1
theorem k0_idx169_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v22] : Fin 2 → IVec S16 32) a x).toNat < S264x256.size a := fun v6 v8 v10 v12 v14 v16 v18 v20 v22 v24 v26 v28 v30 v32 v34 v36 v671 k0_hw11 => k0_hw11.2.2.2.2.2.2.2.2.1
theorem k0_idx170_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v24] : Fin 2 → IVec S16 32) a x).toNat < S264x256.size a := fun v6 v8 v10 v12 v14 v16 v18 v20 v22 v24 v26 v28 v30 v32 v34 v36 v671 k0_hw11 => k0_hw11.2.2.2.2.2.2.2.2.2.1
theorem k0_idx171_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v26] : Fin 2 → IVec S16 32) a x).toNat < S264x256.size a := fun v6 v8 v10 v12 v14 v16 v18 v20 v22 v24 v26 v28 v30 v32 v34 v36 v671 k0_hw11 => k0_hw11.2.2.2.2.2.2.2.2.2.2.1
theorem k0_idx172_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v28] : Fin 2 → IVec S16 32) a x).toNat < S264x256.size a := fun v6 v8 v10 v12 v14 v16 v18 v20 v22 v24 v26 v28 v30 v32 v34 v36 v671 k0_hw11 => k0_hw11.2.2.2.2.2.2.2.2.2.2.2.1
theorem k0_idx173_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v30] : Fin 2 → IVec S16 32) a x).toNat < S264x256.size a := fun v6 v8 v10 v12 v14 v16 v18 v20 v22 v24 v26 v28 v30 v32 v34 v36 v671 k0_hw11 => k0_hw11.2.2.2.2.2.2.2.2.2.2.2.2.1
theorem k0_idx174_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v32] : Fin 2 → IVec S16 32) a x).toNat < S264x256.size a := fun v6 v8 v10 v12 v14 v16 v18 v20 v22 v24 v26 v28 v30 v32 v34 v36 v671 k0_hw11 => k0_hw11.2.2.2.2.2.2.2.2.2.2.2.2.2.1
theorem k0_idx175_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v34] : Fin 2 → IVec S16 32) a x).toNat < S264x256.size a := fun v6 v8 v10 v12 v14 v16 v18 v20 v22 v24 v26 v28 v30 v32 v34 v36 v671 k0_hw11 => k0_hw11.2.2.2.2.2.2.2.2.2.2.2.2.2.2.1
theorem k0_idx176_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v671 : IVec S16 32) (k0_hw11 : k0_chk11 v6 v8 v10 v12 v14 v16 v18 v20 v22 v24 v26 v28 v30 v32 v34 v36 v671), ∀ a x, ((![v671, v36] : Fin 2 → IVec S16 32) a x).toNat < S264x256.size a := fun v6 v8 v10 v12 v14 v16 v18 v20 v22 v24 v26 v28 v30 v32 v34 v36 v671 k0_hw11 => k0_hw11.2.2.2.2.2.2.2.2.2.2.2.2.2.2.2

def k0_chk12 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) : Prop :=
  (∀ a x, ((![v737, v6] : Fin 2 → IVec S16 32) a x).toNat < S264x256.size a) ∧
  (∀ a x, ((![v737, v8] : Fin 2 → IVec S16 32) a x).toNat < S264x256.size a) ∧
  (∀ a x, ((![v737, v10] : Fin 2 → IVec S16 32) a x).toNat < S264x256.size a) ∧
  (∀ a x, ((![v737, v12] : Fin 2 → IVec S16 32) a x).toNat < S264x256.size a) ∧
  (∀ a x, ((![v737, v14] : Fin 2 → IVec S16 32) a x).toNat < S264x256.size a) ∧
  (∀ a x, ((![v737, v16] : Fin 2 → IVec S16 32) a x).toNat < S264x256.size a) ∧
  (∀ a x, ((![v737, v18] : Fin 2 → IVec S16 32) a x).toNat < S264x256.size a) ∧
  (∀ a x, ((![v737, v20] : Fin 2 → IVec S16 32) a x).toNat < S264x256.size a) ∧
  (∀ a x, ((![v737, v22] : Fin 2 → IVec S16 32) a x).toNat < S264x256.size a) ∧
  (∀ a x, ((![v737, v24] : Fin 2 → IVec S16 32) a x).toNat < S264x256.size a) ∧
  (∀ a x, ((![v737, v26] : Fin 2 → IVec S16 32) a x).toNat < S264x256.size a) ∧
  (∀ a x, ((![v737, v28] : Fin 2 → IVec S16 32) a x).toNat < S264x256.size a) ∧
  (∀ a x, ((![v737, v30] : Fin 2 → IVec S16 32) a x).toNat < S264x256.size a) ∧
  (∀ a x, ((![v737, v32] : Fin 2 → IVec S16 32) a x).toNat < S264x256.size a) ∧
  (∀ a x, ((![v737, v34] : Fin 2 → IVec S16 32) a x).toNat < S264x256.size a) ∧
  (∀ a x, ((![v737, v36] : Fin 2 → IVec S16 32) a x).toNat < S264x256.size a)
theorem k0_idx177_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v6] : Fin 2 → IVec S16 32) a x).toNat < S264x256.size a := fun v6 v8 v10 v12 v14 v16 v18 v20 v22 v24 v26 v28 v30 v32 v34 v36 v737 k0_hw12 => k0_hw12.1
theorem k0_idx178_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v8] : Fin 2 → IVec S16 32) a x).toNat < S264x256.size a := fun v6 v8 v10 v12 v14 v16 v18 v20 v22 v24 v26 v28 v30 v32 v34 v36 v737 k0_hw12 => k0_hw12.2.1
theorem k0_idx179_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v10] : Fin 2 → IVec S16 32) a x).toNat < S264x256.size a := fun v6 v8 v10 v12 v14 v16 v18 v20 v22 v24 v26 v28 v30 v32 v34 v36 v737 k0_hw12 => k0_hw12.2.2.1
theorem k0_idx180_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v12] : Fin 2 → IVec S16 32) a x).toNat < S264x256.size a := fun v6 v8 v10 v12 v14 v16 v18 v20 v22 v24 v26 v28 v30 v32 v34 v36 v737 k0_hw12 => k0_hw12.2.2.2.1
theorem k0_idx181_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v14] : Fin 2 → IVec S16 32) a x).toNat < S264x256.size a := fun v6 v8 v10 v12 v14 v16 v18 v20 v22 v24 v26 v28 v30 v32 v34 v36 v737 k0_hw12 => k0_hw12.2.2.2.2.1
theorem k0_idx182_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v16] : Fin 2 → IVec S16 32) a x).toNat < S264x256.size a := fun v6 v8 v10 v12 v14 v16 v18 v20 v22 v24 v26 v28 v30 v32 v34 v36 v737 k0_hw12 => k0_hw12.2.2.2.2.2.1
theorem k0_idx183_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v18] : Fin 2 → IVec S16 32) a x).toNat < S264x256.size a := fun v6 v8 v10 v12 v14 v16 v18 v20 v22 v24 v26 v28 v30 v32 v34 v36 v737 k0_hw12 => k0_hw12.2.2.2.2.2.2.1
theorem k0_idx184_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v20] : Fin 2 → IVec S16 32) a x).toNat < S264x256.size a := fun v6 v8 v10 v12 v14 v16 v18 v20 v22 v24 v26 v28 v30 v32 v34 v36 v737 k0_hw12 => k0_hw12.2.2.2.2.2.2.2.1
theorem k0_idx185_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v22] : Fin 2 → IVec S16 32) a x).toNat < S264x256.size a := fun v6 v8 v10 v12 v14 v16 v18 v20 v22 v24 v26 v28 v30 v32 v34 v36 v737 k0_hw12 => k0_hw12.2.2.2.2.2.2.2.2.1
theorem k0_idx186_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v24] : Fin 2 → IVec S16 32) a x).toNat < S264x256.size a := fun v6 v8 v10 v12 v14 v16 v18 v20 v22 v24 v26 v28 v30 v32 v34 v36 v737 k0_hw12 => k0_hw12.2.2.2.2.2.2.2.2.2.1
theorem k0_idx187_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v26] : Fin 2 → IVec S16 32) a x).toNat < S264x256.size a := fun v6 v8 v10 v12 v14 v16 v18 v20 v22 v24 v26 v28 v30 v32 v34 v36 v737 k0_hw12 => k0_hw12.2.2.2.2.2.2.2.2.2.2.1
theorem k0_idx188_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v28] : Fin 2 → IVec S16 32) a x).toNat < S264x256.size a := fun v6 v8 v10 v12 v14 v16 v18 v20 v22 v24 v26 v28 v30 v32 v34 v36 v737 k0_hw12 => k0_hw12.2.2.2.2.2.2.2.2.2.2.2.1
theorem k0_idx189_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v30] : Fin 2 → IVec S16 32) a x).toNat < S264x256.size a := fun v6 v8 v10 v12 v14 v16 v18 v20 v22 v24 v26 v28 v30 v32 v34 v36 v737 k0_hw12 => k0_hw12.2.2.2.2.2.2.2.2.2.2.2.2.1
theorem k0_idx190_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v32] : Fin 2 → IVec S16 32) a x).toNat < S264x256.size a := fun v6 v8 v10 v12 v14 v16 v18 v20 v22 v24 v26 v28 v30 v32 v34 v36 v737 k0_hw12 => k0_hw12.2.2.2.2.2.2.2.2.2.2.2.2.2.1
theorem k0_idx191_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v34] : Fin 2 → IVec S16 32) a x).toNat < S264x256.size a := fun v6 v8 v10 v12 v14 v16 v18 v20 v22 v24 v26 v28 v30 v32 v34 v36 v737 k0_hw12 => k0_hw12.2.2.2.2.2.2.2.2.2.2.2.2.2.2.1
theorem k0_idx192_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v737 : IVec S16 32) (k0_hw12 : k0_chk12 v6 v8 v10 v12 v14 v16 v18 v20 v22 v24 v26 v28 v30 v32 v34 v36 v737), ∀ a x, ((![v737, v36] : Fin 2 → IVec S16 32) a x).toNat < S264x256.size a := fun v6 v8 v10 v12 v14 v16 v18 v20 v22 v24 v26 v28 v30 v32 v34 v36 v737 k0_hw12 => k0_hw12.2.2.2.2.2.2.2.2.2.2.2.2.2.2.2

def k0_chk13 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) : Prop :=
  (∀ a x, ((![v803, v6] : Fin 2 → IVec S16 32) a x).toNat < S264x256.size a) ∧
  (∀ a x, ((![v803, v8] : Fin 2 → IVec S16 32) a x).toNat < S264x256.size a) ∧
  (∀ a x, ((![v803, v10] : Fin 2 → IVec S16 32) a x).toNat < S264x256.size a) ∧
  (∀ a x, ((![v803, v12] : Fin 2 → IVec S16 32) a x).toNat < S264x256.size a) ∧
  (∀ a x, ((![v803, v14] : Fin 2 → IVec S16 32) a x).toNat < S264x256.size a) ∧
  (∀ a x, ((![v803, v16] : Fin 2 → IVec S16 32) a x).toNat < S264x256.size a) ∧
  (∀ a x, ((![v803, v18] : Fin 2 → IVec S16 32) a x).toNat < S264x256.size a) ∧
  (∀ a x, ((![v803, v20] : Fin 2 → IVec S16 32) a x).toNat < S264x256.size a) ∧
  (∀ a x, ((![v803, v22] : Fin 2 → IVec S16 32) a x).toNat < S264x256.size a) ∧
  (∀ a x, ((![v803, v24] : Fin 2 → IVec S16 32) a x).toNat < S264x256.size a) ∧
  (∀ a x, ((![v803, v26] : Fin 2 → IVec S16 32) a x).toNat < S264x256.size a) ∧
  (∀ a x, ((![v803, v28] : Fin 2 → IVec S16 32) a x).toNat < S264x256.size a) ∧
  (∀ a x, ((![v803, v30] : Fin 2 → IVec S16 32) a x).toNat < S264x256.size a) ∧
  (∀ a x, ((![v803, v32] : Fin 2 → IVec S16 32) a x).toNat < S264x256.size a) ∧
  (∀ a x, ((![v803, v34] : Fin 2 → IVec S16 32) a x).toNat < S264x256.size a) ∧
  (∀ a x, ((![v803, v36] : Fin 2 → IVec S16 32) a x).toNat < S264x256.size a)
theorem k0_idx193_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v6] : Fin 2 → IVec S16 32) a x).toNat < S264x256.size a := fun v6 v8 v10 v12 v14 v16 v18 v20 v22 v24 v26 v28 v30 v32 v34 v36 v803 k0_hw13 => k0_hw13.1
theorem k0_idx194_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v8] : Fin 2 → IVec S16 32) a x).toNat < S264x256.size a := fun v6 v8 v10 v12 v14 v16 v18 v20 v22 v24 v26 v28 v30 v32 v34 v36 v803 k0_hw13 => k0_hw13.2.1
theorem k0_idx195_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v10] : Fin 2 → IVec S16 32) a x).toNat < S264x256.size a := fun v6 v8 v10 v12 v14 v16 v18 v20 v22 v24 v26 v28 v30 v32 v34 v36 v803 k0_hw13 => k0_hw13.2.2.1
theorem k0_idx196_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v12] : Fin 2 → IVec S16 32) a x).toNat < S264x256.size a := fun v6 v8 v10 v12 v14 v16 v18 v20 v22 v24 v26 v28 v30 v32 v34 v36 v803 k0_hw13 => k0_hw13.2.2.2.1
theorem k0_idx197_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v14] : Fin 2 → IVec S16 32) a x).toNat < S264x256.size a := fun v6 v8 v10 v12 v14 v16 v18 v20 v22 v24 v26 v28 v30 v32 v34 v36 v803 k0_hw13 => k0_hw13.2.2.2.2.1
theorem k0_idx198_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v16] : Fin 2 → IVec S16 32) a x).toNat < S264x256.size a := fun v6 v8 v10 v12 v14 v16 v18 v20 v22 v24 v26 v28 v30 v32 v34 v36 v803 k0_hw13 => k0_hw13.2.2.2.2.2.1
theorem k0_idx199_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v18] : Fin 2 → IVec S16 32) a x).toNat < S264x256.size a := fun v6 v8 v10 v12 v14 v16 v18 v20 v22 v24 v26 v28 v30 v32 v34 v36 v803 k0_hw13 => k0_hw13.2.2.2.2.2.2.1
theorem k0_idx200_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v20] : Fin 2 → IVec S16 32) a x).toNat < S264x256.size a := fun v6 v8 v10 v12 v14 v16 v18 v20 v22 v24 v26 v28 v30 v32 v34 v36 v803 k0_hw13 => k0_hw13.2.2.2.2.2.2.2.1
theorem k0_idx201_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v22] : Fin 2 → IVec S16 32) a x).toNat < S264x256.size a := fun v6 v8 v10 v12 v14 v16 v18 v20 v22 v24 v26 v28 v30 v32 v34 v36 v803 k0_hw13 => k0_hw13.2.2.2.2.2.2.2.2.1
theorem k0_idx202_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v24] : Fin 2 → IVec S16 32) a x).toNat < S264x256.size a := fun v6 v8 v10 v12 v14 v16 v18 v20 v22 v24 v26 v28 v30 v32 v34 v36 v803 k0_hw13 => k0_hw13.2.2.2.2.2.2.2.2.2.1
theorem k0_idx203_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v26] : Fin 2 → IVec S16 32) a x).toNat < S264x256.size a := fun v6 v8 v10 v12 v14 v16 v18 v20 v22 v24 v26 v28 v30 v32 v34 v36 v803 k0_hw13 => k0_hw13.2.2.2.2.2.2.2.2.2.2.1
theorem k0_idx204_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v28] : Fin 2 → IVec S16 32) a x).toNat < S264x256.size a := fun v6 v8 v10 v12 v14 v16 v18 v20 v22 v24 v26 v28 v30 v32 v34 v36 v803 k0_hw13 => k0_hw13.2.2.2.2.2.2.2.2.2.2.2.1
theorem k0_idx205_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v30] : Fin 2 → IVec S16 32) a x).toNat < S264x256.size a := fun v6 v8 v10 v12 v14 v16 v18 v20 v22 v24 v26 v28 v30 v32 v34 v36 v803 k0_hw13 => k0_hw13.2.2.2.2.2.2.2.2.2.2.2.2.1
theorem k0_idx206_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v32] : Fin 2 → IVec S16 32) a x).toNat < S264x256.size a := fun v6 v8 v10 v12 v14 v16 v18 v20 v22 v24 v26 v28 v30 v32 v34 v36 v803 k0_hw13 => k0_hw13.2.2.2.2.2.2.2.2.2.2.2.2.2.1
theorem k0_idx207_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v34] : Fin 2 → IVec S16 32) a x).toNat < S264x256.size a := fun v6 v8 v10 v12 v14 v16 v18 v20 v22 v24 v26 v28 v30 v32 v34 v36 v803 k0_hw13 => k0_hw13.2.2.2.2.2.2.2.2.2.2.2.2.2.2.1
theorem k0_idx208_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v803 : IVec S16 32) (k0_hw13 : k0_chk13 v6 v8 v10 v12 v14 v16 v18 v20 v22 v24 v26 v28 v30 v32 v34 v36 v803), ∀ a x, ((![v803, v36] : Fin 2 → IVec S16 32) a x).toNat < S264x256.size a := fun v6 v8 v10 v12 v14 v16 v18 v20 v22 v24 v26 v28 v30 v32 v34 v36 v803 k0_hw13 => k0_hw13.2.2.2.2.2.2.2.2.2.2.2.2.2.2.2

def k0_chk14 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) : Prop :=
  (∀ a x, ((![v869, v6] : Fin 2 → IVec S16 32) a x).toNat < S264x256.size a) ∧
  (∀ a x, ((![v869, v8] : Fin 2 → IVec S16 32) a x).toNat < S264x256.size a) ∧
  (∀ a x, ((![v869, v10] : Fin 2 → IVec S16 32) a x).toNat < S264x256.size a) ∧
  (∀ a x, ((![v869, v12] : Fin 2 → IVec S16 32) a x).toNat < S264x256.size a) ∧
  (∀ a x, ((![v869, v14] : Fin 2 → IVec S16 32) a x).toNat < S264x256.size a) ∧
  (∀ a x, ((![v869, v16] : Fin 2 → IVec S16 32) a x).toNat < S264x256.size a) ∧
  (∀ a x, ((![v869, v18] : Fin 2 → IVec S16 32) a x).toNat < S264x256.size a) ∧
  (∀ a x, ((![v869, v20] : Fin 2 → IVec S16 32) a x).toNat < S264x256.size a) ∧
  (∀ a x, ((![v869, v22] : Fin 2 → IVec S16 32) a x).toNat < S264x256.size a) ∧
  (∀ a x, ((![v869, v24] : Fin 2 → IVec S16 32) a x).toNat < S264x256.size a) ∧
  (∀ a x, ((![v869, v26] : Fin 2 → IVec S16 32) a x).toNat < S264x256.size a) ∧
  (∀ a x, ((![v869, v28] : Fin 2 → IVec S16 32) a x).toNat < S264x256.size a) ∧
  (∀ a x, ((![v869, v30] : Fin 2 → IVec S16 32) a x).toNat < S264x256.size a) ∧
  (∀ a x, ((![v869, v32] : Fin 2 → IVec S16 32) a x).toNat < S264x256.size a) ∧
  (∀ a x, ((![v869, v34] : Fin 2 → IVec S16 32) a x).toNat < S264x256.size a) ∧
  (∀ a x, ((![v869, v36] : Fin 2 → IVec S16 32) a x).toNat < S264x256.size a)
theorem k0_idx209_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v6] : Fin 2 → IVec S16 32) a x).toNat < S264x256.size a := fun v6 v8 v10 v12 v14 v16 v18 v20 v22 v24 v26 v28 v30 v32 v34 v36 v869 k0_hw14 => k0_hw14.1
theorem k0_idx210_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v8] : Fin 2 → IVec S16 32) a x).toNat < S264x256.size a := fun v6 v8 v10 v12 v14 v16 v18 v20 v22 v24 v26 v28 v30 v32 v34 v36 v869 k0_hw14 => k0_hw14.2.1
theorem k0_idx211_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v10] : Fin 2 → IVec S16 32) a x).toNat < S264x256.size a := fun v6 v8 v10 v12 v14 v16 v18 v20 v22 v24 v26 v28 v30 v32 v34 v36 v869 k0_hw14 => k0_hw14.2.2.1
theorem k0_idx212_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v12] : Fin 2 → IVec S16 32) a x).toNat < S264x256.size a := fun v6 v8 v10 v12 v14 v16 v18 v20 v22 v24 v26 v28 v30 v32 v34 v36 v869 k0_hw14 => k0_hw14.2.2.2.1
theorem k0_idx213_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v14] : Fin 2 → IVec S16 32) a x).toNat < S264x256.size a := fun v6 v8 v10 v12 v14 v16 v18 v20 v22 v24 v26 v28 v30 v32 v34 v36 v869 k0_hw14 => k0_hw14.2.2.2.2.1
theorem k0_idx214_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v16] : Fin 2 → IVec S16 32) a x).toNat < S264x256.size a := fun v6 v8 v10 v12 v14 v16 v18 v20 v22 v24 v26 v28 v30 v32 v34 v36 v869 k0_hw14 => k0_hw14.2.2.2.2.2.1
theorem k0_idx215_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v18] : Fin 2 → IVec S16 32) a x).toNat < S264x256.size a := fun v6 v8 v10 v12 v14 v16 v18 v20 v22 v24 v26 v28 v30 v32 v34 v36 v869 k0_hw14 => k0_hw14.2.2.2.2.2.2.1
theorem k0_idx216_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v20] : Fin 2 → IVec S16 32) a x).toNat < S264x256.size a := fun v6 v8 v10 v12 v14 v16 v18 v20 v22 v24 v26 v28 v30 v32 v34 v36 v869 k0_hw14 => k0_hw14.2.2.2.2.2.2.2.1
theorem k0_idx217_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v22] : Fin 2 → IVec S16 32) a x).toNat < S264x256.size a := fun v6 v8 v10 v12 v14 v16 v18 v20 v22 v24 v26 v28 v30 v32 v34 v36 v869 k0_hw14 => k0_hw14.2.2.2.2.2.2.2.2.1
theorem k0_idx218_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v24] : Fin 2 → IVec S16 32) a x).toNat < S264x256.size a := fun v6 v8 v10 v12 v14 v16 v18 v20 v22 v24 v26 v28 v30 v32 v34 v36 v869 k0_hw14 => k0_hw14.2.2.2.2.2.2.2.2.2.1
theorem k0_idx219_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v26] : Fin 2 → IVec S16 32) a x).toNat < S264x256.size a := fun v6 v8 v10 v12 v14 v16 v18 v20 v22 v24 v26 v28 v30 v32 v34 v36 v869 k0_hw14 => k0_hw14.2.2.2.2.2.2.2.2.2.2.1
theorem k0_idx220_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v28] : Fin 2 → IVec S16 32) a x).toNat < S264x256.size a := fun v6 v8 v10 v12 v14 v16 v18 v20 v22 v24 v26 v28 v30 v32 v34 v36 v869 k0_hw14 => k0_hw14.2.2.2.2.2.2.2.2.2.2.2.1
theorem k0_idx221_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v30] : Fin 2 → IVec S16 32) a x).toNat < S264x256.size a := fun v6 v8 v10 v12 v14 v16 v18 v20 v22 v24 v26 v28 v30 v32 v34 v36 v869 k0_hw14 => k0_hw14.2.2.2.2.2.2.2.2.2.2.2.2.1
theorem k0_idx222_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v32] : Fin 2 → IVec S16 32) a x).toNat < S264x256.size a := fun v6 v8 v10 v12 v14 v16 v18 v20 v22 v24 v26 v28 v30 v32 v34 v36 v869 k0_hw14 => k0_hw14.2.2.2.2.2.2.2.2.2.2.2.2.2.1
theorem k0_idx223_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v34] : Fin 2 → IVec S16 32) a x).toNat < S264x256.size a := fun v6 v8 v10 v12 v14 v16 v18 v20 v22 v24 v26 v28 v30 v32 v34 v36 v869 k0_hw14 => k0_hw14.2.2.2.2.2.2.2.2.2.2.2.2.2.2.1
theorem k0_idx224_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v869 : IVec S16 32) (k0_hw14 : k0_chk14 v6 v8 v10 v12 v14 v16 v18 v20 v22 v24 v26 v28 v30 v32 v34 v36 v869), ∀ a x, ((![v869, v36] : Fin 2 → IVec S16 32) a x).toNat < S264x256.size a := fun v6 v8 v10 v12 v14 v16 v18 v20 v22 v24 v26 v28 v30 v32 v34 v36 v869 k0_hw14 => k0_hw14.2.2.2.2.2.2.2.2.2.2.2.2.2.2.2

def k0_chk15 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) : Prop :=
  (∀ a x, ((![v935, v6] : Fin 2 → IVec S16 32) a x).toNat < S264x256.size a) ∧
  (∀ a x, ((![v935, v8] : Fin 2 → IVec S16 32) a x).toNat < S264x256.size a) ∧
  (∀ a x, ((![v935, v10] : Fin 2 → IVec S16 32) a x).toNat < S264x256.size a) ∧
  (∀ a x, ((![v935, v12] : Fin 2 → IVec S16 32) a x).toNat < S264x256.size a) ∧
  (∀ a x, ((![v935, v14] : Fin 2 → IVec S16 32) a x).toNat < S264x256.size a) ∧
  (∀ a x, ((![v935, v16] : Fin 2 → IVec S16 32) a x).toNat < S264x256.size a) ∧
  (∀ a x, ((![v935, v18] : Fin 2 → IVec S16 32) a x).toNat < S264x256.size a) ∧
  (∀ a x, ((![v935, v20] : Fin 2 → IVec S16 32) a x).toNat < S264x256.size a) ∧
  (∀ a x, ((![v935, v22] : Fin 2 → IVec S16 32) a x).toNat < S264x256.size a) ∧
  (∀ a x, ((![v935, v24] : Fin 2 → IVec S16 32) a x).toNat < S264x256.size a) ∧
  (∀ a x, ((![v935, v26] : Fin 2 → IVec S16 32) a x).toNat < S264x256.size a) ∧
  (∀ a x, ((![v935, v28] : Fin 2 → IVec S16 32) a x).toNat < S264x256.size a) ∧
  (∀ a x, ((![v935, v30] : Fin 2 → IVec S16 32) a x).toNat < S264x256.size a) ∧
  (∀ a x, ((![v935, v32] : Fin 2 → IVec S16 32) a x).toNat < S264x256.size a) ∧
  (∀ a x, ((![v935, v34] : Fin 2 → IVec S16 32) a x).toNat < S264x256.size a) ∧
  (∀ a x, ((![v935, v36] : Fin 2 → IVec S16 32) a x).toNat < S264x256.size a)
theorem k0_idx225_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v6] : Fin 2 → IVec S16 32) a x).toNat < S264x256.size a := fun v6 v8 v10 v12 v14 v16 v18 v20 v22 v24 v26 v28 v30 v32 v34 v36 v935 k0_hw15 => k0_hw15.1
theorem k0_idx226_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v8] : Fin 2 → IVec S16 32) a x).toNat < S264x256.size a := fun v6 v8 v10 v12 v14 v16 v18 v20 v22 v24 v26 v28 v30 v32 v34 v36 v935 k0_hw15 => k0_hw15.2.1
theorem k0_idx227_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v10] : Fin 2 → IVec S16 32) a x).toNat < S264x256.size a := fun v6 v8 v10 v12 v14 v16 v18 v20 v22 v24 v26 v28 v30 v32 v34 v36 v935 k0_hw15 => k0_hw15.2.2.1
theorem k0_idx228_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v12] : Fin 2 → IVec S16 32) a x).toNat < S264x256.size a := fun v6 v8 v10 v12 v14 v16 v18 v20 v22 v24 v26 v28 v30 v32 v34 v36 v935 k0_hw15 => k0_hw15.2.2.2.1
theorem k0_idx229_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v14] : Fin 2 → IVec S16 32) a x).toNat < S264x256.size a := fun v6 v8 v10 v12 v14 v16 v18 v20 v22 v24 v26 v28 v30 v32 v34 v36 v935 k0_hw15 => k0_hw15.2.2.2.2.1
theorem k0_idx230_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v16] : Fin 2 → IVec S16 32) a x).toNat < S264x256.size a := fun v6 v8 v10 v12 v14 v16 v18 v20 v22 v24 v26 v28 v30 v32 v34 v36 v935 k0_hw15 => k0_hw15.2.2.2.2.2.1
theorem k0_idx231_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v18] : Fin 2 → IVec S16 32) a x).toNat < S264x256.size a := fun v6 v8 v10 v12 v14 v16 v18 v20 v22 v24 v26 v28 v30 v32 v34 v36 v935 k0_hw15 => k0_hw15.2.2.2.2.2.2.1
theorem k0_idx232_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v20] : Fin 2 → IVec S16 32) a x).toNat < S264x256.size a := fun v6 v8 v10 v12 v14 v16 v18 v20 v22 v24 v26 v28 v30 v32 v34 v36 v935 k0_hw15 => k0_hw15.2.2.2.2.2.2.2.1
theorem k0_idx233_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v22] : Fin 2 → IVec S16 32) a x).toNat < S264x256.size a := fun v6 v8 v10 v12 v14 v16 v18 v20 v22 v24 v26 v28 v30 v32 v34 v36 v935 k0_hw15 => k0_hw15.2.2.2.2.2.2.2.2.1
theorem k0_idx234_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v24] : Fin 2 → IVec S16 32) a x).toNat < S264x256.size a := fun v6 v8 v10 v12 v14 v16 v18 v20 v22 v24 v26 v28 v30 v32 v34 v36 v935 k0_hw15 => k0_hw15.2.2.2.2.2.2.2.2.2.1
theorem k0_idx235_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v26] : Fin 2 → IVec S16 32) a x).toNat < S264x256.size a := fun v6 v8 v10 v12 v14 v16 v18 v20 v22 v24 v26 v28 v30 v32 v34 v36 v935 k0_hw15 => k0_hw15.2.2.2.2.2.2.2.2.2.2.1
theorem k0_idx236_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v28] : Fin 2 → IVec S16 32) a x).toNat < S264x256.size a := fun v6 v8 v10 v12 v14 v16 v18 v20 v22 v24 v26 v28 v30 v32 v34 v36 v935 k0_hw15 => k0_hw15.2.2.2.2.2.2.2.2.2.2.2.1
theorem k0_idx237_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v30] : Fin 2 → IVec S16 32) a x).toNat < S264x256.size a := fun v6 v8 v10 v12 v14 v16 v18 v20 v22 v24 v26 v28 v30 v32 v34 v36 v935 k0_hw15 => k0_hw15.2.2.2.2.2.2.2.2.2.2.2.2.1
theorem k0_idx238_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v32] : Fin 2 → IVec S16 32) a x).toNat < S264x256.size a := fun v6 v8 v10 v12 v14 v16 v18 v20 v22 v24 v26 v28 v30 v32 v34 v36 v935 k0_hw15 => k0_hw15.2.2.2.2.2.2.2.2.2.2.2.2.2.1
theorem k0_idx239_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v34] : Fin 2 → IVec S16 32) a x).toNat < S264x256.size a := fun v6 v8 v10 v12 v14 v16 v18 v20 v22 v24 v26 v28 v30 v32 v34 v36 v935 k0_hw15 => k0_hw15.2.2.2.2.2.2.2.2.2.2.2.2.2.2.1
theorem k0_idx240_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v935 : IVec S16 32) (k0_hw15 : k0_chk15 v6 v8 v10 v12 v14 v16 v18 v20 v22 v24 v26 v28 v30 v32 v34 v36 v935), ∀ a x, ((![v935, v36] : Fin 2 → IVec S16 32) a x).toNat < S264x256.size a := fun v6 v8 v10 v12 v14 v16 v18 v20 v22 v24 v26 v28 v30 v32 v34 v36 v935 k0_hw15 => k0_hw15.2.2.2.2.2.2.2.2.2.2.2.2.2.2.2

def k0_chk16 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) : Prop :=
  (∀ a x, ((![v1001, v6] : Fin 2 → IVec S16 32) a x).toNat < S264x256.size a) ∧
  (∀ a x, ((![v1001, v8] : Fin 2 → IVec S16 32) a x).toNat < S264x256.size a) ∧
  (∀ a x, ((![v1001, v10] : Fin 2 → IVec S16 32) a x).toNat < S264x256.size a) ∧
  (∀ a x, ((![v1001, v12] : Fin 2 → IVec S16 32) a x).toNat < S264x256.size a) ∧
  (∀ a x, ((![v1001, v14] : Fin 2 → IVec S16 32) a x).toNat < S264x256.size a) ∧
  (∀ a x, ((![v1001, v16] : Fin 2 → IVec S16 32) a x).toNat < S264x256.size a) ∧
  (∀ a x, ((![v1001, v18] : Fin 2 → IVec S16 32) a x).toNat < S264x256.size a) ∧
  (∀ a x, ((![v1001, v20] : Fin 2 → IVec S16 32) a x).toNat < S264x256.size a) ∧
  (∀ a x, ((![v1001, v22] : Fin 2 → IVec S16 32) a x).toNat < S264x256.size a) ∧
  (∀ a x, ((![v1001, v24] : Fin 2 → IVec S16 32) a x).toNat < S264x256.size a) ∧
  (∀ a x, ((![v1001, v26] : Fin 2 → IVec S16 32) a x).toNat < S264x256.size a) ∧
  (∀ a x, ((![v1001, v28] : Fin 2 → IVec S16 32) a x).toNat < S264x256.size a) ∧
  (∀ a x, ((![v1001, v30] : Fin 2 → IVec S16 32) a x).toNat < S264x256.size a) ∧
  (∀ a x, ((![v1001, v32] : Fin 2 → IVec S16 32) a x).toNat < S264x256.size a) ∧
  (∀ a x, ((![v1001, v34] : Fin 2 → IVec S16 32) a x).toNat < S264x256.size a) ∧
  (∀ a x, ((![v1001, v36] : Fin 2 → IVec S16 32) a x).toNat < S264x256.size a)
theorem k0_idx241_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v6] : Fin 2 → IVec S16 32) a x).toNat < S264x256.size a := fun v6 v8 v10 v12 v14 v16 v18 v20 v22 v24 v26 v28 v30 v32 v34 v36 v1001 k0_hw16 => k0_hw16.1
theorem k0_idx242_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v8] : Fin 2 → IVec S16 32) a x).toNat < S264x256.size a := fun v6 v8 v10 v12 v14 v16 v18 v20 v22 v24 v26 v28 v30 v32 v34 v36 v1001 k0_hw16 => k0_hw16.2.1
theorem k0_idx243_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v10] : Fin 2 → IVec S16 32) a x).toNat < S264x256.size a := fun v6 v8 v10 v12 v14 v16 v18 v20 v22 v24 v26 v28 v30 v32 v34 v36 v1001 k0_hw16 => k0_hw16.2.2.1
theorem k0_idx244_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v12] : Fin 2 → IVec S16 32) a x).toNat < S264x256.size a := fun v6 v8 v10 v12 v14 v16 v18 v20 v22 v24 v26 v28 v30 v32 v34 v36 v1001 k0_hw16 => k0_hw16.2.2.2.1
theorem k0_idx245_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v14] : Fin 2 → IVec S16 32) a x).toNat < S264x256.size a := fun v6 v8 v10 v12 v14 v16 v18 v20 v22 v24 v26 v28 v30 v32 v34 v36 v1001 k0_hw16 => k0_hw16.2.2.2.2.1
theorem k0_idx246_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v16] : Fin 2 → IVec S16 32) a x).toNat < S264x256.size a := fun v6 v8 v10 v12 v14 v16 v18 v20 v22 v24 v26 v28 v30 v32 v34 v36 v1001 k0_hw16 => k0_hw16.2.2.2.2.2.1
theorem k0_idx247_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v18] : Fin 2 → IVec S16 32) a x).toNat < S264x256.size a := fun v6 v8 v10 v12 v14 v16 v18 v20 v22 v24 v26 v28 v30 v32 v34 v36 v1001 k0_hw16 => k0_hw16.2.2.2.2.2.2.1
theorem k0_idx248_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v20] : Fin 2 → IVec S16 32) a x).toNat < S264x256.size a := fun v6 v8 v10 v12 v14 v16 v18 v20 v22 v24 v26 v28 v30 v32 v34 v36 v1001 k0_hw16 => k0_hw16.2.2.2.2.2.2.2.1
theorem k0_idx249_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v22] : Fin 2 → IVec S16 32) a x).toNat < S264x256.size a := fun v6 v8 v10 v12 v14 v16 v18 v20 v22 v24 v26 v28 v30 v32 v34 v36 v1001 k0_hw16 => k0_hw16.2.2.2.2.2.2.2.2.1
theorem k0_idx250_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v24] : Fin 2 → IVec S16 32) a x).toNat < S264x256.size a := fun v6 v8 v10 v12 v14 v16 v18 v20 v22 v24 v26 v28 v30 v32 v34 v36 v1001 k0_hw16 => k0_hw16.2.2.2.2.2.2.2.2.2.1
theorem k0_idx251_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v26] : Fin 2 → IVec S16 32) a x).toNat < S264x256.size a := fun v6 v8 v10 v12 v14 v16 v18 v20 v22 v24 v26 v28 v30 v32 v34 v36 v1001 k0_hw16 => k0_hw16.2.2.2.2.2.2.2.2.2.2.1
theorem k0_idx252_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v28] : Fin 2 → IVec S16 32) a x).toNat < S264x256.size a := fun v6 v8 v10 v12 v14 v16 v18 v20 v22 v24 v26 v28 v30 v32 v34 v36 v1001 k0_hw16 => k0_hw16.2.2.2.2.2.2.2.2.2.2.2.1
theorem k0_idx253_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v30] : Fin 2 → IVec S16 32) a x).toNat < S264x256.size a := fun v6 v8 v10 v12 v14 v16 v18 v20 v22 v24 v26 v28 v30 v32 v34 v36 v1001 k0_hw16 => k0_hw16.2.2.2.2.2.2.2.2.2.2.2.2.1
theorem k0_idx254_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v32] : Fin 2 → IVec S16 32) a x).toNat < S264x256.size a := fun v6 v8 v10 v12 v14 v16 v18 v20 v22 v24 v26 v28 v30 v32 v34 v36 v1001 k0_hw16 => k0_hw16.2.2.2.2.2.2.2.2.2.2.2.2.2.1
theorem k0_idx255_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v34] : Fin 2 → IVec S16 32) a x).toNat < S264x256.size a := fun v6 v8 v10 v12 v14 v16 v18 v20 v22 v24 v26 v28 v30 v32 v34 v36 v1001 k0_hw16 => k0_hw16.2.2.2.2.2.2.2.2.2.2.2.2.2.2.1
theorem k0_idx256_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1001 : IVec S16 32) (k0_hw16 : k0_chk16 v6 v8 v10 v12 v14 v16 v18 v20 v22 v24 v26 v28 v30 v32 v34 v36 v1001), ∀ a x, ((![v1001, v36] : Fin 2 → IVec S16 32) a x).toNat < S264x256.size a := fun v6 v8 v10 v12 v14 v16 v18 v20 v22 v24 v26 v28 v30 v32 v34 v36 v1001 k0_hw16 => k0_hw16.2.2.2.2.2.2.2.2.2.2.2.2.2.2.2

def k0_chk17 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) : Prop :=
  (∀ a x, ((![v1067, v6] : Fin 2 → IVec S16 32) a x).toNat < S264x256.size a) ∧
  (∀ a x, ((![v1067, v8] : Fin 2 → IVec S16 32) a x).toNat < S264x256.size a) ∧
  (∀ a x, ((![v1067, v10] : Fin 2 → IVec S16 32) a x).toNat < S264x256.size a) ∧
  (∀ a x, ((![v1067, v12] : Fin 2 → IVec S16 32) a x).toNat < S264x256.size a) ∧
  (∀ a x, ((![v1067, v14] : Fin 2 → IVec S16 32) a x).toNat < S264x256.size a) ∧
  (∀ a x, ((![v1067, v16] : Fin 2 → IVec S16 32) a x).toNat < S264x256.size a) ∧
  (∀ a x, ((![v1067, v18] : Fin 2 → IVec S16 32) a x).toNat < S264x256.size a) ∧
  (∀ a x, ((![v1067, v20] : Fin 2 → IVec S16 32) a x).toNat < S264x256.size a) ∧
  (∀ a x, ((![v1067, v22] : Fin 2 → IVec S16 32) a x).toNat < S264x256.size a) ∧
  (∀ a x, ((![v1067, v24] : Fin 2 → IVec S16 32) a x).toNat < S264x256.size a) ∧
  (∀ a x, ((![v1067, v26] : Fin 2 → IVec S16 32) a x).toNat < S264x256.size a) ∧
  (∀ a x, ((![v1067, v28] : Fin 2 → IVec S16 32) a x).toNat < S264x256.size a) ∧
  (∀ a x, ((![v1067, v30] : Fin 2 → IVec S16 32) a x).toNat < S264x256.size a) ∧
  (∀ a x, ((![v1067, v32] : Fin 2 → IVec S16 32) a x).toNat < S264x256.size a) ∧
  (∀ a x, ((![v1067, v34] : Fin 2 → IVec S16 32) a x).toNat < S264x256.size a) ∧
  (∀ a x, ((![v1067, v36] : Fin 2 → IVec S16 32) a x).toNat < S264x256.size a)
theorem k0_idx257_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v6] : Fin 2 → IVec S16 32) a x).toNat < S264x256.size a := fun v6 v8 v10 v12 v14 v16 v18 v20 v22 v24 v26 v28 v30 v32 v34 v36 v1067 k0_hw17 => k0_hw17.1
theorem k0_idx258_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v8] : Fin 2 → IVec S16 32) a x).toNat < S264x256.size a := fun v6 v8 v10 v12 v14 v16 v18 v20 v22 v24 v26 v28 v30 v32 v34 v36 v1067 k0_hw17 => k0_hw17.2.1
theorem k0_idx259_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v10] : Fin 2 → IVec S16 32) a x).toNat < S264x256.size a := fun v6 v8 v10 v12 v14 v16 v18 v20 v22 v24 v26 v28 v30 v32 v34 v36 v1067 k0_hw17 => k0_hw17.2.2.1
theorem k0_idx260_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v12] : Fin 2 → IVec S16 32) a x).toNat < S264x256.size a := fun v6 v8 v10 v12 v14 v16 v18 v20 v22 v24 v26 v28 v30 v32 v34 v36 v1067 k0_hw17 => k0_hw17.2.2.2.1
theorem k0_idx261_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v14] : Fin 2 → IVec S16 32) a x).toNat < S264x256.size a := fun v6 v8 v10 v12 v14 v16 v18 v20 v22 v24 v26 v28 v30 v32 v34 v36 v1067 k0_hw17 => k0_hw17.2.2.2.2.1
theorem k0_idx262_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v16] : Fin 2 → IVec S16 32) a x).toNat < S264x256.size a := fun v6 v8 v10 v12 v14 v16 v18 v20 v22 v24 v26 v28 v30 v32 v34 v36 v1067 k0_hw17 => k0_hw17.2.2.2.2.2.1
theorem k0_idx263_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v18] : Fin 2 → IVec S16 32) a x).toNat < S264x256.size a := fun v6 v8 v10 v12 v14 v16 v18 v20 v22 v24 v26 v28 v30 v32 v34 v36 v1067 k0_hw17 => k0_hw17.2.2.2.2.2.2.1
theorem k0_idx264_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v20] : Fin 2 → IVec S16 32) a x).toNat < S264x256.size a := fun v6 v8 v10 v12 v14 v16 v18 v20 v22 v24 v26 v28 v30 v32 v34 v36 v1067 k0_hw17 => k0_hw17.2.2.2.2.2.2.2.1
theorem k0_idx265_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v22] : Fin 2 → IVec S16 32) a x).toNat < S264x256.size a := fun v6 v8 v10 v12 v14 v16 v18 v20 v22 v24 v26 v28 v30 v32 v34 v36 v1067 k0_hw17 => k0_hw17.2.2.2.2.2.2.2.2.1
theorem k0_idx266_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v24] : Fin 2 → IVec S16 32) a x).toNat < S264x256.size a := fun v6 v8 v10 v12 v14 v16 v18 v20 v22 v24 v26 v28 v30 v32 v34 v36 v1067 k0_hw17 => k0_hw17.2.2.2.2.2.2.2.2.2.1
theorem k0_idx267_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v26] : Fin 2 → IVec S16 32) a x).toNat < S264x256.size a := fun v6 v8 v10 v12 v14 v16 v18 v20 v22 v24 v26 v28 v30 v32 v34 v36 v1067 k0_hw17 => k0_hw17.2.2.2.2.2.2.2.2.2.2.1
theorem k0_idx268_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v28] : Fin 2 → IVec S16 32) a x).toNat < S264x256.size a := fun v6 v8 v10 v12 v14 v16 v18 v20 v22 v24 v26 v28 v30 v32 v34 v36 v1067 k0_hw17 => k0_hw17.2.2.2.2.2.2.2.2.2.2.2.1
theorem k0_idx269_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v30] : Fin 2 → IVec S16 32) a x).toNat < S264x256.size a := fun v6 v8 v10 v12 v14 v16 v18 v20 v22 v24 v26 v28 v30 v32 v34 v36 v1067 k0_hw17 => k0_hw17.2.2.2.2.2.2.2.2.2.2.2.2.1
theorem k0_idx270_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v32] : Fin 2 → IVec S16 32) a x).toNat < S264x256.size a := fun v6 v8 v10 v12 v14 v16 v18 v20 v22 v24 v26 v28 v30 v32 v34 v36 v1067 k0_hw17 => k0_hw17.2.2.2.2.2.2.2.2.2.2.2.2.2.1
theorem k0_idx271_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v34] : Fin 2 → IVec S16 32) a x).toNat < S264x256.size a := fun v6 v8 v10 v12 v14 v16 v18 v20 v22 v24 v26 v28 v30 v32 v34 v36 v1067 k0_hw17 => k0_hw17.2.2.2.2.2.2.2.2.2.2.2.2.2.2.1
theorem k0_idx272_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1067 : IVec S16 32) (k0_hw17 : k0_chk17 v6 v8 v10 v12 v14 v16 v18 v20 v22 v24 v26 v28 v30 v32 v34 v36 v1067), ∀ a x, ((![v1067, v36] : Fin 2 → IVec S16 32) a x).toNat < S264x256.size a := fun v6 v8 v10 v12 v14 v16 v18 v20 v22 v24 v26 v28 v30 v32 v34 v36 v1067 k0_hw17 => k0_hw17.2.2.2.2.2.2.2.2.2.2.2.2.2.2.2

def k0_chk18 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) : Prop :=
  (∀ a x, ((![v1133, v6] : Fin 2 → IVec S16 32) a x).toNat < S264x256.size a) ∧
  (∀ a x, ((![v1133, v8] : Fin 2 → IVec S16 32) a x).toNat < S264x256.size a) ∧
  (∀ a x, ((![v1133, v10] : Fin 2 → IVec S16 32) a x).toNat < S264x256.size a) ∧
  (∀ a x, ((![v1133, v12] : Fin 2 → IVec S16 32) a x).toNat < S264x256.size a) ∧
  (∀ a x, ((![v1133, v14] : Fin 2 → IVec S16 32) a x).toNat < S264x256.size a) ∧
  (∀ a x, ((![v1133, v16] : Fin 2 → IVec S16 32) a x).toNat < S264x256.size a) ∧
  (∀ a x, ((![v1133, v18] : Fin 2 → IVec S16 32) a x).toNat < S264x256.size a) ∧
  (∀ a x, ((![v1133, v20] : Fin 2 → IVec S16 32) a x).toNat < S264x256.size a) ∧
  (∀ a x, ((![v1133, v22] : Fin 2 → IVec S16 32) a x).toNat < S264x256.size a) ∧
  (∀ a x, ((![v1133, v24] : Fin 2 → IVec S16 32) a x).toNat < S264x256.size a) ∧
  (∀ a x, ((![v1133, v26] : Fin 2 → IVec S16 32) a x).toNat < S264x256.size a) ∧
  (∀ a x, ((![v1133, v28] : Fin 2 → IVec S16 32) a x).toNat < S264x256.size a) ∧
  (∀ a x, ((![v1133, v30] : Fin 2 → IVec S16 32) a x).toNat < S264x256.size a) ∧
  (∀ a x, ((![v1133, v32] : Fin 2 → IVec S16 32) a x).toNat < S264x256.size a) ∧
  (∀ a x, ((![v1133, v34] : Fin 2 → IVec S16 32) a x).toNat < S264x256.size a) ∧
  (∀ a x, ((![v1133, v36] : Fin 2 → IVec S16 32) a x).toNat < S264x256.size a)
theorem k0_idx273_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v6] : Fin 2 → IVec S16 32) a x).toNat < S264x256.size a := fun v6 v8 v10 v12 v14 v16 v18 v20 v22 v24 v26 v28 v30 v32 v34 v36 v1133 k0_hw18 => k0_hw18.1
theorem k0_idx274_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v8] : Fin 2 → IVec S16 32) a x).toNat < S264x256.size a := fun v6 v8 v10 v12 v14 v16 v18 v20 v22 v24 v26 v28 v30 v32 v34 v36 v1133 k0_hw18 => k0_hw18.2.1
theorem k0_idx275_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v10] : Fin 2 → IVec S16 32) a x).toNat < S264x256.size a := fun v6 v8 v10 v12 v14 v16 v18 v20 v22 v24 v26 v28 v30 v32 v34 v36 v1133 k0_hw18 => k0_hw18.2.2.1
theorem k0_idx276_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v12] : Fin 2 → IVec S16 32) a x).toNat < S264x256.size a := fun v6 v8 v10 v12 v14 v16 v18 v20 v22 v24 v26 v28 v30 v32 v34 v36 v1133 k0_hw18 => k0_hw18.2.2.2.1
theorem k0_idx277_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v14] : Fin 2 → IVec S16 32) a x).toNat < S264x256.size a := fun v6 v8 v10 v12 v14 v16 v18 v20 v22 v24 v26 v28 v30 v32 v34 v36 v1133 k0_hw18 => k0_hw18.2.2.2.2.1
theorem k0_idx278_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v16] : Fin 2 → IVec S16 32) a x).toNat < S264x256.size a := fun v6 v8 v10 v12 v14 v16 v18 v20 v22 v24 v26 v28 v30 v32 v34 v36 v1133 k0_hw18 => k0_hw18.2.2.2.2.2.1
theorem k0_idx279_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v18] : Fin 2 → IVec S16 32) a x).toNat < S264x256.size a := fun v6 v8 v10 v12 v14 v16 v18 v20 v22 v24 v26 v28 v30 v32 v34 v36 v1133 k0_hw18 => k0_hw18.2.2.2.2.2.2.1
theorem k0_idx280_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v20] : Fin 2 → IVec S16 32) a x).toNat < S264x256.size a := fun v6 v8 v10 v12 v14 v16 v18 v20 v22 v24 v26 v28 v30 v32 v34 v36 v1133 k0_hw18 => k0_hw18.2.2.2.2.2.2.2.1
theorem k0_idx281_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v22] : Fin 2 → IVec S16 32) a x).toNat < S264x256.size a := fun v6 v8 v10 v12 v14 v16 v18 v20 v22 v24 v26 v28 v30 v32 v34 v36 v1133 k0_hw18 => k0_hw18.2.2.2.2.2.2.2.2.1
theorem k0_idx282_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v24] : Fin 2 → IVec S16 32) a x).toNat < S264x256.size a := fun v6 v8 v10 v12 v14 v16 v18 v20 v22 v24 v26 v28 v30 v32 v34 v36 v1133 k0_hw18 => k0_hw18.2.2.2.2.2.2.2.2.2.1
theorem k0_idx283_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v26] : Fin 2 → IVec S16 32) a x).toNat < S264x256.size a := fun v6 v8 v10 v12 v14 v16 v18 v20 v22 v24 v26 v28 v30 v32 v34 v36 v1133 k0_hw18 => k0_hw18.2.2.2.2.2.2.2.2.2.2.1
theorem k0_idx284_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v28] : Fin 2 → IVec S16 32) a x).toNat < S264x256.size a := fun v6 v8 v10 v12 v14 v16 v18 v20 v22 v24 v26 v28 v30 v32 v34 v36 v1133 k0_hw18 => k0_hw18.2.2.2.2.2.2.2.2.2.2.2.1
theorem k0_idx285_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v30] : Fin 2 → IVec S16 32) a x).toNat < S264x256.size a := fun v6 v8 v10 v12 v14 v16 v18 v20 v22 v24 v26 v28 v30 v32 v34 v36 v1133 k0_hw18 => k0_hw18.2.2.2.2.2.2.2.2.2.2.2.2.1
theorem k0_idx286_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v32] : Fin 2 → IVec S16 32) a x).toNat < S264x256.size a := fun v6 v8 v10 v12 v14 v16 v18 v20 v22 v24 v26 v28 v30 v32 v34 v36 v1133 k0_hw18 => k0_hw18.2.2.2.2.2.2.2.2.2.2.2.2.2.1
theorem k0_idx287_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v34] : Fin 2 → IVec S16 32) a x).toNat < S264x256.size a := fun v6 v8 v10 v12 v14 v16 v18 v20 v22 v24 v26 v28 v30 v32 v34 v36 v1133 k0_hw18 => k0_hw18.2.2.2.2.2.2.2.2.2.2.2.2.2.2.1
theorem k0_idx288_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1133 : IVec S16 32) (k0_hw18 : k0_chk18 v6 v8 v10 v12 v14 v16 v18 v20 v22 v24 v26 v28 v30 v32 v34 v36 v1133), ∀ a x, ((![v1133, v36] : Fin 2 → IVec S16 32) a x).toNat < S264x256.size a := fun v6 v8 v10 v12 v14 v16 v18 v20 v22 v24 v26 v28 v30 v32 v34 v36 v1133 k0_hw18 => k0_hw18.2.2.2.2.2.2.2.2.2.2.2.2.2.2.2

def k0_chk19 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) : Prop :=
  (∀ a x, ((![v1199, v6] : Fin 2 → IVec S16 32) a x).toNat < S264x256.size a) ∧
  (∀ a x, ((![v1199, v8] : Fin 2 → IVec S16 32) a x).toNat < S264x256.size a) ∧
  (∀ a x, ((![v1199, v10] : Fin 2 → IVec S16 32) a x).toNat < S264x256.size a) ∧
  (∀ a x, ((![v1199, v12] : Fin 2 → IVec S16 32) a x).toNat < S264x256.size a) ∧
  (∀ a x, ((![v1199, v14] : Fin 2 → IVec S16 32) a x).toNat < S264x256.size a) ∧
  (∀ a x, ((![v1199, v16] : Fin 2 → IVec S16 32) a x).toNat < S264x256.size a) ∧
  (∀ a x, ((![v1199, v18] : Fin 2 → IVec S16 32) a x).toNat < S264x256.size a) ∧
  (∀ a x, ((![v1199, v20] : Fin 2 → IVec S16 32) a x).toNat < S264x256.size a) ∧
  (∀ a x, ((![v1199, v22] : Fin 2 → IVec S16 32) a x).toNat < S264x256.size a) ∧
  (∀ a x, ((![v1199, v24] : Fin 2 → IVec S16 32) a x).toNat < S264x256.size a) ∧
  (∀ a x, ((![v1199, v26] : Fin 2 → IVec S16 32) a x).toNat < S264x256.size a) ∧
  (∀ a x, ((![v1199, v28] : Fin 2 → IVec S16 32) a x).toNat < S264x256.size a) ∧
  (∀ a x, ((![v1199, v30] : Fin 2 → IVec S16 32) a x).toNat < S264x256.size a) ∧
  (∀ a x, ((![v1199, v32] : Fin 2 → IVec S16 32) a x).toNat < S264x256.size a) ∧
  (∀ a x, ((![v1199, v34] : Fin 2 → IVec S16 32) a x).toNat < S264x256.size a) ∧
  (∀ a x, ((![v1199, v36] : Fin 2 → IVec S16 32) a x).toNat < S264x256.size a)
theorem k0_idx289_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v6] : Fin 2 → IVec S16 32) a x).toNat < S264x256.size a := fun v6 v8 v10 v12 v14 v16 v18 v20 v22 v24 v26 v28 v30 v32 v34 v36 v1199 k0_hw19 => k0_hw19.1
theorem k0_idx290_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v8] : Fin 2 → IVec S16 32) a x).toNat < S264x256.size a := fun v6 v8 v10 v12 v14 v16 v18 v20 v22 v24 v26 v28 v30 v32 v34 v36 v1199 k0_hw19 => k0_hw19.2.1
theorem k0_idx291_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v10] : Fin 2 → IVec S16 32) a x).toNat < S264x256.size a := fun v6 v8 v10 v12 v14 v16 v18 v20 v22 v24 v26 v28 v30 v32 v34 v36 v1199 k0_hw19 => k0_hw19.2.2.1
theorem k0_idx292_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v12] : Fin 2 → IVec S16 32) a x).toNat < S264x256.size a := fun v6 v8 v10 v12 v14 v16 v18 v20 v22 v24 v26 v28 v30 v32 v34 v36 v1199 k0_hw19 => k0_hw19.2.2.2.1
theorem k0_idx293_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v14] : Fin 2 → IVec S16 32) a x).toNat < S264x256.size a := fun v6 v8 v10 v12 v14 v16 v18 v20 v22 v24 v26 v28 v30 v32 v34 v36 v1199 k0_hw19 => k0_hw19.2.2.2.2.1
theorem k0_idx294_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v16] : Fin 2 → IVec S16 32) a x).toNat < S264x256.size a := fun v6 v8 v10 v12 v14 v16 v18 v20 v22 v24 v26 v28 v30 v32 v34 v36 v1199 k0_hw19 => k0_hw19.2.2.2.2.2.1
theorem k0_idx295_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v18] : Fin 2 → IVec S16 32) a x).toNat < S264x256.size a := fun v6 v8 v10 v12 v14 v16 v18 v20 v22 v24 v26 v28 v30 v32 v34 v36 v1199 k0_hw19 => k0_hw19.2.2.2.2.2.2.1
theorem k0_idx296_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v20] : Fin 2 → IVec S16 32) a x).toNat < S264x256.size a := fun v6 v8 v10 v12 v14 v16 v18 v20 v22 v24 v26 v28 v30 v32 v34 v36 v1199 k0_hw19 => k0_hw19.2.2.2.2.2.2.2.1
theorem k0_idx297_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v22] : Fin 2 → IVec S16 32) a x).toNat < S264x256.size a := fun v6 v8 v10 v12 v14 v16 v18 v20 v22 v24 v26 v28 v30 v32 v34 v36 v1199 k0_hw19 => k0_hw19.2.2.2.2.2.2.2.2.1
theorem k0_idx298_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v24] : Fin 2 → IVec S16 32) a x).toNat < S264x256.size a := fun v6 v8 v10 v12 v14 v16 v18 v20 v22 v24 v26 v28 v30 v32 v34 v36 v1199 k0_hw19 => k0_hw19.2.2.2.2.2.2.2.2.2.1
theorem k0_idx299_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v26] : Fin 2 → IVec S16 32) a x).toNat < S264x256.size a := fun v6 v8 v10 v12 v14 v16 v18 v20 v22 v24 v26 v28 v30 v32 v34 v36 v1199 k0_hw19 => k0_hw19.2.2.2.2.2.2.2.2.2.2.1
theorem k0_idx300_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v28] : Fin 2 → IVec S16 32) a x).toNat < S264x256.size a := fun v6 v8 v10 v12 v14 v16 v18 v20 v22 v24 v26 v28 v30 v32 v34 v36 v1199 k0_hw19 => k0_hw19.2.2.2.2.2.2.2.2.2.2.2.1
theorem k0_idx301_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v30] : Fin 2 → IVec S16 32) a x).toNat < S264x256.size a := fun v6 v8 v10 v12 v14 v16 v18 v20 v22 v24 v26 v28 v30 v32 v34 v36 v1199 k0_hw19 => k0_hw19.2.2.2.2.2.2.2.2.2.2.2.2.1
theorem k0_idx302_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v32] : Fin 2 → IVec S16 32) a x).toNat < S264x256.size a := fun v6 v8 v10 v12 v14 v16 v18 v20 v22 v24 v26 v28 v30 v32 v34 v36 v1199 k0_hw19 => k0_hw19.2.2.2.2.2.2.2.2.2.2.2.2.2.1
theorem k0_idx303_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v34] : Fin 2 → IVec S16 32) a x).toNat < S264x256.size a := fun v6 v8 v10 v12 v14 v16 v18 v20 v22 v24 v26 v28 v30 v32 v34 v36 v1199 k0_hw19 => k0_hw19.2.2.2.2.2.2.2.2.2.2.2.2.2.2.1
theorem k0_idx304_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1199 : IVec S16 32) (k0_hw19 : k0_chk19 v6 v8 v10 v12 v14 v16 v18 v20 v22 v24 v26 v28 v30 v32 v34 v36 v1199), ∀ a x, ((![v1199, v36] : Fin 2 → IVec S16 32) a x).toNat < S264x256.size a := fun v6 v8 v10 v12 v14 v16 v18 v20 v22 v24 v26 v28 v30 v32 v34 v36 v1199 k0_hw19 => k0_hw19.2.2.2.2.2.2.2.2.2.2.2.2.2.2.2

def k0_chk20 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) : Prop :=
  (∀ a x, ((![v1265, v6] : Fin 2 → IVec S16 32) a x).toNat < S264x256.size a) ∧
  (∀ a x, ((![v1265, v8] : Fin 2 → IVec S16 32) a x).toNat < S264x256.size a) ∧
  (∀ a x, ((![v1265, v10] : Fin 2 → IVec S16 32) a x).toNat < S264x256.size a) ∧
  (∀ a x, ((![v1265, v12] : Fin 2 → IVec S16 32) a x).toNat < S264x256.size a) ∧
  (∀ a x, ((![v1265, v14] : Fin 2 → IVec S16 32) a x).toNat < S264x256.size a) ∧
  (∀ a x, ((![v1265, v16] : Fin 2 → IVec S16 32) a x).toNat < S264x256.size a) ∧
  (∀ a x, ((![v1265, v18] : Fin 2 → IVec S16 32) a x).toNat < S264x256.size a) ∧
  (∀ a x, ((![v1265, v20] : Fin 2 → IVec S16 32) a x).toNat < S264x256.size a) ∧
  (∀ a x, ((![v1265, v22] : Fin 2 → IVec S16 32) a x).toNat < S264x256.size a) ∧
  (∀ a x, ((![v1265, v24] : Fin 2 → IVec S16 32) a x).toNat < S264x256.size a) ∧
  (∀ a x, ((![v1265, v26] : Fin 2 → IVec S16 32) a x).toNat < S264x256.size a) ∧
  (∀ a x, ((![v1265, v28] : Fin 2 → IVec S16 32) a x).toNat < S264x256.size a) ∧
  (∀ a x, ((![v1265, v30] : Fin 2 → IVec S16 32) a x).toNat < S264x256.size a) ∧
  (∀ a x, ((![v1265, v32] : Fin 2 → IVec S16 32) a x).toNat < S264x256.size a) ∧
  (∀ a x, ((![v1265, v34] : Fin 2 → IVec S16 32) a x).toNat < S264x256.size a) ∧
  (∀ a x, ((![v1265, v36] : Fin 2 → IVec S16 32) a x).toNat < S264x256.size a)
theorem k0_idx305_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v6] : Fin 2 → IVec S16 32) a x).toNat < S264x256.size a := fun v6 v8 v10 v12 v14 v16 v18 v20 v22 v24 v26 v28 v30 v32 v34 v36 v1265 k0_hw20 => k0_hw20.1
theorem k0_idx306_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v8] : Fin 2 → IVec S16 32) a x).toNat < S264x256.size a := fun v6 v8 v10 v12 v14 v16 v18 v20 v22 v24 v26 v28 v30 v32 v34 v36 v1265 k0_hw20 => k0_hw20.2.1
theorem k0_idx307_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v10] : Fin 2 → IVec S16 32) a x).toNat < S264x256.size a := fun v6 v8 v10 v12 v14 v16 v18 v20 v22 v24 v26 v28 v30 v32 v34 v36 v1265 k0_hw20 => k0_hw20.2.2.1
theorem k0_idx308_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v12] : Fin 2 → IVec S16 32) a x).toNat < S264x256.size a := fun v6 v8 v10 v12 v14 v16 v18 v20 v22 v24 v26 v28 v30 v32 v34 v36 v1265 k0_hw20 => k0_hw20.2.2.2.1
theorem k0_idx309_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v14] : Fin 2 → IVec S16 32) a x).toNat < S264x256.size a := fun v6 v8 v10 v12 v14 v16 v18 v20 v22 v24 v26 v28 v30 v32 v34 v36 v1265 k0_hw20 => k0_hw20.2.2.2.2.1
theorem k0_idx310_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v16] : Fin 2 → IVec S16 32) a x).toNat < S264x256.size a := fun v6 v8 v10 v12 v14 v16 v18 v20 v22 v24 v26 v28 v30 v32 v34 v36 v1265 k0_hw20 => k0_hw20.2.2.2.2.2.1
theorem k0_idx311_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v18] : Fin 2 → IVec S16 32) a x).toNat < S264x256.size a := fun v6 v8 v10 v12 v14 v16 v18 v20 v22 v24 v26 v28 v30 v32 v34 v36 v1265 k0_hw20 => k0_hw20.2.2.2.2.2.2.1
theorem k0_idx312_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v20] : Fin 2 → IVec S16 32) a x).toNat < S264x256.size a := fun v6 v8 v10 v12 v14 v16 v18 v20 v22 v24 v26 v28 v30 v32 v34 v36 v1265 k0_hw20 => k0_hw20.2.2.2.2.2.2.2.1
theorem k0_idx313_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v22] : Fin 2 → IVec S16 32) a x).toNat < S264x256.size a := fun v6 v8 v10 v12 v14 v16 v18 v20 v22 v24 v26 v28 v30 v32 v34 v36 v1265 k0_hw20 => k0_hw20.2.2.2.2.2.2.2.2.1
theorem k0_idx314_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v24] : Fin 2 → IVec S16 32) a x).toNat < S264x256.size a := fun v6 v8 v10 v12 v14 v16 v18 v20 v22 v24 v26 v28 v30 v32 v34 v36 v1265 k0_hw20 => k0_hw20.2.2.2.2.2.2.2.2.2.1
theorem k0_idx315_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v26] : Fin 2 → IVec S16 32) a x).toNat < S264x256.size a := fun v6 v8 v10 v12 v14 v16 v18 v20 v22 v24 v26 v28 v30 v32 v34 v36 v1265 k0_hw20 => k0_hw20.2.2.2.2.2.2.2.2.2.2.1
theorem k0_idx316_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v28] : Fin 2 → IVec S16 32) a x).toNat < S264x256.size a := fun v6 v8 v10 v12 v14 v16 v18 v20 v22 v24 v26 v28 v30 v32 v34 v36 v1265 k0_hw20 => k0_hw20.2.2.2.2.2.2.2.2.2.2.2.1
theorem k0_idx317_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v30] : Fin 2 → IVec S16 32) a x).toNat < S264x256.size a := fun v6 v8 v10 v12 v14 v16 v18 v20 v22 v24 v26 v28 v30 v32 v34 v36 v1265 k0_hw20 => k0_hw20.2.2.2.2.2.2.2.2.2.2.2.2.1
theorem k0_idx318_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v32] : Fin 2 → IVec S16 32) a x).toNat < S264x256.size a := fun v6 v8 v10 v12 v14 v16 v18 v20 v22 v24 v26 v28 v30 v32 v34 v36 v1265 k0_hw20 => k0_hw20.2.2.2.2.2.2.2.2.2.2.2.2.2.1
theorem k0_idx319_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v34] : Fin 2 → IVec S16 32) a x).toNat < S264x256.size a := fun v6 v8 v10 v12 v14 v16 v18 v20 v22 v24 v26 v28 v30 v32 v34 v36 v1265 k0_hw20 => k0_hw20.2.2.2.2.2.2.2.2.2.2.2.2.2.2.1
theorem k0_idx320_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1265 : IVec S16 32) (k0_hw20 : k0_chk20 v6 v8 v10 v12 v14 v16 v18 v20 v22 v24 v26 v28 v30 v32 v34 v36 v1265), ∀ a x, ((![v1265, v36] : Fin 2 → IVec S16 32) a x).toNat < S264x256.size a := fun v6 v8 v10 v12 v14 v16 v18 v20 v22 v24 v26 v28 v30 v32 v34 v36 v1265 k0_hw20 => k0_hw20.2.2.2.2.2.2.2.2.2.2.2.2.2.2.2

def k0_chk21 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) : Prop :=
  (∀ a x, ((![v1331, v6] : Fin 2 → IVec S16 32) a x).toNat < S264x256.size a) ∧
  (∀ a x, ((![v1331, v8] : Fin 2 → IVec S16 32) a x).toNat < S264x256.size a) ∧
  (∀ a x, ((![v1331, v10] : Fin 2 → IVec S16 32) a x).toNat < S264x256.size a) ∧
  (∀ a x, ((![v1331, v12] : Fin 2 → IVec S16 32) a x).toNat < S264x256.size a) ∧
  (∀ a x, ((![v1331, v14] : Fin 2 → IVec S16 32) a x).toNat < S264x256.size a) ∧
  (∀ a x, ((![v1331, v16] : Fin 2 → IVec S16 32) a x).toNat < S264x256.size a) ∧
  (∀ a x, ((![v1331, v18] : Fin 2 → IVec S16 32) a x).toNat < S264x256.size a) ∧
  (∀ a x, ((![v1331, v20] : Fin 2 → IVec S16 32) a x).toNat < S264x256.size a) ∧
  (∀ a x, ((![v1331, v22] : Fin 2 → IVec S16 32) a x).toNat < S264x256.size a) ∧
  (∀ a x, ((![v1331, v24] : Fin 2 → IVec S16 32) a x).toNat < S264x256.size a) ∧
  (∀ a x, ((![v1331, v26] : Fin 2 → IVec S16 32) a x).toNat < S264x256.size a) ∧
  (∀ a x, ((![v1331, v28] : Fin 2 → IVec S16 32) a x).toNat < S264x256.size a) ∧
  (∀ a x, ((![v1331, v30] : Fin 2 → IVec S16 32) a x).toNat < S264x256.size a) ∧
  (∀ a x, ((![v1331, v32] : Fin 2 → IVec S16 32) a x).toNat < S264x256.size a) ∧
  (∀ a x, ((![v1331, v34] : Fin 2 → IVec S16 32) a x).toNat < S264x256.size a) ∧
  (∀ a x, ((![v1331, v36] : Fin 2 → IVec S16 32) a x).toNat < S264x256.size a)
theorem k0_idx321_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v6] : Fin 2 → IVec S16 32) a x).toNat < S264x256.size a := fun v6 v8 v10 v12 v14 v16 v18 v20 v22 v24 v26 v28 v30 v32 v34 v36 v1331 k0_hw21 => k0_hw21.1
theorem k0_idx322_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v8] : Fin 2 → IVec S16 32) a x).toNat < S264x256.size a := fun v6 v8 v10 v12 v14 v16 v18 v20 v22 v24 v26 v28 v30 v32 v34 v36 v1331 k0_hw21 => k0_hw21.2.1
theorem k0_idx323_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v10] : Fin 2 → IVec S16 32) a x).toNat < S264x256.size a := fun v6 v8 v10 v12 v14 v16 v18 v20 v22 v24 v26 v28 v30 v32 v34 v36 v1331 k0_hw21 => k0_hw21.2.2.1
theorem k0_idx324_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v12] : Fin 2 → IVec S16 32) a x).toNat < S264x256.size a := fun v6 v8 v10 v12 v14 v16 v18 v20 v22 v24 v26 v28 v30 v32 v34 v36 v1331 k0_hw21 => k0_hw21.2.2.2.1
theorem k0_idx325_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v14] : Fin 2 → IVec S16 32) a x).toNat < S264x256.size a := fun v6 v8 v10 v12 v14 v16 v18 v20 v22 v24 v26 v28 v30 v32 v34 v36 v1331 k0_hw21 => k0_hw21.2.2.2.2.1
theorem k0_idx326_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v16] : Fin 2 → IVec S16 32) a x).toNat < S264x256.size a := fun v6 v8 v10 v12 v14 v16 v18 v20 v22 v24 v26 v28 v30 v32 v34 v36 v1331 k0_hw21 => k0_hw21.2.2.2.2.2.1
theorem k0_idx327_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v18] : Fin 2 → IVec S16 32) a x).toNat < S264x256.size a := fun v6 v8 v10 v12 v14 v16 v18 v20 v22 v24 v26 v28 v30 v32 v34 v36 v1331 k0_hw21 => k0_hw21.2.2.2.2.2.2.1
theorem k0_idx328_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v20] : Fin 2 → IVec S16 32) a x).toNat < S264x256.size a := fun v6 v8 v10 v12 v14 v16 v18 v20 v22 v24 v26 v28 v30 v32 v34 v36 v1331 k0_hw21 => k0_hw21.2.2.2.2.2.2.2.1
theorem k0_idx329_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v22] : Fin 2 → IVec S16 32) a x).toNat < S264x256.size a := fun v6 v8 v10 v12 v14 v16 v18 v20 v22 v24 v26 v28 v30 v32 v34 v36 v1331 k0_hw21 => k0_hw21.2.2.2.2.2.2.2.2.1
theorem k0_idx330_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v24] : Fin 2 → IVec S16 32) a x).toNat < S264x256.size a := fun v6 v8 v10 v12 v14 v16 v18 v20 v22 v24 v26 v28 v30 v32 v34 v36 v1331 k0_hw21 => k0_hw21.2.2.2.2.2.2.2.2.2.1
theorem k0_idx331_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v26] : Fin 2 → IVec S16 32) a x).toNat < S264x256.size a := fun v6 v8 v10 v12 v14 v16 v18 v20 v22 v24 v26 v28 v30 v32 v34 v36 v1331 k0_hw21 => k0_hw21.2.2.2.2.2.2.2.2.2.2.1
theorem k0_idx332_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v28] : Fin 2 → IVec S16 32) a x).toNat < S264x256.size a := fun v6 v8 v10 v12 v14 v16 v18 v20 v22 v24 v26 v28 v30 v32 v34 v36 v1331 k0_hw21 => k0_hw21.2.2.2.2.2.2.2.2.2.2.2.1
theorem k0_idx333_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v30] : Fin 2 → IVec S16 32) a x).toNat < S264x256.size a := fun v6 v8 v10 v12 v14 v16 v18 v20 v22 v24 v26 v28 v30 v32 v34 v36 v1331 k0_hw21 => k0_hw21.2.2.2.2.2.2.2.2.2.2.2.2.1
theorem k0_idx334_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v32] : Fin 2 → IVec S16 32) a x).toNat < S264x256.size a := fun v6 v8 v10 v12 v14 v16 v18 v20 v22 v24 v26 v28 v30 v32 v34 v36 v1331 k0_hw21 => k0_hw21.2.2.2.2.2.2.2.2.2.2.2.2.2.1
theorem k0_idx335_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v34] : Fin 2 → IVec S16 32) a x).toNat < S264x256.size a := fun v6 v8 v10 v12 v14 v16 v18 v20 v22 v24 v26 v28 v30 v32 v34 v36 v1331 k0_hw21 => k0_hw21.2.2.2.2.2.2.2.2.2.2.2.2.2.2.1
theorem k0_idx336_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1331 : IVec S16 32) (k0_hw21 : k0_chk21 v6 v8 v10 v12 v14 v16 v18 v20 v22 v24 v26 v28 v30 v32 v34 v36 v1331), ∀ a x, ((![v1331, v36] : Fin 2 → IVec S16 32) a x).toNat < S264x256.size a := fun v6 v8 v10 v12 v14 v16 v18 v20 v22 v24 v26 v28 v30 v32 v34 v36 v1331 k0_hw21 => k0_hw21.2.2.2.2.2.2.2.2.2.2.2.2.2.2.2

def k0_chk22 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) : Prop :=
  (∀ a x, ((![v1397, v6] : Fin 2 → IVec S16 32) a x).toNat < S264x256.size a) ∧
  (∀ a x, ((![v1397, v8] : Fin 2 → IVec S16 32) a x).toNat < S264x256.size a) ∧
  (∀ a x, ((![v1397, v10] : Fin 2 → IVec S16 32) a x).toNat < S264x256.size a) ∧
  (∀ a x, ((![v1397, v12] : Fin 2 → IVec S16 32) a x).toNat < S264x256.size a) ∧
  (∀ a x, ((![v1397, v14] : Fin 2 → IVec S16 32) a x).toNat < S264x256.size a) ∧
  (∀ a x, ((![v1397, v16] : Fin 2 → IVec S16 32) a x).toNat < S264x256.size a) ∧
  (∀ a x, ((![v1397, v18] : Fin 2 → IVec S16 32) a x).toNat < S264x256.size a) ∧
  (∀ a x, ((![v1397, v20] : Fin 2 → IVec S16 32) a x).toNat < S264x256.size a) ∧
  (∀ a x, ((![v1397, v22] : Fin 2 → IVec S16 32) a x).toNat < S264x256.size a) ∧
  (∀ a x, ((![v1397, v24] : Fin 2 → IVec S16 32) a x).toNat < S264x256.size a) ∧
  (∀ a x, ((![v1397, v26] : Fin 2 → IVec S16 32) a x).toNat < S264x256.size a) ∧
  (∀ a x, ((![v1397, v28] : Fin 2 → IVec S16 32) a x).toNat < S264x256.size a) ∧
  (∀ a x, ((![v1397, v30] : Fin 2 → IVec S16 32) a x).toNat < S264x256.size a) ∧
  (∀ a x, ((![v1397, v32] : Fin 2 → IVec S16 32) a x).toNat < S264x256.size a) ∧
  (∀ a x, ((![v1397, v34] : Fin 2 → IVec S16 32) a x).toNat < S264x256.size a) ∧
  (∀ a x, ((![v1397, v36] : Fin 2 → IVec S16 32) a x).toNat < S264x256.size a)
theorem k0_idx337_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v6] : Fin 2 → IVec S16 32) a x).toNat < S264x256.size a := fun v6 v8 v10 v12 v14 v16 v18 v20 v22 v24 v26 v28 v30 v32 v34 v36 v1397 k0_hw22 => k0_hw22.1
theorem k0_idx338_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v8] : Fin 2 → IVec S16 32) a x).toNat < S264x256.size a := fun v6 v8 v10 v12 v14 v16 v18 v20 v22 v24 v26 v28 v30 v32 v34 v36 v1397 k0_hw22 => k0_hw22.2.1
theorem k0_idx339_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v10] : Fin 2 → IVec S16 32) a x).toNat < S264x256.size a := fun v6 v8 v10 v12 v14 v16 v18 v20 v22 v24 v26 v28 v30 v32 v34 v36 v1397 k0_hw22 => k0_hw22.2.2.1
theorem k0_idx340_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v12] : Fin 2 → IVec S16 32) a x).toNat < S264x256.size a := fun v6 v8 v10 v12 v14 v16 v18 v20 v22 v24 v26 v28 v30 v32 v34 v36 v1397 k0_hw22 => k0_hw22.2.2.2.1
theorem k0_idx341_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v14] : Fin 2 → IVec S16 32) a x).toNat < S264x256.size a := fun v6 v8 v10 v12 v14 v16 v18 v20 v22 v24 v26 v28 v30 v32 v34 v36 v1397 k0_hw22 => k0_hw22.2.2.2.2.1
theorem k0_idx342_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v16] : Fin 2 → IVec S16 32) a x).toNat < S264x256.size a := fun v6 v8 v10 v12 v14 v16 v18 v20 v22 v24 v26 v28 v30 v32 v34 v36 v1397 k0_hw22 => k0_hw22.2.2.2.2.2.1
theorem k0_idx343_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v18] : Fin 2 → IVec S16 32) a x).toNat < S264x256.size a := fun v6 v8 v10 v12 v14 v16 v18 v20 v22 v24 v26 v28 v30 v32 v34 v36 v1397 k0_hw22 => k0_hw22.2.2.2.2.2.2.1
theorem k0_idx344_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v20] : Fin 2 → IVec S16 32) a x).toNat < S264x256.size a := fun v6 v8 v10 v12 v14 v16 v18 v20 v22 v24 v26 v28 v30 v32 v34 v36 v1397 k0_hw22 => k0_hw22.2.2.2.2.2.2.2.1
theorem k0_idx345_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v22] : Fin 2 → IVec S16 32) a x).toNat < S264x256.size a := fun v6 v8 v10 v12 v14 v16 v18 v20 v22 v24 v26 v28 v30 v32 v34 v36 v1397 k0_hw22 => k0_hw22.2.2.2.2.2.2.2.2.1
theorem k0_idx346_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v24] : Fin 2 → IVec S16 32) a x).toNat < S264x256.size a := fun v6 v8 v10 v12 v14 v16 v18 v20 v22 v24 v26 v28 v30 v32 v34 v36 v1397 k0_hw22 => k0_hw22.2.2.2.2.2.2.2.2.2.1
theorem k0_idx347_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v26] : Fin 2 → IVec S16 32) a x).toNat < S264x256.size a := fun v6 v8 v10 v12 v14 v16 v18 v20 v22 v24 v26 v28 v30 v32 v34 v36 v1397 k0_hw22 => k0_hw22.2.2.2.2.2.2.2.2.2.2.1
theorem k0_idx348_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v28] : Fin 2 → IVec S16 32) a x).toNat < S264x256.size a := fun v6 v8 v10 v12 v14 v16 v18 v20 v22 v24 v26 v28 v30 v32 v34 v36 v1397 k0_hw22 => k0_hw22.2.2.2.2.2.2.2.2.2.2.2.1
theorem k0_idx349_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v30] : Fin 2 → IVec S16 32) a x).toNat < S264x256.size a := fun v6 v8 v10 v12 v14 v16 v18 v20 v22 v24 v26 v28 v30 v32 v34 v36 v1397 k0_hw22 => k0_hw22.2.2.2.2.2.2.2.2.2.2.2.2.1
theorem k0_idx350_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v32] : Fin 2 → IVec S16 32) a x).toNat < S264x256.size a := fun v6 v8 v10 v12 v14 v16 v18 v20 v22 v24 v26 v28 v30 v32 v34 v36 v1397 k0_hw22 => k0_hw22.2.2.2.2.2.2.2.2.2.2.2.2.2.1
theorem k0_idx351_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v34] : Fin 2 → IVec S16 32) a x).toNat < S264x256.size a := fun v6 v8 v10 v12 v14 v16 v18 v20 v22 v24 v26 v28 v30 v32 v34 v36 v1397 k0_hw22 => k0_hw22.2.2.2.2.2.2.2.2.2.2.2.2.2.2.1
theorem k0_idx352_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1397 : IVec S16 32) (k0_hw22 : k0_chk22 v6 v8 v10 v12 v14 v16 v18 v20 v22 v24 v26 v28 v30 v32 v34 v36 v1397), ∀ a x, ((![v1397, v36] : Fin 2 → IVec S16 32) a x).toNat < S264x256.size a := fun v6 v8 v10 v12 v14 v16 v18 v20 v22 v24 v26 v28 v30 v32 v34 v36 v1397 k0_hw22 => k0_hw22.2.2.2.2.2.2.2.2.2.2.2.2.2.2.2

def k0_chk23 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) : Prop :=
  (∀ a x, ((![v1463, v6] : Fin 2 → IVec S16 32) a x).toNat < S264x256.size a) ∧
  (∀ a x, ((![v1463, v8] : Fin 2 → IVec S16 32) a x).toNat < S264x256.size a) ∧
  (∀ a x, ((![v1463, v10] : Fin 2 → IVec S16 32) a x).toNat < S264x256.size a) ∧
  (∀ a x, ((![v1463, v12] : Fin 2 → IVec S16 32) a x).toNat < S264x256.size a) ∧
  (∀ a x, ((![v1463, v14] : Fin 2 → IVec S16 32) a x).toNat < S264x256.size a) ∧
  (∀ a x, ((![v1463, v16] : Fin 2 → IVec S16 32) a x).toNat < S264x256.size a) ∧
  (∀ a x, ((![v1463, v18] : Fin 2 → IVec S16 32) a x).toNat < S264x256.size a) ∧
  (∀ a x, ((![v1463, v20] : Fin 2 → IVec S16 32) a x).toNat < S264x256.size a) ∧
  (∀ a x, ((![v1463, v22] : Fin 2 → IVec S16 32) a x).toNat < S264x256.size a) ∧
  (∀ a x, ((![v1463, v24] : Fin 2 → IVec S16 32) a x).toNat < S264x256.size a) ∧
  (∀ a x, ((![v1463, v26] : Fin 2 → IVec S16 32) a x).toNat < S264x256.size a) ∧
  (∀ a x, ((![v1463, v28] : Fin 2 → IVec S16 32) a x).toNat < S264x256.size a) ∧
  (∀ a x, ((![v1463, v30] : Fin 2 → IVec S16 32) a x).toNat < S264x256.size a) ∧
  (∀ a x, ((![v1463, v32] : Fin 2 → IVec S16 32) a x).toNat < S264x256.size a) ∧
  (∀ a x, ((![v1463, v34] : Fin 2 → IVec S16 32) a x).toNat < S264x256.size a) ∧
  (∀ a x, ((![v1463, v36] : Fin 2 → IVec S16 32) a x).toNat < S264x256.size a)
theorem k0_idx353_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v6] : Fin 2 → IVec S16 32) a x).toNat < S264x256.size a := fun v6 v8 v10 v12 v14 v16 v18 v20 v22 v24 v26 v28 v30 v32 v34 v36 v1463 k0_hw23 => k0_hw23.1
theorem k0_idx354_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v8] : Fin 2 → IVec S16 32) a x).toNat < S264x256.size a := fun v6 v8 v10 v12 v14 v16 v18 v20 v22 v24 v26 v28 v30 v32 v34 v36 v1463 k0_hw23 => k0_hw23.2.1
theorem k0_idx355_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v10] : Fin 2 → IVec S16 32) a x).toNat < S264x256.size a := fun v6 v8 v10 v12 v14 v16 v18 v20 v22 v24 v26 v28 v30 v32 v34 v36 v1463 k0_hw23 => k0_hw23.2.2.1
theorem k0_idx356_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v12] : Fin 2 → IVec S16 32) a x).toNat < S264x256.size a := fun v6 v8 v10 v12 v14 v16 v18 v20 v22 v24 v26 v28 v30 v32 v34 v36 v1463 k0_hw23 => k0_hw23.2.2.2.1
theorem k0_idx357_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v14] : Fin 2 → IVec S16 32) a x).toNat < S264x256.size a := fun v6 v8 v10 v12 v14 v16 v18 v20 v22 v24 v26 v28 v30 v32 v34 v36 v1463 k0_hw23 => k0_hw23.2.2.2.2.1
theorem k0_idx358_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v16] : Fin 2 → IVec S16 32) a x).toNat < S264x256.size a := fun v6 v8 v10 v12 v14 v16 v18 v20 v22 v24 v26 v28 v30 v32 v34 v36 v1463 k0_hw23 => k0_hw23.2.2.2.2.2.1
theorem k0_idx359_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v18] : Fin 2 → IVec S16 32) a x).toNat < S264x256.size a := fun v6 v8 v10 v12 v14 v16 v18 v20 v22 v24 v26 v28 v30 v32 v34 v36 v1463 k0_hw23 => k0_hw23.2.2.2.2.2.2.1
theorem k0_idx360_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v20] : Fin 2 → IVec S16 32) a x).toNat < S264x256.size a := fun v6 v8 v10 v12 v14 v16 v18 v20 v22 v24 v26 v28 v30 v32 v34 v36 v1463 k0_hw23 => k0_hw23.2.2.2.2.2.2.2.1
theorem k0_idx361_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v22] : Fin 2 → IVec S16 32) a x).toNat < S264x256.size a := fun v6 v8 v10 v12 v14 v16 v18 v20 v22 v24 v26 v28 v30 v32 v34 v36 v1463 k0_hw23 => k0_hw23.2.2.2.2.2.2.2.2.1
theorem k0_idx362_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v24] : Fin 2 → IVec S16 32) a x).toNat < S264x256.size a := fun v6 v8 v10 v12 v14 v16 v18 v20 v22 v24 v26 v28 v30 v32 v34 v36 v1463 k0_hw23 => k0_hw23.2.2.2.2.2.2.2.2.2.1
theorem k0_idx363_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v26] : Fin 2 → IVec S16 32) a x).toNat < S264x256.size a := fun v6 v8 v10 v12 v14 v16 v18 v20 v22 v24 v26 v28 v30 v32 v34 v36 v1463 k0_hw23 => k0_hw23.2.2.2.2.2.2.2.2.2.2.1
theorem k0_idx364_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v28] : Fin 2 → IVec S16 32) a x).toNat < S264x256.size a := fun v6 v8 v10 v12 v14 v16 v18 v20 v22 v24 v26 v28 v30 v32 v34 v36 v1463 k0_hw23 => k0_hw23.2.2.2.2.2.2.2.2.2.2.2.1
theorem k0_idx365_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v30] : Fin 2 → IVec S16 32) a x).toNat < S264x256.size a := fun v6 v8 v10 v12 v14 v16 v18 v20 v22 v24 v26 v28 v30 v32 v34 v36 v1463 k0_hw23 => k0_hw23.2.2.2.2.2.2.2.2.2.2.2.2.1
theorem k0_idx366_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v32] : Fin 2 → IVec S16 32) a x).toNat < S264x256.size a := fun v6 v8 v10 v12 v14 v16 v18 v20 v22 v24 v26 v28 v30 v32 v34 v36 v1463 k0_hw23 => k0_hw23.2.2.2.2.2.2.2.2.2.2.2.2.2.1
theorem k0_idx367_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v34] : Fin 2 → IVec S16 32) a x).toNat < S264x256.size a := fun v6 v8 v10 v12 v14 v16 v18 v20 v22 v24 v26 v28 v30 v32 v34 v36 v1463 k0_hw23 => k0_hw23.2.2.2.2.2.2.2.2.2.2.2.2.2.2.1
theorem k0_idx368_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1463 : IVec S16 32) (k0_hw23 : k0_chk23 v6 v8 v10 v12 v14 v16 v18 v20 v22 v24 v26 v28 v30 v32 v34 v36 v1463), ∀ a x, ((![v1463, v36] : Fin 2 → IVec S16 32) a x).toNat < S264x256.size a := fun v6 v8 v10 v12 v14 v16 v18 v20 v22 v24 v26 v28 v30 v32 v34 v36 v1463 k0_hw23 => k0_hw23.2.2.2.2.2.2.2.2.2.2.2.2.2.2.2

def k0_chk24 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) : Prop :=
  (∀ a x, ((![v1529, v6] : Fin 2 → IVec S16 32) a x).toNat < S264x256.size a) ∧
  (∀ a x, ((![v1529, v8] : Fin 2 → IVec S16 32) a x).toNat < S264x256.size a) ∧
  (∀ a x, ((![v1529, v10] : Fin 2 → IVec S16 32) a x).toNat < S264x256.size a) ∧
  (∀ a x, ((![v1529, v12] : Fin 2 → IVec S16 32) a x).toNat < S264x256.size a) ∧
  (∀ a x, ((![v1529, v14] : Fin 2 → IVec S16 32) a x).toNat < S264x256.size a) ∧
  (∀ a x, ((![v1529, v16] : Fin 2 → IVec S16 32) a x).toNat < S264x256.size a) ∧
  (∀ a x, ((![v1529, v18] : Fin 2 → IVec S16 32) a x).toNat < S264x256.size a) ∧
  (∀ a x, ((![v1529, v20] : Fin 2 → IVec S16 32) a x).toNat < S264x256.size a) ∧
  (∀ a x, ((![v1529, v22] : Fin 2 → IVec S16 32) a x).toNat < S264x256.size a) ∧
  (∀ a x, ((![v1529, v24] : Fin 2 → IVec S16 32) a x).toNat < S264x256.size a) ∧
  (∀ a x, ((![v1529, v26] : Fin 2 → IVec S16 32) a x).toNat < S264x256.size a) ∧
  (∀ a x, ((![v1529, v28] : Fin 2 → IVec S16 32) a x).toNat < S264x256.size a) ∧
  (∀ a x, ((![v1529, v30] : Fin 2 → IVec S16 32) a x).toNat < S264x256.size a) ∧
  (∀ a x, ((![v1529, v32] : Fin 2 → IVec S16 32) a x).toNat < S264x256.size a) ∧
  (∀ a x, ((![v1529, v34] : Fin 2 → IVec S16 32) a x).toNat < S264x256.size a) ∧
  (∀ a x, ((![v1529, v36] : Fin 2 → IVec S16 32) a x).toNat < S264x256.size a)
theorem k0_idx369_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v6] : Fin 2 → IVec S16 32) a x).toNat < S264x256.size a := fun v6 v8 v10 v12 v14 v16 v18 v20 v22 v24 v26 v28 v30 v32 v34 v36 v1529 k0_hw24 => k0_hw24.1
theorem k0_idx370_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v8] : Fin 2 → IVec S16 32) a x).toNat < S264x256.size a := fun v6 v8 v10 v12 v14 v16 v18 v20 v22 v24 v26 v28 v30 v32 v34 v36 v1529 k0_hw24 => k0_hw24.2.1
theorem k0_idx371_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v10] : Fin 2 → IVec S16 32) a x).toNat < S264x256.size a := fun v6 v8 v10 v12 v14 v16 v18 v20 v22 v24 v26 v28 v30 v32 v34 v36 v1529 k0_hw24 => k0_hw24.2.2.1
theorem k0_idx372_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v12] : Fin 2 → IVec S16 32) a x).toNat < S264x256.size a := fun v6 v8 v10 v12 v14 v16 v18 v20 v22 v24 v26 v28 v30 v32 v34 v36 v1529 k0_hw24 => k0_hw24.2.2.2.1
theorem k0_idx373_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v14] : Fin 2 → IVec S16 32) a x).toNat < S264x256.size a := fun v6 v8 v10 v12 v14 v16 v18 v20 v22 v24 v26 v28 v30 v32 v34 v36 v1529 k0_hw24 => k0_hw24.2.2.2.2.1
theorem k0_idx374_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v16] : Fin 2 → IVec S16 32) a x).toNat < S264x256.size a := fun v6 v8 v10 v12 v14 v16 v18 v20 v22 v24 v26 v28 v30 v32 v34 v36 v1529 k0_hw24 => k0_hw24.2.2.2.2.2.1
theorem k0_idx375_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v18] : Fin 2 → IVec S16 32) a x).toNat < S264x256.size a := fun v6 v8 v10 v12 v14 v16 v18 v20 v22 v24 v26 v28 v30 v32 v34 v36 v1529 k0_hw24 => k0_hw24.2.2.2.2.2.2.1
theorem k0_idx376_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v20] : Fin 2 → IVec S16 32) a x).toNat < S264x256.size a := fun v6 v8 v10 v12 v14 v16 v18 v20 v22 v24 v26 v28 v30 v32 v34 v36 v1529 k0_hw24 => k0_hw24.2.2.2.2.2.2.2.1
theorem k0_idx377_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v22] : Fin 2 → IVec S16 32) a x).toNat < S264x256.size a := fun v6 v8 v10 v12 v14 v16 v18 v20 v22 v24 v26 v28 v30 v32 v34 v36 v1529 k0_hw24 => k0_hw24.2.2.2.2.2.2.2.2.1
theorem k0_idx378_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v24] : Fin 2 → IVec S16 32) a x).toNat < S264x256.size a := fun v6 v8 v10 v12 v14 v16 v18 v20 v22 v24 v26 v28 v30 v32 v34 v36 v1529 k0_hw24 => k0_hw24.2.2.2.2.2.2.2.2.2.1
theorem k0_idx379_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v26] : Fin 2 → IVec S16 32) a x).toNat < S264x256.size a := fun v6 v8 v10 v12 v14 v16 v18 v20 v22 v24 v26 v28 v30 v32 v34 v36 v1529 k0_hw24 => k0_hw24.2.2.2.2.2.2.2.2.2.2.1
theorem k0_idx380_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v28] : Fin 2 → IVec S16 32) a x).toNat < S264x256.size a := fun v6 v8 v10 v12 v14 v16 v18 v20 v22 v24 v26 v28 v30 v32 v34 v36 v1529 k0_hw24 => k0_hw24.2.2.2.2.2.2.2.2.2.2.2.1
theorem k0_idx381_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v30] : Fin 2 → IVec S16 32) a x).toNat < S264x256.size a := fun v6 v8 v10 v12 v14 v16 v18 v20 v22 v24 v26 v28 v30 v32 v34 v36 v1529 k0_hw24 => k0_hw24.2.2.2.2.2.2.2.2.2.2.2.2.1
theorem k0_idx382_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v32] : Fin 2 → IVec S16 32) a x).toNat < S264x256.size a := fun v6 v8 v10 v12 v14 v16 v18 v20 v22 v24 v26 v28 v30 v32 v34 v36 v1529 k0_hw24 => k0_hw24.2.2.2.2.2.2.2.2.2.2.2.2.2.1
theorem k0_idx383_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v34] : Fin 2 → IVec S16 32) a x).toNat < S264x256.size a := fun v6 v8 v10 v12 v14 v16 v18 v20 v22 v24 v26 v28 v30 v32 v34 v36 v1529 k0_hw24 => k0_hw24.2.2.2.2.2.2.2.2.2.2.2.2.2.2.1
theorem k0_idx384_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1529 : IVec S16 32) (k0_hw24 : k0_chk24 v6 v8 v10 v12 v14 v16 v18 v20 v22 v24 v26 v28 v30 v32 v34 v36 v1529), ∀ a x, ((![v1529, v36] : Fin 2 → IVec S16 32) a x).toNat < S264x256.size a := fun v6 v8 v10 v12 v14 v16 v18 v20 v22 v24 v26 v28 v30 v32 v34 v36 v1529 k0_hw24 => k0_hw24.2.2.2.2.2.2.2.2.2.2.2.2.2.2.2

def k0_chk25 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) : Prop :=
  (∀ a x, ((![v1595, v6] : Fin 2 → IVec S16 32) a x).toNat < S264x256.size a) ∧
  (∀ a x, ((![v1595, v8] : Fin 2 → IVec S16 32) a x).toNat < S264x256.size a) ∧
  (∀ a x, ((![v1595, v10] : Fin 2 → IVec S16 32) a x).toNat < S264x256.size a) ∧
  (∀ a x, ((![v1595, v12] : Fin 2 → IVec S16 32) a x).toNat < S264x256.size a) ∧
  (∀ a x, ((![v1595, v14] : Fin 2 → IVec S16 32) a x).toNat < S264x256.size a) ∧
  (∀ a x, ((![v1595, v16] : Fin 2 → IVec S16 32) a x).toNat < S264x256.size a) ∧
  (∀ a x, ((![v1595, v18] : Fin 2 → IVec S16 32) a x).toNat < S264x256.size a) ∧
  (∀ a x, ((![v1595, v20] : Fin 2 → IVec S16 32) a x).toNat < S264x256.size a) ∧
  (∀ a x, ((![v1595, v22] : Fin 2 → IVec S16 32) a x).toNat < S264x256.size a) ∧
  (∀ a x, ((![v1595, v24] : Fin 2 → IVec S16 32) a x).toNat < S264x256.size a) ∧
  (∀ a x, ((![v1595, v26] : Fin 2 → IVec S16 32) a x).toNat < S264x256.size a) ∧
  (∀ a x, ((![v1595, v28] : Fin 2 → IVec S16 32) a x).toNat < S264x256.size a) ∧
  (∀ a x, ((![v1595, v30] : Fin 2 → IVec S16 32) a x).toNat < S264x256.size a) ∧
  (∀ a x, ((![v1595, v32] : Fin 2 → IVec S16 32) a x).toNat < S264x256.size a) ∧
  (∀ a x, ((![v1595, v34] : Fin 2 → IVec S16 32) a x).toNat < S264x256.size a) ∧
  (∀ a x, ((![v1595, v36] : Fin 2 → IVec S16 32) a x).toNat < S264x256.size a)
theorem k0_idx385_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v6] : Fin 2 → IVec S16 32) a x).toNat < S264x256.size a := fun v6 v8 v10 v12 v14 v16 v18 v20 v22 v24 v26 v28 v30 v32 v34 v36 v1595 k0_hw25 => k0_hw25.1
theorem k0_idx386_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v8] : Fin 2 → IVec S16 32) a x).toNat < S264x256.size a := fun v6 v8 v10 v12 v14 v16 v18 v20 v22 v24 v26 v28 v30 v32 v34 v36 v1595 k0_hw25 => k0_hw25.2.1
theorem k0_idx387_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v10] : Fin 2 → IVec S16 32) a x).toNat < S264x256.size a := fun v6 v8 v10 v12 v14 v16 v18 v20 v22 v24 v26 v28 v30 v32 v34 v36 v1595 k0_hw25 => k0_hw25.2.2.1
theorem k0_idx388_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v12] : Fin 2 → IVec S16 32) a x).toNat < S264x256.size a := fun v6 v8 v10 v12 v14 v16 v18 v20 v22 v24 v26 v28 v30 v32 v34 v36 v1595 k0_hw25 => k0_hw25.2.2.2.1
theorem k0_idx389_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v14] : Fin 2 → IVec S16 32) a x).toNat < S264x256.size a := fun v6 v8 v10 v12 v14 v16 v18 v20 v22 v24 v26 v28 v30 v32 v34 v36 v1595 k0_hw25 => k0_hw25.2.2.2.2.1
theorem k0_idx390_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v16] : Fin 2 → IVec S16 32) a x).toNat < S264x256.size a := fun v6 v8 v10 v12 v14 v16 v18 v20 v22 v24 v26 v28 v30 v32 v34 v36 v1595 k0_hw25 => k0_hw25.2.2.2.2.2.1
theorem k0_idx391_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v18] : Fin 2 → IVec S16 32) a x).toNat < S264x256.size a := fun v6 v8 v10 v12 v14 v16 v18 v20 v22 v24 v26 v28 v30 v32 v34 v36 v1595 k0_hw25 => k0_hw25.2.2.2.2.2.2.1
theorem k0_idx392_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v20] : Fin 2 → IVec S16 32) a x).toNat < S264x256.size a := fun v6 v8 v10 v12 v14 v16 v18 v20 v22 v24 v26 v28 v30 v32 v34 v36 v1595 k0_hw25 => k0_hw25.2.2.2.2.2.2.2.1
theorem k0_idx393_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v22] : Fin 2 → IVec S16 32) a x).toNat < S264x256.size a := fun v6 v8 v10 v12 v14 v16 v18 v20 v22 v24 v26 v28 v30 v32 v34 v36 v1595 k0_hw25 => k0_hw25.2.2.2.2.2.2.2.2.1
theorem k0_idx394_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v24] : Fin 2 → IVec S16 32) a x).toNat < S264x256.size a := fun v6 v8 v10 v12 v14 v16 v18 v20 v22 v24 v26 v28 v30 v32 v34 v36 v1595 k0_hw25 => k0_hw25.2.2.2.2.2.2.2.2.2.1
theorem k0_idx395_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v26] : Fin 2 → IVec S16 32) a x).toNat < S264x256.size a := fun v6 v8 v10 v12 v14 v16 v18 v20 v22 v24 v26 v28 v30 v32 v34 v36 v1595 k0_hw25 => k0_hw25.2.2.2.2.2.2.2.2.2.2.1
theorem k0_idx396_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v28] : Fin 2 → IVec S16 32) a x).toNat < S264x256.size a := fun v6 v8 v10 v12 v14 v16 v18 v20 v22 v24 v26 v28 v30 v32 v34 v36 v1595 k0_hw25 => k0_hw25.2.2.2.2.2.2.2.2.2.2.2.1
theorem k0_idx397_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v30] : Fin 2 → IVec S16 32) a x).toNat < S264x256.size a := fun v6 v8 v10 v12 v14 v16 v18 v20 v22 v24 v26 v28 v30 v32 v34 v36 v1595 k0_hw25 => k0_hw25.2.2.2.2.2.2.2.2.2.2.2.2.1
theorem k0_idx398_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v32] : Fin 2 → IVec S16 32) a x).toNat < S264x256.size a := fun v6 v8 v10 v12 v14 v16 v18 v20 v22 v24 v26 v28 v30 v32 v34 v36 v1595 k0_hw25 => k0_hw25.2.2.2.2.2.2.2.2.2.2.2.2.2.1
theorem k0_idx399_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v34] : Fin 2 → IVec S16 32) a x).toNat < S264x256.size a := fun v6 v8 v10 v12 v14 v16 v18 v20 v22 v24 v26 v28 v30 v32 v34 v36 v1595 k0_hw25 => k0_hw25.2.2.2.2.2.2.2.2.2.2.2.2.2.2.1
theorem k0_idx400_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1595 : IVec S16 32) (k0_hw25 : k0_chk25 v6 v8 v10 v12 v14 v16 v18 v20 v22 v24 v26 v28 v30 v32 v34 v36 v1595), ∀ a x, ((![v1595, v36] : Fin 2 → IVec S16 32) a x).toNat < S264x256.size a := fun v6 v8 v10 v12 v14 v16 v18 v20 v22 v24 v26 v28 v30 v32 v34 v36 v1595 k0_hw25 => k0_hw25.2.2.2.2.2.2.2.2.2.2.2.2.2.2.2

def k0_chk26 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) : Prop :=
  (∀ a x, ((![v1661, v6] : Fin 2 → IVec S16 32) a x).toNat < S264x256.size a) ∧
  (∀ a x, ((![v1661, v8] : Fin 2 → IVec S16 32) a x).toNat < S264x256.size a) ∧
  (∀ a x, ((![v1661, v10] : Fin 2 → IVec S16 32) a x).toNat < S264x256.size a) ∧
  (∀ a x, ((![v1661, v12] : Fin 2 → IVec S16 32) a x).toNat < S264x256.size a) ∧
  (∀ a x, ((![v1661, v14] : Fin 2 → IVec S16 32) a x).toNat < S264x256.size a) ∧
  (∀ a x, ((![v1661, v16] : Fin 2 → IVec S16 32) a x).toNat < S264x256.size a) ∧
  (∀ a x, ((![v1661, v18] : Fin 2 → IVec S16 32) a x).toNat < S264x256.size a) ∧
  (∀ a x, ((![v1661, v20] : Fin 2 → IVec S16 32) a x).toNat < S264x256.size a) ∧
  (∀ a x, ((![v1661, v22] : Fin 2 → IVec S16 32) a x).toNat < S264x256.size a) ∧
  (∀ a x, ((![v1661, v24] : Fin 2 → IVec S16 32) a x).toNat < S264x256.size a) ∧
  (∀ a x, ((![v1661, v26] : Fin 2 → IVec S16 32) a x).toNat < S264x256.size a) ∧
  (∀ a x, ((![v1661, v28] : Fin 2 → IVec S16 32) a x).toNat < S264x256.size a) ∧
  (∀ a x, ((![v1661, v30] : Fin 2 → IVec S16 32) a x).toNat < S264x256.size a) ∧
  (∀ a x, ((![v1661, v32] : Fin 2 → IVec S16 32) a x).toNat < S264x256.size a) ∧
  (∀ a x, ((![v1661, v34] : Fin 2 → IVec S16 32) a x).toNat < S264x256.size a) ∧
  (∀ a x, ((![v1661, v36] : Fin 2 → IVec S16 32) a x).toNat < S264x256.size a)
theorem k0_idx401_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v6] : Fin 2 → IVec S16 32) a x).toNat < S264x256.size a := fun v6 v8 v10 v12 v14 v16 v18 v20 v22 v24 v26 v28 v30 v32 v34 v36 v1661 k0_hw26 => k0_hw26.1
theorem k0_idx402_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v8] : Fin 2 → IVec S16 32) a x).toNat < S264x256.size a := fun v6 v8 v10 v12 v14 v16 v18 v20 v22 v24 v26 v28 v30 v32 v34 v36 v1661 k0_hw26 => k0_hw26.2.1
theorem k0_idx403_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v10] : Fin 2 → IVec S16 32) a x).toNat < S264x256.size a := fun v6 v8 v10 v12 v14 v16 v18 v20 v22 v24 v26 v28 v30 v32 v34 v36 v1661 k0_hw26 => k0_hw26.2.2.1
theorem k0_idx404_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v12] : Fin 2 → IVec S16 32) a x).toNat < S264x256.size a := fun v6 v8 v10 v12 v14 v16 v18 v20 v22 v24 v26 v28 v30 v32 v34 v36 v1661 k0_hw26 => k0_hw26.2.2.2.1
theorem k0_idx405_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v14] : Fin 2 → IVec S16 32) a x).toNat < S264x256.size a := fun v6 v8 v10 v12 v14 v16 v18 v20 v22 v24 v26 v28 v30 v32 v34 v36 v1661 k0_hw26 => k0_hw26.2.2.2.2.1
theorem k0_idx406_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v16] : Fin 2 → IVec S16 32) a x).toNat < S264x256.size a := fun v6 v8 v10 v12 v14 v16 v18 v20 v22 v24 v26 v28 v30 v32 v34 v36 v1661 k0_hw26 => k0_hw26.2.2.2.2.2.1
theorem k0_idx407_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v18] : Fin 2 → IVec S16 32) a x).toNat < S264x256.size a := fun v6 v8 v10 v12 v14 v16 v18 v20 v22 v24 v26 v28 v30 v32 v34 v36 v1661 k0_hw26 => k0_hw26.2.2.2.2.2.2.1
theorem k0_idx408_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v20] : Fin 2 → IVec S16 32) a x).toNat < S264x256.size a := fun v6 v8 v10 v12 v14 v16 v18 v20 v22 v24 v26 v28 v30 v32 v34 v36 v1661 k0_hw26 => k0_hw26.2.2.2.2.2.2.2.1
theorem k0_idx409_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v22] : Fin 2 → IVec S16 32) a x).toNat < S264x256.size a := fun v6 v8 v10 v12 v14 v16 v18 v20 v22 v24 v26 v28 v30 v32 v34 v36 v1661 k0_hw26 => k0_hw26.2.2.2.2.2.2.2.2.1
theorem k0_idx410_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v24] : Fin 2 → IVec S16 32) a x).toNat < S264x256.size a := fun v6 v8 v10 v12 v14 v16 v18 v20 v22 v24 v26 v28 v30 v32 v34 v36 v1661 k0_hw26 => k0_hw26.2.2.2.2.2.2.2.2.2.1
theorem k0_idx411_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v26] : Fin 2 → IVec S16 32) a x).toNat < S264x256.size a := fun v6 v8 v10 v12 v14 v16 v18 v20 v22 v24 v26 v28 v30 v32 v34 v36 v1661 k0_hw26 => k0_hw26.2.2.2.2.2.2.2.2.2.2.1
theorem k0_idx412_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v28] : Fin 2 → IVec S16 32) a x).toNat < S264x256.size a := fun v6 v8 v10 v12 v14 v16 v18 v20 v22 v24 v26 v28 v30 v32 v34 v36 v1661 k0_hw26 => k0_hw26.2.2.2.2.2.2.2.2.2.2.2.1
theorem k0_idx413_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v30] : Fin 2 → IVec S16 32) a x).toNat < S264x256.size a := fun v6 v8 v10 v12 v14 v16 v18 v20 v22 v24 v26 v28 v30 v32 v34 v36 v1661 k0_hw26 => k0_hw26.2.2.2.2.2.2.2.2.2.2.2.2.1
theorem k0_idx414_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v32] : Fin 2 → IVec S16 32) a x).toNat < S264x256.size a := fun v6 v8 v10 v12 v14 v16 v18 v20 v22 v24 v26 v28 v30 v32 v34 v36 v1661 k0_hw26 => k0_hw26.2.2.2.2.2.2.2.2.2.2.2.2.2.1
theorem k0_idx415_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v34] : Fin 2 → IVec S16 32) a x).toNat < S264x256.size a := fun v6 v8 v10 v12 v14 v16 v18 v20 v22 v24 v26 v28 v30 v32 v34 v36 v1661 k0_hw26 => k0_hw26.2.2.2.2.2.2.2.2.2.2.2.2.2.2.1
theorem k0_idx416_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1661 : IVec S16 32) (k0_hw26 : k0_chk26 v6 v8 v10 v12 v14 v16 v18 v20 v22 v24 v26 v28 v30 v32 v34 v36 v1661), ∀ a x, ((![v1661, v36] : Fin 2 → IVec S16 32) a x).toNat < S264x256.size a := fun v6 v8 v10 v12 v14 v16 v18 v20 v22 v24 v26 v28 v30 v32 v34 v36 v1661 k0_hw26 => k0_hw26.2.2.2.2.2.2.2.2.2.2.2.2.2.2.2

def k0_chk27 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) : Prop :=
  (∀ a x, ((![v1727, v6] : Fin 2 → IVec S16 32) a x).toNat < S264x256.size a) ∧
  (∀ a x, ((![v1727, v8] : Fin 2 → IVec S16 32) a x).toNat < S264x256.size a) ∧
  (∀ a x, ((![v1727, v10] : Fin 2 → IVec S16 32) a x).toNat < S264x256.size a) ∧
  (∀ a x, ((![v1727, v12] : Fin 2 → IVec S16 32) a x).toNat < S264x256.size a) ∧
  (∀ a x, ((![v1727, v14] : Fin 2 → IVec S16 32) a x).toNat < S264x256.size a) ∧
  (∀ a x, ((![v1727, v16] : Fin 2 → IVec S16 32) a x).toNat < S264x256.size a) ∧
  (∀ a x, ((![v1727, v18] : Fin 2 → IVec S16 32) a x).toNat < S264x256.size a) ∧
  (∀ a x, ((![v1727, v20] : Fin 2 → IVec S16 32) a x).toNat < S264x256.size a) ∧
  (∀ a x, ((![v1727, v22] : Fin 2 → IVec S16 32) a x).toNat < S264x256.size a) ∧
  (∀ a x, ((![v1727, v24] : Fin 2 → IVec S16 32) a x).toNat < S264x256.size a) ∧
  (∀ a x, ((![v1727, v26] : Fin 2 → IVec S16 32) a x).toNat < S264x256.size a) ∧
  (∀ a x, ((![v1727, v28] : Fin 2 → IVec S16 32) a x).toNat < S264x256.size a) ∧
  (∀ a x, ((![v1727, v30] : Fin 2 → IVec S16 32) a x).toNat < S264x256.size a) ∧
  (∀ a x, ((![v1727, v32] : Fin 2 → IVec S16 32) a x).toNat < S264x256.size a) ∧
  (∀ a x, ((![v1727, v34] : Fin 2 → IVec S16 32) a x).toNat < S264x256.size a) ∧
  (∀ a x, ((![v1727, v36] : Fin 2 → IVec S16 32) a x).toNat < S264x256.size a)
theorem k0_idx417_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v6] : Fin 2 → IVec S16 32) a x).toNat < S264x256.size a := fun v6 v8 v10 v12 v14 v16 v18 v20 v22 v24 v26 v28 v30 v32 v34 v36 v1727 k0_hw27 => k0_hw27.1
theorem k0_idx418_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v8] : Fin 2 → IVec S16 32) a x).toNat < S264x256.size a := fun v6 v8 v10 v12 v14 v16 v18 v20 v22 v24 v26 v28 v30 v32 v34 v36 v1727 k0_hw27 => k0_hw27.2.1
theorem k0_idx419_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v10] : Fin 2 → IVec S16 32) a x).toNat < S264x256.size a := fun v6 v8 v10 v12 v14 v16 v18 v20 v22 v24 v26 v28 v30 v32 v34 v36 v1727 k0_hw27 => k0_hw27.2.2.1
theorem k0_idx420_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v12] : Fin 2 → IVec S16 32) a x).toNat < S264x256.size a := fun v6 v8 v10 v12 v14 v16 v18 v20 v22 v24 v26 v28 v30 v32 v34 v36 v1727 k0_hw27 => k0_hw27.2.2.2.1
theorem k0_idx421_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v14] : Fin 2 → IVec S16 32) a x).toNat < S264x256.size a := fun v6 v8 v10 v12 v14 v16 v18 v20 v22 v24 v26 v28 v30 v32 v34 v36 v1727 k0_hw27 => k0_hw27.2.2.2.2.1
theorem k0_idx422_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v16] : Fin 2 → IVec S16 32) a x).toNat < S264x256.size a := fun v6 v8 v10 v12 v14 v16 v18 v20 v22 v24 v26 v28 v30 v32 v34 v36 v1727 k0_hw27 => k0_hw27.2.2.2.2.2.1
theorem k0_idx423_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v18] : Fin 2 → IVec S16 32) a x).toNat < S264x256.size a := fun v6 v8 v10 v12 v14 v16 v18 v20 v22 v24 v26 v28 v30 v32 v34 v36 v1727 k0_hw27 => k0_hw27.2.2.2.2.2.2.1
theorem k0_idx424_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v20] : Fin 2 → IVec S16 32) a x).toNat < S264x256.size a := fun v6 v8 v10 v12 v14 v16 v18 v20 v22 v24 v26 v28 v30 v32 v34 v36 v1727 k0_hw27 => k0_hw27.2.2.2.2.2.2.2.1
theorem k0_idx425_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v22] : Fin 2 → IVec S16 32) a x).toNat < S264x256.size a := fun v6 v8 v10 v12 v14 v16 v18 v20 v22 v24 v26 v28 v30 v32 v34 v36 v1727 k0_hw27 => k0_hw27.2.2.2.2.2.2.2.2.1
theorem k0_idx426_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v24] : Fin 2 → IVec S16 32) a x).toNat < S264x256.size a := fun v6 v8 v10 v12 v14 v16 v18 v20 v22 v24 v26 v28 v30 v32 v34 v36 v1727 k0_hw27 => k0_hw27.2.2.2.2.2.2.2.2.2.1
theorem k0_idx427_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v26] : Fin 2 → IVec S16 32) a x).toNat < S264x256.size a := fun v6 v8 v10 v12 v14 v16 v18 v20 v22 v24 v26 v28 v30 v32 v34 v36 v1727 k0_hw27 => k0_hw27.2.2.2.2.2.2.2.2.2.2.1
theorem k0_idx428_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v28] : Fin 2 → IVec S16 32) a x).toNat < S264x256.size a := fun v6 v8 v10 v12 v14 v16 v18 v20 v22 v24 v26 v28 v30 v32 v34 v36 v1727 k0_hw27 => k0_hw27.2.2.2.2.2.2.2.2.2.2.2.1
theorem k0_idx429_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v30] : Fin 2 → IVec S16 32) a x).toNat < S264x256.size a := fun v6 v8 v10 v12 v14 v16 v18 v20 v22 v24 v26 v28 v30 v32 v34 v36 v1727 k0_hw27 => k0_hw27.2.2.2.2.2.2.2.2.2.2.2.2.1
theorem k0_idx430_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v32] : Fin 2 → IVec S16 32) a x).toNat < S264x256.size a := fun v6 v8 v10 v12 v14 v16 v18 v20 v22 v24 v26 v28 v30 v32 v34 v36 v1727 k0_hw27 => k0_hw27.2.2.2.2.2.2.2.2.2.2.2.2.2.1
theorem k0_idx431_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v34] : Fin 2 → IVec S16 32) a x).toNat < S264x256.size a := fun v6 v8 v10 v12 v14 v16 v18 v20 v22 v24 v26 v28 v30 v32 v34 v36 v1727 k0_hw27 => k0_hw27.2.2.2.2.2.2.2.2.2.2.2.2.2.2.1
theorem k0_idx432_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1727 : IVec S16 32) (k0_hw27 : k0_chk27 v6 v8 v10 v12 v14 v16 v18 v20 v22 v24 v26 v28 v30 v32 v34 v36 v1727), ∀ a x, ((![v1727, v36] : Fin 2 → IVec S16 32) a x).toNat < S264x256.size a := fun v6 v8 v10 v12 v14 v16 v18 v20 v22 v24 v26 v28 v30 v32 v34 v36 v1727 k0_hw27 => k0_hw27.2.2.2.2.2.2.2.2.2.2.2.2.2.2.2

def k0_chk28 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) : Prop :=
  (∀ a x, ((![v1793, v6] : Fin 2 → IVec S16 32) a x).toNat < S264x256.size a) ∧
  (∀ a x, ((![v1793, v8] : Fin 2 → IVec S16 32) a x).toNat < S264x256.size a) ∧
  (∀ a x, ((![v1793, v10] : Fin 2 → IVec S16 32) a x).toNat < S264x256.size a) ∧
  (∀ a x, ((![v1793, v12] : Fin 2 → IVec S16 32) a x).toNat < S264x256.size a) ∧
  (∀ a x, ((![v1793, v14] : Fin 2 → IVec S16 32) a x).toNat < S264x256.size a) ∧
  (∀ a x, ((![v1793, v16] : Fin 2 → IVec S16 32) a x).toNat < S264x256.size a) ∧
  (∀ a x, ((![v1793, v18] : Fin 2 → IVec S16 32) a x).toNat < S264x256.size a) ∧
  (∀ a x, ((![v1793, v20] : Fin 2 → IVec S16 32) a x).toNat < S264x256.size a) ∧
  (∀ a x, ((![v1793, v22] : Fin 2 → IVec S16 32) a x).toNat < S264x256.size a) ∧
  (∀ a x, ((![v1793, v24] : Fin 2 → IVec S16 32) a x).toNat < S264x256.size a) ∧
  (∀ a x, ((![v1793, v26] : Fin 2 → IVec S16 32) a x).toNat < S264x256.size a) ∧
  (∀ a x, ((![v1793, v28] : Fin 2 → IVec S16 32) a x).toNat < S264x256.size a) ∧
  (∀ a x, ((![v1793, v30] : Fin 2 → IVec S16 32) a x).toNat < S264x256.size a) ∧
  (∀ a x, ((![v1793, v32] : Fin 2 → IVec S16 32) a x).toNat < S264x256.size a) ∧
  (∀ a x, ((![v1793, v34] : Fin 2 → IVec S16 32) a x).toNat < S264x256.size a) ∧
  (∀ a x, ((![v1793, v36] : Fin 2 → IVec S16 32) a x).toNat < S264x256.size a)
theorem k0_idx433_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v6] : Fin 2 → IVec S16 32) a x).toNat < S264x256.size a := fun v6 v8 v10 v12 v14 v16 v18 v20 v22 v24 v26 v28 v30 v32 v34 v36 v1793 k0_hw28 => k0_hw28.1
theorem k0_idx434_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v8] : Fin 2 → IVec S16 32) a x).toNat < S264x256.size a := fun v6 v8 v10 v12 v14 v16 v18 v20 v22 v24 v26 v28 v30 v32 v34 v36 v1793 k0_hw28 => k0_hw28.2.1
theorem k0_idx435_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v10] : Fin 2 → IVec S16 32) a x).toNat < S264x256.size a := fun v6 v8 v10 v12 v14 v16 v18 v20 v22 v24 v26 v28 v30 v32 v34 v36 v1793 k0_hw28 => k0_hw28.2.2.1
theorem k0_idx436_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v12] : Fin 2 → IVec S16 32) a x).toNat < S264x256.size a := fun v6 v8 v10 v12 v14 v16 v18 v20 v22 v24 v26 v28 v30 v32 v34 v36 v1793 k0_hw28 => k0_hw28.2.2.2.1
theorem k0_idx437_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v14] : Fin 2 → IVec S16 32) a x).toNat < S264x256.size a := fun v6 v8 v10 v12 v14 v16 v18 v20 v22 v24 v26 v28 v30 v32 v34 v36 v1793 k0_hw28 => k0_hw28.2.2.2.2.1
theorem k0_idx438_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v16] : Fin 2 → IVec S16 32) a x).toNat < S264x256.size a := fun v6 v8 v10 v12 v14 v16 v18 v20 v22 v24 v26 v28 v30 v32 v34 v36 v1793 k0_hw28 => k0_hw28.2.2.2.2.2.1
theorem k0_idx439_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v18] : Fin 2 → IVec S16 32) a x).toNat < S264x256.size a := fun v6 v8 v10 v12 v14 v16 v18 v20 v22 v24 v26 v28 v30 v32 v34 v36 v1793 k0_hw28 => k0_hw28.2.2.2.2.2.2.1
theorem k0_idx440_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v20] : Fin 2 → IVec S16 32) a x).toNat < S264x256.size a := fun v6 v8 v10 v12 v14 v16 v18 v20 v22 v24 v26 v28 v30 v32 v34 v36 v1793 k0_hw28 => k0_hw28.2.2.2.2.2.2.2.1
theorem k0_idx441_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v22] : Fin 2 → IVec S16 32) a x).toNat < S264x256.size a := fun v6 v8 v10 v12 v14 v16 v18 v20 v22 v24 v26 v28 v30 v32 v34 v36 v1793 k0_hw28 => k0_hw28.2.2.2.2.2.2.2.2.1
theorem k0_idx442_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v24] : Fin 2 → IVec S16 32) a x).toNat < S264x256.size a := fun v6 v8 v10 v12 v14 v16 v18 v20 v22 v24 v26 v28 v30 v32 v34 v36 v1793 k0_hw28 => k0_hw28.2.2.2.2.2.2.2.2.2.1
theorem k0_idx443_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v26] : Fin 2 → IVec S16 32) a x).toNat < S264x256.size a := fun v6 v8 v10 v12 v14 v16 v18 v20 v22 v24 v26 v28 v30 v32 v34 v36 v1793 k0_hw28 => k0_hw28.2.2.2.2.2.2.2.2.2.2.1
theorem k0_idx444_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v28] : Fin 2 → IVec S16 32) a x).toNat < S264x256.size a := fun v6 v8 v10 v12 v14 v16 v18 v20 v22 v24 v26 v28 v30 v32 v34 v36 v1793 k0_hw28 => k0_hw28.2.2.2.2.2.2.2.2.2.2.2.1
theorem k0_idx445_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v30] : Fin 2 → IVec S16 32) a x).toNat < S264x256.size a := fun v6 v8 v10 v12 v14 v16 v18 v20 v22 v24 v26 v28 v30 v32 v34 v36 v1793 k0_hw28 => k0_hw28.2.2.2.2.2.2.2.2.2.2.2.2.1
theorem k0_idx446_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v32] : Fin 2 → IVec S16 32) a x).toNat < S264x256.size a := fun v6 v8 v10 v12 v14 v16 v18 v20 v22 v24 v26 v28 v30 v32 v34 v36 v1793 k0_hw28 => k0_hw28.2.2.2.2.2.2.2.2.2.2.2.2.2.1
theorem k0_idx447_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v34] : Fin 2 → IVec S16 32) a x).toNat < S264x256.size a := fun v6 v8 v10 v12 v14 v16 v18 v20 v22 v24 v26 v28 v30 v32 v34 v36 v1793 k0_hw28 => k0_hw28.2.2.2.2.2.2.2.2.2.2.2.2.2.2.1
theorem k0_idx448_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1793 : IVec S16 32) (k0_hw28 : k0_chk28 v6 v8 v10 v12 v14 v16 v18 v20 v22 v24 v26 v28 v30 v32 v34 v36 v1793), ∀ a x, ((![v1793, v36] : Fin 2 → IVec S16 32) a x).toNat < S264x256.size a := fun v6 v8 v10 v12 v14 v16 v18 v20 v22 v24 v26 v28 v30 v32 v34 v36 v1793 k0_hw28 => k0_hw28.2.2.2.2.2.2.2.2.2.2.2.2.2.2.2

def k0_chk29 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) : Prop :=
  (∀ a x, ((![v1859, v6] : Fin 2 → IVec S16 32) a x).toNat < S264x256.size a) ∧
  (∀ a x, ((![v1859, v8] : Fin 2 → IVec S16 32) a x).toNat < S264x256.size a) ∧
  (∀ a x, ((![v1859, v10] : Fin 2 → IVec S16 32) a x).toNat < S264x256.size a) ∧
  (∀ a x, ((![v1859, v12] : Fin 2 → IVec S16 32) a x).toNat < S264x256.size a) ∧
  (∀ a x, ((![v1859, v14] : Fin 2 → IVec S16 32) a x).toNat < S264x256.size a) ∧
  (∀ a x, ((![v1859, v16] : Fin 2 → IVec S16 32) a x).toNat < S264x256.size a) ∧
  (∀ a x, ((![v1859, v18] : Fin 2 → IVec S16 32) a x).toNat < S264x256.size a) ∧
  (∀ a x, ((![v1859, v20] : Fin 2 → IVec S16 32) a x).toNat < S264x256.size a) ∧
  (∀ a x, ((![v1859, v22] : Fin 2 → IVec S16 32) a x).toNat < S264x256.size a) ∧
  (∀ a x, ((![v1859, v24] : Fin 2 → IVec S16 32) a x).toNat < S264x256.size a) ∧
  (∀ a x, ((![v1859, v26] : Fin 2 → IVec S16 32) a x).toNat < S264x256.size a) ∧
  (∀ a x, ((![v1859, v28] : Fin 2 → IVec S16 32) a x).toNat < S264x256.size a) ∧
  (∀ a x, ((![v1859, v30] : Fin 2 → IVec S16 32) a x).toNat < S264x256.size a) ∧
  (∀ a x, ((![v1859, v32] : Fin 2 → IVec S16 32) a x).toNat < S264x256.size a) ∧
  (∀ a x, ((![v1859, v34] : Fin 2 → IVec S16 32) a x).toNat < S264x256.size a) ∧
  (∀ a x, ((![v1859, v36] : Fin 2 → IVec S16 32) a x).toNat < S264x256.size a)
theorem k0_idx449_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v6] : Fin 2 → IVec S16 32) a x).toNat < S264x256.size a := fun v6 v8 v10 v12 v14 v16 v18 v20 v22 v24 v26 v28 v30 v32 v34 v36 v1859 k0_hw29 => k0_hw29.1
theorem k0_idx450_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v8] : Fin 2 → IVec S16 32) a x).toNat < S264x256.size a := fun v6 v8 v10 v12 v14 v16 v18 v20 v22 v24 v26 v28 v30 v32 v34 v36 v1859 k0_hw29 => k0_hw29.2.1
theorem k0_idx451_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v10] : Fin 2 → IVec S16 32) a x).toNat < S264x256.size a := fun v6 v8 v10 v12 v14 v16 v18 v20 v22 v24 v26 v28 v30 v32 v34 v36 v1859 k0_hw29 => k0_hw29.2.2.1
theorem k0_idx452_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v12] : Fin 2 → IVec S16 32) a x).toNat < S264x256.size a := fun v6 v8 v10 v12 v14 v16 v18 v20 v22 v24 v26 v28 v30 v32 v34 v36 v1859 k0_hw29 => k0_hw29.2.2.2.1
theorem k0_idx453_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v14] : Fin 2 → IVec S16 32) a x).toNat < S264x256.size a := fun v6 v8 v10 v12 v14 v16 v18 v20 v22 v24 v26 v28 v30 v32 v34 v36 v1859 k0_hw29 => k0_hw29.2.2.2.2.1
theorem k0_idx454_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v16] : Fin 2 → IVec S16 32) a x).toNat < S264x256.size a := fun v6 v8 v10 v12 v14 v16 v18 v20 v22 v24 v26 v28 v30 v32 v34 v36 v1859 k0_hw29 => k0_hw29.2.2.2.2.2.1
theorem k0_idx455_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v18] : Fin 2 → IVec S16 32) a x).toNat < S264x256.size a := fun v6 v8 v10 v12 v14 v16 v18 v20 v22 v24 v26 v28 v30 v32 v34 v36 v1859 k0_hw29 => k0_hw29.2.2.2.2.2.2.1
theorem k0_idx456_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v20] : Fin 2 → IVec S16 32) a x).toNat < S264x256.size a := fun v6 v8 v10 v12 v14 v16 v18 v20 v22 v24 v26 v28 v30 v32 v34 v36 v1859 k0_hw29 => k0_hw29.2.2.2.2.2.2.2.1
theorem k0_idx457_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v22] : Fin 2 → IVec S16 32) a x).toNat < S264x256.size a := fun v6 v8 v10 v12 v14 v16 v18 v20 v22 v24 v26 v28 v30 v32 v34 v36 v1859 k0_hw29 => k0_hw29.2.2.2.2.2.2.2.2.1
theorem k0_idx458_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v24] : Fin 2 → IVec S16 32) a x).toNat < S264x256.size a := fun v6 v8 v10 v12 v14 v16 v18 v20 v22 v24 v26 v28 v30 v32 v34 v36 v1859 k0_hw29 => k0_hw29.2.2.2.2.2.2.2.2.2.1
theorem k0_idx459_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v26] : Fin 2 → IVec S16 32) a x).toNat < S264x256.size a := fun v6 v8 v10 v12 v14 v16 v18 v20 v22 v24 v26 v28 v30 v32 v34 v36 v1859 k0_hw29 => k0_hw29.2.2.2.2.2.2.2.2.2.2.1
theorem k0_idx460_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v28] : Fin 2 → IVec S16 32) a x).toNat < S264x256.size a := fun v6 v8 v10 v12 v14 v16 v18 v20 v22 v24 v26 v28 v30 v32 v34 v36 v1859 k0_hw29 => k0_hw29.2.2.2.2.2.2.2.2.2.2.2.1
theorem k0_idx461_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v30] : Fin 2 → IVec S16 32) a x).toNat < S264x256.size a := fun v6 v8 v10 v12 v14 v16 v18 v20 v22 v24 v26 v28 v30 v32 v34 v36 v1859 k0_hw29 => k0_hw29.2.2.2.2.2.2.2.2.2.2.2.2.1
theorem k0_idx462_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v32] : Fin 2 → IVec S16 32) a x).toNat < S264x256.size a := fun v6 v8 v10 v12 v14 v16 v18 v20 v22 v24 v26 v28 v30 v32 v34 v36 v1859 k0_hw29 => k0_hw29.2.2.2.2.2.2.2.2.2.2.2.2.2.1
theorem k0_idx463_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v34] : Fin 2 → IVec S16 32) a x).toNat < S264x256.size a := fun v6 v8 v10 v12 v14 v16 v18 v20 v22 v24 v26 v28 v30 v32 v34 v36 v1859 k0_hw29 => k0_hw29.2.2.2.2.2.2.2.2.2.2.2.2.2.2.1
theorem k0_idx464_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1859 : IVec S16 32) (k0_hw29 : k0_chk29 v6 v8 v10 v12 v14 v16 v18 v20 v22 v24 v26 v28 v30 v32 v34 v36 v1859), ∀ a x, ((![v1859, v36] : Fin 2 → IVec S16 32) a x).toNat < S264x256.size a := fun v6 v8 v10 v12 v14 v16 v18 v20 v22 v24 v26 v28 v30 v32 v34 v36 v1859 k0_hw29 => k0_hw29.2.2.2.2.2.2.2.2.2.2.2.2.2.2.2

def k0_chk30 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) : Prop :=
  (∀ a x, ((![v1925, v6] : Fin 2 → IVec S16 32) a x).toNat < S264x256.size a) ∧
  (∀ a x, ((![v1925, v8] : Fin 2 → IVec S16 32) a x).toNat < S264x256.size a) ∧
  (∀ a x, ((![v1925, v10] : Fin 2 → IVec S16 32) a x).toNat < S264x256.size a) ∧
  (∀ a x, ((![v1925, v12] : Fin 2 → IVec S16 32) a x).toNat < S264x256.size a) ∧
  (∀ a x, ((![v1925, v14] : Fin 2 → IVec S16 32) a x).toNat < S264x256.size a) ∧
  (∀ a x, ((![v1925, v16] : Fin 2 → IVec S16 32) a x).toNat < S264x256.size a) ∧
  (∀ a x, ((![v1925, v18] : Fin 2 → IVec S16 32) a x).toNat < S264x256.size a) ∧
  (∀ a x, ((![v1925, v20] : Fin 2 → IVec S16 32) a x).toNat < S264x256.size a) ∧
  (∀ a x, ((![v1925, v22] : Fin 2 → IVec S16 32) a x).toNat < S264x256.size a) ∧
  (∀ a x, ((![v1925, v24] : Fin 2 → IVec S16 32) a x).toNat < S264x256.size a) ∧
  (∀ a x, ((![v1925, v26] : Fin 2 → IVec S16 32) a x).toNat < S264x256.size a) ∧
  (∀ a x, ((![v1925, v28] : Fin 2 → IVec S16 32) a x).toNat < S264x256.size a) ∧
  (∀ a x, ((![v1925, v30] : Fin 2 → IVec S16 32) a x).toNat < S264x256.size a) ∧
  (∀ a x, ((![v1925, v32] : Fin 2 → IVec S16 32) a x).toNat < S264x256.size a) ∧
  (∀ a x, ((![v1925, v34] : Fin 2 → IVec S16 32) a x).toNat < S264x256.size a) ∧
  (∀ a x, ((![v1925, v36] : Fin 2 → IVec S16 32) a x).toNat < S264x256.size a)
theorem k0_idx465_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v6] : Fin 2 → IVec S16 32) a x).toNat < S264x256.size a := fun v6 v8 v10 v12 v14 v16 v18 v20 v22 v24 v26 v28 v30 v32 v34 v36 v1925 k0_hw30 => k0_hw30.1
theorem k0_idx466_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v8] : Fin 2 → IVec S16 32) a x).toNat < S264x256.size a := fun v6 v8 v10 v12 v14 v16 v18 v20 v22 v24 v26 v28 v30 v32 v34 v36 v1925 k0_hw30 => k0_hw30.2.1
theorem k0_idx467_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v10] : Fin 2 → IVec S16 32) a x).toNat < S264x256.size a := fun v6 v8 v10 v12 v14 v16 v18 v20 v22 v24 v26 v28 v30 v32 v34 v36 v1925 k0_hw30 => k0_hw30.2.2.1
theorem k0_idx468_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v12] : Fin 2 → IVec S16 32) a x).toNat < S264x256.size a := fun v6 v8 v10 v12 v14 v16 v18 v20 v22 v24 v26 v28 v30 v32 v34 v36 v1925 k0_hw30 => k0_hw30.2.2.2.1
theorem k0_idx469_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v14] : Fin 2 → IVec S16 32) a x).toNat < S264x256.size a := fun v6 v8 v10 v12 v14 v16 v18 v20 v22 v24 v26 v28 v30 v32 v34 v36 v1925 k0_hw30 => k0_hw30.2.2.2.2.1
theorem k0_idx470_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v16] : Fin 2 → IVec S16 32) a x).toNat < S264x256.size a := fun v6 v8 v10 v12 v14 v16 v18 v20 v22 v24 v26 v28 v30 v32 v34 v36 v1925 k0_hw30 => k0_hw30.2.2.2.2.2.1
theorem k0_idx471_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v18] : Fin 2 → IVec S16 32) a x).toNat < S264x256.size a := fun v6 v8 v10 v12 v14 v16 v18 v20 v22 v24 v26 v28 v30 v32 v34 v36 v1925 k0_hw30 => k0_hw30.2.2.2.2.2.2.1
theorem k0_idx472_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v20] : Fin 2 → IVec S16 32) a x).toNat < S264x256.size a := fun v6 v8 v10 v12 v14 v16 v18 v20 v22 v24 v26 v28 v30 v32 v34 v36 v1925 k0_hw30 => k0_hw30.2.2.2.2.2.2.2.1
theorem k0_idx473_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v22] : Fin 2 → IVec S16 32) a x).toNat < S264x256.size a := fun v6 v8 v10 v12 v14 v16 v18 v20 v22 v24 v26 v28 v30 v32 v34 v36 v1925 k0_hw30 => k0_hw30.2.2.2.2.2.2.2.2.1
theorem k0_idx474_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v24] : Fin 2 → IVec S16 32) a x).toNat < S264x256.size a := fun v6 v8 v10 v12 v14 v16 v18 v20 v22 v24 v26 v28 v30 v32 v34 v36 v1925 k0_hw30 => k0_hw30.2.2.2.2.2.2.2.2.2.1
theorem k0_idx475_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v26] : Fin 2 → IVec S16 32) a x).toNat < S264x256.size a := fun v6 v8 v10 v12 v14 v16 v18 v20 v22 v24 v26 v28 v30 v32 v34 v36 v1925 k0_hw30 => k0_hw30.2.2.2.2.2.2.2.2.2.2.1
theorem k0_idx476_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v28] : Fin 2 → IVec S16 32) a x).toNat < S264x256.size a := fun v6 v8 v10 v12 v14 v16 v18 v20 v22 v24 v26 v28 v30 v32 v34 v36 v1925 k0_hw30 => k0_hw30.2.2.2.2.2.2.2.2.2.2.2.1
theorem k0_idx477_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v30] : Fin 2 → IVec S16 32) a x).toNat < S264x256.size a := fun v6 v8 v10 v12 v14 v16 v18 v20 v22 v24 v26 v28 v30 v32 v34 v36 v1925 k0_hw30 => k0_hw30.2.2.2.2.2.2.2.2.2.2.2.2.1
theorem k0_idx478_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v32] : Fin 2 → IVec S16 32) a x).toNat < S264x256.size a := fun v6 v8 v10 v12 v14 v16 v18 v20 v22 v24 v26 v28 v30 v32 v34 v36 v1925 k0_hw30 => k0_hw30.2.2.2.2.2.2.2.2.2.2.2.2.2.1
theorem k0_idx479_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v34] : Fin 2 → IVec S16 32) a x).toNat < S264x256.size a := fun v6 v8 v10 v12 v14 v16 v18 v20 v22 v24 v26 v28 v30 v32 v34 v36 v1925 k0_hw30 => k0_hw30.2.2.2.2.2.2.2.2.2.2.2.2.2.2.1
theorem k0_idx480_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1925 : IVec S16 32) (k0_hw30 : k0_chk30 v6 v8 v10 v12 v14 v16 v18 v20 v22 v24 v26 v28 v30 v32 v34 v36 v1925), ∀ a x, ((![v1925, v36] : Fin 2 → IVec S16 32) a x).toNat < S264x256.size a := fun v6 v8 v10 v12 v14 v16 v18 v20 v22 v24 v26 v28 v30 v32 v34 v36 v1925 k0_hw30 => k0_hw30.2.2.2.2.2.2.2.2.2.2.2.2.2.2.2

def k0_chk31 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) : Prop :=
  (∀ a x, ((![v1991, v6] : Fin 2 → IVec S16 32) a x).toNat < S264x256.size a) ∧
  (∀ a x, ((![v1991, v8] : Fin 2 → IVec S16 32) a x).toNat < S264x256.size a) ∧
  (∀ a x, ((![v1991, v10] : Fin 2 → IVec S16 32) a x).toNat < S264x256.size a) ∧
  (∀ a x, ((![v1991, v12] : Fin 2 → IVec S16 32) a x).toNat < S264x256.size a) ∧
  (∀ a x, ((![v1991, v14] : Fin 2 → IVec S16 32) a x).toNat < S264x256.size a) ∧
  (∀ a x, ((![v1991, v16] : Fin 2 → IVec S16 32) a x).toNat < S264x256.size a) ∧
  (∀ a x, ((![v1991, v18] : Fin 2 → IVec S16 32) a x).toNat < S264x256.size a) ∧
  (∀ a x, ((![v1991, v20] : Fin 2 → IVec S16 32) a x).toNat < S264x256.size a) ∧
  (∀ a x, ((![v1991, v22] : Fin 2 → IVec S16 32) a x).toNat < S264x256.size a) ∧
  (∀ a x, ((![v1991, v24] : Fin 2 → IVec S16 32) a x).toNat < S264x256.size a) ∧
  (∀ a x, ((![v1991, v26] : Fin 2 → IVec S16 32) a x).toNat < S264x256.size a) ∧
  (∀ a x, ((![v1991, v28] : Fin 2 → IVec S16 32) a x).toNat < S264x256.size a) ∧
  (∀ a x, ((![v1991, v30] : Fin 2 → IVec S16 32) a x).toNat < S264x256.size a) ∧
  (∀ a x, ((![v1991, v32] : Fin 2 → IVec S16 32) a x).toNat < S264x256.size a) ∧
  (∀ a x, ((![v1991, v34] : Fin 2 → IVec S16 32) a x).toNat < S264x256.size a) ∧
  (∀ a x, ((![v1991, v36] : Fin 2 → IVec S16 32) a x).toNat < S264x256.size a)
theorem k0_idx481_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v6] : Fin 2 → IVec S16 32) a x).toNat < S264x256.size a := fun v6 v8 v10 v12 v14 v16 v18 v20 v22 v24 v26 v28 v30 v32 v34 v36 v1991 k0_hw31 => k0_hw31.1
theorem k0_idx482_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v8] : Fin 2 → IVec S16 32) a x).toNat < S264x256.size a := fun v6 v8 v10 v12 v14 v16 v18 v20 v22 v24 v26 v28 v30 v32 v34 v36 v1991 k0_hw31 => k0_hw31.2.1
theorem k0_idx483_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v10] : Fin 2 → IVec S16 32) a x).toNat < S264x256.size a := fun v6 v8 v10 v12 v14 v16 v18 v20 v22 v24 v26 v28 v30 v32 v34 v36 v1991 k0_hw31 => k0_hw31.2.2.1
theorem k0_idx484_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v12] : Fin 2 → IVec S16 32) a x).toNat < S264x256.size a := fun v6 v8 v10 v12 v14 v16 v18 v20 v22 v24 v26 v28 v30 v32 v34 v36 v1991 k0_hw31 => k0_hw31.2.2.2.1
theorem k0_idx485_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v14] : Fin 2 → IVec S16 32) a x).toNat < S264x256.size a := fun v6 v8 v10 v12 v14 v16 v18 v20 v22 v24 v26 v28 v30 v32 v34 v36 v1991 k0_hw31 => k0_hw31.2.2.2.2.1
theorem k0_idx486_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v16] : Fin 2 → IVec S16 32) a x).toNat < S264x256.size a := fun v6 v8 v10 v12 v14 v16 v18 v20 v22 v24 v26 v28 v30 v32 v34 v36 v1991 k0_hw31 => k0_hw31.2.2.2.2.2.1
theorem k0_idx487_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v18] : Fin 2 → IVec S16 32) a x).toNat < S264x256.size a := fun v6 v8 v10 v12 v14 v16 v18 v20 v22 v24 v26 v28 v30 v32 v34 v36 v1991 k0_hw31 => k0_hw31.2.2.2.2.2.2.1
theorem k0_idx488_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v20] : Fin 2 → IVec S16 32) a x).toNat < S264x256.size a := fun v6 v8 v10 v12 v14 v16 v18 v20 v22 v24 v26 v28 v30 v32 v34 v36 v1991 k0_hw31 => k0_hw31.2.2.2.2.2.2.2.1
theorem k0_idx489_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v22] : Fin 2 → IVec S16 32) a x).toNat < S264x256.size a := fun v6 v8 v10 v12 v14 v16 v18 v20 v22 v24 v26 v28 v30 v32 v34 v36 v1991 k0_hw31 => k0_hw31.2.2.2.2.2.2.2.2.1
theorem k0_idx490_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v24] : Fin 2 → IVec S16 32) a x).toNat < S264x256.size a := fun v6 v8 v10 v12 v14 v16 v18 v20 v22 v24 v26 v28 v30 v32 v34 v36 v1991 k0_hw31 => k0_hw31.2.2.2.2.2.2.2.2.2.1
theorem k0_idx491_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v26] : Fin 2 → IVec S16 32) a x).toNat < S264x256.size a := fun v6 v8 v10 v12 v14 v16 v18 v20 v22 v24 v26 v28 v30 v32 v34 v36 v1991 k0_hw31 => k0_hw31.2.2.2.2.2.2.2.2.2.2.1
theorem k0_idx492_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v28] : Fin 2 → IVec S16 32) a x).toNat < S264x256.size a := fun v6 v8 v10 v12 v14 v16 v18 v20 v22 v24 v26 v28 v30 v32 v34 v36 v1991 k0_hw31 => k0_hw31.2.2.2.2.2.2.2.2.2.2.2.1
theorem k0_idx493_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v30] : Fin 2 → IVec S16 32) a x).toNat < S264x256.size a := fun v6 v8 v10 v12 v14 v16 v18 v20 v22 v24 v26 v28 v30 v32 v34 v36 v1991 k0_hw31 => k0_hw31.2.2.2.2.2.2.2.2.2.2.2.2.1
theorem k0_idx494_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v32] : Fin 2 → IVec S16 32) a x).toNat < S264x256.size a := fun v6 v8 v10 v12 v14 v16 v18 v20 v22 v24 v26 v28 v30 v32 v34 v36 v1991 k0_hw31 => k0_hw31.2.2.2.2.2.2.2.2.2.2.2.2.2.1
theorem k0_idx495_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v34] : Fin 2 → IVec S16 32) a x).toNat < S264x256.size a := fun v6 v8 v10 v12 v14 v16 v18 v20 v22 v24 v26 v28 v30 v32 v34 v36 v1991 k0_hw31 => k0_hw31.2.2.2.2.2.2.2.2.2.2.2.2.2.2.1
theorem k0_idx496_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v1991 : IVec S16 32) (k0_hw31 : k0_chk31 v6 v8 v10 v12 v14 v16 v18 v20 v22 v24 v26 v28 v30 v32 v34 v36 v1991), ∀ a x, ((![v1991, v36] : Fin 2 → IVec S16 32) a x).toNat < S264x256.size a := fun v6 v8 v10 v12 v14 v16 v18 v20 v22 v24 v26 v28 v30 v32 v34 v36 v1991 k0_hw31 => k0_hw31.2.2.2.2.2.2.2.2.2.2.2.2.2.2.2

def k0_chk32 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) : Prop :=
  (∀ a x, ((![v2057, v6] : Fin 2 → IVec S16 32) a x).toNat < S264x256.size a) ∧
  (∀ a x, ((![v2057, v8] : Fin 2 → IVec S16 32) a x).toNat < S264x256.size a) ∧
  (∀ a x, ((![v2057, v10] : Fin 2 → IVec S16 32) a x).toNat < S264x256.size a) ∧
  (∀ a x, ((![v2057, v12] : Fin 2 → IVec S16 32) a x).toNat < S264x256.size a) ∧
  (∀ a x, ((![v2057, v14] : Fin 2 → IVec S16 32) a x).toNat < S264x256.size a) ∧
  (∀ a x, ((![v2057, v16] : Fin 2 → IVec S16 32) a x).toNat < S264x256.size a) ∧
  (∀ a x, ((![v2057, v18] : Fin 2 → IVec S16 32) a x).toNat < S264x256.size a) ∧
  (∀ a x, ((![v2057, v20] : Fin 2 → IVec S16 32) a x).toNat < S264x256.size a) ∧
  (∀ a x, ((![v2057, v22] : Fin 2 → IVec S16 32) a x).toNat < S264x256.size a) ∧
  (∀ a x, ((![v2057, v24] : Fin 2 → IVec S16 32) a x).toNat < S264x256.size a) ∧
  (∀ a x, ((![v2057, v26] : Fin 2 → IVec S16 32) a x).toNat < S264x256.size a) ∧
  (∀ a x, ((![v2057, v28] : Fin 2 → IVec S16 32) a x).toNat < S264x256.size a) ∧
  (∀ a x, ((![v2057, v30] : Fin 2 → IVec S16 32) a x).toNat < S264x256.size a) ∧
  (∀ a x, ((![v2057, v32] : Fin 2 → IVec S16 32) a x).toNat < S264x256.size a) ∧
  (∀ a x, ((![v2057, v34] : Fin 2 → IVec S16 32) a x).toNat < S264x256.size a) ∧
  (∀ a x, ((![v2057, v36] : Fin 2 → IVec S16 32) a x).toNat < S264x256.size a)
theorem k0_idx497_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v6] : Fin 2 → IVec S16 32) a x).toNat < S264x256.size a := fun v6 v8 v10 v12 v14 v16 v18 v20 v22 v24 v26 v28 v30 v32 v34 v36 v2057 k0_hw32 => k0_hw32.1
theorem k0_idx498_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v8] : Fin 2 → IVec S16 32) a x).toNat < S264x256.size a := fun v6 v8 v10 v12 v14 v16 v18 v20 v22 v24 v26 v28 v30 v32 v34 v36 v2057 k0_hw32 => k0_hw32.2.1
theorem k0_idx499_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v10] : Fin 2 → IVec S16 32) a x).toNat < S264x256.size a := fun v6 v8 v10 v12 v14 v16 v18 v20 v22 v24 v26 v28 v30 v32 v34 v36 v2057 k0_hw32 => k0_hw32.2.2.1
theorem k0_idx500_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v12] : Fin 2 → IVec S16 32) a x).toNat < S264x256.size a := fun v6 v8 v10 v12 v14 v16 v18 v20 v22 v24 v26 v28 v30 v32 v34 v36 v2057 k0_hw32 => k0_hw32.2.2.2.1
theorem k0_idx501_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v14] : Fin 2 → IVec S16 32) a x).toNat < S264x256.size a := fun v6 v8 v10 v12 v14 v16 v18 v20 v22 v24 v26 v28 v30 v32 v34 v36 v2057 k0_hw32 => k0_hw32.2.2.2.2.1
theorem k0_idx502_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v16] : Fin 2 → IVec S16 32) a x).toNat < S264x256.size a := fun v6 v8 v10 v12 v14 v16 v18 v20 v22 v24 v26 v28 v30 v32 v34 v36 v2057 k0_hw32 => k0_hw32.2.2.2.2.2.1
theorem k0_idx503_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v18] : Fin 2 → IVec S16 32) a x).toNat < S264x256.size a := fun v6 v8 v10 v12 v14 v16 v18 v20 v22 v24 v26 v28 v30 v32 v34 v36 v2057 k0_hw32 => k0_hw32.2.2.2.2.2.2.1
theorem k0_idx504_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v20] : Fin 2 → IVec S16 32) a x).toNat < S264x256.size a := fun v6 v8 v10 v12 v14 v16 v18 v20 v22 v24 v26 v28 v30 v32 v34 v36 v2057 k0_hw32 => k0_hw32.2.2.2.2.2.2.2.1
theorem k0_idx505_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v22] : Fin 2 → IVec S16 32) a x).toNat < S264x256.size a := fun v6 v8 v10 v12 v14 v16 v18 v20 v22 v24 v26 v28 v30 v32 v34 v36 v2057 k0_hw32 => k0_hw32.2.2.2.2.2.2.2.2.1
theorem k0_idx506_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v24] : Fin 2 → IVec S16 32) a x).toNat < S264x256.size a := fun v6 v8 v10 v12 v14 v16 v18 v20 v22 v24 v26 v28 v30 v32 v34 v36 v2057 k0_hw32 => k0_hw32.2.2.2.2.2.2.2.2.2.1
theorem k0_idx507_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v26] : Fin 2 → IVec S16 32) a x).toNat < S264x256.size a := fun v6 v8 v10 v12 v14 v16 v18 v20 v22 v24 v26 v28 v30 v32 v34 v36 v2057 k0_hw32 => k0_hw32.2.2.2.2.2.2.2.2.2.2.1
theorem k0_idx508_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v28] : Fin 2 → IVec S16 32) a x).toNat < S264x256.size a := fun v6 v8 v10 v12 v14 v16 v18 v20 v22 v24 v26 v28 v30 v32 v34 v36 v2057 k0_hw32 => k0_hw32.2.2.2.2.2.2.2.2.2.2.2.1
theorem k0_idx509_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v30] : Fin 2 → IVec S16 32) a x).toNat < S264x256.size a := fun v6 v8 v10 v12 v14 v16 v18 v20 v22 v24 v26 v28 v30 v32 v34 v36 v2057 k0_hw32 => k0_hw32.2.2.2.2.2.2.2.2.2.2.2.2.1
theorem k0_idx510_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v32] : Fin 2 → IVec S16 32) a x).toNat < S264x256.size a := fun v6 v8 v10 v12 v14 v16 v18 v20 v22 v24 v26 v28 v30 v32 v34 v36 v2057 k0_hw32 => k0_hw32.2.2.2.2.2.2.2.2.2.2.2.2.2.1
theorem k0_idx511_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v34] : Fin 2 → IVec S16 32) a x).toNat < S264x256.size a := fun v6 v8 v10 v12 v14 v16 v18 v20 v22 v24 v26 v28 v30 v32 v34 v36 v2057 k0_hw32 => k0_hw32.2.2.2.2.2.2.2.2.2.2.2.2.2.2.1
theorem k0_idx512_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2057 : IVec S16 32) (k0_hw32 : k0_chk32 v6 v8 v10 v12 v14 v16 v18 v20 v22 v24 v26 v28 v30 v32 v34 v36 v2057), ∀ a x, ((![v2057, v36] : Fin 2 → IVec S16 32) a x).toNat < S264x256.size a := fun v6 v8 v10 v12 v14 v16 v18 v20 v22 v24 v26 v28 v30 v32 v34 v36 v2057 k0_hw32 => k0_hw32.2.2.2.2.2.2.2.2.2.2.2.2.2.2.2
def k0_off21 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_1037 : BitVec 32 := 32#32
  let c2_i32_19 : BitVec 32 := 2#32
  let c0_i32_9 : BitVec 32 := 0#32
  let c1_i32_10 : BitVec 32 := 1#32
  let arg14 : BitVec 32 := Scf.iv c0_i32_9 c1_i32_10 k0_t2
  let v56 : BitVec 32 := Scalar.muli c2_i32_19 arg14
  let c1_i32_1034 : BitVec 32 := 1#32
  let v2189 : BitVec 32 := Scalar.addi v56 c1_i32_1034
  let c2_i32_1035 : BitVec 32 := 2#32
  let v2190 : BitVec 32 := Scalar.addi v2189 c2_i32_1035
  let c1_i32_1036 : BitVec 32 := 1#32
  let v2191 : BitVec 32 := Scalar.subi v2190 c1_i32_1036
  let v2192 : BitVec 32 := Scalar.muli c32_i32_1037 v2191
  let v2193 : BitVec 32 := Scalar.addi v1 v2192
  let c3125_i32_1038 : BitVec 32 := 3125#32
  let v2194 : BitVec 32 := Scalar.minsi v2193 c3125_i32_1038
  let c0_i32_1041 : BitVec 32 := 0#32
  ![v2194.toNat, 0]
def k0_off22 (i : grid0.Coords) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_1037 : BitVec 32 := 32#32
  let c2_i32_19 : BitVec 32 := 2#32
  let c0_i32_9 : BitVec 32 := 0#32
  let c1_i32_10 : BitVec 32 := 1#32
  let arg14 : BitVec 32 := Scf.iv c0_i32_9 c1_i32_10 k0_t2
  let v56 : BitVec 32 := Scalar.muli c2_i32_19 arg14
  let c1_i32_1034 : BitVec 32 := 1#32
  let v2189 : BitVec 32 := Scalar.addi v56 c1_i32_1034
  let c2_i32_1035 : BitVec 32 := 2#32
  let v2190 : BitVec 32 := Scalar.addi v2189 c2_i32_1035
  let c1_i32_1036 : BitVec 32 := 1#32
  let v2191 : BitVec 32 := Scalar.subi v2190 c1_i32_1036
  let v2192 : BitVec 32 := Scalar.muli c32_i32_1037 v2191
  let v2193 : BitVec 32 := Scalar.addi v1 v2192
  let c3125_i32_1038 : BitVec 32 := 3125#32
  let v2194 : BitVec 32 := Scalar.minsi v2193 c3125_i32_1038
  let c32_i32_1039 : BitVec 32 := 32#32
  let v2195 : BitVec 32 := Scalar.muli v2194 c32_i32_1039
  let c99968_i32_1040 : BitVec 32 := 99968#32
  let v2196 : BitVec 32 := Scalar.minsi v2195 c99968_i32_1040
  let c0_i32_1043 : BitVec 32 := 0#32
  ![v2196.toNat, 0]

def k0_chk33 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) : Prop :=
  (∀ a x, ((![v2123, v6] : Fin 2 → IVec S16 32) a x).toNat < S264x256.size a) ∧
  (∀ a x, ((![v2123, v8] : Fin 2 → IVec S16 32) a x).toNat < S264x256.size a) ∧
  (∀ a x, ((![v2123, v10] : Fin 2 → IVec S16 32) a x).toNat < S264x256.size a) ∧
  (∀ a x, ((![v2123, v12] : Fin 2 → IVec S16 32) a x).toNat < S264x256.size a) ∧
  (∀ a x, ((![v2123, v14] : Fin 2 → IVec S16 32) a x).toNat < S264x256.size a) ∧
  (∀ a x, ((![v2123, v16] : Fin 2 → IVec S16 32) a x).toNat < S264x256.size a) ∧
  (∀ a x, ((![v2123, v18] : Fin 2 → IVec S16 32) a x).toNat < S264x256.size a) ∧
  (∀ a x, ((![v2123, v20] : Fin 2 → IVec S16 32) a x).toNat < S264x256.size a) ∧
  (∀ a x, ((![v2123, v22] : Fin 2 → IVec S16 32) a x).toNat < S264x256.size a) ∧
  (∀ a x, ((![v2123, v24] : Fin 2 → IVec S16 32) a x).toNat < S264x256.size a) ∧
  (∀ a x, ((![v2123, v26] : Fin 2 → IVec S16 32) a x).toNat < S264x256.size a) ∧
  (∀ a x, ((![v2123, v28] : Fin 2 → IVec S16 32) a x).toNat < S264x256.size a) ∧
  (∀ a x, ((![v2123, v30] : Fin 2 → IVec S16 32) a x).toNat < S264x256.size a) ∧
  (∀ a x, ((![v2123, v32] : Fin 2 → IVec S16 32) a x).toNat < S264x256.size a) ∧
  (∀ a x, ((![v2123, v34] : Fin 2 → IVec S16 32) a x).toNat < S264x256.size a) ∧
  (∀ a x, ((![v2123, v36] : Fin 2 → IVec S16 32) a x).toNat < S264x256.size a)
theorem k0_idx513_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v6] : Fin 2 → IVec S16 32) a x).toNat < S264x256.size a := fun v6 v8 v10 v12 v14 v16 v18 v20 v22 v24 v26 v28 v30 v32 v34 v36 v2123 k0_hw33 => k0_hw33.1
theorem k0_idx514_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v8] : Fin 2 → IVec S16 32) a x).toNat < S264x256.size a := fun v6 v8 v10 v12 v14 v16 v18 v20 v22 v24 v26 v28 v30 v32 v34 v36 v2123 k0_hw33 => k0_hw33.2.1
theorem k0_idx515_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v10] : Fin 2 → IVec S16 32) a x).toNat < S264x256.size a := fun v6 v8 v10 v12 v14 v16 v18 v20 v22 v24 v26 v28 v30 v32 v34 v36 v2123 k0_hw33 => k0_hw33.2.2.1
theorem k0_idx516_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v12] : Fin 2 → IVec S16 32) a x).toNat < S264x256.size a := fun v6 v8 v10 v12 v14 v16 v18 v20 v22 v24 v26 v28 v30 v32 v34 v36 v2123 k0_hw33 => k0_hw33.2.2.2.1
theorem k0_idx517_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v14] : Fin 2 → IVec S16 32) a x).toNat < S264x256.size a := fun v6 v8 v10 v12 v14 v16 v18 v20 v22 v24 v26 v28 v30 v32 v34 v36 v2123 k0_hw33 => k0_hw33.2.2.2.2.1
theorem k0_idx518_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v16] : Fin 2 → IVec S16 32) a x).toNat < S264x256.size a := fun v6 v8 v10 v12 v14 v16 v18 v20 v22 v24 v26 v28 v30 v32 v34 v36 v2123 k0_hw33 => k0_hw33.2.2.2.2.2.1
theorem k0_idx519_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v18] : Fin 2 → IVec S16 32) a x).toNat < S264x256.size a := fun v6 v8 v10 v12 v14 v16 v18 v20 v22 v24 v26 v28 v30 v32 v34 v36 v2123 k0_hw33 => k0_hw33.2.2.2.2.2.2.1
theorem k0_idx520_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v20] : Fin 2 → IVec S16 32) a x).toNat < S264x256.size a := fun v6 v8 v10 v12 v14 v16 v18 v20 v22 v24 v26 v28 v30 v32 v34 v36 v2123 k0_hw33 => k0_hw33.2.2.2.2.2.2.2.1
theorem k0_idx521_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v22] : Fin 2 → IVec S16 32) a x).toNat < S264x256.size a := fun v6 v8 v10 v12 v14 v16 v18 v20 v22 v24 v26 v28 v30 v32 v34 v36 v2123 k0_hw33 => k0_hw33.2.2.2.2.2.2.2.2.1
theorem k0_idx522_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v24] : Fin 2 → IVec S16 32) a x).toNat < S264x256.size a := fun v6 v8 v10 v12 v14 v16 v18 v20 v22 v24 v26 v28 v30 v32 v34 v36 v2123 k0_hw33 => k0_hw33.2.2.2.2.2.2.2.2.2.1
theorem k0_idx523_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v26] : Fin 2 → IVec S16 32) a x).toNat < S264x256.size a := fun v6 v8 v10 v12 v14 v16 v18 v20 v22 v24 v26 v28 v30 v32 v34 v36 v2123 k0_hw33 => k0_hw33.2.2.2.2.2.2.2.2.2.2.1
theorem k0_idx524_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v28] : Fin 2 → IVec S16 32) a x).toNat < S264x256.size a := fun v6 v8 v10 v12 v14 v16 v18 v20 v22 v24 v26 v28 v30 v32 v34 v36 v2123 k0_hw33 => k0_hw33.2.2.2.2.2.2.2.2.2.2.2.1
theorem k0_idx525_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v30] : Fin 2 → IVec S16 32) a x).toNat < S264x256.size a := fun v6 v8 v10 v12 v14 v16 v18 v20 v22 v24 v26 v28 v30 v32 v34 v36 v2123 k0_hw33 => k0_hw33.2.2.2.2.2.2.2.2.2.2.2.2.1
theorem k0_idx526_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v32] : Fin 2 → IVec S16 32) a x).toNat < S264x256.size a := fun v6 v8 v10 v12 v14 v16 v18 v20 v22 v24 v26 v28 v30 v32 v34 v36 v2123 k0_hw33 => k0_hw33.2.2.2.2.2.2.2.2.2.2.2.2.2.1
theorem k0_idx527_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v34] : Fin 2 → IVec S16 32) a x).toNat < S264x256.size a := fun v6 v8 v10 v12 v14 v16 v18 v20 v22 v24 v26 v28 v30 v32 v34 v36 v2123 k0_hw33 => k0_hw33.2.2.2.2.2.2.2.2.2.2.2.2.2.2.1
theorem k0_idx528_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2123 : IVec S16 32) (k0_hw33 : k0_chk33 v6 v8 v10 v12 v14 v16 v18 v20 v22 v24 v26 v28 v30 v32 v34 v36 v2123), ∀ a x, ((![v2123, v36] : Fin 2 → IVec S16 32) a x).toNat < S264x256.size a := fun v6 v8 v10 v12 v14 v16 v18 v20 v22 v24 v26 v28 v30 v32 v34 v36 v2123 k0_hw33 => k0_hw33.2.2.2.2.2.2.2.2.2.2.2.2.2.2.2

def k0_chk34 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) : Prop :=
  (∀ a x, ((![v2209, v6] : Fin 2 → IVec S16 32) a x).toNat < S264x256.size a) ∧
  (∀ a x, ((![v2209, v8] : Fin 2 → IVec S16 32) a x).toNat < S264x256.size a) ∧
  (∀ a x, ((![v2209, v10] : Fin 2 → IVec S16 32) a x).toNat < S264x256.size a) ∧
  (∀ a x, ((![v2209, v12] : Fin 2 → IVec S16 32) a x).toNat < S264x256.size a) ∧
  (∀ a x, ((![v2209, v14] : Fin 2 → IVec S16 32) a x).toNat < S264x256.size a) ∧
  (∀ a x, ((![v2209, v16] : Fin 2 → IVec S16 32) a x).toNat < S264x256.size a) ∧
  (∀ a x, ((![v2209, v18] : Fin 2 → IVec S16 32) a x).toNat < S264x256.size a) ∧
  (∀ a x, ((![v2209, v20] : Fin 2 → IVec S16 32) a x).toNat < S264x256.size a) ∧
  (∀ a x, ((![v2209, v22] : Fin 2 → IVec S16 32) a x).toNat < S264x256.size a) ∧
  (∀ a x, ((![v2209, v24] : Fin 2 → IVec S16 32) a x).toNat < S264x256.size a) ∧
  (∀ a x, ((![v2209, v26] : Fin 2 → IVec S16 32) a x).toNat < S264x256.size a) ∧
  (∀ a x, ((![v2209, v28] : Fin 2 → IVec S16 32) a x).toNat < S264x256.size a) ∧
  (∀ a x, ((![v2209, v30] : Fin 2 → IVec S16 32) a x).toNat < S264x256.size a) ∧
  (∀ a x, ((![v2209, v32] : Fin 2 → IVec S16 32) a x).toNat < S264x256.size a) ∧
  (∀ a x, ((![v2209, v34] : Fin 2 → IVec S16 32) a x).toNat < S264x256.size a) ∧
  (∀ a x, ((![v2209, v36] : Fin 2 → IVec S16 32) a x).toNat < S264x256.size a)
theorem k0_idx529_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v6] : Fin 2 → IVec S16 32) a x).toNat < S264x256.size a := fun v6 v8 v10 v12 v14 v16 v18 v20 v22 v24 v26 v28 v30 v32 v34 v36 v2209 k0_hw34 => k0_hw34.1
theorem k0_idx530_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v8] : Fin 2 → IVec S16 32) a x).toNat < S264x256.size a := fun v6 v8 v10 v12 v14 v16 v18 v20 v22 v24 v26 v28 v30 v32 v34 v36 v2209 k0_hw34 => k0_hw34.2.1
theorem k0_idx531_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v10] : Fin 2 → IVec S16 32) a x).toNat < S264x256.size a := fun v6 v8 v10 v12 v14 v16 v18 v20 v22 v24 v26 v28 v30 v32 v34 v36 v2209 k0_hw34 => k0_hw34.2.2.1
theorem k0_idx532_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v12] : Fin 2 → IVec S16 32) a x).toNat < S264x256.size a := fun v6 v8 v10 v12 v14 v16 v18 v20 v22 v24 v26 v28 v30 v32 v34 v36 v2209 k0_hw34 => k0_hw34.2.2.2.1
theorem k0_idx533_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v14] : Fin 2 → IVec S16 32) a x).toNat < S264x256.size a := fun v6 v8 v10 v12 v14 v16 v18 v20 v22 v24 v26 v28 v30 v32 v34 v36 v2209 k0_hw34 => k0_hw34.2.2.2.2.1
theorem k0_idx534_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v16] : Fin 2 → IVec S16 32) a x).toNat < S264x256.size a := fun v6 v8 v10 v12 v14 v16 v18 v20 v22 v24 v26 v28 v30 v32 v34 v36 v2209 k0_hw34 => k0_hw34.2.2.2.2.2.1
theorem k0_idx535_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v18] : Fin 2 → IVec S16 32) a x).toNat < S264x256.size a := fun v6 v8 v10 v12 v14 v16 v18 v20 v22 v24 v26 v28 v30 v32 v34 v36 v2209 k0_hw34 => k0_hw34.2.2.2.2.2.2.1
theorem k0_idx536_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v20] : Fin 2 → IVec S16 32) a x).toNat < S264x256.size a := fun v6 v8 v10 v12 v14 v16 v18 v20 v22 v24 v26 v28 v30 v32 v34 v36 v2209 k0_hw34 => k0_hw34.2.2.2.2.2.2.2.1
theorem k0_idx537_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v22] : Fin 2 → IVec S16 32) a x).toNat < S264x256.size a := fun v6 v8 v10 v12 v14 v16 v18 v20 v22 v24 v26 v28 v30 v32 v34 v36 v2209 k0_hw34 => k0_hw34.2.2.2.2.2.2.2.2.1
theorem k0_idx538_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v24] : Fin 2 → IVec S16 32) a x).toNat < S264x256.size a := fun v6 v8 v10 v12 v14 v16 v18 v20 v22 v24 v26 v28 v30 v32 v34 v36 v2209 k0_hw34 => k0_hw34.2.2.2.2.2.2.2.2.2.1
theorem k0_idx539_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v26] : Fin 2 → IVec S16 32) a x).toNat < S264x256.size a := fun v6 v8 v10 v12 v14 v16 v18 v20 v22 v24 v26 v28 v30 v32 v34 v36 v2209 k0_hw34 => k0_hw34.2.2.2.2.2.2.2.2.2.2.1
theorem k0_idx540_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v28] : Fin 2 → IVec S16 32) a x).toNat < S264x256.size a := fun v6 v8 v10 v12 v14 v16 v18 v20 v22 v24 v26 v28 v30 v32 v34 v36 v2209 k0_hw34 => k0_hw34.2.2.2.2.2.2.2.2.2.2.2.1
theorem k0_idx541_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v30] : Fin 2 → IVec S16 32) a x).toNat < S264x256.size a := fun v6 v8 v10 v12 v14 v16 v18 v20 v22 v24 v26 v28 v30 v32 v34 v36 v2209 k0_hw34 => k0_hw34.2.2.2.2.2.2.2.2.2.2.2.2.1
theorem k0_idx542_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v32] : Fin 2 → IVec S16 32) a x).toNat < S264x256.size a := fun v6 v8 v10 v12 v14 v16 v18 v20 v22 v24 v26 v28 v30 v32 v34 v36 v2209 k0_hw34 => k0_hw34.2.2.2.2.2.2.2.2.2.2.2.2.2.1
theorem k0_idx543_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v34] : Fin 2 → IVec S16 32) a x).toNat < S264x256.size a := fun v6 v8 v10 v12 v14 v16 v18 v20 v22 v24 v26 v28 v30 v32 v34 v36 v2209 k0_hw34 => k0_hw34.2.2.2.2.2.2.2.2.2.2.2.2.2.2.1
theorem k0_idx544_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2209 : IVec S16 32) (k0_hw34 : k0_chk34 v6 v8 v10 v12 v14 v16 v18 v20 v22 v24 v26 v28 v30 v32 v34 v36 v2209), ∀ a x, ((![v2209, v36] : Fin 2 → IVec S16 32) a x).toNat < S264x256.size a := fun v6 v8 v10 v12 v14 v16 v18 v20 v22 v24 v26 v28 v30 v32 v34 v36 v2209 k0_hw34 => k0_hw34.2.2.2.2.2.2.2.2.2.2.2.2.2.2.2

def k0_chk35 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) : Prop :=
  (∀ a x, ((![v2275, v6] : Fin 2 → IVec S16 32) a x).toNat < S264x256.size a) ∧
  (∀ a x, ((![v2275, v8] : Fin 2 → IVec S16 32) a x).toNat < S264x256.size a) ∧
  (∀ a x, ((![v2275, v10] : Fin 2 → IVec S16 32) a x).toNat < S264x256.size a) ∧
  (∀ a x, ((![v2275, v12] : Fin 2 → IVec S16 32) a x).toNat < S264x256.size a) ∧
  (∀ a x, ((![v2275, v14] : Fin 2 → IVec S16 32) a x).toNat < S264x256.size a) ∧
  (∀ a x, ((![v2275, v16] : Fin 2 → IVec S16 32) a x).toNat < S264x256.size a) ∧
  (∀ a x, ((![v2275, v18] : Fin 2 → IVec S16 32) a x).toNat < S264x256.size a) ∧
  (∀ a x, ((![v2275, v20] : Fin 2 → IVec S16 32) a x).toNat < S264x256.size a) ∧
  (∀ a x, ((![v2275, v22] : Fin 2 → IVec S16 32) a x).toNat < S264x256.size a) ∧
  (∀ a x, ((![v2275, v24] : Fin 2 → IVec S16 32) a x).toNat < S264x256.size a) ∧
  (∀ a x, ((![v2275, v26] : Fin 2 → IVec S16 32) a x).toNat < S264x256.size a) ∧
  (∀ a x, ((![v2275, v28] : Fin 2 → IVec S16 32) a x).toNat < S264x256.size a) ∧
  (∀ a x, ((![v2275, v30] : Fin 2 → IVec S16 32) a x).toNat < S264x256.size a) ∧
  (∀ a x, ((![v2275, v32] : Fin 2 → IVec S16 32) a x).toNat < S264x256.size a) ∧
  (∀ a x, ((![v2275, v34] : Fin 2 → IVec S16 32) a x).toNat < S264x256.size a) ∧
  (∀ a x, ((![v2275, v36] : Fin 2 → IVec S16 32) a x).toNat < S264x256.size a)
theorem k0_idx545_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v6] : Fin 2 → IVec S16 32) a x).toNat < S264x256.size a := fun v6 v8 v10 v12 v14 v16 v18 v20 v22 v24 v26 v28 v30 v32 v34 v36 v2275 k0_hw35 => k0_hw35.1
theorem k0_idx546_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v8] : Fin 2 → IVec S16 32) a x).toNat < S264x256.size a := fun v6 v8 v10 v12 v14 v16 v18 v20 v22 v24 v26 v28 v30 v32 v34 v36 v2275 k0_hw35 => k0_hw35.2.1
theorem k0_idx547_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v10] : Fin 2 → IVec S16 32) a x).toNat < S264x256.size a := fun v6 v8 v10 v12 v14 v16 v18 v20 v22 v24 v26 v28 v30 v32 v34 v36 v2275 k0_hw35 => k0_hw35.2.2.1
theorem k0_idx548_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v12] : Fin 2 → IVec S16 32) a x).toNat < S264x256.size a := fun v6 v8 v10 v12 v14 v16 v18 v20 v22 v24 v26 v28 v30 v32 v34 v36 v2275 k0_hw35 => k0_hw35.2.2.2.1
theorem k0_idx549_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v14] : Fin 2 → IVec S16 32) a x).toNat < S264x256.size a := fun v6 v8 v10 v12 v14 v16 v18 v20 v22 v24 v26 v28 v30 v32 v34 v36 v2275 k0_hw35 => k0_hw35.2.2.2.2.1
theorem k0_idx550_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v16] : Fin 2 → IVec S16 32) a x).toNat < S264x256.size a := fun v6 v8 v10 v12 v14 v16 v18 v20 v22 v24 v26 v28 v30 v32 v34 v36 v2275 k0_hw35 => k0_hw35.2.2.2.2.2.1
theorem k0_idx551_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v18] : Fin 2 → IVec S16 32) a x).toNat < S264x256.size a := fun v6 v8 v10 v12 v14 v16 v18 v20 v22 v24 v26 v28 v30 v32 v34 v36 v2275 k0_hw35 => k0_hw35.2.2.2.2.2.2.1
theorem k0_idx552_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v20] : Fin 2 → IVec S16 32) a x).toNat < S264x256.size a := fun v6 v8 v10 v12 v14 v16 v18 v20 v22 v24 v26 v28 v30 v32 v34 v36 v2275 k0_hw35 => k0_hw35.2.2.2.2.2.2.2.1
theorem k0_idx553_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v22] : Fin 2 → IVec S16 32) a x).toNat < S264x256.size a := fun v6 v8 v10 v12 v14 v16 v18 v20 v22 v24 v26 v28 v30 v32 v34 v36 v2275 k0_hw35 => k0_hw35.2.2.2.2.2.2.2.2.1
theorem k0_idx554_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v24] : Fin 2 → IVec S16 32) a x).toNat < S264x256.size a := fun v6 v8 v10 v12 v14 v16 v18 v20 v22 v24 v26 v28 v30 v32 v34 v36 v2275 k0_hw35 => k0_hw35.2.2.2.2.2.2.2.2.2.1
theorem k0_idx555_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v26] : Fin 2 → IVec S16 32) a x).toNat < S264x256.size a := fun v6 v8 v10 v12 v14 v16 v18 v20 v22 v24 v26 v28 v30 v32 v34 v36 v2275 k0_hw35 => k0_hw35.2.2.2.2.2.2.2.2.2.2.1
theorem k0_idx556_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v28] : Fin 2 → IVec S16 32) a x).toNat < S264x256.size a := fun v6 v8 v10 v12 v14 v16 v18 v20 v22 v24 v26 v28 v30 v32 v34 v36 v2275 k0_hw35 => k0_hw35.2.2.2.2.2.2.2.2.2.2.2.1
theorem k0_idx557_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v30] : Fin 2 → IVec S16 32) a x).toNat < S264x256.size a := fun v6 v8 v10 v12 v14 v16 v18 v20 v22 v24 v26 v28 v30 v32 v34 v36 v2275 k0_hw35 => k0_hw35.2.2.2.2.2.2.2.2.2.2.2.2.1
theorem k0_idx558_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v32] : Fin 2 → IVec S16 32) a x).toNat < S264x256.size a := fun v6 v8 v10 v12 v14 v16 v18 v20 v22 v24 v26 v28 v30 v32 v34 v36 v2275 k0_hw35 => k0_hw35.2.2.2.2.2.2.2.2.2.2.2.2.2.1
theorem k0_idx559_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v34] : Fin 2 → IVec S16 32) a x).toNat < S264x256.size a := fun v6 v8 v10 v12 v14 v16 v18 v20 v22 v24 v26 v28 v30 v32 v34 v36 v2275 k0_hw35 => k0_hw35.2.2.2.2.2.2.2.2.2.2.2.2.2.2.1
theorem k0_idx560_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2275 : IVec S16 32) (k0_hw35 : k0_chk35 v6 v8 v10 v12 v14 v16 v18 v20 v22 v24 v26 v28 v30 v32 v34 v36 v2275), ∀ a x, ((![v2275, v36] : Fin 2 → IVec S16 32) a x).toNat < S264x256.size a := fun v6 v8 v10 v12 v14 v16 v18 v20 v22 v24 v26 v28 v30 v32 v34 v36 v2275 k0_hw35 => k0_hw35.2.2.2.2.2.2.2.2.2.2.2.2.2.2.2

def k0_chk36 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) : Prop :=
  (∀ a x, ((![v2341, v6] : Fin 2 → IVec S16 32) a x).toNat < S264x256.size a) ∧
  (∀ a x, ((![v2341, v8] : Fin 2 → IVec S16 32) a x).toNat < S264x256.size a) ∧
  (∀ a x, ((![v2341, v10] : Fin 2 → IVec S16 32) a x).toNat < S264x256.size a) ∧
  (∀ a x, ((![v2341, v12] : Fin 2 → IVec S16 32) a x).toNat < S264x256.size a) ∧
  (∀ a x, ((![v2341, v14] : Fin 2 → IVec S16 32) a x).toNat < S264x256.size a) ∧
  (∀ a x, ((![v2341, v16] : Fin 2 → IVec S16 32) a x).toNat < S264x256.size a) ∧
  (∀ a x, ((![v2341, v18] : Fin 2 → IVec S16 32) a x).toNat < S264x256.size a) ∧
  (∀ a x, ((![v2341, v20] : Fin 2 → IVec S16 32) a x).toNat < S264x256.size a) ∧
  (∀ a x, ((![v2341, v22] : Fin 2 → IVec S16 32) a x).toNat < S264x256.size a) ∧
  (∀ a x, ((![v2341, v24] : Fin 2 → IVec S16 32) a x).toNat < S264x256.size a) ∧
  (∀ a x, ((![v2341, v26] : Fin 2 → IVec S16 32) a x).toNat < S264x256.size a) ∧
  (∀ a x, ((![v2341, v28] : Fin 2 → IVec S16 32) a x).toNat < S264x256.size a) ∧
  (∀ a x, ((![v2341, v30] : Fin 2 → IVec S16 32) a x).toNat < S264x256.size a) ∧
  (∀ a x, ((![v2341, v32] : Fin 2 → IVec S16 32) a x).toNat < S264x256.size a) ∧
  (∀ a x, ((![v2341, v34] : Fin 2 → IVec S16 32) a x).toNat < S264x256.size a) ∧
  (∀ a x, ((![v2341, v36] : Fin 2 → IVec S16 32) a x).toNat < S264x256.size a)
theorem k0_idx561_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v6] : Fin 2 → IVec S16 32) a x).toNat < S264x256.size a := fun v6 v8 v10 v12 v14 v16 v18 v20 v22 v24 v26 v28 v30 v32 v34 v36 v2341 k0_hw36 => k0_hw36.1
theorem k0_idx562_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v8] : Fin 2 → IVec S16 32) a x).toNat < S264x256.size a := fun v6 v8 v10 v12 v14 v16 v18 v20 v22 v24 v26 v28 v30 v32 v34 v36 v2341 k0_hw36 => k0_hw36.2.1
theorem k0_idx563_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v10] : Fin 2 → IVec S16 32) a x).toNat < S264x256.size a := fun v6 v8 v10 v12 v14 v16 v18 v20 v22 v24 v26 v28 v30 v32 v34 v36 v2341 k0_hw36 => k0_hw36.2.2.1
theorem k0_idx564_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v12] : Fin 2 → IVec S16 32) a x).toNat < S264x256.size a := fun v6 v8 v10 v12 v14 v16 v18 v20 v22 v24 v26 v28 v30 v32 v34 v36 v2341 k0_hw36 => k0_hw36.2.2.2.1
theorem k0_idx565_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v14] : Fin 2 → IVec S16 32) a x).toNat < S264x256.size a := fun v6 v8 v10 v12 v14 v16 v18 v20 v22 v24 v26 v28 v30 v32 v34 v36 v2341 k0_hw36 => k0_hw36.2.2.2.2.1
theorem k0_idx566_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v16] : Fin 2 → IVec S16 32) a x).toNat < S264x256.size a := fun v6 v8 v10 v12 v14 v16 v18 v20 v22 v24 v26 v28 v30 v32 v34 v36 v2341 k0_hw36 => k0_hw36.2.2.2.2.2.1
theorem k0_idx567_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v18] : Fin 2 → IVec S16 32) a x).toNat < S264x256.size a := fun v6 v8 v10 v12 v14 v16 v18 v20 v22 v24 v26 v28 v30 v32 v34 v36 v2341 k0_hw36 => k0_hw36.2.2.2.2.2.2.1
theorem k0_idx568_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v20] : Fin 2 → IVec S16 32) a x).toNat < S264x256.size a := fun v6 v8 v10 v12 v14 v16 v18 v20 v22 v24 v26 v28 v30 v32 v34 v36 v2341 k0_hw36 => k0_hw36.2.2.2.2.2.2.2.1
theorem k0_idx569_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v22] : Fin 2 → IVec S16 32) a x).toNat < S264x256.size a := fun v6 v8 v10 v12 v14 v16 v18 v20 v22 v24 v26 v28 v30 v32 v34 v36 v2341 k0_hw36 => k0_hw36.2.2.2.2.2.2.2.2.1
theorem k0_idx570_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v24] : Fin 2 → IVec S16 32) a x).toNat < S264x256.size a := fun v6 v8 v10 v12 v14 v16 v18 v20 v22 v24 v26 v28 v30 v32 v34 v36 v2341 k0_hw36 => k0_hw36.2.2.2.2.2.2.2.2.2.1
theorem k0_idx571_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v26] : Fin 2 → IVec S16 32) a x).toNat < S264x256.size a := fun v6 v8 v10 v12 v14 v16 v18 v20 v22 v24 v26 v28 v30 v32 v34 v36 v2341 k0_hw36 => k0_hw36.2.2.2.2.2.2.2.2.2.2.1
theorem k0_idx572_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v28] : Fin 2 → IVec S16 32) a x).toNat < S264x256.size a := fun v6 v8 v10 v12 v14 v16 v18 v20 v22 v24 v26 v28 v30 v32 v34 v36 v2341 k0_hw36 => k0_hw36.2.2.2.2.2.2.2.2.2.2.2.1
theorem k0_idx573_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v30] : Fin 2 → IVec S16 32) a x).toNat < S264x256.size a := fun v6 v8 v10 v12 v14 v16 v18 v20 v22 v24 v26 v28 v30 v32 v34 v36 v2341 k0_hw36 => k0_hw36.2.2.2.2.2.2.2.2.2.2.2.2.1
theorem k0_idx574_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v32] : Fin 2 → IVec S16 32) a x).toNat < S264x256.size a := fun v6 v8 v10 v12 v14 v16 v18 v20 v22 v24 v26 v28 v30 v32 v34 v36 v2341 k0_hw36 => k0_hw36.2.2.2.2.2.2.2.2.2.2.2.2.2.1
theorem k0_idx575_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v34] : Fin 2 → IVec S16 32) a x).toNat < S264x256.size a := fun v6 v8 v10 v12 v14 v16 v18 v20 v22 v24 v26 v28 v30 v32 v34 v36 v2341 k0_hw36 => k0_hw36.2.2.2.2.2.2.2.2.2.2.2.2.2.2.1
theorem k0_idx576_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2341 : IVec S16 32) (k0_hw36 : k0_chk36 v6 v8 v10 v12 v14 v16 v18 v20 v22 v24 v26 v28 v30 v32 v34 v36 v2341), ∀ a x, ((![v2341, v36] : Fin 2 → IVec S16 32) a x).toNat < S264x256.size a := fun v6 v8 v10 v12 v14 v16 v18 v20 v22 v24 v26 v28 v30 v32 v34 v36 v2341 k0_hw36 => k0_hw36.2.2.2.2.2.2.2.2.2.2.2.2.2.2.2

def k0_chk37 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) : Prop :=
  (∀ a x, ((![v2407, v6] : Fin 2 → IVec S16 32) a x).toNat < S264x256.size a) ∧
  (∀ a x, ((![v2407, v8] : Fin 2 → IVec S16 32) a x).toNat < S264x256.size a) ∧
  (∀ a x, ((![v2407, v10] : Fin 2 → IVec S16 32) a x).toNat < S264x256.size a) ∧
  (∀ a x, ((![v2407, v12] : Fin 2 → IVec S16 32) a x).toNat < S264x256.size a) ∧
  (∀ a x, ((![v2407, v14] : Fin 2 → IVec S16 32) a x).toNat < S264x256.size a) ∧
  (∀ a x, ((![v2407, v16] : Fin 2 → IVec S16 32) a x).toNat < S264x256.size a) ∧
  (∀ a x, ((![v2407, v18] : Fin 2 → IVec S16 32) a x).toNat < S264x256.size a) ∧
  (∀ a x, ((![v2407, v20] : Fin 2 → IVec S16 32) a x).toNat < S264x256.size a) ∧
  (∀ a x, ((![v2407, v22] : Fin 2 → IVec S16 32) a x).toNat < S264x256.size a) ∧
  (∀ a x, ((![v2407, v24] : Fin 2 → IVec S16 32) a x).toNat < S264x256.size a) ∧
  (∀ a x, ((![v2407, v26] : Fin 2 → IVec S16 32) a x).toNat < S264x256.size a) ∧
  (∀ a x, ((![v2407, v28] : Fin 2 → IVec S16 32) a x).toNat < S264x256.size a) ∧
  (∀ a x, ((![v2407, v30] : Fin 2 → IVec S16 32) a x).toNat < S264x256.size a) ∧
  (∀ a x, ((![v2407, v32] : Fin 2 → IVec S16 32) a x).toNat < S264x256.size a) ∧
  (∀ a x, ((![v2407, v34] : Fin 2 → IVec S16 32) a x).toNat < S264x256.size a) ∧
  (∀ a x, ((![v2407, v36] : Fin 2 → IVec S16 32) a x).toNat < S264x256.size a)
theorem k0_idx577_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v6] : Fin 2 → IVec S16 32) a x).toNat < S264x256.size a := fun v6 v8 v10 v12 v14 v16 v18 v20 v22 v24 v26 v28 v30 v32 v34 v36 v2407 k0_hw37 => k0_hw37.1
theorem k0_idx578_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v8] : Fin 2 → IVec S16 32) a x).toNat < S264x256.size a := fun v6 v8 v10 v12 v14 v16 v18 v20 v22 v24 v26 v28 v30 v32 v34 v36 v2407 k0_hw37 => k0_hw37.2.1
theorem k0_idx579_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v10] : Fin 2 → IVec S16 32) a x).toNat < S264x256.size a := fun v6 v8 v10 v12 v14 v16 v18 v20 v22 v24 v26 v28 v30 v32 v34 v36 v2407 k0_hw37 => k0_hw37.2.2.1
theorem k0_idx580_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v12] : Fin 2 → IVec S16 32) a x).toNat < S264x256.size a := fun v6 v8 v10 v12 v14 v16 v18 v20 v22 v24 v26 v28 v30 v32 v34 v36 v2407 k0_hw37 => k0_hw37.2.2.2.1
theorem k0_idx581_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v14] : Fin 2 → IVec S16 32) a x).toNat < S264x256.size a := fun v6 v8 v10 v12 v14 v16 v18 v20 v22 v24 v26 v28 v30 v32 v34 v36 v2407 k0_hw37 => k0_hw37.2.2.2.2.1
theorem k0_idx582_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v16] : Fin 2 → IVec S16 32) a x).toNat < S264x256.size a := fun v6 v8 v10 v12 v14 v16 v18 v20 v22 v24 v26 v28 v30 v32 v34 v36 v2407 k0_hw37 => k0_hw37.2.2.2.2.2.1
theorem k0_idx583_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v18] : Fin 2 → IVec S16 32) a x).toNat < S264x256.size a := fun v6 v8 v10 v12 v14 v16 v18 v20 v22 v24 v26 v28 v30 v32 v34 v36 v2407 k0_hw37 => k0_hw37.2.2.2.2.2.2.1
theorem k0_idx584_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v20] : Fin 2 → IVec S16 32) a x).toNat < S264x256.size a := fun v6 v8 v10 v12 v14 v16 v18 v20 v22 v24 v26 v28 v30 v32 v34 v36 v2407 k0_hw37 => k0_hw37.2.2.2.2.2.2.2.1
theorem k0_idx585_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v22] : Fin 2 → IVec S16 32) a x).toNat < S264x256.size a := fun v6 v8 v10 v12 v14 v16 v18 v20 v22 v24 v26 v28 v30 v32 v34 v36 v2407 k0_hw37 => k0_hw37.2.2.2.2.2.2.2.2.1
theorem k0_idx586_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v24] : Fin 2 → IVec S16 32) a x).toNat < S264x256.size a := fun v6 v8 v10 v12 v14 v16 v18 v20 v22 v24 v26 v28 v30 v32 v34 v36 v2407 k0_hw37 => k0_hw37.2.2.2.2.2.2.2.2.2.1
theorem k0_idx587_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v26] : Fin 2 → IVec S16 32) a x).toNat < S264x256.size a := fun v6 v8 v10 v12 v14 v16 v18 v20 v22 v24 v26 v28 v30 v32 v34 v36 v2407 k0_hw37 => k0_hw37.2.2.2.2.2.2.2.2.2.2.1
theorem k0_idx588_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v28] : Fin 2 → IVec S16 32) a x).toNat < S264x256.size a := fun v6 v8 v10 v12 v14 v16 v18 v20 v22 v24 v26 v28 v30 v32 v34 v36 v2407 k0_hw37 => k0_hw37.2.2.2.2.2.2.2.2.2.2.2.1
theorem k0_idx589_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v30] : Fin 2 → IVec S16 32) a x).toNat < S264x256.size a := fun v6 v8 v10 v12 v14 v16 v18 v20 v22 v24 v26 v28 v30 v32 v34 v36 v2407 k0_hw37 => k0_hw37.2.2.2.2.2.2.2.2.2.2.2.2.1
theorem k0_idx590_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v32] : Fin 2 → IVec S16 32) a x).toNat < S264x256.size a := fun v6 v8 v10 v12 v14 v16 v18 v20 v22 v24 v26 v28 v30 v32 v34 v36 v2407 k0_hw37 => k0_hw37.2.2.2.2.2.2.2.2.2.2.2.2.2.1
theorem k0_idx591_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v34] : Fin 2 → IVec S16 32) a x).toNat < S264x256.size a := fun v6 v8 v10 v12 v14 v16 v18 v20 v22 v24 v26 v28 v30 v32 v34 v36 v2407 k0_hw37 => k0_hw37.2.2.2.2.2.2.2.2.2.2.2.2.2.2.1
theorem k0_idx592_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2407 : IVec S16 32) (k0_hw37 : k0_chk37 v6 v8 v10 v12 v14 v16 v18 v20 v22 v24 v26 v28 v30 v32 v34 v36 v2407), ∀ a x, ((![v2407, v36] : Fin 2 → IVec S16 32) a x).toNat < S264x256.size a := fun v6 v8 v10 v12 v14 v16 v18 v20 v22 v24 v26 v28 v30 v32 v34 v36 v2407 k0_hw37 => k0_hw37.2.2.2.2.2.2.2.2.2.2.2.2.2.2.2

def k0_chk38 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) : Prop :=
  (∀ a x, ((![v2473, v6] : Fin 2 → IVec S16 32) a x).toNat < S264x256.size a) ∧
  (∀ a x, ((![v2473, v8] : Fin 2 → IVec S16 32) a x).toNat < S264x256.size a) ∧
  (∀ a x, ((![v2473, v10] : Fin 2 → IVec S16 32) a x).toNat < S264x256.size a) ∧
  (∀ a x, ((![v2473, v12] : Fin 2 → IVec S16 32) a x).toNat < S264x256.size a) ∧
  (∀ a x, ((![v2473, v14] : Fin 2 → IVec S16 32) a x).toNat < S264x256.size a) ∧
  (∀ a x, ((![v2473, v16] : Fin 2 → IVec S16 32) a x).toNat < S264x256.size a) ∧
  (∀ a x, ((![v2473, v18] : Fin 2 → IVec S16 32) a x).toNat < S264x256.size a) ∧
  (∀ a x, ((![v2473, v20] : Fin 2 → IVec S16 32) a x).toNat < S264x256.size a) ∧
  (∀ a x, ((![v2473, v22] : Fin 2 → IVec S16 32) a x).toNat < S264x256.size a) ∧
  (∀ a x, ((![v2473, v24] : Fin 2 → IVec S16 32) a x).toNat < S264x256.size a) ∧
  (∀ a x, ((![v2473, v26] : Fin 2 → IVec S16 32) a x).toNat < S264x256.size a) ∧
  (∀ a x, ((![v2473, v28] : Fin 2 → IVec S16 32) a x).toNat < S264x256.size a) ∧
  (∀ a x, ((![v2473, v30] : Fin 2 → IVec S16 32) a x).toNat < S264x256.size a) ∧
  (∀ a x, ((![v2473, v32] : Fin 2 → IVec S16 32) a x).toNat < S264x256.size a) ∧
  (∀ a x, ((![v2473, v34] : Fin 2 → IVec S16 32) a x).toNat < S264x256.size a) ∧
  (∀ a x, ((![v2473, v36] : Fin 2 → IVec S16 32) a x).toNat < S264x256.size a)
theorem k0_idx593_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v6] : Fin 2 → IVec S16 32) a x).toNat < S264x256.size a := fun v6 v8 v10 v12 v14 v16 v18 v20 v22 v24 v26 v28 v30 v32 v34 v36 v2473 k0_hw38 => k0_hw38.1
theorem k0_idx594_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v8] : Fin 2 → IVec S16 32) a x).toNat < S264x256.size a := fun v6 v8 v10 v12 v14 v16 v18 v20 v22 v24 v26 v28 v30 v32 v34 v36 v2473 k0_hw38 => k0_hw38.2.1
theorem k0_idx595_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v10] : Fin 2 → IVec S16 32) a x).toNat < S264x256.size a := fun v6 v8 v10 v12 v14 v16 v18 v20 v22 v24 v26 v28 v30 v32 v34 v36 v2473 k0_hw38 => k0_hw38.2.2.1
theorem k0_idx596_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v12] : Fin 2 → IVec S16 32) a x).toNat < S264x256.size a := fun v6 v8 v10 v12 v14 v16 v18 v20 v22 v24 v26 v28 v30 v32 v34 v36 v2473 k0_hw38 => k0_hw38.2.2.2.1
theorem k0_idx597_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v14] : Fin 2 → IVec S16 32) a x).toNat < S264x256.size a := fun v6 v8 v10 v12 v14 v16 v18 v20 v22 v24 v26 v28 v30 v32 v34 v36 v2473 k0_hw38 => k0_hw38.2.2.2.2.1
theorem k0_idx598_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v16] : Fin 2 → IVec S16 32) a x).toNat < S264x256.size a := fun v6 v8 v10 v12 v14 v16 v18 v20 v22 v24 v26 v28 v30 v32 v34 v36 v2473 k0_hw38 => k0_hw38.2.2.2.2.2.1
theorem k0_idx599_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v18] : Fin 2 → IVec S16 32) a x).toNat < S264x256.size a := fun v6 v8 v10 v12 v14 v16 v18 v20 v22 v24 v26 v28 v30 v32 v34 v36 v2473 k0_hw38 => k0_hw38.2.2.2.2.2.2.1
theorem k0_idx600_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v20] : Fin 2 → IVec S16 32) a x).toNat < S264x256.size a := fun v6 v8 v10 v12 v14 v16 v18 v20 v22 v24 v26 v28 v30 v32 v34 v36 v2473 k0_hw38 => k0_hw38.2.2.2.2.2.2.2.1
theorem k0_idx601_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v22] : Fin 2 → IVec S16 32) a x).toNat < S264x256.size a := fun v6 v8 v10 v12 v14 v16 v18 v20 v22 v24 v26 v28 v30 v32 v34 v36 v2473 k0_hw38 => k0_hw38.2.2.2.2.2.2.2.2.1
theorem k0_idx602_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v24] : Fin 2 → IVec S16 32) a x).toNat < S264x256.size a := fun v6 v8 v10 v12 v14 v16 v18 v20 v22 v24 v26 v28 v30 v32 v34 v36 v2473 k0_hw38 => k0_hw38.2.2.2.2.2.2.2.2.2.1
theorem k0_idx603_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v26] : Fin 2 → IVec S16 32) a x).toNat < S264x256.size a := fun v6 v8 v10 v12 v14 v16 v18 v20 v22 v24 v26 v28 v30 v32 v34 v36 v2473 k0_hw38 => k0_hw38.2.2.2.2.2.2.2.2.2.2.1
theorem k0_idx604_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v28] : Fin 2 → IVec S16 32) a x).toNat < S264x256.size a := fun v6 v8 v10 v12 v14 v16 v18 v20 v22 v24 v26 v28 v30 v32 v34 v36 v2473 k0_hw38 => k0_hw38.2.2.2.2.2.2.2.2.2.2.2.1
theorem k0_idx605_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v30] : Fin 2 → IVec S16 32) a x).toNat < S264x256.size a := fun v6 v8 v10 v12 v14 v16 v18 v20 v22 v24 v26 v28 v30 v32 v34 v36 v2473 k0_hw38 => k0_hw38.2.2.2.2.2.2.2.2.2.2.2.2.1
theorem k0_idx606_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v32] : Fin 2 → IVec S16 32) a x).toNat < S264x256.size a := fun v6 v8 v10 v12 v14 v16 v18 v20 v22 v24 v26 v28 v30 v32 v34 v36 v2473 k0_hw38 => k0_hw38.2.2.2.2.2.2.2.2.2.2.2.2.2.1
theorem k0_idx607_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v34] : Fin 2 → IVec S16 32) a x).toNat < S264x256.size a := fun v6 v8 v10 v12 v14 v16 v18 v20 v22 v24 v26 v28 v30 v32 v34 v36 v2473 k0_hw38 => k0_hw38.2.2.2.2.2.2.2.2.2.2.2.2.2.2.1
theorem k0_idx608_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2473 : IVec S16 32) (k0_hw38 : k0_chk38 v6 v8 v10 v12 v14 v16 v18 v20 v22 v24 v26 v28 v30 v32 v34 v36 v2473), ∀ a x, ((![v2473, v36] : Fin 2 → IVec S16 32) a x).toNat < S264x256.size a := fun v6 v8 v10 v12 v14 v16 v18 v20 v22 v24 v26 v28 v30 v32 v34 v36 v2473 k0_hw38 => k0_hw38.2.2.2.2.2.2.2.2.2.2.2.2.2.2.2

def k0_chk39 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) : Prop :=
  (∀ a x, ((![v2539, v6] : Fin 2 → IVec S16 32) a x).toNat < S264x256.size a) ∧
  (∀ a x, ((![v2539, v8] : Fin 2 → IVec S16 32) a x).toNat < S264x256.size a) ∧
  (∀ a x, ((![v2539, v10] : Fin 2 → IVec S16 32) a x).toNat < S264x256.size a) ∧
  (∀ a x, ((![v2539, v12] : Fin 2 → IVec S16 32) a x).toNat < S264x256.size a) ∧
  (∀ a x, ((![v2539, v14] : Fin 2 → IVec S16 32) a x).toNat < S264x256.size a) ∧
  (∀ a x, ((![v2539, v16] : Fin 2 → IVec S16 32) a x).toNat < S264x256.size a) ∧
  (∀ a x, ((![v2539, v18] : Fin 2 → IVec S16 32) a x).toNat < S264x256.size a) ∧
  (∀ a x, ((![v2539, v20] : Fin 2 → IVec S16 32) a x).toNat < S264x256.size a) ∧
  (∀ a x, ((![v2539, v22] : Fin 2 → IVec S16 32) a x).toNat < S264x256.size a) ∧
  (∀ a x, ((![v2539, v24] : Fin 2 → IVec S16 32) a x).toNat < S264x256.size a) ∧
  (∀ a x, ((![v2539, v26] : Fin 2 → IVec S16 32) a x).toNat < S264x256.size a) ∧
  (∀ a x, ((![v2539, v28] : Fin 2 → IVec S16 32) a x).toNat < S264x256.size a) ∧
  (∀ a x, ((![v2539, v30] : Fin 2 → IVec S16 32) a x).toNat < S264x256.size a) ∧
  (∀ a x, ((![v2539, v32] : Fin 2 → IVec S16 32) a x).toNat < S264x256.size a) ∧
  (∀ a x, ((![v2539, v34] : Fin 2 → IVec S16 32) a x).toNat < S264x256.size a) ∧
  (∀ a x, ((![v2539, v36] : Fin 2 → IVec S16 32) a x).toNat < S264x256.size a)
theorem k0_idx609_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v6] : Fin 2 → IVec S16 32) a x).toNat < S264x256.size a := fun v6 v8 v10 v12 v14 v16 v18 v20 v22 v24 v26 v28 v30 v32 v34 v36 v2539 k0_hw39 => k0_hw39.1
theorem k0_idx610_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v8] : Fin 2 → IVec S16 32) a x).toNat < S264x256.size a := fun v6 v8 v10 v12 v14 v16 v18 v20 v22 v24 v26 v28 v30 v32 v34 v36 v2539 k0_hw39 => k0_hw39.2.1
theorem k0_idx611_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v10] : Fin 2 → IVec S16 32) a x).toNat < S264x256.size a := fun v6 v8 v10 v12 v14 v16 v18 v20 v22 v24 v26 v28 v30 v32 v34 v36 v2539 k0_hw39 => k0_hw39.2.2.1
theorem k0_idx612_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v12] : Fin 2 → IVec S16 32) a x).toNat < S264x256.size a := fun v6 v8 v10 v12 v14 v16 v18 v20 v22 v24 v26 v28 v30 v32 v34 v36 v2539 k0_hw39 => k0_hw39.2.2.2.1
theorem k0_idx613_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v14] : Fin 2 → IVec S16 32) a x).toNat < S264x256.size a := fun v6 v8 v10 v12 v14 v16 v18 v20 v22 v24 v26 v28 v30 v32 v34 v36 v2539 k0_hw39 => k0_hw39.2.2.2.2.1
theorem k0_idx614_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v16] : Fin 2 → IVec S16 32) a x).toNat < S264x256.size a := fun v6 v8 v10 v12 v14 v16 v18 v20 v22 v24 v26 v28 v30 v32 v34 v36 v2539 k0_hw39 => k0_hw39.2.2.2.2.2.1
theorem k0_idx615_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v18] : Fin 2 → IVec S16 32) a x).toNat < S264x256.size a := fun v6 v8 v10 v12 v14 v16 v18 v20 v22 v24 v26 v28 v30 v32 v34 v36 v2539 k0_hw39 => k0_hw39.2.2.2.2.2.2.1
theorem k0_idx616_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v20] : Fin 2 → IVec S16 32) a x).toNat < S264x256.size a := fun v6 v8 v10 v12 v14 v16 v18 v20 v22 v24 v26 v28 v30 v32 v34 v36 v2539 k0_hw39 => k0_hw39.2.2.2.2.2.2.2.1
theorem k0_idx617_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v22] : Fin 2 → IVec S16 32) a x).toNat < S264x256.size a := fun v6 v8 v10 v12 v14 v16 v18 v20 v22 v24 v26 v28 v30 v32 v34 v36 v2539 k0_hw39 => k0_hw39.2.2.2.2.2.2.2.2.1
theorem k0_idx618_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v24] : Fin 2 → IVec S16 32) a x).toNat < S264x256.size a := fun v6 v8 v10 v12 v14 v16 v18 v20 v22 v24 v26 v28 v30 v32 v34 v36 v2539 k0_hw39 => k0_hw39.2.2.2.2.2.2.2.2.2.1
theorem k0_idx619_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v26] : Fin 2 → IVec S16 32) a x).toNat < S264x256.size a := fun v6 v8 v10 v12 v14 v16 v18 v20 v22 v24 v26 v28 v30 v32 v34 v36 v2539 k0_hw39 => k0_hw39.2.2.2.2.2.2.2.2.2.2.1
theorem k0_idx620_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v28] : Fin 2 → IVec S16 32) a x).toNat < S264x256.size a := fun v6 v8 v10 v12 v14 v16 v18 v20 v22 v24 v26 v28 v30 v32 v34 v36 v2539 k0_hw39 => k0_hw39.2.2.2.2.2.2.2.2.2.2.2.1
theorem k0_idx621_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v30] : Fin 2 → IVec S16 32) a x).toNat < S264x256.size a := fun v6 v8 v10 v12 v14 v16 v18 v20 v22 v24 v26 v28 v30 v32 v34 v36 v2539 k0_hw39 => k0_hw39.2.2.2.2.2.2.2.2.2.2.2.2.1
theorem k0_idx622_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v32] : Fin 2 → IVec S16 32) a x).toNat < S264x256.size a := fun v6 v8 v10 v12 v14 v16 v18 v20 v22 v24 v26 v28 v30 v32 v34 v36 v2539 k0_hw39 => k0_hw39.2.2.2.2.2.2.2.2.2.2.2.2.2.1
theorem k0_idx623_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v34] : Fin 2 → IVec S16 32) a x).toNat < S264x256.size a := fun v6 v8 v10 v12 v14 v16 v18 v20 v22 v24 v26 v28 v30 v32 v34 v36 v2539 k0_hw39 => k0_hw39.2.2.2.2.2.2.2.2.2.2.2.2.2.2.1
theorem k0_idx624_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2539 : IVec S16 32) (k0_hw39 : k0_chk39 v6 v8 v10 v12 v14 v16 v18 v20 v22 v24 v26 v28 v30 v32 v34 v36 v2539), ∀ a x, ((![v2539, v36] : Fin 2 → IVec S16 32) a x).toNat < S264x256.size a := fun v6 v8 v10 v12 v14 v16 v18 v20 v22 v24 v26 v28 v30 v32 v34 v36 v2539 k0_hw39 => k0_hw39.2.2.2.2.2.2.2.2.2.2.2.2.2.2.2

def k0_chk40 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) : Prop :=
  (∀ a x, ((![v2605, v6] : Fin 2 → IVec S16 32) a x).toNat < S264x256.size a) ∧
  (∀ a x, ((![v2605, v8] : Fin 2 → IVec S16 32) a x).toNat < S264x256.size a) ∧
  (∀ a x, ((![v2605, v10] : Fin 2 → IVec S16 32) a x).toNat < S264x256.size a) ∧
  (∀ a x, ((![v2605, v12] : Fin 2 → IVec S16 32) a x).toNat < S264x256.size a) ∧
  (∀ a x, ((![v2605, v14] : Fin 2 → IVec S16 32) a x).toNat < S264x256.size a) ∧
  (∀ a x, ((![v2605, v16] : Fin 2 → IVec S16 32) a x).toNat < S264x256.size a) ∧
  (∀ a x, ((![v2605, v18] : Fin 2 → IVec S16 32) a x).toNat < S264x256.size a) ∧
  (∀ a x, ((![v2605, v20] : Fin 2 → IVec S16 32) a x).toNat < S264x256.size a) ∧
  (∀ a x, ((![v2605, v22] : Fin 2 → IVec S16 32) a x).toNat < S264x256.size a) ∧
  (∀ a x, ((![v2605, v24] : Fin 2 → IVec S16 32) a x).toNat < S264x256.size a) ∧
  (∀ a x, ((![v2605, v26] : Fin 2 → IVec S16 32) a x).toNat < S264x256.size a) ∧
  (∀ a x, ((![v2605, v28] : Fin 2 → IVec S16 32) a x).toNat < S264x256.size a) ∧
  (∀ a x, ((![v2605, v30] : Fin 2 → IVec S16 32) a x).toNat < S264x256.size a) ∧
  (∀ a x, ((![v2605, v32] : Fin 2 → IVec S16 32) a x).toNat < S264x256.size a) ∧
  (∀ a x, ((![v2605, v34] : Fin 2 → IVec S16 32) a x).toNat < S264x256.size a) ∧
  (∀ a x, ((![v2605, v36] : Fin 2 → IVec S16 32) a x).toNat < S264x256.size a)
theorem k0_idx625_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v6] : Fin 2 → IVec S16 32) a x).toNat < S264x256.size a := fun v6 v8 v10 v12 v14 v16 v18 v20 v22 v24 v26 v28 v30 v32 v34 v36 v2605 k0_hw40 => k0_hw40.1
theorem k0_idx626_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v8] : Fin 2 → IVec S16 32) a x).toNat < S264x256.size a := fun v6 v8 v10 v12 v14 v16 v18 v20 v22 v24 v26 v28 v30 v32 v34 v36 v2605 k0_hw40 => k0_hw40.2.1
theorem k0_idx627_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v10] : Fin 2 → IVec S16 32) a x).toNat < S264x256.size a := fun v6 v8 v10 v12 v14 v16 v18 v20 v22 v24 v26 v28 v30 v32 v34 v36 v2605 k0_hw40 => k0_hw40.2.2.1
theorem k0_idx628_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v12] : Fin 2 → IVec S16 32) a x).toNat < S264x256.size a := fun v6 v8 v10 v12 v14 v16 v18 v20 v22 v24 v26 v28 v30 v32 v34 v36 v2605 k0_hw40 => k0_hw40.2.2.2.1
theorem k0_idx629_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v14] : Fin 2 → IVec S16 32) a x).toNat < S264x256.size a := fun v6 v8 v10 v12 v14 v16 v18 v20 v22 v24 v26 v28 v30 v32 v34 v36 v2605 k0_hw40 => k0_hw40.2.2.2.2.1
theorem k0_idx630_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v16] : Fin 2 → IVec S16 32) a x).toNat < S264x256.size a := fun v6 v8 v10 v12 v14 v16 v18 v20 v22 v24 v26 v28 v30 v32 v34 v36 v2605 k0_hw40 => k0_hw40.2.2.2.2.2.1
theorem k0_idx631_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v18] : Fin 2 → IVec S16 32) a x).toNat < S264x256.size a := fun v6 v8 v10 v12 v14 v16 v18 v20 v22 v24 v26 v28 v30 v32 v34 v36 v2605 k0_hw40 => k0_hw40.2.2.2.2.2.2.1
theorem k0_idx632_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v20] : Fin 2 → IVec S16 32) a x).toNat < S264x256.size a := fun v6 v8 v10 v12 v14 v16 v18 v20 v22 v24 v26 v28 v30 v32 v34 v36 v2605 k0_hw40 => k0_hw40.2.2.2.2.2.2.2.1
theorem k0_idx633_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v22] : Fin 2 → IVec S16 32) a x).toNat < S264x256.size a := fun v6 v8 v10 v12 v14 v16 v18 v20 v22 v24 v26 v28 v30 v32 v34 v36 v2605 k0_hw40 => k0_hw40.2.2.2.2.2.2.2.2.1
theorem k0_idx634_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v24] : Fin 2 → IVec S16 32) a x).toNat < S264x256.size a := fun v6 v8 v10 v12 v14 v16 v18 v20 v22 v24 v26 v28 v30 v32 v34 v36 v2605 k0_hw40 => k0_hw40.2.2.2.2.2.2.2.2.2.1
theorem k0_idx635_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v26] : Fin 2 → IVec S16 32) a x).toNat < S264x256.size a := fun v6 v8 v10 v12 v14 v16 v18 v20 v22 v24 v26 v28 v30 v32 v34 v36 v2605 k0_hw40 => k0_hw40.2.2.2.2.2.2.2.2.2.2.1
theorem k0_idx636_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v28] : Fin 2 → IVec S16 32) a x).toNat < S264x256.size a := fun v6 v8 v10 v12 v14 v16 v18 v20 v22 v24 v26 v28 v30 v32 v34 v36 v2605 k0_hw40 => k0_hw40.2.2.2.2.2.2.2.2.2.2.2.1
theorem k0_idx637_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v30] : Fin 2 → IVec S16 32) a x).toNat < S264x256.size a := fun v6 v8 v10 v12 v14 v16 v18 v20 v22 v24 v26 v28 v30 v32 v34 v36 v2605 k0_hw40 => k0_hw40.2.2.2.2.2.2.2.2.2.2.2.2.1
theorem k0_idx638_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v32] : Fin 2 → IVec S16 32) a x).toNat < S264x256.size a := fun v6 v8 v10 v12 v14 v16 v18 v20 v22 v24 v26 v28 v30 v32 v34 v36 v2605 k0_hw40 => k0_hw40.2.2.2.2.2.2.2.2.2.2.2.2.2.1
theorem k0_idx639_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v34] : Fin 2 → IVec S16 32) a x).toNat < S264x256.size a := fun v6 v8 v10 v12 v14 v16 v18 v20 v22 v24 v26 v28 v30 v32 v34 v36 v2605 k0_hw40 => k0_hw40.2.2.2.2.2.2.2.2.2.2.2.2.2.2.1
theorem k0_idx640_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2605 : IVec S16 32) (k0_hw40 : k0_chk40 v6 v8 v10 v12 v14 v16 v18 v20 v22 v24 v26 v28 v30 v32 v34 v36 v2605), ∀ a x, ((![v2605, v36] : Fin 2 → IVec S16 32) a x).toNat < S264x256.size a := fun v6 v8 v10 v12 v14 v16 v18 v20 v22 v24 v26 v28 v30 v32 v34 v36 v2605 k0_hw40 => k0_hw40.2.2.2.2.2.2.2.2.2.2.2.2.2.2.2

def k0_chk41 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) : Prop :=
  (∀ a x, ((![v2671, v6] : Fin 2 → IVec S16 32) a x).toNat < S264x256.size a) ∧
  (∀ a x, ((![v2671, v8] : Fin 2 → IVec S16 32) a x).toNat < S264x256.size a) ∧
  (∀ a x, ((![v2671, v10] : Fin 2 → IVec S16 32) a x).toNat < S264x256.size a) ∧
  (∀ a x, ((![v2671, v12] : Fin 2 → IVec S16 32) a x).toNat < S264x256.size a) ∧
  (∀ a x, ((![v2671, v14] : Fin 2 → IVec S16 32) a x).toNat < S264x256.size a) ∧
  (∀ a x, ((![v2671, v16] : Fin 2 → IVec S16 32) a x).toNat < S264x256.size a) ∧
  (∀ a x, ((![v2671, v18] : Fin 2 → IVec S16 32) a x).toNat < S264x256.size a) ∧
  (∀ a x, ((![v2671, v20] : Fin 2 → IVec S16 32) a x).toNat < S264x256.size a) ∧
  (∀ a x, ((![v2671, v22] : Fin 2 → IVec S16 32) a x).toNat < S264x256.size a) ∧
  (∀ a x, ((![v2671, v24] : Fin 2 → IVec S16 32) a x).toNat < S264x256.size a) ∧
  (∀ a x, ((![v2671, v26] : Fin 2 → IVec S16 32) a x).toNat < S264x256.size a) ∧
  (∀ a x, ((![v2671, v28] : Fin 2 → IVec S16 32) a x).toNat < S264x256.size a) ∧
  (∀ a x, ((![v2671, v30] : Fin 2 → IVec S16 32) a x).toNat < S264x256.size a) ∧
  (∀ a x, ((![v2671, v32] : Fin 2 → IVec S16 32) a x).toNat < S264x256.size a) ∧
  (∀ a x, ((![v2671, v34] : Fin 2 → IVec S16 32) a x).toNat < S264x256.size a) ∧
  (∀ a x, ((![v2671, v36] : Fin 2 → IVec S16 32) a x).toNat < S264x256.size a)
theorem k0_idx641_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v6] : Fin 2 → IVec S16 32) a x).toNat < S264x256.size a := fun v6 v8 v10 v12 v14 v16 v18 v20 v22 v24 v26 v28 v30 v32 v34 v36 v2671 k0_hw41 => k0_hw41.1
theorem k0_idx642_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v8] : Fin 2 → IVec S16 32) a x).toNat < S264x256.size a := fun v6 v8 v10 v12 v14 v16 v18 v20 v22 v24 v26 v28 v30 v32 v34 v36 v2671 k0_hw41 => k0_hw41.2.1
theorem k0_idx643_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v10] : Fin 2 → IVec S16 32) a x).toNat < S264x256.size a := fun v6 v8 v10 v12 v14 v16 v18 v20 v22 v24 v26 v28 v30 v32 v34 v36 v2671 k0_hw41 => k0_hw41.2.2.1
theorem k0_idx644_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v12] : Fin 2 → IVec S16 32) a x).toNat < S264x256.size a := fun v6 v8 v10 v12 v14 v16 v18 v20 v22 v24 v26 v28 v30 v32 v34 v36 v2671 k0_hw41 => k0_hw41.2.2.2.1
theorem k0_idx645_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v14] : Fin 2 → IVec S16 32) a x).toNat < S264x256.size a := fun v6 v8 v10 v12 v14 v16 v18 v20 v22 v24 v26 v28 v30 v32 v34 v36 v2671 k0_hw41 => k0_hw41.2.2.2.2.1
theorem k0_idx646_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v16] : Fin 2 → IVec S16 32) a x).toNat < S264x256.size a := fun v6 v8 v10 v12 v14 v16 v18 v20 v22 v24 v26 v28 v30 v32 v34 v36 v2671 k0_hw41 => k0_hw41.2.2.2.2.2.1
theorem k0_idx647_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v18] : Fin 2 → IVec S16 32) a x).toNat < S264x256.size a := fun v6 v8 v10 v12 v14 v16 v18 v20 v22 v24 v26 v28 v30 v32 v34 v36 v2671 k0_hw41 => k0_hw41.2.2.2.2.2.2.1
theorem k0_idx648_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v20] : Fin 2 → IVec S16 32) a x).toNat < S264x256.size a := fun v6 v8 v10 v12 v14 v16 v18 v20 v22 v24 v26 v28 v30 v32 v34 v36 v2671 k0_hw41 => k0_hw41.2.2.2.2.2.2.2.1
theorem k0_idx649_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v22] : Fin 2 → IVec S16 32) a x).toNat < S264x256.size a := fun v6 v8 v10 v12 v14 v16 v18 v20 v22 v24 v26 v28 v30 v32 v34 v36 v2671 k0_hw41 => k0_hw41.2.2.2.2.2.2.2.2.1
theorem k0_idx650_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v24] : Fin 2 → IVec S16 32) a x).toNat < S264x256.size a := fun v6 v8 v10 v12 v14 v16 v18 v20 v22 v24 v26 v28 v30 v32 v34 v36 v2671 k0_hw41 => k0_hw41.2.2.2.2.2.2.2.2.2.1
theorem k0_idx651_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v26] : Fin 2 → IVec S16 32) a x).toNat < S264x256.size a := fun v6 v8 v10 v12 v14 v16 v18 v20 v22 v24 v26 v28 v30 v32 v34 v36 v2671 k0_hw41 => k0_hw41.2.2.2.2.2.2.2.2.2.2.1
theorem k0_idx652_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v28] : Fin 2 → IVec S16 32) a x).toNat < S264x256.size a := fun v6 v8 v10 v12 v14 v16 v18 v20 v22 v24 v26 v28 v30 v32 v34 v36 v2671 k0_hw41 => k0_hw41.2.2.2.2.2.2.2.2.2.2.2.1
theorem k0_idx653_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v30] : Fin 2 → IVec S16 32) a x).toNat < S264x256.size a := fun v6 v8 v10 v12 v14 v16 v18 v20 v22 v24 v26 v28 v30 v32 v34 v36 v2671 k0_hw41 => k0_hw41.2.2.2.2.2.2.2.2.2.2.2.2.1
theorem k0_idx654_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v32] : Fin 2 → IVec S16 32) a x).toNat < S264x256.size a := fun v6 v8 v10 v12 v14 v16 v18 v20 v22 v24 v26 v28 v30 v32 v34 v36 v2671 k0_hw41 => k0_hw41.2.2.2.2.2.2.2.2.2.2.2.2.2.1
theorem k0_idx655_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v34] : Fin 2 → IVec S16 32) a x).toNat < S264x256.size a := fun v6 v8 v10 v12 v14 v16 v18 v20 v22 v24 v26 v28 v30 v32 v34 v36 v2671 k0_hw41 => k0_hw41.2.2.2.2.2.2.2.2.2.2.2.2.2.2.1
theorem k0_idx656_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2671 : IVec S16 32) (k0_hw41 : k0_chk41 v6 v8 v10 v12 v14 v16 v18 v20 v22 v24 v26 v28 v30 v32 v34 v36 v2671), ∀ a x, ((![v2671, v36] : Fin 2 → IVec S16 32) a x).toNat < S264x256.size a := fun v6 v8 v10 v12 v14 v16 v18 v20 v22 v24 v26 v28 v30 v32 v34 v36 v2671 k0_hw41 => k0_hw41.2.2.2.2.2.2.2.2.2.2.2.2.2.2.2

def k0_chk42 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) : Prop :=
  (∀ a x, ((![v2737, v6] : Fin 2 → IVec S16 32) a x).toNat < S264x256.size a) ∧
  (∀ a x, ((![v2737, v8] : Fin 2 → IVec S16 32) a x).toNat < S264x256.size a) ∧
  (∀ a x, ((![v2737, v10] : Fin 2 → IVec S16 32) a x).toNat < S264x256.size a) ∧
  (∀ a x, ((![v2737, v12] : Fin 2 → IVec S16 32) a x).toNat < S264x256.size a) ∧
  (∀ a x, ((![v2737, v14] : Fin 2 → IVec S16 32) a x).toNat < S264x256.size a) ∧
  (∀ a x, ((![v2737, v16] : Fin 2 → IVec S16 32) a x).toNat < S264x256.size a) ∧
  (∀ a x, ((![v2737, v18] : Fin 2 → IVec S16 32) a x).toNat < S264x256.size a) ∧
  (∀ a x, ((![v2737, v20] : Fin 2 → IVec S16 32) a x).toNat < S264x256.size a) ∧
  (∀ a x, ((![v2737, v22] : Fin 2 → IVec S16 32) a x).toNat < S264x256.size a) ∧
  (∀ a x, ((![v2737, v24] : Fin 2 → IVec S16 32) a x).toNat < S264x256.size a) ∧
  (∀ a x, ((![v2737, v26] : Fin 2 → IVec S16 32) a x).toNat < S264x256.size a) ∧
  (∀ a x, ((![v2737, v28] : Fin 2 → IVec S16 32) a x).toNat < S264x256.size a) ∧
  (∀ a x, ((![v2737, v30] : Fin 2 → IVec S16 32) a x).toNat < S264x256.size a) ∧
  (∀ a x, ((![v2737, v32] : Fin 2 → IVec S16 32) a x).toNat < S264x256.size a) ∧
  (∀ a x, ((![v2737, v34] : Fin 2 → IVec S16 32) a x).toNat < S264x256.size a) ∧
  (∀ a x, ((![v2737, v36] : Fin 2 → IVec S16 32) a x).toNat < S264x256.size a)
theorem k0_idx657_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v6] : Fin 2 → IVec S16 32) a x).toNat < S264x256.size a := fun v6 v8 v10 v12 v14 v16 v18 v20 v22 v24 v26 v28 v30 v32 v34 v36 v2737 k0_hw42 => k0_hw42.1
theorem k0_idx658_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v8] : Fin 2 → IVec S16 32) a x).toNat < S264x256.size a := fun v6 v8 v10 v12 v14 v16 v18 v20 v22 v24 v26 v28 v30 v32 v34 v36 v2737 k0_hw42 => k0_hw42.2.1
theorem k0_idx659_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v10] : Fin 2 → IVec S16 32) a x).toNat < S264x256.size a := fun v6 v8 v10 v12 v14 v16 v18 v20 v22 v24 v26 v28 v30 v32 v34 v36 v2737 k0_hw42 => k0_hw42.2.2.1
theorem k0_idx660_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v12] : Fin 2 → IVec S16 32) a x).toNat < S264x256.size a := fun v6 v8 v10 v12 v14 v16 v18 v20 v22 v24 v26 v28 v30 v32 v34 v36 v2737 k0_hw42 => k0_hw42.2.2.2.1
theorem k0_idx661_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v14] : Fin 2 → IVec S16 32) a x).toNat < S264x256.size a := fun v6 v8 v10 v12 v14 v16 v18 v20 v22 v24 v26 v28 v30 v32 v34 v36 v2737 k0_hw42 => k0_hw42.2.2.2.2.1
theorem k0_idx662_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v16] : Fin 2 → IVec S16 32) a x).toNat < S264x256.size a := fun v6 v8 v10 v12 v14 v16 v18 v20 v22 v24 v26 v28 v30 v32 v34 v36 v2737 k0_hw42 => k0_hw42.2.2.2.2.2.1
theorem k0_idx663_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v18] : Fin 2 → IVec S16 32) a x).toNat < S264x256.size a := fun v6 v8 v10 v12 v14 v16 v18 v20 v22 v24 v26 v28 v30 v32 v34 v36 v2737 k0_hw42 => k0_hw42.2.2.2.2.2.2.1
theorem k0_idx664_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v20] : Fin 2 → IVec S16 32) a x).toNat < S264x256.size a := fun v6 v8 v10 v12 v14 v16 v18 v20 v22 v24 v26 v28 v30 v32 v34 v36 v2737 k0_hw42 => k0_hw42.2.2.2.2.2.2.2.1
theorem k0_idx665_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v22] : Fin 2 → IVec S16 32) a x).toNat < S264x256.size a := fun v6 v8 v10 v12 v14 v16 v18 v20 v22 v24 v26 v28 v30 v32 v34 v36 v2737 k0_hw42 => k0_hw42.2.2.2.2.2.2.2.2.1
theorem k0_idx666_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v24] : Fin 2 → IVec S16 32) a x).toNat < S264x256.size a := fun v6 v8 v10 v12 v14 v16 v18 v20 v22 v24 v26 v28 v30 v32 v34 v36 v2737 k0_hw42 => k0_hw42.2.2.2.2.2.2.2.2.2.1
theorem k0_idx667_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v26] : Fin 2 → IVec S16 32) a x).toNat < S264x256.size a := fun v6 v8 v10 v12 v14 v16 v18 v20 v22 v24 v26 v28 v30 v32 v34 v36 v2737 k0_hw42 => k0_hw42.2.2.2.2.2.2.2.2.2.2.1
theorem k0_idx668_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v28] : Fin 2 → IVec S16 32) a x).toNat < S264x256.size a := fun v6 v8 v10 v12 v14 v16 v18 v20 v22 v24 v26 v28 v30 v32 v34 v36 v2737 k0_hw42 => k0_hw42.2.2.2.2.2.2.2.2.2.2.2.1
theorem k0_idx669_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v30] : Fin 2 → IVec S16 32) a x).toNat < S264x256.size a := fun v6 v8 v10 v12 v14 v16 v18 v20 v22 v24 v26 v28 v30 v32 v34 v36 v2737 k0_hw42 => k0_hw42.2.2.2.2.2.2.2.2.2.2.2.2.1
theorem k0_idx670_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v32] : Fin 2 → IVec S16 32) a x).toNat < S264x256.size a := fun v6 v8 v10 v12 v14 v16 v18 v20 v22 v24 v26 v28 v30 v32 v34 v36 v2737 k0_hw42 => k0_hw42.2.2.2.2.2.2.2.2.2.2.2.2.2.1
theorem k0_idx671_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v34] : Fin 2 → IVec S16 32) a x).toNat < S264x256.size a := fun v6 v8 v10 v12 v14 v16 v18 v20 v22 v24 v26 v28 v30 v32 v34 v36 v2737 k0_hw42 => k0_hw42.2.2.2.2.2.2.2.2.2.2.2.2.2.2.1
theorem k0_idx672_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2737 : IVec S16 32) (k0_hw42 : k0_chk42 v6 v8 v10 v12 v14 v16 v18 v20 v22 v24 v26 v28 v30 v32 v34 v36 v2737), ∀ a x, ((![v2737, v36] : Fin 2 → IVec S16 32) a x).toNat < S264x256.size a := fun v6 v8 v10 v12 v14 v16 v18 v20 v22 v24 v26 v28 v30 v32 v34 v36 v2737 k0_hw42 => k0_hw42.2.2.2.2.2.2.2.2.2.2.2.2.2.2.2

def k0_chk43 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) : Prop :=
  (∀ a x, ((![v2803, v6] : Fin 2 → IVec S16 32) a x).toNat < S264x256.size a) ∧
  (∀ a x, ((![v2803, v8] : Fin 2 → IVec S16 32) a x).toNat < S264x256.size a) ∧
  (∀ a x, ((![v2803, v10] : Fin 2 → IVec S16 32) a x).toNat < S264x256.size a) ∧
  (∀ a x, ((![v2803, v12] : Fin 2 → IVec S16 32) a x).toNat < S264x256.size a) ∧
  (∀ a x, ((![v2803, v14] : Fin 2 → IVec S16 32) a x).toNat < S264x256.size a) ∧
  (∀ a x, ((![v2803, v16] : Fin 2 → IVec S16 32) a x).toNat < S264x256.size a) ∧
  (∀ a x, ((![v2803, v18] : Fin 2 → IVec S16 32) a x).toNat < S264x256.size a) ∧
  (∀ a x, ((![v2803, v20] : Fin 2 → IVec S16 32) a x).toNat < S264x256.size a) ∧
  (∀ a x, ((![v2803, v22] : Fin 2 → IVec S16 32) a x).toNat < S264x256.size a) ∧
  (∀ a x, ((![v2803, v24] : Fin 2 → IVec S16 32) a x).toNat < S264x256.size a) ∧
  (∀ a x, ((![v2803, v26] : Fin 2 → IVec S16 32) a x).toNat < S264x256.size a) ∧
  (∀ a x, ((![v2803, v28] : Fin 2 → IVec S16 32) a x).toNat < S264x256.size a) ∧
  (∀ a x, ((![v2803, v30] : Fin 2 → IVec S16 32) a x).toNat < S264x256.size a) ∧
  (∀ a x, ((![v2803, v32] : Fin 2 → IVec S16 32) a x).toNat < S264x256.size a) ∧
  (∀ a x, ((![v2803, v34] : Fin 2 → IVec S16 32) a x).toNat < S264x256.size a) ∧
  (∀ a x, ((![v2803, v36] : Fin 2 → IVec S16 32) a x).toNat < S264x256.size a)
theorem k0_idx673_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v6] : Fin 2 → IVec S16 32) a x).toNat < S264x256.size a := fun v6 v8 v10 v12 v14 v16 v18 v20 v22 v24 v26 v28 v30 v32 v34 v36 v2803 k0_hw43 => k0_hw43.1
theorem k0_idx674_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v8] : Fin 2 → IVec S16 32) a x).toNat < S264x256.size a := fun v6 v8 v10 v12 v14 v16 v18 v20 v22 v24 v26 v28 v30 v32 v34 v36 v2803 k0_hw43 => k0_hw43.2.1
theorem k0_idx675_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v10] : Fin 2 → IVec S16 32) a x).toNat < S264x256.size a := fun v6 v8 v10 v12 v14 v16 v18 v20 v22 v24 v26 v28 v30 v32 v34 v36 v2803 k0_hw43 => k0_hw43.2.2.1
theorem k0_idx676_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v12] : Fin 2 → IVec S16 32) a x).toNat < S264x256.size a := fun v6 v8 v10 v12 v14 v16 v18 v20 v22 v24 v26 v28 v30 v32 v34 v36 v2803 k0_hw43 => k0_hw43.2.2.2.1
theorem k0_idx677_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v14] : Fin 2 → IVec S16 32) a x).toNat < S264x256.size a := fun v6 v8 v10 v12 v14 v16 v18 v20 v22 v24 v26 v28 v30 v32 v34 v36 v2803 k0_hw43 => k0_hw43.2.2.2.2.1
theorem k0_idx678_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v16] : Fin 2 → IVec S16 32) a x).toNat < S264x256.size a := fun v6 v8 v10 v12 v14 v16 v18 v20 v22 v24 v26 v28 v30 v32 v34 v36 v2803 k0_hw43 => k0_hw43.2.2.2.2.2.1
theorem k0_idx679_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v18] : Fin 2 → IVec S16 32) a x).toNat < S264x256.size a := fun v6 v8 v10 v12 v14 v16 v18 v20 v22 v24 v26 v28 v30 v32 v34 v36 v2803 k0_hw43 => k0_hw43.2.2.2.2.2.2.1
theorem k0_idx680_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v20] : Fin 2 → IVec S16 32) a x).toNat < S264x256.size a := fun v6 v8 v10 v12 v14 v16 v18 v20 v22 v24 v26 v28 v30 v32 v34 v36 v2803 k0_hw43 => k0_hw43.2.2.2.2.2.2.2.1
theorem k0_idx681_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v22] : Fin 2 → IVec S16 32) a x).toNat < S264x256.size a := fun v6 v8 v10 v12 v14 v16 v18 v20 v22 v24 v26 v28 v30 v32 v34 v36 v2803 k0_hw43 => k0_hw43.2.2.2.2.2.2.2.2.1
theorem k0_idx682_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v24] : Fin 2 → IVec S16 32) a x).toNat < S264x256.size a := fun v6 v8 v10 v12 v14 v16 v18 v20 v22 v24 v26 v28 v30 v32 v34 v36 v2803 k0_hw43 => k0_hw43.2.2.2.2.2.2.2.2.2.1
theorem k0_idx683_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v26] : Fin 2 → IVec S16 32) a x).toNat < S264x256.size a := fun v6 v8 v10 v12 v14 v16 v18 v20 v22 v24 v26 v28 v30 v32 v34 v36 v2803 k0_hw43 => k0_hw43.2.2.2.2.2.2.2.2.2.2.1
theorem k0_idx684_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v28] : Fin 2 → IVec S16 32) a x).toNat < S264x256.size a := fun v6 v8 v10 v12 v14 v16 v18 v20 v22 v24 v26 v28 v30 v32 v34 v36 v2803 k0_hw43 => k0_hw43.2.2.2.2.2.2.2.2.2.2.2.1
theorem k0_idx685_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v30] : Fin 2 → IVec S16 32) a x).toNat < S264x256.size a := fun v6 v8 v10 v12 v14 v16 v18 v20 v22 v24 v26 v28 v30 v32 v34 v36 v2803 k0_hw43 => k0_hw43.2.2.2.2.2.2.2.2.2.2.2.2.1
theorem k0_idx686_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v32] : Fin 2 → IVec S16 32) a x).toNat < S264x256.size a := fun v6 v8 v10 v12 v14 v16 v18 v20 v22 v24 v26 v28 v30 v32 v34 v36 v2803 k0_hw43 => k0_hw43.2.2.2.2.2.2.2.2.2.2.2.2.2.1
theorem k0_idx687_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v34] : Fin 2 → IVec S16 32) a x).toNat < S264x256.size a := fun v6 v8 v10 v12 v14 v16 v18 v20 v22 v24 v26 v28 v30 v32 v34 v36 v2803 k0_hw43 => k0_hw43.2.2.2.2.2.2.2.2.2.2.2.2.2.2.1
theorem k0_idx688_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2803 : IVec S16 32) (k0_hw43 : k0_chk43 v6 v8 v10 v12 v14 v16 v18 v20 v22 v24 v26 v28 v30 v32 v34 v36 v2803), ∀ a x, ((![v2803, v36] : Fin 2 → IVec S16 32) a x).toNat < S264x256.size a := fun v6 v8 v10 v12 v14 v16 v18 v20 v22 v24 v26 v28 v30 v32 v34 v36 v2803 k0_hw43 => k0_hw43.2.2.2.2.2.2.2.2.2.2.2.2.2.2.2

def k0_chk44 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) : Prop :=
  (∀ a x, ((![v2869, v6] : Fin 2 → IVec S16 32) a x).toNat < S264x256.size a) ∧
  (∀ a x, ((![v2869, v8] : Fin 2 → IVec S16 32) a x).toNat < S264x256.size a) ∧
  (∀ a x, ((![v2869, v10] : Fin 2 → IVec S16 32) a x).toNat < S264x256.size a) ∧
  (∀ a x, ((![v2869, v12] : Fin 2 → IVec S16 32) a x).toNat < S264x256.size a) ∧
  (∀ a x, ((![v2869, v14] : Fin 2 → IVec S16 32) a x).toNat < S264x256.size a) ∧
  (∀ a x, ((![v2869, v16] : Fin 2 → IVec S16 32) a x).toNat < S264x256.size a) ∧
  (∀ a x, ((![v2869, v18] : Fin 2 → IVec S16 32) a x).toNat < S264x256.size a) ∧
  (∀ a x, ((![v2869, v20] : Fin 2 → IVec S16 32) a x).toNat < S264x256.size a) ∧
  (∀ a x, ((![v2869, v22] : Fin 2 → IVec S16 32) a x).toNat < S264x256.size a) ∧
  (∀ a x, ((![v2869, v24] : Fin 2 → IVec S16 32) a x).toNat < S264x256.size a) ∧
  (∀ a x, ((![v2869, v26] : Fin 2 → IVec S16 32) a x).toNat < S264x256.size a) ∧
  (∀ a x, ((![v2869, v28] : Fin 2 → IVec S16 32) a x).toNat < S264x256.size a) ∧
  (∀ a x, ((![v2869, v30] : Fin 2 → IVec S16 32) a x).toNat < S264x256.size a) ∧
  (∀ a x, ((![v2869, v32] : Fin 2 → IVec S16 32) a x).toNat < S264x256.size a) ∧
  (∀ a x, ((![v2869, v34] : Fin 2 → IVec S16 32) a x).toNat < S264x256.size a) ∧
  (∀ a x, ((![v2869, v36] : Fin 2 → IVec S16 32) a x).toNat < S264x256.size a)
theorem k0_idx689_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v6] : Fin 2 → IVec S16 32) a x).toNat < S264x256.size a := fun v6 v8 v10 v12 v14 v16 v18 v20 v22 v24 v26 v28 v30 v32 v34 v36 v2869 k0_hw44 => k0_hw44.1
theorem k0_idx690_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v8] : Fin 2 → IVec S16 32) a x).toNat < S264x256.size a := fun v6 v8 v10 v12 v14 v16 v18 v20 v22 v24 v26 v28 v30 v32 v34 v36 v2869 k0_hw44 => k0_hw44.2.1
theorem k0_idx691_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v10] : Fin 2 → IVec S16 32) a x).toNat < S264x256.size a := fun v6 v8 v10 v12 v14 v16 v18 v20 v22 v24 v26 v28 v30 v32 v34 v36 v2869 k0_hw44 => k0_hw44.2.2.1
theorem k0_idx692_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v12] : Fin 2 → IVec S16 32) a x).toNat < S264x256.size a := fun v6 v8 v10 v12 v14 v16 v18 v20 v22 v24 v26 v28 v30 v32 v34 v36 v2869 k0_hw44 => k0_hw44.2.2.2.1
theorem k0_idx693_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v14] : Fin 2 → IVec S16 32) a x).toNat < S264x256.size a := fun v6 v8 v10 v12 v14 v16 v18 v20 v22 v24 v26 v28 v30 v32 v34 v36 v2869 k0_hw44 => k0_hw44.2.2.2.2.1
theorem k0_idx694_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v16] : Fin 2 → IVec S16 32) a x).toNat < S264x256.size a := fun v6 v8 v10 v12 v14 v16 v18 v20 v22 v24 v26 v28 v30 v32 v34 v36 v2869 k0_hw44 => k0_hw44.2.2.2.2.2.1
theorem k0_idx695_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v18] : Fin 2 → IVec S16 32) a x).toNat < S264x256.size a := fun v6 v8 v10 v12 v14 v16 v18 v20 v22 v24 v26 v28 v30 v32 v34 v36 v2869 k0_hw44 => k0_hw44.2.2.2.2.2.2.1
theorem k0_idx696_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v20] : Fin 2 → IVec S16 32) a x).toNat < S264x256.size a := fun v6 v8 v10 v12 v14 v16 v18 v20 v22 v24 v26 v28 v30 v32 v34 v36 v2869 k0_hw44 => k0_hw44.2.2.2.2.2.2.2.1
theorem k0_idx697_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v22] : Fin 2 → IVec S16 32) a x).toNat < S264x256.size a := fun v6 v8 v10 v12 v14 v16 v18 v20 v22 v24 v26 v28 v30 v32 v34 v36 v2869 k0_hw44 => k0_hw44.2.2.2.2.2.2.2.2.1
theorem k0_idx698_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v24] : Fin 2 → IVec S16 32) a x).toNat < S264x256.size a := fun v6 v8 v10 v12 v14 v16 v18 v20 v22 v24 v26 v28 v30 v32 v34 v36 v2869 k0_hw44 => k0_hw44.2.2.2.2.2.2.2.2.2.1
theorem k0_idx699_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v26] : Fin 2 → IVec S16 32) a x).toNat < S264x256.size a := fun v6 v8 v10 v12 v14 v16 v18 v20 v22 v24 v26 v28 v30 v32 v34 v36 v2869 k0_hw44 => k0_hw44.2.2.2.2.2.2.2.2.2.2.1
theorem k0_idx700_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v28] : Fin 2 → IVec S16 32) a x).toNat < S264x256.size a := fun v6 v8 v10 v12 v14 v16 v18 v20 v22 v24 v26 v28 v30 v32 v34 v36 v2869 k0_hw44 => k0_hw44.2.2.2.2.2.2.2.2.2.2.2.1
theorem k0_idx701_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v30] : Fin 2 → IVec S16 32) a x).toNat < S264x256.size a := fun v6 v8 v10 v12 v14 v16 v18 v20 v22 v24 v26 v28 v30 v32 v34 v36 v2869 k0_hw44 => k0_hw44.2.2.2.2.2.2.2.2.2.2.2.2.1
theorem k0_idx702_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v32] : Fin 2 → IVec S16 32) a x).toNat < S264x256.size a := fun v6 v8 v10 v12 v14 v16 v18 v20 v22 v24 v26 v28 v30 v32 v34 v36 v2869 k0_hw44 => k0_hw44.2.2.2.2.2.2.2.2.2.2.2.2.2.1
theorem k0_idx703_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v34] : Fin 2 → IVec S16 32) a x).toNat < S264x256.size a := fun v6 v8 v10 v12 v14 v16 v18 v20 v22 v24 v26 v28 v30 v32 v34 v36 v2869 k0_hw44 => k0_hw44.2.2.2.2.2.2.2.2.2.2.2.2.2.2.1
theorem k0_idx704_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2869 : IVec S16 32) (k0_hw44 : k0_chk44 v6 v8 v10 v12 v14 v16 v18 v20 v22 v24 v26 v28 v30 v32 v34 v36 v2869), ∀ a x, ((![v2869, v36] : Fin 2 → IVec S16 32) a x).toNat < S264x256.size a := fun v6 v8 v10 v12 v14 v16 v18 v20 v22 v24 v26 v28 v30 v32 v34 v36 v2869 k0_hw44 => k0_hw44.2.2.2.2.2.2.2.2.2.2.2.2.2.2.2

def k0_chk45 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) : Prop :=
  (∀ a x, ((![v2935, v6] : Fin 2 → IVec S16 32) a x).toNat < S264x256.size a) ∧
  (∀ a x, ((![v2935, v8] : Fin 2 → IVec S16 32) a x).toNat < S264x256.size a) ∧
  (∀ a x, ((![v2935, v10] : Fin 2 → IVec S16 32) a x).toNat < S264x256.size a) ∧
  (∀ a x, ((![v2935, v12] : Fin 2 → IVec S16 32) a x).toNat < S264x256.size a) ∧
  (∀ a x, ((![v2935, v14] : Fin 2 → IVec S16 32) a x).toNat < S264x256.size a) ∧
  (∀ a x, ((![v2935, v16] : Fin 2 → IVec S16 32) a x).toNat < S264x256.size a) ∧
  (∀ a x, ((![v2935, v18] : Fin 2 → IVec S16 32) a x).toNat < S264x256.size a) ∧
  (∀ a x, ((![v2935, v20] : Fin 2 → IVec S16 32) a x).toNat < S264x256.size a) ∧
  (∀ a x, ((![v2935, v22] : Fin 2 → IVec S16 32) a x).toNat < S264x256.size a) ∧
  (∀ a x, ((![v2935, v24] : Fin 2 → IVec S16 32) a x).toNat < S264x256.size a) ∧
  (∀ a x, ((![v2935, v26] : Fin 2 → IVec S16 32) a x).toNat < S264x256.size a) ∧
  (∀ a x, ((![v2935, v28] : Fin 2 → IVec S16 32) a x).toNat < S264x256.size a) ∧
  (∀ a x, ((![v2935, v30] : Fin 2 → IVec S16 32) a x).toNat < S264x256.size a) ∧
  (∀ a x, ((![v2935, v32] : Fin 2 → IVec S16 32) a x).toNat < S264x256.size a) ∧
  (∀ a x, ((![v2935, v34] : Fin 2 → IVec S16 32) a x).toNat < S264x256.size a) ∧
  (∀ a x, ((![v2935, v36] : Fin 2 → IVec S16 32) a x).toNat < S264x256.size a)
theorem k0_idx705_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v6] : Fin 2 → IVec S16 32) a x).toNat < S264x256.size a := fun v6 v8 v10 v12 v14 v16 v18 v20 v22 v24 v26 v28 v30 v32 v34 v36 v2935 k0_hw45 => k0_hw45.1
theorem k0_idx706_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v8] : Fin 2 → IVec S16 32) a x).toNat < S264x256.size a := fun v6 v8 v10 v12 v14 v16 v18 v20 v22 v24 v26 v28 v30 v32 v34 v36 v2935 k0_hw45 => k0_hw45.2.1
theorem k0_idx707_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v10] : Fin 2 → IVec S16 32) a x).toNat < S264x256.size a := fun v6 v8 v10 v12 v14 v16 v18 v20 v22 v24 v26 v28 v30 v32 v34 v36 v2935 k0_hw45 => k0_hw45.2.2.1
theorem k0_idx708_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v12] : Fin 2 → IVec S16 32) a x).toNat < S264x256.size a := fun v6 v8 v10 v12 v14 v16 v18 v20 v22 v24 v26 v28 v30 v32 v34 v36 v2935 k0_hw45 => k0_hw45.2.2.2.1
theorem k0_idx709_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v14] : Fin 2 → IVec S16 32) a x).toNat < S264x256.size a := fun v6 v8 v10 v12 v14 v16 v18 v20 v22 v24 v26 v28 v30 v32 v34 v36 v2935 k0_hw45 => k0_hw45.2.2.2.2.1
theorem k0_idx710_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v16] : Fin 2 → IVec S16 32) a x).toNat < S264x256.size a := fun v6 v8 v10 v12 v14 v16 v18 v20 v22 v24 v26 v28 v30 v32 v34 v36 v2935 k0_hw45 => k0_hw45.2.2.2.2.2.1
theorem k0_idx711_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v18] : Fin 2 → IVec S16 32) a x).toNat < S264x256.size a := fun v6 v8 v10 v12 v14 v16 v18 v20 v22 v24 v26 v28 v30 v32 v34 v36 v2935 k0_hw45 => k0_hw45.2.2.2.2.2.2.1
theorem k0_idx712_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v20] : Fin 2 → IVec S16 32) a x).toNat < S264x256.size a := fun v6 v8 v10 v12 v14 v16 v18 v20 v22 v24 v26 v28 v30 v32 v34 v36 v2935 k0_hw45 => k0_hw45.2.2.2.2.2.2.2.1
theorem k0_idx713_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v22] : Fin 2 → IVec S16 32) a x).toNat < S264x256.size a := fun v6 v8 v10 v12 v14 v16 v18 v20 v22 v24 v26 v28 v30 v32 v34 v36 v2935 k0_hw45 => k0_hw45.2.2.2.2.2.2.2.2.1
theorem k0_idx714_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v24] : Fin 2 → IVec S16 32) a x).toNat < S264x256.size a := fun v6 v8 v10 v12 v14 v16 v18 v20 v22 v24 v26 v28 v30 v32 v34 v36 v2935 k0_hw45 => k0_hw45.2.2.2.2.2.2.2.2.2.1
theorem k0_idx715_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v26] : Fin 2 → IVec S16 32) a x).toNat < S264x256.size a := fun v6 v8 v10 v12 v14 v16 v18 v20 v22 v24 v26 v28 v30 v32 v34 v36 v2935 k0_hw45 => k0_hw45.2.2.2.2.2.2.2.2.2.2.1
theorem k0_idx716_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v28] : Fin 2 → IVec S16 32) a x).toNat < S264x256.size a := fun v6 v8 v10 v12 v14 v16 v18 v20 v22 v24 v26 v28 v30 v32 v34 v36 v2935 k0_hw45 => k0_hw45.2.2.2.2.2.2.2.2.2.2.2.1
theorem k0_idx717_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v30] : Fin 2 → IVec S16 32) a x).toNat < S264x256.size a := fun v6 v8 v10 v12 v14 v16 v18 v20 v22 v24 v26 v28 v30 v32 v34 v36 v2935 k0_hw45 => k0_hw45.2.2.2.2.2.2.2.2.2.2.2.2.1
theorem k0_idx718_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v32] : Fin 2 → IVec S16 32) a x).toNat < S264x256.size a := fun v6 v8 v10 v12 v14 v16 v18 v20 v22 v24 v26 v28 v30 v32 v34 v36 v2935 k0_hw45 => k0_hw45.2.2.2.2.2.2.2.2.2.2.2.2.2.1
theorem k0_idx719_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v34] : Fin 2 → IVec S16 32) a x).toNat < S264x256.size a := fun v6 v8 v10 v12 v14 v16 v18 v20 v22 v24 v26 v28 v30 v32 v34 v36 v2935 k0_hw45 => k0_hw45.2.2.2.2.2.2.2.2.2.2.2.2.2.2.1
theorem k0_idx720_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v2935 : IVec S16 32) (k0_hw45 : k0_chk45 v6 v8 v10 v12 v14 v16 v18 v20 v22 v24 v26 v28 v30 v32 v34 v36 v2935), ∀ a x, ((![v2935, v36] : Fin 2 → IVec S16 32) a x).toNat < S264x256.size a := fun v6 v8 v10 v12 v14 v16 v18 v20 v22 v24 v26 v28 v30 v32 v34 v36 v2935 k0_hw45 => k0_hw45.2.2.2.2.2.2.2.2.2.2.2.2.2.2.2

def k0_chk46 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) : Prop :=
  (∀ a x, ((![v3001, v6] : Fin 2 → IVec S16 32) a x).toNat < S264x256.size a) ∧
  (∀ a x, ((![v3001, v8] : Fin 2 → IVec S16 32) a x).toNat < S264x256.size a) ∧
  (∀ a x, ((![v3001, v10] : Fin 2 → IVec S16 32) a x).toNat < S264x256.size a) ∧
  (∀ a x, ((![v3001, v12] : Fin 2 → IVec S16 32) a x).toNat < S264x256.size a) ∧
  (∀ a x, ((![v3001, v14] : Fin 2 → IVec S16 32) a x).toNat < S264x256.size a) ∧
  (∀ a x, ((![v3001, v16] : Fin 2 → IVec S16 32) a x).toNat < S264x256.size a) ∧
  (∀ a x, ((![v3001, v18] : Fin 2 → IVec S16 32) a x).toNat < S264x256.size a) ∧
  (∀ a x, ((![v3001, v20] : Fin 2 → IVec S16 32) a x).toNat < S264x256.size a) ∧
  (∀ a x, ((![v3001, v22] : Fin 2 → IVec S16 32) a x).toNat < S264x256.size a) ∧
  (∀ a x, ((![v3001, v24] : Fin 2 → IVec S16 32) a x).toNat < S264x256.size a) ∧
  (∀ a x, ((![v3001, v26] : Fin 2 → IVec S16 32) a x).toNat < S264x256.size a) ∧
  (∀ a x, ((![v3001, v28] : Fin 2 → IVec S16 32) a x).toNat < S264x256.size a) ∧
  (∀ a x, ((![v3001, v30] : Fin 2 → IVec S16 32) a x).toNat < S264x256.size a) ∧
  (∀ a x, ((![v3001, v32] : Fin 2 → IVec S16 32) a x).toNat < S264x256.size a) ∧
  (∀ a x, ((![v3001, v34] : Fin 2 → IVec S16 32) a x).toNat < S264x256.size a) ∧
  (∀ a x, ((![v3001, v36] : Fin 2 → IVec S16 32) a x).toNat < S264x256.size a)
theorem k0_idx721_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v6] : Fin 2 → IVec S16 32) a x).toNat < S264x256.size a := fun v6 v8 v10 v12 v14 v16 v18 v20 v22 v24 v26 v28 v30 v32 v34 v36 v3001 k0_hw46 => k0_hw46.1
theorem k0_idx722_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v8] : Fin 2 → IVec S16 32) a x).toNat < S264x256.size a := fun v6 v8 v10 v12 v14 v16 v18 v20 v22 v24 v26 v28 v30 v32 v34 v36 v3001 k0_hw46 => k0_hw46.2.1
theorem k0_idx723_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v10] : Fin 2 → IVec S16 32) a x).toNat < S264x256.size a := fun v6 v8 v10 v12 v14 v16 v18 v20 v22 v24 v26 v28 v30 v32 v34 v36 v3001 k0_hw46 => k0_hw46.2.2.1
theorem k0_idx724_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v12] : Fin 2 → IVec S16 32) a x).toNat < S264x256.size a := fun v6 v8 v10 v12 v14 v16 v18 v20 v22 v24 v26 v28 v30 v32 v34 v36 v3001 k0_hw46 => k0_hw46.2.2.2.1
theorem k0_idx725_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v14] : Fin 2 → IVec S16 32) a x).toNat < S264x256.size a := fun v6 v8 v10 v12 v14 v16 v18 v20 v22 v24 v26 v28 v30 v32 v34 v36 v3001 k0_hw46 => k0_hw46.2.2.2.2.1
theorem k0_idx726_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v16] : Fin 2 → IVec S16 32) a x).toNat < S264x256.size a := fun v6 v8 v10 v12 v14 v16 v18 v20 v22 v24 v26 v28 v30 v32 v34 v36 v3001 k0_hw46 => k0_hw46.2.2.2.2.2.1
theorem k0_idx727_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v18] : Fin 2 → IVec S16 32) a x).toNat < S264x256.size a := fun v6 v8 v10 v12 v14 v16 v18 v20 v22 v24 v26 v28 v30 v32 v34 v36 v3001 k0_hw46 => k0_hw46.2.2.2.2.2.2.1
theorem k0_idx728_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v20] : Fin 2 → IVec S16 32) a x).toNat < S264x256.size a := fun v6 v8 v10 v12 v14 v16 v18 v20 v22 v24 v26 v28 v30 v32 v34 v36 v3001 k0_hw46 => k0_hw46.2.2.2.2.2.2.2.1
theorem k0_idx729_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v22] : Fin 2 → IVec S16 32) a x).toNat < S264x256.size a := fun v6 v8 v10 v12 v14 v16 v18 v20 v22 v24 v26 v28 v30 v32 v34 v36 v3001 k0_hw46 => k0_hw46.2.2.2.2.2.2.2.2.1
theorem k0_idx730_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v24] : Fin 2 → IVec S16 32) a x).toNat < S264x256.size a := fun v6 v8 v10 v12 v14 v16 v18 v20 v22 v24 v26 v28 v30 v32 v34 v36 v3001 k0_hw46 => k0_hw46.2.2.2.2.2.2.2.2.2.1
theorem k0_idx731_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v26] : Fin 2 → IVec S16 32) a x).toNat < S264x256.size a := fun v6 v8 v10 v12 v14 v16 v18 v20 v22 v24 v26 v28 v30 v32 v34 v36 v3001 k0_hw46 => k0_hw46.2.2.2.2.2.2.2.2.2.2.1
theorem k0_idx732_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v28] : Fin 2 → IVec S16 32) a x).toNat < S264x256.size a := fun v6 v8 v10 v12 v14 v16 v18 v20 v22 v24 v26 v28 v30 v32 v34 v36 v3001 k0_hw46 => k0_hw46.2.2.2.2.2.2.2.2.2.2.2.1
theorem k0_idx733_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v30] : Fin 2 → IVec S16 32) a x).toNat < S264x256.size a := fun v6 v8 v10 v12 v14 v16 v18 v20 v22 v24 v26 v28 v30 v32 v34 v36 v3001 k0_hw46 => k0_hw46.2.2.2.2.2.2.2.2.2.2.2.2.1
theorem k0_idx734_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v32] : Fin 2 → IVec S16 32) a x).toNat < S264x256.size a := fun v6 v8 v10 v12 v14 v16 v18 v20 v22 v24 v26 v28 v30 v32 v34 v36 v3001 k0_hw46 => k0_hw46.2.2.2.2.2.2.2.2.2.2.2.2.2.1
theorem k0_idx735_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v34] : Fin 2 → IVec S16 32) a x).toNat < S264x256.size a := fun v6 v8 v10 v12 v14 v16 v18 v20 v22 v24 v26 v28 v30 v32 v34 v36 v3001 k0_hw46 => k0_hw46.2.2.2.2.2.2.2.2.2.2.2.2.2.2.1
theorem k0_idx736_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3001 : IVec S16 32) (k0_hw46 : k0_chk46 v6 v8 v10 v12 v14 v16 v18 v20 v22 v24 v26 v28 v30 v32 v34 v36 v3001), ∀ a x, ((![v3001, v36] : Fin 2 → IVec S16 32) a x).toNat < S264x256.size a := fun v6 v8 v10 v12 v14 v16 v18 v20 v22 v24 v26 v28 v30 v32 v34 v36 v3001 k0_hw46 => k0_hw46.2.2.2.2.2.2.2.2.2.2.2.2.2.2.2

def k0_chk47 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) : Prop :=
  (∀ a x, ((![v3067, v6] : Fin 2 → IVec S16 32) a x).toNat < S264x256.size a) ∧
  (∀ a x, ((![v3067, v8] : Fin 2 → IVec S16 32) a x).toNat < S264x256.size a) ∧
  (∀ a x, ((![v3067, v10] : Fin 2 → IVec S16 32) a x).toNat < S264x256.size a) ∧
  (∀ a x, ((![v3067, v12] : Fin 2 → IVec S16 32) a x).toNat < S264x256.size a) ∧
  (∀ a x, ((![v3067, v14] : Fin 2 → IVec S16 32) a x).toNat < S264x256.size a) ∧
  (∀ a x, ((![v3067, v16] : Fin 2 → IVec S16 32) a x).toNat < S264x256.size a) ∧
  (∀ a x, ((![v3067, v18] : Fin 2 → IVec S16 32) a x).toNat < S264x256.size a) ∧
  (∀ a x, ((![v3067, v20] : Fin 2 → IVec S16 32) a x).toNat < S264x256.size a) ∧
  (∀ a x, ((![v3067, v22] : Fin 2 → IVec S16 32) a x).toNat < S264x256.size a) ∧
  (∀ a x, ((![v3067, v24] : Fin 2 → IVec S16 32) a x).toNat < S264x256.size a) ∧
  (∀ a x, ((![v3067, v26] : Fin 2 → IVec S16 32) a x).toNat < S264x256.size a) ∧
  (∀ a x, ((![v3067, v28] : Fin 2 → IVec S16 32) a x).toNat < S264x256.size a) ∧
  (∀ a x, ((![v3067, v30] : Fin 2 → IVec S16 32) a x).toNat < S264x256.size a) ∧
  (∀ a x, ((![v3067, v32] : Fin 2 → IVec S16 32) a x).toNat < S264x256.size a) ∧
  (∀ a x, ((![v3067, v34] : Fin 2 → IVec S16 32) a x).toNat < S264x256.size a) ∧
  (∀ a x, ((![v3067, v36] : Fin 2 → IVec S16 32) a x).toNat < S264x256.size a)
theorem k0_idx737_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v6] : Fin 2 → IVec S16 32) a x).toNat < S264x256.size a := fun v6 v8 v10 v12 v14 v16 v18 v20 v22 v24 v26 v28 v30 v32 v34 v36 v3067 k0_hw47 => k0_hw47.1
theorem k0_idx738_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v8] : Fin 2 → IVec S16 32) a x).toNat < S264x256.size a := fun v6 v8 v10 v12 v14 v16 v18 v20 v22 v24 v26 v28 v30 v32 v34 v36 v3067 k0_hw47 => k0_hw47.2.1
theorem k0_idx739_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v10] : Fin 2 → IVec S16 32) a x).toNat < S264x256.size a := fun v6 v8 v10 v12 v14 v16 v18 v20 v22 v24 v26 v28 v30 v32 v34 v36 v3067 k0_hw47 => k0_hw47.2.2.1
theorem k0_idx740_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v12] : Fin 2 → IVec S16 32) a x).toNat < S264x256.size a := fun v6 v8 v10 v12 v14 v16 v18 v20 v22 v24 v26 v28 v30 v32 v34 v36 v3067 k0_hw47 => k0_hw47.2.2.2.1
theorem k0_idx741_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v14] : Fin 2 → IVec S16 32) a x).toNat < S264x256.size a := fun v6 v8 v10 v12 v14 v16 v18 v20 v22 v24 v26 v28 v30 v32 v34 v36 v3067 k0_hw47 => k0_hw47.2.2.2.2.1
theorem k0_idx742_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v16] : Fin 2 → IVec S16 32) a x).toNat < S264x256.size a := fun v6 v8 v10 v12 v14 v16 v18 v20 v22 v24 v26 v28 v30 v32 v34 v36 v3067 k0_hw47 => k0_hw47.2.2.2.2.2.1
theorem k0_idx743_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v18] : Fin 2 → IVec S16 32) a x).toNat < S264x256.size a := fun v6 v8 v10 v12 v14 v16 v18 v20 v22 v24 v26 v28 v30 v32 v34 v36 v3067 k0_hw47 => k0_hw47.2.2.2.2.2.2.1
theorem k0_idx744_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v20] : Fin 2 → IVec S16 32) a x).toNat < S264x256.size a := fun v6 v8 v10 v12 v14 v16 v18 v20 v22 v24 v26 v28 v30 v32 v34 v36 v3067 k0_hw47 => k0_hw47.2.2.2.2.2.2.2.1
theorem k0_idx745_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v22] : Fin 2 → IVec S16 32) a x).toNat < S264x256.size a := fun v6 v8 v10 v12 v14 v16 v18 v20 v22 v24 v26 v28 v30 v32 v34 v36 v3067 k0_hw47 => k0_hw47.2.2.2.2.2.2.2.2.1
theorem k0_idx746_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v24] : Fin 2 → IVec S16 32) a x).toNat < S264x256.size a := fun v6 v8 v10 v12 v14 v16 v18 v20 v22 v24 v26 v28 v30 v32 v34 v36 v3067 k0_hw47 => k0_hw47.2.2.2.2.2.2.2.2.2.1
theorem k0_idx747_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v26] : Fin 2 → IVec S16 32) a x).toNat < S264x256.size a := fun v6 v8 v10 v12 v14 v16 v18 v20 v22 v24 v26 v28 v30 v32 v34 v36 v3067 k0_hw47 => k0_hw47.2.2.2.2.2.2.2.2.2.2.1
theorem k0_idx748_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v28] : Fin 2 → IVec S16 32) a x).toNat < S264x256.size a := fun v6 v8 v10 v12 v14 v16 v18 v20 v22 v24 v26 v28 v30 v32 v34 v36 v3067 k0_hw47 => k0_hw47.2.2.2.2.2.2.2.2.2.2.2.1
theorem k0_idx749_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v30] : Fin 2 → IVec S16 32) a x).toNat < S264x256.size a := fun v6 v8 v10 v12 v14 v16 v18 v20 v22 v24 v26 v28 v30 v32 v34 v36 v3067 k0_hw47 => k0_hw47.2.2.2.2.2.2.2.2.2.2.2.2.1
theorem k0_idx750_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v32] : Fin 2 → IVec S16 32) a x).toNat < S264x256.size a := fun v6 v8 v10 v12 v14 v16 v18 v20 v22 v24 v26 v28 v30 v32 v34 v36 v3067 k0_hw47 => k0_hw47.2.2.2.2.2.2.2.2.2.2.2.2.2.1
theorem k0_idx751_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v34] : Fin 2 → IVec S16 32) a x).toNat < S264x256.size a := fun v6 v8 v10 v12 v14 v16 v18 v20 v22 v24 v26 v28 v30 v32 v34 v36 v3067 k0_hw47 => k0_hw47.2.2.2.2.2.2.2.2.2.2.2.2.2.2.1
theorem k0_idx752_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3067 : IVec S16 32) (k0_hw47 : k0_chk47 v6 v8 v10 v12 v14 v16 v18 v20 v22 v24 v26 v28 v30 v32 v34 v36 v3067), ∀ a x, ((![v3067, v36] : Fin 2 → IVec S16 32) a x).toNat < S264x256.size a := fun v6 v8 v10 v12 v14 v16 v18 v20 v22 v24 v26 v28 v30 v32 v34 v36 v3067 k0_hw47 => k0_hw47.2.2.2.2.2.2.2.2.2.2.2.2.2.2.2

def k0_chk48 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) : Prop :=
  (∀ a x, ((![v3133, v6] : Fin 2 → IVec S16 32) a x).toNat < S264x256.size a) ∧
  (∀ a x, ((![v3133, v8] : Fin 2 → IVec S16 32) a x).toNat < S264x256.size a) ∧
  (∀ a x, ((![v3133, v10] : Fin 2 → IVec S16 32) a x).toNat < S264x256.size a) ∧
  (∀ a x, ((![v3133, v12] : Fin 2 → IVec S16 32) a x).toNat < S264x256.size a) ∧
  (∀ a x, ((![v3133, v14] : Fin 2 → IVec S16 32) a x).toNat < S264x256.size a) ∧
  (∀ a x, ((![v3133, v16] : Fin 2 → IVec S16 32) a x).toNat < S264x256.size a) ∧
  (∀ a x, ((![v3133, v18] : Fin 2 → IVec S16 32) a x).toNat < S264x256.size a) ∧
  (∀ a x, ((![v3133, v20] : Fin 2 → IVec S16 32) a x).toNat < S264x256.size a) ∧
  (∀ a x, ((![v3133, v22] : Fin 2 → IVec S16 32) a x).toNat < S264x256.size a) ∧
  (∀ a x, ((![v3133, v24] : Fin 2 → IVec S16 32) a x).toNat < S264x256.size a) ∧
  (∀ a x, ((![v3133, v26] : Fin 2 → IVec S16 32) a x).toNat < S264x256.size a) ∧
  (∀ a x, ((![v3133, v28] : Fin 2 → IVec S16 32) a x).toNat < S264x256.size a) ∧
  (∀ a x, ((![v3133, v30] : Fin 2 → IVec S16 32) a x).toNat < S264x256.size a) ∧
  (∀ a x, ((![v3133, v32] : Fin 2 → IVec S16 32) a x).toNat < S264x256.size a) ∧
  (∀ a x, ((![v3133, v34] : Fin 2 → IVec S16 32) a x).toNat < S264x256.size a) ∧
  (∀ a x, ((![v3133, v36] : Fin 2 → IVec S16 32) a x).toNat < S264x256.size a)
theorem k0_idx753_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v6] : Fin 2 → IVec S16 32) a x).toNat < S264x256.size a := fun v6 v8 v10 v12 v14 v16 v18 v20 v22 v24 v26 v28 v30 v32 v34 v36 v3133 k0_hw48 => k0_hw48.1
theorem k0_idx754_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v8] : Fin 2 → IVec S16 32) a x).toNat < S264x256.size a := fun v6 v8 v10 v12 v14 v16 v18 v20 v22 v24 v26 v28 v30 v32 v34 v36 v3133 k0_hw48 => k0_hw48.2.1
theorem k0_idx755_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v10] : Fin 2 → IVec S16 32) a x).toNat < S264x256.size a := fun v6 v8 v10 v12 v14 v16 v18 v20 v22 v24 v26 v28 v30 v32 v34 v36 v3133 k0_hw48 => k0_hw48.2.2.1
theorem k0_idx756_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v12] : Fin 2 → IVec S16 32) a x).toNat < S264x256.size a := fun v6 v8 v10 v12 v14 v16 v18 v20 v22 v24 v26 v28 v30 v32 v34 v36 v3133 k0_hw48 => k0_hw48.2.2.2.1
theorem k0_idx757_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v14] : Fin 2 → IVec S16 32) a x).toNat < S264x256.size a := fun v6 v8 v10 v12 v14 v16 v18 v20 v22 v24 v26 v28 v30 v32 v34 v36 v3133 k0_hw48 => k0_hw48.2.2.2.2.1
theorem k0_idx758_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v16] : Fin 2 → IVec S16 32) a x).toNat < S264x256.size a := fun v6 v8 v10 v12 v14 v16 v18 v20 v22 v24 v26 v28 v30 v32 v34 v36 v3133 k0_hw48 => k0_hw48.2.2.2.2.2.1
theorem k0_idx759_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v18] : Fin 2 → IVec S16 32) a x).toNat < S264x256.size a := fun v6 v8 v10 v12 v14 v16 v18 v20 v22 v24 v26 v28 v30 v32 v34 v36 v3133 k0_hw48 => k0_hw48.2.2.2.2.2.2.1
theorem k0_idx760_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v20] : Fin 2 → IVec S16 32) a x).toNat < S264x256.size a := fun v6 v8 v10 v12 v14 v16 v18 v20 v22 v24 v26 v28 v30 v32 v34 v36 v3133 k0_hw48 => k0_hw48.2.2.2.2.2.2.2.1
theorem k0_idx761_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v22] : Fin 2 → IVec S16 32) a x).toNat < S264x256.size a := fun v6 v8 v10 v12 v14 v16 v18 v20 v22 v24 v26 v28 v30 v32 v34 v36 v3133 k0_hw48 => k0_hw48.2.2.2.2.2.2.2.2.1
theorem k0_idx762_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v24] : Fin 2 → IVec S16 32) a x).toNat < S264x256.size a := fun v6 v8 v10 v12 v14 v16 v18 v20 v22 v24 v26 v28 v30 v32 v34 v36 v3133 k0_hw48 => k0_hw48.2.2.2.2.2.2.2.2.2.1
theorem k0_idx763_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v26] : Fin 2 → IVec S16 32) a x).toNat < S264x256.size a := fun v6 v8 v10 v12 v14 v16 v18 v20 v22 v24 v26 v28 v30 v32 v34 v36 v3133 k0_hw48 => k0_hw48.2.2.2.2.2.2.2.2.2.2.1
theorem k0_idx764_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v28] : Fin 2 → IVec S16 32) a x).toNat < S264x256.size a := fun v6 v8 v10 v12 v14 v16 v18 v20 v22 v24 v26 v28 v30 v32 v34 v36 v3133 k0_hw48 => k0_hw48.2.2.2.2.2.2.2.2.2.2.2.1
theorem k0_idx765_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v30] : Fin 2 → IVec S16 32) a x).toNat < S264x256.size a := fun v6 v8 v10 v12 v14 v16 v18 v20 v22 v24 v26 v28 v30 v32 v34 v36 v3133 k0_hw48 => k0_hw48.2.2.2.2.2.2.2.2.2.2.2.2.1
theorem k0_idx766_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v32] : Fin 2 → IVec S16 32) a x).toNat < S264x256.size a := fun v6 v8 v10 v12 v14 v16 v18 v20 v22 v24 v26 v28 v30 v32 v34 v36 v3133 k0_hw48 => k0_hw48.2.2.2.2.2.2.2.2.2.2.2.2.2.1
theorem k0_idx767_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v34] : Fin 2 → IVec S16 32) a x).toNat < S264x256.size a := fun v6 v8 v10 v12 v14 v16 v18 v20 v22 v24 v26 v28 v30 v32 v34 v36 v3133 k0_hw48 => k0_hw48.2.2.2.2.2.2.2.2.2.2.2.2.2.2.1
theorem k0_idx768_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3133 : IVec S16 32) (k0_hw48 : k0_chk48 v6 v8 v10 v12 v14 v16 v18 v20 v22 v24 v26 v28 v30 v32 v34 v36 v3133), ∀ a x, ((![v3133, v36] : Fin 2 → IVec S16 32) a x).toNat < S264x256.size a := fun v6 v8 v10 v12 v14 v16 v18 v20 v22 v24 v26 v28 v30 v32 v34 v36 v3133 k0_hw48 => k0_hw48.2.2.2.2.2.2.2.2.2.2.2.2.2.2.2

def k0_chk49 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) : Prop :=
  (∀ a x, ((![v3199, v6] : Fin 2 → IVec S16 32) a x).toNat < S264x256.size a) ∧
  (∀ a x, ((![v3199, v8] : Fin 2 → IVec S16 32) a x).toNat < S264x256.size a) ∧
  (∀ a x, ((![v3199, v10] : Fin 2 → IVec S16 32) a x).toNat < S264x256.size a) ∧
  (∀ a x, ((![v3199, v12] : Fin 2 → IVec S16 32) a x).toNat < S264x256.size a) ∧
  (∀ a x, ((![v3199, v14] : Fin 2 → IVec S16 32) a x).toNat < S264x256.size a) ∧
  (∀ a x, ((![v3199, v16] : Fin 2 → IVec S16 32) a x).toNat < S264x256.size a) ∧
  (∀ a x, ((![v3199, v18] : Fin 2 → IVec S16 32) a x).toNat < S264x256.size a) ∧
  (∀ a x, ((![v3199, v20] : Fin 2 → IVec S16 32) a x).toNat < S264x256.size a) ∧
  (∀ a x, ((![v3199, v22] : Fin 2 → IVec S16 32) a x).toNat < S264x256.size a) ∧
  (∀ a x, ((![v3199, v24] : Fin 2 → IVec S16 32) a x).toNat < S264x256.size a) ∧
  (∀ a x, ((![v3199, v26] : Fin 2 → IVec S16 32) a x).toNat < S264x256.size a) ∧
  (∀ a x, ((![v3199, v28] : Fin 2 → IVec S16 32) a x).toNat < S264x256.size a) ∧
  (∀ a x, ((![v3199, v30] : Fin 2 → IVec S16 32) a x).toNat < S264x256.size a) ∧
  (∀ a x, ((![v3199, v32] : Fin 2 → IVec S16 32) a x).toNat < S264x256.size a) ∧
  (∀ a x, ((![v3199, v34] : Fin 2 → IVec S16 32) a x).toNat < S264x256.size a) ∧
  (∀ a x, ((![v3199, v36] : Fin 2 → IVec S16 32) a x).toNat < S264x256.size a)
theorem k0_idx769_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v6] : Fin 2 → IVec S16 32) a x).toNat < S264x256.size a := fun v6 v8 v10 v12 v14 v16 v18 v20 v22 v24 v26 v28 v30 v32 v34 v36 v3199 k0_hw49 => k0_hw49.1
theorem k0_idx770_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v8] : Fin 2 → IVec S16 32) a x).toNat < S264x256.size a := fun v6 v8 v10 v12 v14 v16 v18 v20 v22 v24 v26 v28 v30 v32 v34 v36 v3199 k0_hw49 => k0_hw49.2.1
theorem k0_idx771_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v10] : Fin 2 → IVec S16 32) a x).toNat < S264x256.size a := fun v6 v8 v10 v12 v14 v16 v18 v20 v22 v24 v26 v28 v30 v32 v34 v36 v3199 k0_hw49 => k0_hw49.2.2.1
theorem k0_idx772_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v12] : Fin 2 → IVec S16 32) a x).toNat < S264x256.size a := fun v6 v8 v10 v12 v14 v16 v18 v20 v22 v24 v26 v28 v30 v32 v34 v36 v3199 k0_hw49 => k0_hw49.2.2.2.1
theorem k0_idx773_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v14] : Fin 2 → IVec S16 32) a x).toNat < S264x256.size a := fun v6 v8 v10 v12 v14 v16 v18 v20 v22 v24 v26 v28 v30 v32 v34 v36 v3199 k0_hw49 => k0_hw49.2.2.2.2.1
theorem k0_idx774_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v16] : Fin 2 → IVec S16 32) a x).toNat < S264x256.size a := fun v6 v8 v10 v12 v14 v16 v18 v20 v22 v24 v26 v28 v30 v32 v34 v36 v3199 k0_hw49 => k0_hw49.2.2.2.2.2.1
theorem k0_idx775_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v18] : Fin 2 → IVec S16 32) a x).toNat < S264x256.size a := fun v6 v8 v10 v12 v14 v16 v18 v20 v22 v24 v26 v28 v30 v32 v34 v36 v3199 k0_hw49 => k0_hw49.2.2.2.2.2.2.1
theorem k0_idx776_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v20] : Fin 2 → IVec S16 32) a x).toNat < S264x256.size a := fun v6 v8 v10 v12 v14 v16 v18 v20 v22 v24 v26 v28 v30 v32 v34 v36 v3199 k0_hw49 => k0_hw49.2.2.2.2.2.2.2.1
theorem k0_idx777_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v22] : Fin 2 → IVec S16 32) a x).toNat < S264x256.size a := fun v6 v8 v10 v12 v14 v16 v18 v20 v22 v24 v26 v28 v30 v32 v34 v36 v3199 k0_hw49 => k0_hw49.2.2.2.2.2.2.2.2.1
theorem k0_idx778_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v24] : Fin 2 → IVec S16 32) a x).toNat < S264x256.size a := fun v6 v8 v10 v12 v14 v16 v18 v20 v22 v24 v26 v28 v30 v32 v34 v36 v3199 k0_hw49 => k0_hw49.2.2.2.2.2.2.2.2.2.1
theorem k0_idx779_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v26] : Fin 2 → IVec S16 32) a x).toNat < S264x256.size a := fun v6 v8 v10 v12 v14 v16 v18 v20 v22 v24 v26 v28 v30 v32 v34 v36 v3199 k0_hw49 => k0_hw49.2.2.2.2.2.2.2.2.2.2.1
theorem k0_idx780_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v28] : Fin 2 → IVec S16 32) a x).toNat < S264x256.size a := fun v6 v8 v10 v12 v14 v16 v18 v20 v22 v24 v26 v28 v30 v32 v34 v36 v3199 k0_hw49 => k0_hw49.2.2.2.2.2.2.2.2.2.2.2.1
theorem k0_idx781_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v30] : Fin 2 → IVec S16 32) a x).toNat < S264x256.size a := fun v6 v8 v10 v12 v14 v16 v18 v20 v22 v24 v26 v28 v30 v32 v34 v36 v3199 k0_hw49 => k0_hw49.2.2.2.2.2.2.2.2.2.2.2.2.1
theorem k0_idx782_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v32] : Fin 2 → IVec S16 32) a x).toNat < S264x256.size a := fun v6 v8 v10 v12 v14 v16 v18 v20 v22 v24 v26 v28 v30 v32 v34 v36 v3199 k0_hw49 => k0_hw49.2.2.2.2.2.2.2.2.2.2.2.2.2.1
theorem k0_idx783_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v34] : Fin 2 → IVec S16 32) a x).toNat < S264x256.size a := fun v6 v8 v10 v12 v14 v16 v18 v20 v22 v24 v26 v28 v30 v32 v34 v36 v3199 k0_hw49 => k0_hw49.2.2.2.2.2.2.2.2.2.2.2.2.2.2.1
theorem k0_idx784_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3199 : IVec S16 32) (k0_hw49 : k0_chk49 v6 v8 v10 v12 v14 v16 v18 v20 v22 v24 v26 v28 v30 v32 v34 v36 v3199), ∀ a x, ((![v3199, v36] : Fin 2 → IVec S16 32) a x).toNat < S264x256.size a := fun v6 v8 v10 v12 v14 v16 v18 v20 v22 v24 v26 v28 v30 v32 v34 v36 v3199 k0_hw49 => k0_hw49.2.2.2.2.2.2.2.2.2.2.2.2.2.2.2

def k0_chk50 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) : Prop :=
  (∀ a x, ((![v3265, v6] : Fin 2 → IVec S16 32) a x).toNat < S264x256.size a) ∧
  (∀ a x, ((![v3265, v8] : Fin 2 → IVec S16 32) a x).toNat < S264x256.size a) ∧
  (∀ a x, ((![v3265, v10] : Fin 2 → IVec S16 32) a x).toNat < S264x256.size a) ∧
  (∀ a x, ((![v3265, v12] : Fin 2 → IVec S16 32) a x).toNat < S264x256.size a) ∧
  (∀ a x, ((![v3265, v14] : Fin 2 → IVec S16 32) a x).toNat < S264x256.size a) ∧
  (∀ a x, ((![v3265, v16] : Fin 2 → IVec S16 32) a x).toNat < S264x256.size a) ∧
  (∀ a x, ((![v3265, v18] : Fin 2 → IVec S16 32) a x).toNat < S264x256.size a) ∧
  (∀ a x, ((![v3265, v20] : Fin 2 → IVec S16 32) a x).toNat < S264x256.size a) ∧
  (∀ a x, ((![v3265, v22] : Fin 2 → IVec S16 32) a x).toNat < S264x256.size a) ∧
  (∀ a x, ((![v3265, v24] : Fin 2 → IVec S16 32) a x).toNat < S264x256.size a) ∧
  (∀ a x, ((![v3265, v26] : Fin 2 → IVec S16 32) a x).toNat < S264x256.size a) ∧
  (∀ a x, ((![v3265, v28] : Fin 2 → IVec S16 32) a x).toNat < S264x256.size a) ∧
  (∀ a x, ((![v3265, v30] : Fin 2 → IVec S16 32) a x).toNat < S264x256.size a) ∧
  (∀ a x, ((![v3265, v32] : Fin 2 → IVec S16 32) a x).toNat < S264x256.size a) ∧
  (∀ a x, ((![v3265, v34] : Fin 2 → IVec S16 32) a x).toNat < S264x256.size a) ∧
  (∀ a x, ((![v3265, v36] : Fin 2 → IVec S16 32) a x).toNat < S264x256.size a)
theorem k0_idx785_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v6] : Fin 2 → IVec S16 32) a x).toNat < S264x256.size a := fun v6 v8 v10 v12 v14 v16 v18 v20 v22 v24 v26 v28 v30 v32 v34 v36 v3265 k0_hw50 => k0_hw50.1
theorem k0_idx786_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v8] : Fin 2 → IVec S16 32) a x).toNat < S264x256.size a := fun v6 v8 v10 v12 v14 v16 v18 v20 v22 v24 v26 v28 v30 v32 v34 v36 v3265 k0_hw50 => k0_hw50.2.1
theorem k0_idx787_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v10] : Fin 2 → IVec S16 32) a x).toNat < S264x256.size a := fun v6 v8 v10 v12 v14 v16 v18 v20 v22 v24 v26 v28 v30 v32 v34 v36 v3265 k0_hw50 => k0_hw50.2.2.1
theorem k0_idx788_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v12] : Fin 2 → IVec S16 32) a x).toNat < S264x256.size a := fun v6 v8 v10 v12 v14 v16 v18 v20 v22 v24 v26 v28 v30 v32 v34 v36 v3265 k0_hw50 => k0_hw50.2.2.2.1
theorem k0_idx789_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v14] : Fin 2 → IVec S16 32) a x).toNat < S264x256.size a := fun v6 v8 v10 v12 v14 v16 v18 v20 v22 v24 v26 v28 v30 v32 v34 v36 v3265 k0_hw50 => k0_hw50.2.2.2.2.1
theorem k0_idx790_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v16] : Fin 2 → IVec S16 32) a x).toNat < S264x256.size a := fun v6 v8 v10 v12 v14 v16 v18 v20 v22 v24 v26 v28 v30 v32 v34 v36 v3265 k0_hw50 => k0_hw50.2.2.2.2.2.1
theorem k0_idx791_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v18] : Fin 2 → IVec S16 32) a x).toNat < S264x256.size a := fun v6 v8 v10 v12 v14 v16 v18 v20 v22 v24 v26 v28 v30 v32 v34 v36 v3265 k0_hw50 => k0_hw50.2.2.2.2.2.2.1
theorem k0_idx792_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v20] : Fin 2 → IVec S16 32) a x).toNat < S264x256.size a := fun v6 v8 v10 v12 v14 v16 v18 v20 v22 v24 v26 v28 v30 v32 v34 v36 v3265 k0_hw50 => k0_hw50.2.2.2.2.2.2.2.1
theorem k0_idx793_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v22] : Fin 2 → IVec S16 32) a x).toNat < S264x256.size a := fun v6 v8 v10 v12 v14 v16 v18 v20 v22 v24 v26 v28 v30 v32 v34 v36 v3265 k0_hw50 => k0_hw50.2.2.2.2.2.2.2.2.1
theorem k0_idx794_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v24] : Fin 2 → IVec S16 32) a x).toNat < S264x256.size a := fun v6 v8 v10 v12 v14 v16 v18 v20 v22 v24 v26 v28 v30 v32 v34 v36 v3265 k0_hw50 => k0_hw50.2.2.2.2.2.2.2.2.2.1
theorem k0_idx795_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v26] : Fin 2 → IVec S16 32) a x).toNat < S264x256.size a := fun v6 v8 v10 v12 v14 v16 v18 v20 v22 v24 v26 v28 v30 v32 v34 v36 v3265 k0_hw50 => k0_hw50.2.2.2.2.2.2.2.2.2.2.1
theorem k0_idx796_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v28] : Fin 2 → IVec S16 32) a x).toNat < S264x256.size a := fun v6 v8 v10 v12 v14 v16 v18 v20 v22 v24 v26 v28 v30 v32 v34 v36 v3265 k0_hw50 => k0_hw50.2.2.2.2.2.2.2.2.2.2.2.1
theorem k0_idx797_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v30] : Fin 2 → IVec S16 32) a x).toNat < S264x256.size a := fun v6 v8 v10 v12 v14 v16 v18 v20 v22 v24 v26 v28 v30 v32 v34 v36 v3265 k0_hw50 => k0_hw50.2.2.2.2.2.2.2.2.2.2.2.2.1
theorem k0_idx798_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v32] : Fin 2 → IVec S16 32) a x).toNat < S264x256.size a := fun v6 v8 v10 v12 v14 v16 v18 v20 v22 v24 v26 v28 v30 v32 v34 v36 v3265 k0_hw50 => k0_hw50.2.2.2.2.2.2.2.2.2.2.2.2.2.1
theorem k0_idx799_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v34] : Fin 2 → IVec S16 32) a x).toNat < S264x256.size a := fun v6 v8 v10 v12 v14 v16 v18 v20 v22 v24 v26 v28 v30 v32 v34 v36 v3265 k0_hw50 => k0_hw50.2.2.2.2.2.2.2.2.2.2.2.2.2.2.1
theorem k0_idx800_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3265 : IVec S16 32) (k0_hw50 : k0_chk50 v6 v8 v10 v12 v14 v16 v18 v20 v22 v24 v26 v28 v30 v32 v34 v36 v3265), ∀ a x, ((![v3265, v36] : Fin 2 → IVec S16 32) a x).toNat < S264x256.size a := fun v6 v8 v10 v12 v14 v16 v18 v20 v22 v24 v26 v28 v30 v32 v34 v36 v3265 k0_hw50 => k0_hw50.2.2.2.2.2.2.2.2.2.2.2.2.2.2.2

def k0_chk51 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) : Prop :=
  (∀ a x, ((![v3331, v6] : Fin 2 → IVec S16 32) a x).toNat < S264x256.size a) ∧
  (∀ a x, ((![v3331, v8] : Fin 2 → IVec S16 32) a x).toNat < S264x256.size a) ∧
  (∀ a x, ((![v3331, v10] : Fin 2 → IVec S16 32) a x).toNat < S264x256.size a) ∧
  (∀ a x, ((![v3331, v12] : Fin 2 → IVec S16 32) a x).toNat < S264x256.size a) ∧
  (∀ a x, ((![v3331, v14] : Fin 2 → IVec S16 32) a x).toNat < S264x256.size a) ∧
  (∀ a x, ((![v3331, v16] : Fin 2 → IVec S16 32) a x).toNat < S264x256.size a) ∧
  (∀ a x, ((![v3331, v18] : Fin 2 → IVec S16 32) a x).toNat < S264x256.size a) ∧
  (∀ a x, ((![v3331, v20] : Fin 2 → IVec S16 32) a x).toNat < S264x256.size a) ∧
  (∀ a x, ((![v3331, v22] : Fin 2 → IVec S16 32) a x).toNat < S264x256.size a) ∧
  (∀ a x, ((![v3331, v24] : Fin 2 → IVec S16 32) a x).toNat < S264x256.size a) ∧
  (∀ a x, ((![v3331, v26] : Fin 2 → IVec S16 32) a x).toNat < S264x256.size a) ∧
  (∀ a x, ((![v3331, v28] : Fin 2 → IVec S16 32) a x).toNat < S264x256.size a) ∧
  (∀ a x, ((![v3331, v30] : Fin 2 → IVec S16 32) a x).toNat < S264x256.size a) ∧
  (∀ a x, ((![v3331, v32] : Fin 2 → IVec S16 32) a x).toNat < S264x256.size a) ∧
  (∀ a x, ((![v3331, v34] : Fin 2 → IVec S16 32) a x).toNat < S264x256.size a) ∧
  (∀ a x, ((![v3331, v36] : Fin 2 → IVec S16 32) a x).toNat < S264x256.size a)
theorem k0_idx801_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v6] : Fin 2 → IVec S16 32) a x).toNat < S264x256.size a := fun v6 v8 v10 v12 v14 v16 v18 v20 v22 v24 v26 v28 v30 v32 v34 v36 v3331 k0_hw51 => k0_hw51.1
theorem k0_idx802_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v8] : Fin 2 → IVec S16 32) a x).toNat < S264x256.size a := fun v6 v8 v10 v12 v14 v16 v18 v20 v22 v24 v26 v28 v30 v32 v34 v36 v3331 k0_hw51 => k0_hw51.2.1
theorem k0_idx803_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v10] : Fin 2 → IVec S16 32) a x).toNat < S264x256.size a := fun v6 v8 v10 v12 v14 v16 v18 v20 v22 v24 v26 v28 v30 v32 v34 v36 v3331 k0_hw51 => k0_hw51.2.2.1
theorem k0_idx804_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v12] : Fin 2 → IVec S16 32) a x).toNat < S264x256.size a := fun v6 v8 v10 v12 v14 v16 v18 v20 v22 v24 v26 v28 v30 v32 v34 v36 v3331 k0_hw51 => k0_hw51.2.2.2.1
theorem k0_idx805_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v14] : Fin 2 → IVec S16 32) a x).toNat < S264x256.size a := fun v6 v8 v10 v12 v14 v16 v18 v20 v22 v24 v26 v28 v30 v32 v34 v36 v3331 k0_hw51 => k0_hw51.2.2.2.2.1
theorem k0_idx806_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v16] : Fin 2 → IVec S16 32) a x).toNat < S264x256.size a := fun v6 v8 v10 v12 v14 v16 v18 v20 v22 v24 v26 v28 v30 v32 v34 v36 v3331 k0_hw51 => k0_hw51.2.2.2.2.2.1
theorem k0_idx807_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v18] : Fin 2 → IVec S16 32) a x).toNat < S264x256.size a := fun v6 v8 v10 v12 v14 v16 v18 v20 v22 v24 v26 v28 v30 v32 v34 v36 v3331 k0_hw51 => k0_hw51.2.2.2.2.2.2.1
theorem k0_idx808_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v20] : Fin 2 → IVec S16 32) a x).toNat < S264x256.size a := fun v6 v8 v10 v12 v14 v16 v18 v20 v22 v24 v26 v28 v30 v32 v34 v36 v3331 k0_hw51 => k0_hw51.2.2.2.2.2.2.2.1
theorem k0_idx809_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v22] : Fin 2 → IVec S16 32) a x).toNat < S264x256.size a := fun v6 v8 v10 v12 v14 v16 v18 v20 v22 v24 v26 v28 v30 v32 v34 v36 v3331 k0_hw51 => k0_hw51.2.2.2.2.2.2.2.2.1
theorem k0_idx810_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v24] : Fin 2 → IVec S16 32) a x).toNat < S264x256.size a := fun v6 v8 v10 v12 v14 v16 v18 v20 v22 v24 v26 v28 v30 v32 v34 v36 v3331 k0_hw51 => k0_hw51.2.2.2.2.2.2.2.2.2.1
theorem k0_idx811_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v26] : Fin 2 → IVec S16 32) a x).toNat < S264x256.size a := fun v6 v8 v10 v12 v14 v16 v18 v20 v22 v24 v26 v28 v30 v32 v34 v36 v3331 k0_hw51 => k0_hw51.2.2.2.2.2.2.2.2.2.2.1
theorem k0_idx812_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v28] : Fin 2 → IVec S16 32) a x).toNat < S264x256.size a := fun v6 v8 v10 v12 v14 v16 v18 v20 v22 v24 v26 v28 v30 v32 v34 v36 v3331 k0_hw51 => k0_hw51.2.2.2.2.2.2.2.2.2.2.2.1
theorem k0_idx813_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v30] : Fin 2 → IVec S16 32) a x).toNat < S264x256.size a := fun v6 v8 v10 v12 v14 v16 v18 v20 v22 v24 v26 v28 v30 v32 v34 v36 v3331 k0_hw51 => k0_hw51.2.2.2.2.2.2.2.2.2.2.2.2.1
theorem k0_idx814_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v32] : Fin 2 → IVec S16 32) a x).toNat < S264x256.size a := fun v6 v8 v10 v12 v14 v16 v18 v20 v22 v24 v26 v28 v30 v32 v34 v36 v3331 k0_hw51 => k0_hw51.2.2.2.2.2.2.2.2.2.2.2.2.2.1
theorem k0_idx815_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v34] : Fin 2 → IVec S16 32) a x).toNat < S264x256.size a := fun v6 v8 v10 v12 v14 v16 v18 v20 v22 v24 v26 v28 v30 v32 v34 v36 v3331 k0_hw51 => k0_hw51.2.2.2.2.2.2.2.2.2.2.2.2.2.2.1
theorem k0_idx816_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3331 : IVec S16 32) (k0_hw51 : k0_chk51 v6 v8 v10 v12 v14 v16 v18 v20 v22 v24 v26 v28 v30 v32 v34 v36 v3331), ∀ a x, ((![v3331, v36] : Fin 2 → IVec S16 32) a x).toNat < S264x256.size a := fun v6 v8 v10 v12 v14 v16 v18 v20 v22 v24 v26 v28 v30 v32 v34 v36 v3331 k0_hw51 => k0_hw51.2.2.2.2.2.2.2.2.2.2.2.2.2.2.2

def k0_chk52 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) : Prop :=
  (∀ a x, ((![v3397, v6] : Fin 2 → IVec S16 32) a x).toNat < S264x256.size a) ∧
  (∀ a x, ((![v3397, v8] : Fin 2 → IVec S16 32) a x).toNat < S264x256.size a) ∧
  (∀ a x, ((![v3397, v10] : Fin 2 → IVec S16 32) a x).toNat < S264x256.size a) ∧
  (∀ a x, ((![v3397, v12] : Fin 2 → IVec S16 32) a x).toNat < S264x256.size a) ∧
  (∀ a x, ((![v3397, v14] : Fin 2 → IVec S16 32) a x).toNat < S264x256.size a) ∧
  (∀ a x, ((![v3397, v16] : Fin 2 → IVec S16 32) a x).toNat < S264x256.size a) ∧
  (∀ a x, ((![v3397, v18] : Fin 2 → IVec S16 32) a x).toNat < S264x256.size a) ∧
  (∀ a x, ((![v3397, v20] : Fin 2 → IVec S16 32) a x).toNat < S264x256.size a) ∧
  (∀ a x, ((![v3397, v22] : Fin 2 → IVec S16 32) a x).toNat < S264x256.size a) ∧
  (∀ a x, ((![v3397, v24] : Fin 2 → IVec S16 32) a x).toNat < S264x256.size a) ∧
  (∀ a x, ((![v3397, v26] : Fin 2 → IVec S16 32) a x).toNat < S264x256.size a) ∧
  (∀ a x, ((![v3397, v28] : Fin 2 → IVec S16 32) a x).toNat < S264x256.size a) ∧
  (∀ a x, ((![v3397, v30] : Fin 2 → IVec S16 32) a x).toNat < S264x256.size a) ∧
  (∀ a x, ((![v3397, v32] : Fin 2 → IVec S16 32) a x).toNat < S264x256.size a) ∧
  (∀ a x, ((![v3397, v34] : Fin 2 → IVec S16 32) a x).toNat < S264x256.size a) ∧
  (∀ a x, ((![v3397, v36] : Fin 2 → IVec S16 32) a x).toNat < S264x256.size a)
theorem k0_idx817_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v6] : Fin 2 → IVec S16 32) a x).toNat < S264x256.size a := fun v6 v8 v10 v12 v14 v16 v18 v20 v22 v24 v26 v28 v30 v32 v34 v36 v3397 k0_hw52 => k0_hw52.1
theorem k0_idx818_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v8] : Fin 2 → IVec S16 32) a x).toNat < S264x256.size a := fun v6 v8 v10 v12 v14 v16 v18 v20 v22 v24 v26 v28 v30 v32 v34 v36 v3397 k0_hw52 => k0_hw52.2.1
theorem k0_idx819_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v10] : Fin 2 → IVec S16 32) a x).toNat < S264x256.size a := fun v6 v8 v10 v12 v14 v16 v18 v20 v22 v24 v26 v28 v30 v32 v34 v36 v3397 k0_hw52 => k0_hw52.2.2.1
theorem k0_idx820_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v12] : Fin 2 → IVec S16 32) a x).toNat < S264x256.size a := fun v6 v8 v10 v12 v14 v16 v18 v20 v22 v24 v26 v28 v30 v32 v34 v36 v3397 k0_hw52 => k0_hw52.2.2.2.1
theorem k0_idx821_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v14] : Fin 2 → IVec S16 32) a x).toNat < S264x256.size a := fun v6 v8 v10 v12 v14 v16 v18 v20 v22 v24 v26 v28 v30 v32 v34 v36 v3397 k0_hw52 => k0_hw52.2.2.2.2.1
theorem k0_idx822_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v16] : Fin 2 → IVec S16 32) a x).toNat < S264x256.size a := fun v6 v8 v10 v12 v14 v16 v18 v20 v22 v24 v26 v28 v30 v32 v34 v36 v3397 k0_hw52 => k0_hw52.2.2.2.2.2.1
theorem k0_idx823_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v18] : Fin 2 → IVec S16 32) a x).toNat < S264x256.size a := fun v6 v8 v10 v12 v14 v16 v18 v20 v22 v24 v26 v28 v30 v32 v34 v36 v3397 k0_hw52 => k0_hw52.2.2.2.2.2.2.1
theorem k0_idx824_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v20] : Fin 2 → IVec S16 32) a x).toNat < S264x256.size a := fun v6 v8 v10 v12 v14 v16 v18 v20 v22 v24 v26 v28 v30 v32 v34 v36 v3397 k0_hw52 => k0_hw52.2.2.2.2.2.2.2.1
theorem k0_idx825_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v22] : Fin 2 → IVec S16 32) a x).toNat < S264x256.size a := fun v6 v8 v10 v12 v14 v16 v18 v20 v22 v24 v26 v28 v30 v32 v34 v36 v3397 k0_hw52 => k0_hw52.2.2.2.2.2.2.2.2.1
theorem k0_idx826_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v24] : Fin 2 → IVec S16 32) a x).toNat < S264x256.size a := fun v6 v8 v10 v12 v14 v16 v18 v20 v22 v24 v26 v28 v30 v32 v34 v36 v3397 k0_hw52 => k0_hw52.2.2.2.2.2.2.2.2.2.1
theorem k0_idx827_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v26] : Fin 2 → IVec S16 32) a x).toNat < S264x256.size a := fun v6 v8 v10 v12 v14 v16 v18 v20 v22 v24 v26 v28 v30 v32 v34 v36 v3397 k0_hw52 => k0_hw52.2.2.2.2.2.2.2.2.2.2.1
theorem k0_idx828_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v28] : Fin 2 → IVec S16 32) a x).toNat < S264x256.size a := fun v6 v8 v10 v12 v14 v16 v18 v20 v22 v24 v26 v28 v30 v32 v34 v36 v3397 k0_hw52 => k0_hw52.2.2.2.2.2.2.2.2.2.2.2.1
theorem k0_idx829_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v30] : Fin 2 → IVec S16 32) a x).toNat < S264x256.size a := fun v6 v8 v10 v12 v14 v16 v18 v20 v22 v24 v26 v28 v30 v32 v34 v36 v3397 k0_hw52 => k0_hw52.2.2.2.2.2.2.2.2.2.2.2.2.1
theorem k0_idx830_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v32] : Fin 2 → IVec S16 32) a x).toNat < S264x256.size a := fun v6 v8 v10 v12 v14 v16 v18 v20 v22 v24 v26 v28 v30 v32 v34 v36 v3397 k0_hw52 => k0_hw52.2.2.2.2.2.2.2.2.2.2.2.2.2.1
theorem k0_idx831_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v34] : Fin 2 → IVec S16 32) a x).toNat < S264x256.size a := fun v6 v8 v10 v12 v14 v16 v18 v20 v22 v24 v26 v28 v30 v32 v34 v36 v3397 k0_hw52 => k0_hw52.2.2.2.2.2.2.2.2.2.2.2.2.2.2.1
theorem k0_idx832_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3397 : IVec S16 32) (k0_hw52 : k0_chk52 v6 v8 v10 v12 v14 v16 v18 v20 v22 v24 v26 v28 v30 v32 v34 v36 v3397), ∀ a x, ((![v3397, v36] : Fin 2 → IVec S16 32) a x).toNat < S264x256.size a := fun v6 v8 v10 v12 v14 v16 v18 v20 v22 v24 v26 v28 v30 v32 v34 v36 v3397 k0_hw52 => k0_hw52.2.2.2.2.2.2.2.2.2.2.2.2.2.2.2

def k0_chk53 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) : Prop :=
  (∀ a x, ((![v3463, v6] : Fin 2 → IVec S16 32) a x).toNat < S264x256.size a) ∧
  (∀ a x, ((![v3463, v8] : Fin 2 → IVec S16 32) a x).toNat < S264x256.size a) ∧
  (∀ a x, ((![v3463, v10] : Fin 2 → IVec S16 32) a x).toNat < S264x256.size a) ∧
  (∀ a x, ((![v3463, v12] : Fin 2 → IVec S16 32) a x).toNat < S264x256.size a) ∧
  (∀ a x, ((![v3463, v14] : Fin 2 → IVec S16 32) a x).toNat < S264x256.size a) ∧
  (∀ a x, ((![v3463, v16] : Fin 2 → IVec S16 32) a x).toNat < S264x256.size a) ∧
  (∀ a x, ((![v3463, v18] : Fin 2 → IVec S16 32) a x).toNat < S264x256.size a) ∧
  (∀ a x, ((![v3463, v20] : Fin 2 → IVec S16 32) a x).toNat < S264x256.size a) ∧
  (∀ a x, ((![v3463, v22] : Fin 2 → IVec S16 32) a x).toNat < S264x256.size a) ∧
  (∀ a x, ((![v3463, v24] : Fin 2 → IVec S16 32) a x).toNat < S264x256.size a) ∧
  (∀ a x, ((![v3463, v26] : Fin 2 → IVec S16 32) a x).toNat < S264x256.size a) ∧
  (∀ a x, ((![v3463, v28] : Fin 2 → IVec S16 32) a x).toNat < S264x256.size a) ∧
  (∀ a x, ((![v3463, v30] : Fin 2 → IVec S16 32) a x).toNat < S264x256.size a) ∧
  (∀ a x, ((![v3463, v32] : Fin 2 → IVec S16 32) a x).toNat < S264x256.size a) ∧
  (∀ a x, ((![v3463, v34] : Fin 2 → IVec S16 32) a x).toNat < S264x256.size a) ∧
  (∀ a x, ((![v3463, v36] : Fin 2 → IVec S16 32) a x).toNat < S264x256.size a)
theorem k0_idx833_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v6] : Fin 2 → IVec S16 32) a x).toNat < S264x256.size a := fun v6 v8 v10 v12 v14 v16 v18 v20 v22 v24 v26 v28 v30 v32 v34 v36 v3463 k0_hw53 => k0_hw53.1
theorem k0_idx834_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v8] : Fin 2 → IVec S16 32) a x).toNat < S264x256.size a := fun v6 v8 v10 v12 v14 v16 v18 v20 v22 v24 v26 v28 v30 v32 v34 v36 v3463 k0_hw53 => k0_hw53.2.1
theorem k0_idx835_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v10] : Fin 2 → IVec S16 32) a x).toNat < S264x256.size a := fun v6 v8 v10 v12 v14 v16 v18 v20 v22 v24 v26 v28 v30 v32 v34 v36 v3463 k0_hw53 => k0_hw53.2.2.1
theorem k0_idx836_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v12] : Fin 2 → IVec S16 32) a x).toNat < S264x256.size a := fun v6 v8 v10 v12 v14 v16 v18 v20 v22 v24 v26 v28 v30 v32 v34 v36 v3463 k0_hw53 => k0_hw53.2.2.2.1
theorem k0_idx837_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v14] : Fin 2 → IVec S16 32) a x).toNat < S264x256.size a := fun v6 v8 v10 v12 v14 v16 v18 v20 v22 v24 v26 v28 v30 v32 v34 v36 v3463 k0_hw53 => k0_hw53.2.2.2.2.1
theorem k0_idx838_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v16] : Fin 2 → IVec S16 32) a x).toNat < S264x256.size a := fun v6 v8 v10 v12 v14 v16 v18 v20 v22 v24 v26 v28 v30 v32 v34 v36 v3463 k0_hw53 => k0_hw53.2.2.2.2.2.1
theorem k0_idx839_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v18] : Fin 2 → IVec S16 32) a x).toNat < S264x256.size a := fun v6 v8 v10 v12 v14 v16 v18 v20 v22 v24 v26 v28 v30 v32 v34 v36 v3463 k0_hw53 => k0_hw53.2.2.2.2.2.2.1
theorem k0_idx840_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v20] : Fin 2 → IVec S16 32) a x).toNat < S264x256.size a := fun v6 v8 v10 v12 v14 v16 v18 v20 v22 v24 v26 v28 v30 v32 v34 v36 v3463 k0_hw53 => k0_hw53.2.2.2.2.2.2.2.1
theorem k0_idx841_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v22] : Fin 2 → IVec S16 32) a x).toNat < S264x256.size a := fun v6 v8 v10 v12 v14 v16 v18 v20 v22 v24 v26 v28 v30 v32 v34 v36 v3463 k0_hw53 => k0_hw53.2.2.2.2.2.2.2.2.1
theorem k0_idx842_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v24] : Fin 2 → IVec S16 32) a x).toNat < S264x256.size a := fun v6 v8 v10 v12 v14 v16 v18 v20 v22 v24 v26 v28 v30 v32 v34 v36 v3463 k0_hw53 => k0_hw53.2.2.2.2.2.2.2.2.2.1
theorem k0_idx843_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v26] : Fin 2 → IVec S16 32) a x).toNat < S264x256.size a := fun v6 v8 v10 v12 v14 v16 v18 v20 v22 v24 v26 v28 v30 v32 v34 v36 v3463 k0_hw53 => k0_hw53.2.2.2.2.2.2.2.2.2.2.1
theorem k0_idx844_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v28] : Fin 2 → IVec S16 32) a x).toNat < S264x256.size a := fun v6 v8 v10 v12 v14 v16 v18 v20 v22 v24 v26 v28 v30 v32 v34 v36 v3463 k0_hw53 => k0_hw53.2.2.2.2.2.2.2.2.2.2.2.1
theorem k0_idx845_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v30] : Fin 2 → IVec S16 32) a x).toNat < S264x256.size a := fun v6 v8 v10 v12 v14 v16 v18 v20 v22 v24 v26 v28 v30 v32 v34 v36 v3463 k0_hw53 => k0_hw53.2.2.2.2.2.2.2.2.2.2.2.2.1
theorem k0_idx846_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v32] : Fin 2 → IVec S16 32) a x).toNat < S264x256.size a := fun v6 v8 v10 v12 v14 v16 v18 v20 v22 v24 v26 v28 v30 v32 v34 v36 v3463 k0_hw53 => k0_hw53.2.2.2.2.2.2.2.2.2.2.2.2.2.1
theorem k0_idx847_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v34] : Fin 2 → IVec S16 32) a x).toNat < S264x256.size a := fun v6 v8 v10 v12 v14 v16 v18 v20 v22 v24 v26 v28 v30 v32 v34 v36 v3463 k0_hw53 => k0_hw53.2.2.2.2.2.2.2.2.2.2.2.2.2.2.1
theorem k0_idx848_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3463 : IVec S16 32) (k0_hw53 : k0_chk53 v6 v8 v10 v12 v14 v16 v18 v20 v22 v24 v26 v28 v30 v32 v34 v36 v3463), ∀ a x, ((![v3463, v36] : Fin 2 → IVec S16 32) a x).toNat < S264x256.size a := fun v6 v8 v10 v12 v14 v16 v18 v20 v22 v24 v26 v28 v30 v32 v34 v36 v3463 k0_hw53 => k0_hw53.2.2.2.2.2.2.2.2.2.2.2.2.2.2.2

def k0_chk54 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) : Prop :=
  (∀ a x, ((![v3529, v6] : Fin 2 → IVec S16 32) a x).toNat < S264x256.size a) ∧
  (∀ a x, ((![v3529, v8] : Fin 2 → IVec S16 32) a x).toNat < S264x256.size a) ∧
  (∀ a x, ((![v3529, v10] : Fin 2 → IVec S16 32) a x).toNat < S264x256.size a) ∧
  (∀ a x, ((![v3529, v12] : Fin 2 → IVec S16 32) a x).toNat < S264x256.size a) ∧
  (∀ a x, ((![v3529, v14] : Fin 2 → IVec S16 32) a x).toNat < S264x256.size a) ∧
  (∀ a x, ((![v3529, v16] : Fin 2 → IVec S16 32) a x).toNat < S264x256.size a) ∧
  (∀ a x, ((![v3529, v18] : Fin 2 → IVec S16 32) a x).toNat < S264x256.size a) ∧
  (∀ a x, ((![v3529, v20] : Fin 2 → IVec S16 32) a x).toNat < S264x256.size a) ∧
  (∀ a x, ((![v3529, v22] : Fin 2 → IVec S16 32) a x).toNat < S264x256.size a) ∧
  (∀ a x, ((![v3529, v24] : Fin 2 → IVec S16 32) a x).toNat < S264x256.size a) ∧
  (∀ a x, ((![v3529, v26] : Fin 2 → IVec S16 32) a x).toNat < S264x256.size a) ∧
  (∀ a x, ((![v3529, v28] : Fin 2 → IVec S16 32) a x).toNat < S264x256.size a) ∧
  (∀ a x, ((![v3529, v30] : Fin 2 → IVec S16 32) a x).toNat < S264x256.size a) ∧
  (∀ a x, ((![v3529, v32] : Fin 2 → IVec S16 32) a x).toNat < S264x256.size a) ∧
  (∀ a x, ((![v3529, v34] : Fin 2 → IVec S16 32) a x).toNat < S264x256.size a) ∧
  (∀ a x, ((![v3529, v36] : Fin 2 → IVec S16 32) a x).toNat < S264x256.size a)
theorem k0_idx849_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v6] : Fin 2 → IVec S16 32) a x).toNat < S264x256.size a := fun v6 v8 v10 v12 v14 v16 v18 v20 v22 v24 v26 v28 v30 v32 v34 v36 v3529 k0_hw54 => k0_hw54.1
theorem k0_idx850_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v8] : Fin 2 → IVec S16 32) a x).toNat < S264x256.size a := fun v6 v8 v10 v12 v14 v16 v18 v20 v22 v24 v26 v28 v30 v32 v34 v36 v3529 k0_hw54 => k0_hw54.2.1
theorem k0_idx851_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v10] : Fin 2 → IVec S16 32) a x).toNat < S264x256.size a := fun v6 v8 v10 v12 v14 v16 v18 v20 v22 v24 v26 v28 v30 v32 v34 v36 v3529 k0_hw54 => k0_hw54.2.2.1
theorem k0_idx852_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v12] : Fin 2 → IVec S16 32) a x).toNat < S264x256.size a := fun v6 v8 v10 v12 v14 v16 v18 v20 v22 v24 v26 v28 v30 v32 v34 v36 v3529 k0_hw54 => k0_hw54.2.2.2.1
theorem k0_idx853_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v14] : Fin 2 → IVec S16 32) a x).toNat < S264x256.size a := fun v6 v8 v10 v12 v14 v16 v18 v20 v22 v24 v26 v28 v30 v32 v34 v36 v3529 k0_hw54 => k0_hw54.2.2.2.2.1
theorem k0_idx854_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v16] : Fin 2 → IVec S16 32) a x).toNat < S264x256.size a := fun v6 v8 v10 v12 v14 v16 v18 v20 v22 v24 v26 v28 v30 v32 v34 v36 v3529 k0_hw54 => k0_hw54.2.2.2.2.2.1
theorem k0_idx855_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v18] : Fin 2 → IVec S16 32) a x).toNat < S264x256.size a := fun v6 v8 v10 v12 v14 v16 v18 v20 v22 v24 v26 v28 v30 v32 v34 v36 v3529 k0_hw54 => k0_hw54.2.2.2.2.2.2.1
theorem k0_idx856_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v20] : Fin 2 → IVec S16 32) a x).toNat < S264x256.size a := fun v6 v8 v10 v12 v14 v16 v18 v20 v22 v24 v26 v28 v30 v32 v34 v36 v3529 k0_hw54 => k0_hw54.2.2.2.2.2.2.2.1
theorem k0_idx857_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v22] : Fin 2 → IVec S16 32) a x).toNat < S264x256.size a := fun v6 v8 v10 v12 v14 v16 v18 v20 v22 v24 v26 v28 v30 v32 v34 v36 v3529 k0_hw54 => k0_hw54.2.2.2.2.2.2.2.2.1
theorem k0_idx858_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v24] : Fin 2 → IVec S16 32) a x).toNat < S264x256.size a := fun v6 v8 v10 v12 v14 v16 v18 v20 v22 v24 v26 v28 v30 v32 v34 v36 v3529 k0_hw54 => k0_hw54.2.2.2.2.2.2.2.2.2.1
theorem k0_idx859_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v26] : Fin 2 → IVec S16 32) a x).toNat < S264x256.size a := fun v6 v8 v10 v12 v14 v16 v18 v20 v22 v24 v26 v28 v30 v32 v34 v36 v3529 k0_hw54 => k0_hw54.2.2.2.2.2.2.2.2.2.2.1
theorem k0_idx860_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v28] : Fin 2 → IVec S16 32) a x).toNat < S264x256.size a := fun v6 v8 v10 v12 v14 v16 v18 v20 v22 v24 v26 v28 v30 v32 v34 v36 v3529 k0_hw54 => k0_hw54.2.2.2.2.2.2.2.2.2.2.2.1
theorem k0_idx861_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v30] : Fin 2 → IVec S16 32) a x).toNat < S264x256.size a := fun v6 v8 v10 v12 v14 v16 v18 v20 v22 v24 v26 v28 v30 v32 v34 v36 v3529 k0_hw54 => k0_hw54.2.2.2.2.2.2.2.2.2.2.2.2.1
theorem k0_idx862_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v32] : Fin 2 → IVec S16 32) a x).toNat < S264x256.size a := fun v6 v8 v10 v12 v14 v16 v18 v20 v22 v24 v26 v28 v30 v32 v34 v36 v3529 k0_hw54 => k0_hw54.2.2.2.2.2.2.2.2.2.2.2.2.2.1
theorem k0_idx863_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v34] : Fin 2 → IVec S16 32) a x).toNat < S264x256.size a := fun v6 v8 v10 v12 v14 v16 v18 v20 v22 v24 v26 v28 v30 v32 v34 v36 v3529 k0_hw54 => k0_hw54.2.2.2.2.2.2.2.2.2.2.2.2.2.2.1
theorem k0_idx864_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3529 : IVec S16 32) (k0_hw54 : k0_chk54 v6 v8 v10 v12 v14 v16 v18 v20 v22 v24 v26 v28 v30 v32 v34 v36 v3529), ∀ a x, ((![v3529, v36] : Fin 2 → IVec S16 32) a x).toNat < S264x256.size a := fun v6 v8 v10 v12 v14 v16 v18 v20 v22 v24 v26 v28 v30 v32 v34 v36 v3529 k0_hw54 => k0_hw54.2.2.2.2.2.2.2.2.2.2.2.2.2.2.2

def k0_chk55 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) : Prop :=
  (∀ a x, ((![v3595, v6] : Fin 2 → IVec S16 32) a x).toNat < S264x256.size a) ∧
  (∀ a x, ((![v3595, v8] : Fin 2 → IVec S16 32) a x).toNat < S264x256.size a) ∧
  (∀ a x, ((![v3595, v10] : Fin 2 → IVec S16 32) a x).toNat < S264x256.size a) ∧
  (∀ a x, ((![v3595, v12] : Fin 2 → IVec S16 32) a x).toNat < S264x256.size a) ∧
  (∀ a x, ((![v3595, v14] : Fin 2 → IVec S16 32) a x).toNat < S264x256.size a) ∧
  (∀ a x, ((![v3595, v16] : Fin 2 → IVec S16 32) a x).toNat < S264x256.size a) ∧
  (∀ a x, ((![v3595, v18] : Fin 2 → IVec S16 32) a x).toNat < S264x256.size a) ∧
  (∀ a x, ((![v3595, v20] : Fin 2 → IVec S16 32) a x).toNat < S264x256.size a) ∧
  (∀ a x, ((![v3595, v22] : Fin 2 → IVec S16 32) a x).toNat < S264x256.size a) ∧
  (∀ a x, ((![v3595, v24] : Fin 2 → IVec S16 32) a x).toNat < S264x256.size a) ∧
  (∀ a x, ((![v3595, v26] : Fin 2 → IVec S16 32) a x).toNat < S264x256.size a) ∧
  (∀ a x, ((![v3595, v28] : Fin 2 → IVec S16 32) a x).toNat < S264x256.size a) ∧
  (∀ a x, ((![v3595, v30] : Fin 2 → IVec S16 32) a x).toNat < S264x256.size a) ∧
  (∀ a x, ((![v3595, v32] : Fin 2 → IVec S16 32) a x).toNat < S264x256.size a) ∧
  (∀ a x, ((![v3595, v34] : Fin 2 → IVec S16 32) a x).toNat < S264x256.size a) ∧
  (∀ a x, ((![v3595, v36] : Fin 2 → IVec S16 32) a x).toNat < S264x256.size a)
theorem k0_idx865_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v6] : Fin 2 → IVec S16 32) a x).toNat < S264x256.size a := fun v6 v8 v10 v12 v14 v16 v18 v20 v22 v24 v26 v28 v30 v32 v34 v36 v3595 k0_hw55 => k0_hw55.1
theorem k0_idx866_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v8] : Fin 2 → IVec S16 32) a x).toNat < S264x256.size a := fun v6 v8 v10 v12 v14 v16 v18 v20 v22 v24 v26 v28 v30 v32 v34 v36 v3595 k0_hw55 => k0_hw55.2.1
theorem k0_idx867_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v10] : Fin 2 → IVec S16 32) a x).toNat < S264x256.size a := fun v6 v8 v10 v12 v14 v16 v18 v20 v22 v24 v26 v28 v30 v32 v34 v36 v3595 k0_hw55 => k0_hw55.2.2.1
theorem k0_idx868_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v12] : Fin 2 → IVec S16 32) a x).toNat < S264x256.size a := fun v6 v8 v10 v12 v14 v16 v18 v20 v22 v24 v26 v28 v30 v32 v34 v36 v3595 k0_hw55 => k0_hw55.2.2.2.1
theorem k0_idx869_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v14] : Fin 2 → IVec S16 32) a x).toNat < S264x256.size a := fun v6 v8 v10 v12 v14 v16 v18 v20 v22 v24 v26 v28 v30 v32 v34 v36 v3595 k0_hw55 => k0_hw55.2.2.2.2.1
theorem k0_idx870_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v16] : Fin 2 → IVec S16 32) a x).toNat < S264x256.size a := fun v6 v8 v10 v12 v14 v16 v18 v20 v22 v24 v26 v28 v30 v32 v34 v36 v3595 k0_hw55 => k0_hw55.2.2.2.2.2.1
theorem k0_idx871_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v18] : Fin 2 → IVec S16 32) a x).toNat < S264x256.size a := fun v6 v8 v10 v12 v14 v16 v18 v20 v22 v24 v26 v28 v30 v32 v34 v36 v3595 k0_hw55 => k0_hw55.2.2.2.2.2.2.1
theorem k0_idx872_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v20] : Fin 2 → IVec S16 32) a x).toNat < S264x256.size a := fun v6 v8 v10 v12 v14 v16 v18 v20 v22 v24 v26 v28 v30 v32 v34 v36 v3595 k0_hw55 => k0_hw55.2.2.2.2.2.2.2.1
theorem k0_idx873_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v22] : Fin 2 → IVec S16 32) a x).toNat < S264x256.size a := fun v6 v8 v10 v12 v14 v16 v18 v20 v22 v24 v26 v28 v30 v32 v34 v36 v3595 k0_hw55 => k0_hw55.2.2.2.2.2.2.2.2.1
theorem k0_idx874_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v24] : Fin 2 → IVec S16 32) a x).toNat < S264x256.size a := fun v6 v8 v10 v12 v14 v16 v18 v20 v22 v24 v26 v28 v30 v32 v34 v36 v3595 k0_hw55 => k0_hw55.2.2.2.2.2.2.2.2.2.1
theorem k0_idx875_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v26] : Fin 2 → IVec S16 32) a x).toNat < S264x256.size a := fun v6 v8 v10 v12 v14 v16 v18 v20 v22 v24 v26 v28 v30 v32 v34 v36 v3595 k0_hw55 => k0_hw55.2.2.2.2.2.2.2.2.2.2.1
theorem k0_idx876_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v28] : Fin 2 → IVec S16 32) a x).toNat < S264x256.size a := fun v6 v8 v10 v12 v14 v16 v18 v20 v22 v24 v26 v28 v30 v32 v34 v36 v3595 k0_hw55 => k0_hw55.2.2.2.2.2.2.2.2.2.2.2.1
theorem k0_idx877_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v30] : Fin 2 → IVec S16 32) a x).toNat < S264x256.size a := fun v6 v8 v10 v12 v14 v16 v18 v20 v22 v24 v26 v28 v30 v32 v34 v36 v3595 k0_hw55 => k0_hw55.2.2.2.2.2.2.2.2.2.2.2.2.1
theorem k0_idx878_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v32] : Fin 2 → IVec S16 32) a x).toNat < S264x256.size a := fun v6 v8 v10 v12 v14 v16 v18 v20 v22 v24 v26 v28 v30 v32 v34 v36 v3595 k0_hw55 => k0_hw55.2.2.2.2.2.2.2.2.2.2.2.2.2.1
theorem k0_idx879_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v34] : Fin 2 → IVec S16 32) a x).toNat < S264x256.size a := fun v6 v8 v10 v12 v14 v16 v18 v20 v22 v24 v26 v28 v30 v32 v34 v36 v3595 k0_hw55 => k0_hw55.2.2.2.2.2.2.2.2.2.2.2.2.2.2.1
theorem k0_idx880_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3595 : IVec S16 32) (k0_hw55 : k0_chk55 v6 v8 v10 v12 v14 v16 v18 v20 v22 v24 v26 v28 v30 v32 v34 v36 v3595), ∀ a x, ((![v3595, v36] : Fin 2 → IVec S16 32) a x).toNat < S264x256.size a := fun v6 v8 v10 v12 v14 v16 v18 v20 v22 v24 v26 v28 v30 v32 v34 v36 v3595 k0_hw55 => k0_hw55.2.2.2.2.2.2.2.2.2.2.2.2.2.2.2

def k0_chk56 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) : Prop :=
  (∀ a x, ((![v3661, v6] : Fin 2 → IVec S16 32) a x).toNat < S264x256.size a) ∧
  (∀ a x, ((![v3661, v8] : Fin 2 → IVec S16 32) a x).toNat < S264x256.size a) ∧
  (∀ a x, ((![v3661, v10] : Fin 2 → IVec S16 32) a x).toNat < S264x256.size a) ∧
  (∀ a x, ((![v3661, v12] : Fin 2 → IVec S16 32) a x).toNat < S264x256.size a) ∧
  (∀ a x, ((![v3661, v14] : Fin 2 → IVec S16 32) a x).toNat < S264x256.size a) ∧
  (∀ a x, ((![v3661, v16] : Fin 2 → IVec S16 32) a x).toNat < S264x256.size a) ∧
  (∀ a x, ((![v3661, v18] : Fin 2 → IVec S16 32) a x).toNat < S264x256.size a) ∧
  (∀ a x, ((![v3661, v20] : Fin 2 → IVec S16 32) a x).toNat < S264x256.size a) ∧
  (∀ a x, ((![v3661, v22] : Fin 2 → IVec S16 32) a x).toNat < S264x256.size a) ∧
  (∀ a x, ((![v3661, v24] : Fin 2 → IVec S16 32) a x).toNat < S264x256.size a) ∧
  (∀ a x, ((![v3661, v26] : Fin 2 → IVec S16 32) a x).toNat < S264x256.size a) ∧
  (∀ a x, ((![v3661, v28] : Fin 2 → IVec S16 32) a x).toNat < S264x256.size a) ∧
  (∀ a x, ((![v3661, v30] : Fin 2 → IVec S16 32) a x).toNat < S264x256.size a) ∧
  (∀ a x, ((![v3661, v32] : Fin 2 → IVec S16 32) a x).toNat < S264x256.size a) ∧
  (∀ a x, ((![v3661, v34] : Fin 2 → IVec S16 32) a x).toNat < S264x256.size a) ∧
  (∀ a x, ((![v3661, v36] : Fin 2 → IVec S16 32) a x).toNat < S264x256.size a)
theorem k0_idx881_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v6] : Fin 2 → IVec S16 32) a x).toNat < S264x256.size a := fun v6 v8 v10 v12 v14 v16 v18 v20 v22 v24 v26 v28 v30 v32 v34 v36 v3661 k0_hw56 => k0_hw56.1
theorem k0_idx882_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v8] : Fin 2 → IVec S16 32) a x).toNat < S264x256.size a := fun v6 v8 v10 v12 v14 v16 v18 v20 v22 v24 v26 v28 v30 v32 v34 v36 v3661 k0_hw56 => k0_hw56.2.1
theorem k0_idx883_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v10] : Fin 2 → IVec S16 32) a x).toNat < S264x256.size a := fun v6 v8 v10 v12 v14 v16 v18 v20 v22 v24 v26 v28 v30 v32 v34 v36 v3661 k0_hw56 => k0_hw56.2.2.1
theorem k0_idx884_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v12] : Fin 2 → IVec S16 32) a x).toNat < S264x256.size a := fun v6 v8 v10 v12 v14 v16 v18 v20 v22 v24 v26 v28 v30 v32 v34 v36 v3661 k0_hw56 => k0_hw56.2.2.2.1
theorem k0_idx885_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v14] : Fin 2 → IVec S16 32) a x).toNat < S264x256.size a := fun v6 v8 v10 v12 v14 v16 v18 v20 v22 v24 v26 v28 v30 v32 v34 v36 v3661 k0_hw56 => k0_hw56.2.2.2.2.1
theorem k0_idx886_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v16] : Fin 2 → IVec S16 32) a x).toNat < S264x256.size a := fun v6 v8 v10 v12 v14 v16 v18 v20 v22 v24 v26 v28 v30 v32 v34 v36 v3661 k0_hw56 => k0_hw56.2.2.2.2.2.1
theorem k0_idx887_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v18] : Fin 2 → IVec S16 32) a x).toNat < S264x256.size a := fun v6 v8 v10 v12 v14 v16 v18 v20 v22 v24 v26 v28 v30 v32 v34 v36 v3661 k0_hw56 => k0_hw56.2.2.2.2.2.2.1
theorem k0_idx888_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v20] : Fin 2 → IVec S16 32) a x).toNat < S264x256.size a := fun v6 v8 v10 v12 v14 v16 v18 v20 v22 v24 v26 v28 v30 v32 v34 v36 v3661 k0_hw56 => k0_hw56.2.2.2.2.2.2.2.1
theorem k0_idx889_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v22] : Fin 2 → IVec S16 32) a x).toNat < S264x256.size a := fun v6 v8 v10 v12 v14 v16 v18 v20 v22 v24 v26 v28 v30 v32 v34 v36 v3661 k0_hw56 => k0_hw56.2.2.2.2.2.2.2.2.1
theorem k0_idx890_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v24] : Fin 2 → IVec S16 32) a x).toNat < S264x256.size a := fun v6 v8 v10 v12 v14 v16 v18 v20 v22 v24 v26 v28 v30 v32 v34 v36 v3661 k0_hw56 => k0_hw56.2.2.2.2.2.2.2.2.2.1
theorem k0_idx891_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v26] : Fin 2 → IVec S16 32) a x).toNat < S264x256.size a := fun v6 v8 v10 v12 v14 v16 v18 v20 v22 v24 v26 v28 v30 v32 v34 v36 v3661 k0_hw56 => k0_hw56.2.2.2.2.2.2.2.2.2.2.1
theorem k0_idx892_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v28] : Fin 2 → IVec S16 32) a x).toNat < S264x256.size a := fun v6 v8 v10 v12 v14 v16 v18 v20 v22 v24 v26 v28 v30 v32 v34 v36 v3661 k0_hw56 => k0_hw56.2.2.2.2.2.2.2.2.2.2.2.1
theorem k0_idx893_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v30] : Fin 2 → IVec S16 32) a x).toNat < S264x256.size a := fun v6 v8 v10 v12 v14 v16 v18 v20 v22 v24 v26 v28 v30 v32 v34 v36 v3661 k0_hw56 => k0_hw56.2.2.2.2.2.2.2.2.2.2.2.2.1
theorem k0_idx894_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v32] : Fin 2 → IVec S16 32) a x).toNat < S264x256.size a := fun v6 v8 v10 v12 v14 v16 v18 v20 v22 v24 v26 v28 v30 v32 v34 v36 v3661 k0_hw56 => k0_hw56.2.2.2.2.2.2.2.2.2.2.2.2.2.1
theorem k0_idx895_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v34] : Fin 2 → IVec S16 32) a x).toNat < S264x256.size a := fun v6 v8 v10 v12 v14 v16 v18 v20 v22 v24 v26 v28 v30 v32 v34 v36 v3661 k0_hw56 => k0_hw56.2.2.2.2.2.2.2.2.2.2.2.2.2.2.1
theorem k0_idx896_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3661 : IVec S16 32) (k0_hw56 : k0_chk56 v6 v8 v10 v12 v14 v16 v18 v20 v22 v24 v26 v28 v30 v32 v34 v36 v3661), ∀ a x, ((![v3661, v36] : Fin 2 → IVec S16 32) a x).toNat < S264x256.size a := fun v6 v8 v10 v12 v14 v16 v18 v20 v22 v24 v26 v28 v30 v32 v34 v36 v3661 k0_hw56 => k0_hw56.2.2.2.2.2.2.2.2.2.2.2.2.2.2.2

def k0_chk57 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) : Prop :=
  (∀ a x, ((![v3727, v6] : Fin 2 → IVec S16 32) a x).toNat < S264x256.size a) ∧
  (∀ a x, ((![v3727, v8] : Fin 2 → IVec S16 32) a x).toNat < S264x256.size a) ∧
  (∀ a x, ((![v3727, v10] : Fin 2 → IVec S16 32) a x).toNat < S264x256.size a) ∧
  (∀ a x, ((![v3727, v12] : Fin 2 → IVec S16 32) a x).toNat < S264x256.size a) ∧
  (∀ a x, ((![v3727, v14] : Fin 2 → IVec S16 32) a x).toNat < S264x256.size a) ∧
  (∀ a x, ((![v3727, v16] : Fin 2 → IVec S16 32) a x).toNat < S264x256.size a) ∧
  (∀ a x, ((![v3727, v18] : Fin 2 → IVec S16 32) a x).toNat < S264x256.size a) ∧
  (∀ a x, ((![v3727, v20] : Fin 2 → IVec S16 32) a x).toNat < S264x256.size a) ∧
  (∀ a x, ((![v3727, v22] : Fin 2 → IVec S16 32) a x).toNat < S264x256.size a) ∧
  (∀ a x, ((![v3727, v24] : Fin 2 → IVec S16 32) a x).toNat < S264x256.size a) ∧
  (∀ a x, ((![v3727, v26] : Fin 2 → IVec S16 32) a x).toNat < S264x256.size a) ∧
  (∀ a x, ((![v3727, v28] : Fin 2 → IVec S16 32) a x).toNat < S264x256.size a) ∧
  (∀ a x, ((![v3727, v30] : Fin 2 → IVec S16 32) a x).toNat < S264x256.size a) ∧
  (∀ a x, ((![v3727, v32] : Fin 2 → IVec S16 32) a x).toNat < S264x256.size a) ∧
  (∀ a x, ((![v3727, v34] : Fin 2 → IVec S16 32) a x).toNat < S264x256.size a) ∧
  (∀ a x, ((![v3727, v36] : Fin 2 → IVec S16 32) a x).toNat < S264x256.size a)
theorem k0_idx897_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v6] : Fin 2 → IVec S16 32) a x).toNat < S264x256.size a := fun v6 v8 v10 v12 v14 v16 v18 v20 v22 v24 v26 v28 v30 v32 v34 v36 v3727 k0_hw57 => k0_hw57.1
theorem k0_idx898_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v8] : Fin 2 → IVec S16 32) a x).toNat < S264x256.size a := fun v6 v8 v10 v12 v14 v16 v18 v20 v22 v24 v26 v28 v30 v32 v34 v36 v3727 k0_hw57 => k0_hw57.2.1
theorem k0_idx899_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v10] : Fin 2 → IVec S16 32) a x).toNat < S264x256.size a := fun v6 v8 v10 v12 v14 v16 v18 v20 v22 v24 v26 v28 v30 v32 v34 v36 v3727 k0_hw57 => k0_hw57.2.2.1
theorem k0_idx900_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v12] : Fin 2 → IVec S16 32) a x).toNat < S264x256.size a := fun v6 v8 v10 v12 v14 v16 v18 v20 v22 v24 v26 v28 v30 v32 v34 v36 v3727 k0_hw57 => k0_hw57.2.2.2.1
theorem k0_idx901_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v14] : Fin 2 → IVec S16 32) a x).toNat < S264x256.size a := fun v6 v8 v10 v12 v14 v16 v18 v20 v22 v24 v26 v28 v30 v32 v34 v36 v3727 k0_hw57 => k0_hw57.2.2.2.2.1
theorem k0_idx902_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v16] : Fin 2 → IVec S16 32) a x).toNat < S264x256.size a := fun v6 v8 v10 v12 v14 v16 v18 v20 v22 v24 v26 v28 v30 v32 v34 v36 v3727 k0_hw57 => k0_hw57.2.2.2.2.2.1
theorem k0_idx903_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v18] : Fin 2 → IVec S16 32) a x).toNat < S264x256.size a := fun v6 v8 v10 v12 v14 v16 v18 v20 v22 v24 v26 v28 v30 v32 v34 v36 v3727 k0_hw57 => k0_hw57.2.2.2.2.2.2.1
theorem k0_idx904_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v20] : Fin 2 → IVec S16 32) a x).toNat < S264x256.size a := fun v6 v8 v10 v12 v14 v16 v18 v20 v22 v24 v26 v28 v30 v32 v34 v36 v3727 k0_hw57 => k0_hw57.2.2.2.2.2.2.2.1
theorem k0_idx905_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v22] : Fin 2 → IVec S16 32) a x).toNat < S264x256.size a := fun v6 v8 v10 v12 v14 v16 v18 v20 v22 v24 v26 v28 v30 v32 v34 v36 v3727 k0_hw57 => k0_hw57.2.2.2.2.2.2.2.2.1
theorem k0_idx906_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v24] : Fin 2 → IVec S16 32) a x).toNat < S264x256.size a := fun v6 v8 v10 v12 v14 v16 v18 v20 v22 v24 v26 v28 v30 v32 v34 v36 v3727 k0_hw57 => k0_hw57.2.2.2.2.2.2.2.2.2.1
theorem k0_idx907_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v26] : Fin 2 → IVec S16 32) a x).toNat < S264x256.size a := fun v6 v8 v10 v12 v14 v16 v18 v20 v22 v24 v26 v28 v30 v32 v34 v36 v3727 k0_hw57 => k0_hw57.2.2.2.2.2.2.2.2.2.2.1
theorem k0_idx908_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v28] : Fin 2 → IVec S16 32) a x).toNat < S264x256.size a := fun v6 v8 v10 v12 v14 v16 v18 v20 v22 v24 v26 v28 v30 v32 v34 v36 v3727 k0_hw57 => k0_hw57.2.2.2.2.2.2.2.2.2.2.2.1
theorem k0_idx909_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v30] : Fin 2 → IVec S16 32) a x).toNat < S264x256.size a := fun v6 v8 v10 v12 v14 v16 v18 v20 v22 v24 v26 v28 v30 v32 v34 v36 v3727 k0_hw57 => k0_hw57.2.2.2.2.2.2.2.2.2.2.2.2.1
theorem k0_idx910_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v32] : Fin 2 → IVec S16 32) a x).toNat < S264x256.size a := fun v6 v8 v10 v12 v14 v16 v18 v20 v22 v24 v26 v28 v30 v32 v34 v36 v3727 k0_hw57 => k0_hw57.2.2.2.2.2.2.2.2.2.2.2.2.2.1
theorem k0_idx911_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v34] : Fin 2 → IVec S16 32) a x).toNat < S264x256.size a := fun v6 v8 v10 v12 v14 v16 v18 v20 v22 v24 v26 v28 v30 v32 v34 v36 v3727 k0_hw57 => k0_hw57.2.2.2.2.2.2.2.2.2.2.2.2.2.2.1
theorem k0_idx912_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3727 : IVec S16 32) (k0_hw57 : k0_chk57 v6 v8 v10 v12 v14 v16 v18 v20 v22 v24 v26 v28 v30 v32 v34 v36 v3727), ∀ a x, ((![v3727, v36] : Fin 2 → IVec S16 32) a x).toNat < S264x256.size a := fun v6 v8 v10 v12 v14 v16 v18 v20 v22 v24 v26 v28 v30 v32 v34 v36 v3727 k0_hw57 => k0_hw57.2.2.2.2.2.2.2.2.2.2.2.2.2.2.2

def k0_chk58 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) : Prop :=
  (∀ a x, ((![v3793, v6] : Fin 2 → IVec S16 32) a x).toNat < S264x256.size a) ∧
  (∀ a x, ((![v3793, v8] : Fin 2 → IVec S16 32) a x).toNat < S264x256.size a) ∧
  (∀ a x, ((![v3793, v10] : Fin 2 → IVec S16 32) a x).toNat < S264x256.size a) ∧
  (∀ a x, ((![v3793, v12] : Fin 2 → IVec S16 32) a x).toNat < S264x256.size a) ∧
  (∀ a x, ((![v3793, v14] : Fin 2 → IVec S16 32) a x).toNat < S264x256.size a) ∧
  (∀ a x, ((![v3793, v16] : Fin 2 → IVec S16 32) a x).toNat < S264x256.size a) ∧
  (∀ a x, ((![v3793, v18] : Fin 2 → IVec S16 32) a x).toNat < S264x256.size a) ∧
  (∀ a x, ((![v3793, v20] : Fin 2 → IVec S16 32) a x).toNat < S264x256.size a) ∧
  (∀ a x, ((![v3793, v22] : Fin 2 → IVec S16 32) a x).toNat < S264x256.size a) ∧
  (∀ a x, ((![v3793, v24] : Fin 2 → IVec S16 32) a x).toNat < S264x256.size a) ∧
  (∀ a x, ((![v3793, v26] : Fin 2 → IVec S16 32) a x).toNat < S264x256.size a) ∧
  (∀ a x, ((![v3793, v28] : Fin 2 → IVec S16 32) a x).toNat < S264x256.size a) ∧
  (∀ a x, ((![v3793, v30] : Fin 2 → IVec S16 32) a x).toNat < S264x256.size a) ∧
  (∀ a x, ((![v3793, v32] : Fin 2 → IVec S16 32) a x).toNat < S264x256.size a) ∧
  (∀ a x, ((![v3793, v34] : Fin 2 → IVec S16 32) a x).toNat < S264x256.size a) ∧
  (∀ a x, ((![v3793, v36] : Fin 2 → IVec S16 32) a x).toNat < S264x256.size a)
theorem k0_idx913_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v6] : Fin 2 → IVec S16 32) a x).toNat < S264x256.size a := fun v6 v8 v10 v12 v14 v16 v18 v20 v22 v24 v26 v28 v30 v32 v34 v36 v3793 k0_hw58 => k0_hw58.1
theorem k0_idx914_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v8] : Fin 2 → IVec S16 32) a x).toNat < S264x256.size a := fun v6 v8 v10 v12 v14 v16 v18 v20 v22 v24 v26 v28 v30 v32 v34 v36 v3793 k0_hw58 => k0_hw58.2.1
theorem k0_idx915_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v10] : Fin 2 → IVec S16 32) a x).toNat < S264x256.size a := fun v6 v8 v10 v12 v14 v16 v18 v20 v22 v24 v26 v28 v30 v32 v34 v36 v3793 k0_hw58 => k0_hw58.2.2.1
theorem k0_idx916_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v12] : Fin 2 → IVec S16 32) a x).toNat < S264x256.size a := fun v6 v8 v10 v12 v14 v16 v18 v20 v22 v24 v26 v28 v30 v32 v34 v36 v3793 k0_hw58 => k0_hw58.2.2.2.1
theorem k0_idx917_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v14] : Fin 2 → IVec S16 32) a x).toNat < S264x256.size a := fun v6 v8 v10 v12 v14 v16 v18 v20 v22 v24 v26 v28 v30 v32 v34 v36 v3793 k0_hw58 => k0_hw58.2.2.2.2.1
theorem k0_idx918_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v16] : Fin 2 → IVec S16 32) a x).toNat < S264x256.size a := fun v6 v8 v10 v12 v14 v16 v18 v20 v22 v24 v26 v28 v30 v32 v34 v36 v3793 k0_hw58 => k0_hw58.2.2.2.2.2.1
theorem k0_idx919_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v18] : Fin 2 → IVec S16 32) a x).toNat < S264x256.size a := fun v6 v8 v10 v12 v14 v16 v18 v20 v22 v24 v26 v28 v30 v32 v34 v36 v3793 k0_hw58 => k0_hw58.2.2.2.2.2.2.1
theorem k0_idx920_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v20] : Fin 2 → IVec S16 32) a x).toNat < S264x256.size a := fun v6 v8 v10 v12 v14 v16 v18 v20 v22 v24 v26 v28 v30 v32 v34 v36 v3793 k0_hw58 => k0_hw58.2.2.2.2.2.2.2.1
theorem k0_idx921_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v22] : Fin 2 → IVec S16 32) a x).toNat < S264x256.size a := fun v6 v8 v10 v12 v14 v16 v18 v20 v22 v24 v26 v28 v30 v32 v34 v36 v3793 k0_hw58 => k0_hw58.2.2.2.2.2.2.2.2.1
theorem k0_idx922_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v24] : Fin 2 → IVec S16 32) a x).toNat < S264x256.size a := fun v6 v8 v10 v12 v14 v16 v18 v20 v22 v24 v26 v28 v30 v32 v34 v36 v3793 k0_hw58 => k0_hw58.2.2.2.2.2.2.2.2.2.1
theorem k0_idx923_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v26] : Fin 2 → IVec S16 32) a x).toNat < S264x256.size a := fun v6 v8 v10 v12 v14 v16 v18 v20 v22 v24 v26 v28 v30 v32 v34 v36 v3793 k0_hw58 => k0_hw58.2.2.2.2.2.2.2.2.2.2.1
theorem k0_idx924_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v28] : Fin 2 → IVec S16 32) a x).toNat < S264x256.size a := fun v6 v8 v10 v12 v14 v16 v18 v20 v22 v24 v26 v28 v30 v32 v34 v36 v3793 k0_hw58 => k0_hw58.2.2.2.2.2.2.2.2.2.2.2.1
theorem k0_idx925_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v30] : Fin 2 → IVec S16 32) a x).toNat < S264x256.size a := fun v6 v8 v10 v12 v14 v16 v18 v20 v22 v24 v26 v28 v30 v32 v34 v36 v3793 k0_hw58 => k0_hw58.2.2.2.2.2.2.2.2.2.2.2.2.1
theorem k0_idx926_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v32] : Fin 2 → IVec S16 32) a x).toNat < S264x256.size a := fun v6 v8 v10 v12 v14 v16 v18 v20 v22 v24 v26 v28 v30 v32 v34 v36 v3793 k0_hw58 => k0_hw58.2.2.2.2.2.2.2.2.2.2.2.2.2.1
theorem k0_idx927_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v34] : Fin 2 → IVec S16 32) a x).toNat < S264x256.size a := fun v6 v8 v10 v12 v14 v16 v18 v20 v22 v24 v26 v28 v30 v32 v34 v36 v3793 k0_hw58 => k0_hw58.2.2.2.2.2.2.2.2.2.2.2.2.2.2.1
theorem k0_idx928_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3793 : IVec S16 32) (k0_hw58 : k0_chk58 v6 v8 v10 v12 v14 v16 v18 v20 v22 v24 v26 v28 v30 v32 v34 v36 v3793), ∀ a x, ((![v3793, v36] : Fin 2 → IVec S16 32) a x).toNat < S264x256.size a := fun v6 v8 v10 v12 v14 v16 v18 v20 v22 v24 v26 v28 v30 v32 v34 v36 v3793 k0_hw58 => k0_hw58.2.2.2.2.2.2.2.2.2.2.2.2.2.2.2

def k0_chk59 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) : Prop :=
  (∀ a x, ((![v3859, v6] : Fin 2 → IVec S16 32) a x).toNat < S264x256.size a) ∧
  (∀ a x, ((![v3859, v8] : Fin 2 → IVec S16 32) a x).toNat < S264x256.size a) ∧
  (∀ a x, ((![v3859, v10] : Fin 2 → IVec S16 32) a x).toNat < S264x256.size a) ∧
  (∀ a x, ((![v3859, v12] : Fin 2 → IVec S16 32) a x).toNat < S264x256.size a) ∧
  (∀ a x, ((![v3859, v14] : Fin 2 → IVec S16 32) a x).toNat < S264x256.size a) ∧
  (∀ a x, ((![v3859, v16] : Fin 2 → IVec S16 32) a x).toNat < S264x256.size a) ∧
  (∀ a x, ((![v3859, v18] : Fin 2 → IVec S16 32) a x).toNat < S264x256.size a) ∧
  (∀ a x, ((![v3859, v20] : Fin 2 → IVec S16 32) a x).toNat < S264x256.size a) ∧
  (∀ a x, ((![v3859, v22] : Fin 2 → IVec S16 32) a x).toNat < S264x256.size a) ∧
  (∀ a x, ((![v3859, v24] : Fin 2 → IVec S16 32) a x).toNat < S264x256.size a) ∧
  (∀ a x, ((![v3859, v26] : Fin 2 → IVec S16 32) a x).toNat < S264x256.size a) ∧
  (∀ a x, ((![v3859, v28] : Fin 2 → IVec S16 32) a x).toNat < S264x256.size a) ∧
  (∀ a x, ((![v3859, v30] : Fin 2 → IVec S16 32) a x).toNat < S264x256.size a) ∧
  (∀ a x, ((![v3859, v32] : Fin 2 → IVec S16 32) a x).toNat < S264x256.size a) ∧
  (∀ a x, ((![v3859, v34] : Fin 2 → IVec S16 32) a x).toNat < S264x256.size a) ∧
  (∀ a x, ((![v3859, v36] : Fin 2 → IVec S16 32) a x).toNat < S264x256.size a)
theorem k0_idx929_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v6] : Fin 2 → IVec S16 32) a x).toNat < S264x256.size a := fun v6 v8 v10 v12 v14 v16 v18 v20 v22 v24 v26 v28 v30 v32 v34 v36 v3859 k0_hw59 => k0_hw59.1
theorem k0_idx930_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v8] : Fin 2 → IVec S16 32) a x).toNat < S264x256.size a := fun v6 v8 v10 v12 v14 v16 v18 v20 v22 v24 v26 v28 v30 v32 v34 v36 v3859 k0_hw59 => k0_hw59.2.1
theorem k0_idx931_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v10] : Fin 2 → IVec S16 32) a x).toNat < S264x256.size a := fun v6 v8 v10 v12 v14 v16 v18 v20 v22 v24 v26 v28 v30 v32 v34 v36 v3859 k0_hw59 => k0_hw59.2.2.1
theorem k0_idx932_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v12] : Fin 2 → IVec S16 32) a x).toNat < S264x256.size a := fun v6 v8 v10 v12 v14 v16 v18 v20 v22 v24 v26 v28 v30 v32 v34 v36 v3859 k0_hw59 => k0_hw59.2.2.2.1
theorem k0_idx933_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v14] : Fin 2 → IVec S16 32) a x).toNat < S264x256.size a := fun v6 v8 v10 v12 v14 v16 v18 v20 v22 v24 v26 v28 v30 v32 v34 v36 v3859 k0_hw59 => k0_hw59.2.2.2.2.1
theorem k0_idx934_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v16] : Fin 2 → IVec S16 32) a x).toNat < S264x256.size a := fun v6 v8 v10 v12 v14 v16 v18 v20 v22 v24 v26 v28 v30 v32 v34 v36 v3859 k0_hw59 => k0_hw59.2.2.2.2.2.1
theorem k0_idx935_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v18] : Fin 2 → IVec S16 32) a x).toNat < S264x256.size a := fun v6 v8 v10 v12 v14 v16 v18 v20 v22 v24 v26 v28 v30 v32 v34 v36 v3859 k0_hw59 => k0_hw59.2.2.2.2.2.2.1
theorem k0_idx936_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v20] : Fin 2 → IVec S16 32) a x).toNat < S264x256.size a := fun v6 v8 v10 v12 v14 v16 v18 v20 v22 v24 v26 v28 v30 v32 v34 v36 v3859 k0_hw59 => k0_hw59.2.2.2.2.2.2.2.1
theorem k0_idx937_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v22] : Fin 2 → IVec S16 32) a x).toNat < S264x256.size a := fun v6 v8 v10 v12 v14 v16 v18 v20 v22 v24 v26 v28 v30 v32 v34 v36 v3859 k0_hw59 => k0_hw59.2.2.2.2.2.2.2.2.1
theorem k0_idx938_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v24] : Fin 2 → IVec S16 32) a x).toNat < S264x256.size a := fun v6 v8 v10 v12 v14 v16 v18 v20 v22 v24 v26 v28 v30 v32 v34 v36 v3859 k0_hw59 => k0_hw59.2.2.2.2.2.2.2.2.2.1
theorem k0_idx939_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v26] : Fin 2 → IVec S16 32) a x).toNat < S264x256.size a := fun v6 v8 v10 v12 v14 v16 v18 v20 v22 v24 v26 v28 v30 v32 v34 v36 v3859 k0_hw59 => k0_hw59.2.2.2.2.2.2.2.2.2.2.1
theorem k0_idx940_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v28] : Fin 2 → IVec S16 32) a x).toNat < S264x256.size a := fun v6 v8 v10 v12 v14 v16 v18 v20 v22 v24 v26 v28 v30 v32 v34 v36 v3859 k0_hw59 => k0_hw59.2.2.2.2.2.2.2.2.2.2.2.1
theorem k0_idx941_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v30] : Fin 2 → IVec S16 32) a x).toNat < S264x256.size a := fun v6 v8 v10 v12 v14 v16 v18 v20 v22 v24 v26 v28 v30 v32 v34 v36 v3859 k0_hw59 => k0_hw59.2.2.2.2.2.2.2.2.2.2.2.2.1
theorem k0_idx942_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v32] : Fin 2 → IVec S16 32) a x).toNat < S264x256.size a := fun v6 v8 v10 v12 v14 v16 v18 v20 v22 v24 v26 v28 v30 v32 v34 v36 v3859 k0_hw59 => k0_hw59.2.2.2.2.2.2.2.2.2.2.2.2.2.1
theorem k0_idx943_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v34] : Fin 2 → IVec S16 32) a x).toNat < S264x256.size a := fun v6 v8 v10 v12 v14 v16 v18 v20 v22 v24 v26 v28 v30 v32 v34 v36 v3859 k0_hw59 => k0_hw59.2.2.2.2.2.2.2.2.2.2.2.2.2.2.1
theorem k0_idx944_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3859 : IVec S16 32) (k0_hw59 : k0_chk59 v6 v8 v10 v12 v14 v16 v18 v20 v22 v24 v26 v28 v30 v32 v34 v36 v3859), ∀ a x, ((![v3859, v36] : Fin 2 → IVec S16 32) a x).toNat < S264x256.size a := fun v6 v8 v10 v12 v14 v16 v18 v20 v22 v24 v26 v28 v30 v32 v34 v36 v3859 k0_hw59 => k0_hw59.2.2.2.2.2.2.2.2.2.2.2.2.2.2.2

def k0_chk60 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) : Prop :=
  (∀ a x, ((![v3925, v6] : Fin 2 → IVec S16 32) a x).toNat < S264x256.size a) ∧
  (∀ a x, ((![v3925, v8] : Fin 2 → IVec S16 32) a x).toNat < S264x256.size a) ∧
  (∀ a x, ((![v3925, v10] : Fin 2 → IVec S16 32) a x).toNat < S264x256.size a) ∧
  (∀ a x, ((![v3925, v12] : Fin 2 → IVec S16 32) a x).toNat < S264x256.size a) ∧
  (∀ a x, ((![v3925, v14] : Fin 2 → IVec S16 32) a x).toNat < S264x256.size a) ∧
  (∀ a x, ((![v3925, v16] : Fin 2 → IVec S16 32) a x).toNat < S264x256.size a) ∧
  (∀ a x, ((![v3925, v18] : Fin 2 → IVec S16 32) a x).toNat < S264x256.size a) ∧
  (∀ a x, ((![v3925, v20] : Fin 2 → IVec S16 32) a x).toNat < S264x256.size a) ∧
  (∀ a x, ((![v3925, v22] : Fin 2 → IVec S16 32) a x).toNat < S264x256.size a) ∧
  (∀ a x, ((![v3925, v24] : Fin 2 → IVec S16 32) a x).toNat < S264x256.size a) ∧
  (∀ a x, ((![v3925, v26] : Fin 2 → IVec S16 32) a x).toNat < S264x256.size a) ∧
  (∀ a x, ((![v3925, v28] : Fin 2 → IVec S16 32) a x).toNat < S264x256.size a) ∧
  (∀ a x, ((![v3925, v30] : Fin 2 → IVec S16 32) a x).toNat < S264x256.size a) ∧
  (∀ a x, ((![v3925, v32] : Fin 2 → IVec S16 32) a x).toNat < S264x256.size a) ∧
  (∀ a x, ((![v3925, v34] : Fin 2 → IVec S16 32) a x).toNat < S264x256.size a) ∧
  (∀ a x, ((![v3925, v36] : Fin 2 → IVec S16 32) a x).toNat < S264x256.size a)
theorem k0_idx945_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v6] : Fin 2 → IVec S16 32) a x).toNat < S264x256.size a := fun v6 v8 v10 v12 v14 v16 v18 v20 v22 v24 v26 v28 v30 v32 v34 v36 v3925 k0_hw60 => k0_hw60.1
theorem k0_idx946_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v8] : Fin 2 → IVec S16 32) a x).toNat < S264x256.size a := fun v6 v8 v10 v12 v14 v16 v18 v20 v22 v24 v26 v28 v30 v32 v34 v36 v3925 k0_hw60 => k0_hw60.2.1
theorem k0_idx947_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v10] : Fin 2 → IVec S16 32) a x).toNat < S264x256.size a := fun v6 v8 v10 v12 v14 v16 v18 v20 v22 v24 v26 v28 v30 v32 v34 v36 v3925 k0_hw60 => k0_hw60.2.2.1
theorem k0_idx948_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v12] : Fin 2 → IVec S16 32) a x).toNat < S264x256.size a := fun v6 v8 v10 v12 v14 v16 v18 v20 v22 v24 v26 v28 v30 v32 v34 v36 v3925 k0_hw60 => k0_hw60.2.2.2.1
theorem k0_idx949_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v14] : Fin 2 → IVec S16 32) a x).toNat < S264x256.size a := fun v6 v8 v10 v12 v14 v16 v18 v20 v22 v24 v26 v28 v30 v32 v34 v36 v3925 k0_hw60 => k0_hw60.2.2.2.2.1
theorem k0_idx950_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v16] : Fin 2 → IVec S16 32) a x).toNat < S264x256.size a := fun v6 v8 v10 v12 v14 v16 v18 v20 v22 v24 v26 v28 v30 v32 v34 v36 v3925 k0_hw60 => k0_hw60.2.2.2.2.2.1
theorem k0_idx951_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v18] : Fin 2 → IVec S16 32) a x).toNat < S264x256.size a := fun v6 v8 v10 v12 v14 v16 v18 v20 v22 v24 v26 v28 v30 v32 v34 v36 v3925 k0_hw60 => k0_hw60.2.2.2.2.2.2.1
theorem k0_idx952_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v20] : Fin 2 → IVec S16 32) a x).toNat < S264x256.size a := fun v6 v8 v10 v12 v14 v16 v18 v20 v22 v24 v26 v28 v30 v32 v34 v36 v3925 k0_hw60 => k0_hw60.2.2.2.2.2.2.2.1
theorem k0_idx953_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v22] : Fin 2 → IVec S16 32) a x).toNat < S264x256.size a := fun v6 v8 v10 v12 v14 v16 v18 v20 v22 v24 v26 v28 v30 v32 v34 v36 v3925 k0_hw60 => k0_hw60.2.2.2.2.2.2.2.2.1
theorem k0_idx954_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v24] : Fin 2 → IVec S16 32) a x).toNat < S264x256.size a := fun v6 v8 v10 v12 v14 v16 v18 v20 v22 v24 v26 v28 v30 v32 v34 v36 v3925 k0_hw60 => k0_hw60.2.2.2.2.2.2.2.2.2.1
theorem k0_idx955_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v26] : Fin 2 → IVec S16 32) a x).toNat < S264x256.size a := fun v6 v8 v10 v12 v14 v16 v18 v20 v22 v24 v26 v28 v30 v32 v34 v36 v3925 k0_hw60 => k0_hw60.2.2.2.2.2.2.2.2.2.2.1
theorem k0_idx956_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v28] : Fin 2 → IVec S16 32) a x).toNat < S264x256.size a := fun v6 v8 v10 v12 v14 v16 v18 v20 v22 v24 v26 v28 v30 v32 v34 v36 v3925 k0_hw60 => k0_hw60.2.2.2.2.2.2.2.2.2.2.2.1
theorem k0_idx957_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v30] : Fin 2 → IVec S16 32) a x).toNat < S264x256.size a := fun v6 v8 v10 v12 v14 v16 v18 v20 v22 v24 v26 v28 v30 v32 v34 v36 v3925 k0_hw60 => k0_hw60.2.2.2.2.2.2.2.2.2.2.2.2.1
theorem k0_idx958_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v32] : Fin 2 → IVec S16 32) a x).toNat < S264x256.size a := fun v6 v8 v10 v12 v14 v16 v18 v20 v22 v24 v26 v28 v30 v32 v34 v36 v3925 k0_hw60 => k0_hw60.2.2.2.2.2.2.2.2.2.2.2.2.2.1
theorem k0_idx959_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v34] : Fin 2 → IVec S16 32) a x).toNat < S264x256.size a := fun v6 v8 v10 v12 v14 v16 v18 v20 v22 v24 v26 v28 v30 v32 v34 v36 v3925 k0_hw60 => k0_hw60.2.2.2.2.2.2.2.2.2.2.2.2.2.2.1
theorem k0_idx960_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3925 : IVec S16 32) (k0_hw60 : k0_chk60 v6 v8 v10 v12 v14 v16 v18 v20 v22 v24 v26 v28 v30 v32 v34 v36 v3925), ∀ a x, ((![v3925, v36] : Fin 2 → IVec S16 32) a x).toNat < S264x256.size a := fun v6 v8 v10 v12 v14 v16 v18 v20 v22 v24 v26 v28 v30 v32 v34 v36 v3925 k0_hw60 => k0_hw60.2.2.2.2.2.2.2.2.2.2.2.2.2.2.2

def k0_chk61 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) : Prop :=
  (∀ a x, ((![v3991, v6] : Fin 2 → IVec S16 32) a x).toNat < S264x256.size a) ∧
  (∀ a x, ((![v3991, v8] : Fin 2 → IVec S16 32) a x).toNat < S264x256.size a) ∧
  (∀ a x, ((![v3991, v10] : Fin 2 → IVec S16 32) a x).toNat < S264x256.size a) ∧
  (∀ a x, ((![v3991, v12] : Fin 2 → IVec S16 32) a x).toNat < S264x256.size a) ∧
  (∀ a x, ((![v3991, v14] : Fin 2 → IVec S16 32) a x).toNat < S264x256.size a) ∧
  (∀ a x, ((![v3991, v16] : Fin 2 → IVec S16 32) a x).toNat < S264x256.size a) ∧
  (∀ a x, ((![v3991, v18] : Fin 2 → IVec S16 32) a x).toNat < S264x256.size a) ∧
  (∀ a x, ((![v3991, v20] : Fin 2 → IVec S16 32) a x).toNat < S264x256.size a) ∧
  (∀ a x, ((![v3991, v22] : Fin 2 → IVec S16 32) a x).toNat < S264x256.size a) ∧
  (∀ a x, ((![v3991, v24] : Fin 2 → IVec S16 32) a x).toNat < S264x256.size a) ∧
  (∀ a x, ((![v3991, v26] : Fin 2 → IVec S16 32) a x).toNat < S264x256.size a) ∧
  (∀ a x, ((![v3991, v28] : Fin 2 → IVec S16 32) a x).toNat < S264x256.size a) ∧
  (∀ a x, ((![v3991, v30] : Fin 2 → IVec S16 32) a x).toNat < S264x256.size a) ∧
  (∀ a x, ((![v3991, v32] : Fin 2 → IVec S16 32) a x).toNat < S264x256.size a) ∧
  (∀ a x, ((![v3991, v34] : Fin 2 → IVec S16 32) a x).toNat < S264x256.size a) ∧
  (∀ a x, ((![v3991, v36] : Fin 2 → IVec S16 32) a x).toNat < S264x256.size a)
theorem k0_idx961_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v6] : Fin 2 → IVec S16 32) a x).toNat < S264x256.size a := fun v6 v8 v10 v12 v14 v16 v18 v20 v22 v24 v26 v28 v30 v32 v34 v36 v3991 k0_hw61 => k0_hw61.1
theorem k0_idx962_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v8] : Fin 2 → IVec S16 32) a x).toNat < S264x256.size a := fun v6 v8 v10 v12 v14 v16 v18 v20 v22 v24 v26 v28 v30 v32 v34 v36 v3991 k0_hw61 => k0_hw61.2.1
theorem k0_idx963_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v10] : Fin 2 → IVec S16 32) a x).toNat < S264x256.size a := fun v6 v8 v10 v12 v14 v16 v18 v20 v22 v24 v26 v28 v30 v32 v34 v36 v3991 k0_hw61 => k0_hw61.2.2.1
theorem k0_idx964_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v12] : Fin 2 → IVec S16 32) a x).toNat < S264x256.size a := fun v6 v8 v10 v12 v14 v16 v18 v20 v22 v24 v26 v28 v30 v32 v34 v36 v3991 k0_hw61 => k0_hw61.2.2.2.1
theorem k0_idx965_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v14] : Fin 2 → IVec S16 32) a x).toNat < S264x256.size a := fun v6 v8 v10 v12 v14 v16 v18 v20 v22 v24 v26 v28 v30 v32 v34 v36 v3991 k0_hw61 => k0_hw61.2.2.2.2.1
theorem k0_idx966_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v16] : Fin 2 → IVec S16 32) a x).toNat < S264x256.size a := fun v6 v8 v10 v12 v14 v16 v18 v20 v22 v24 v26 v28 v30 v32 v34 v36 v3991 k0_hw61 => k0_hw61.2.2.2.2.2.1
theorem k0_idx967_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v18] : Fin 2 → IVec S16 32) a x).toNat < S264x256.size a := fun v6 v8 v10 v12 v14 v16 v18 v20 v22 v24 v26 v28 v30 v32 v34 v36 v3991 k0_hw61 => k0_hw61.2.2.2.2.2.2.1
theorem k0_idx968_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v20] : Fin 2 → IVec S16 32) a x).toNat < S264x256.size a := fun v6 v8 v10 v12 v14 v16 v18 v20 v22 v24 v26 v28 v30 v32 v34 v36 v3991 k0_hw61 => k0_hw61.2.2.2.2.2.2.2.1
theorem k0_idx969_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v22] : Fin 2 → IVec S16 32) a x).toNat < S264x256.size a := fun v6 v8 v10 v12 v14 v16 v18 v20 v22 v24 v26 v28 v30 v32 v34 v36 v3991 k0_hw61 => k0_hw61.2.2.2.2.2.2.2.2.1
theorem k0_idx970_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v24] : Fin 2 → IVec S16 32) a x).toNat < S264x256.size a := fun v6 v8 v10 v12 v14 v16 v18 v20 v22 v24 v26 v28 v30 v32 v34 v36 v3991 k0_hw61 => k0_hw61.2.2.2.2.2.2.2.2.2.1
theorem k0_idx971_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v26] : Fin 2 → IVec S16 32) a x).toNat < S264x256.size a := fun v6 v8 v10 v12 v14 v16 v18 v20 v22 v24 v26 v28 v30 v32 v34 v36 v3991 k0_hw61 => k0_hw61.2.2.2.2.2.2.2.2.2.2.1
theorem k0_idx972_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v28] : Fin 2 → IVec S16 32) a x).toNat < S264x256.size a := fun v6 v8 v10 v12 v14 v16 v18 v20 v22 v24 v26 v28 v30 v32 v34 v36 v3991 k0_hw61 => k0_hw61.2.2.2.2.2.2.2.2.2.2.2.1
theorem k0_idx973_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v30] : Fin 2 → IVec S16 32) a x).toNat < S264x256.size a := fun v6 v8 v10 v12 v14 v16 v18 v20 v22 v24 v26 v28 v30 v32 v34 v36 v3991 k0_hw61 => k0_hw61.2.2.2.2.2.2.2.2.2.2.2.2.1
theorem k0_idx974_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v32] : Fin 2 → IVec S16 32) a x).toNat < S264x256.size a := fun v6 v8 v10 v12 v14 v16 v18 v20 v22 v24 v26 v28 v30 v32 v34 v36 v3991 k0_hw61 => k0_hw61.2.2.2.2.2.2.2.2.2.2.2.2.2.1
theorem k0_idx975_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v34] : Fin 2 → IVec S16 32) a x).toNat < S264x256.size a := fun v6 v8 v10 v12 v14 v16 v18 v20 v22 v24 v26 v28 v30 v32 v34 v36 v3991 k0_hw61 => k0_hw61.2.2.2.2.2.2.2.2.2.2.2.2.2.2.1
theorem k0_idx976_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v3991 : IVec S16 32) (k0_hw61 : k0_chk61 v6 v8 v10 v12 v14 v16 v18 v20 v22 v24 v26 v28 v30 v32 v34 v36 v3991), ∀ a x, ((![v3991, v36] : Fin 2 → IVec S16 32) a x).toNat < S264x256.size a := fun v6 v8 v10 v12 v14 v16 v18 v20 v22 v24 v26 v28 v30 v32 v34 v36 v3991 k0_hw61 => k0_hw61.2.2.2.2.2.2.2.2.2.2.2.2.2.2.2

def k0_chk62 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) : Prop :=
  (∀ a x, ((![v4057, v6] : Fin 2 → IVec S16 32) a x).toNat < S264x256.size a) ∧
  (∀ a x, ((![v4057, v8] : Fin 2 → IVec S16 32) a x).toNat < S264x256.size a) ∧
  (∀ a x, ((![v4057, v10] : Fin 2 → IVec S16 32) a x).toNat < S264x256.size a) ∧
  (∀ a x, ((![v4057, v12] : Fin 2 → IVec S16 32) a x).toNat < S264x256.size a) ∧
  (∀ a x, ((![v4057, v14] : Fin 2 → IVec S16 32) a x).toNat < S264x256.size a) ∧
  (∀ a x, ((![v4057, v16] : Fin 2 → IVec S16 32) a x).toNat < S264x256.size a) ∧
  (∀ a x, ((![v4057, v18] : Fin 2 → IVec S16 32) a x).toNat < S264x256.size a) ∧
  (∀ a x, ((![v4057, v20] : Fin 2 → IVec S16 32) a x).toNat < S264x256.size a) ∧
  (∀ a x, ((![v4057, v22] : Fin 2 → IVec S16 32) a x).toNat < S264x256.size a) ∧
  (∀ a x, ((![v4057, v24] : Fin 2 → IVec S16 32) a x).toNat < S264x256.size a) ∧
  (∀ a x, ((![v4057, v26] : Fin 2 → IVec S16 32) a x).toNat < S264x256.size a) ∧
  (∀ a x, ((![v4057, v28] : Fin 2 → IVec S16 32) a x).toNat < S264x256.size a) ∧
  (∀ a x, ((![v4057, v30] : Fin 2 → IVec S16 32) a x).toNat < S264x256.size a) ∧
  (∀ a x, ((![v4057, v32] : Fin 2 → IVec S16 32) a x).toNat < S264x256.size a) ∧
  (∀ a x, ((![v4057, v34] : Fin 2 → IVec S16 32) a x).toNat < S264x256.size a) ∧
  (∀ a x, ((![v4057, v36] : Fin 2 → IVec S16 32) a x).toNat < S264x256.size a)
theorem k0_idx977_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v6] : Fin 2 → IVec S16 32) a x).toNat < S264x256.size a := fun v6 v8 v10 v12 v14 v16 v18 v20 v22 v24 v26 v28 v30 v32 v34 v36 v4057 k0_hw62 => k0_hw62.1
theorem k0_idx978_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v8] : Fin 2 → IVec S16 32) a x).toNat < S264x256.size a := fun v6 v8 v10 v12 v14 v16 v18 v20 v22 v24 v26 v28 v30 v32 v34 v36 v4057 k0_hw62 => k0_hw62.2.1
theorem k0_idx979_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v10] : Fin 2 → IVec S16 32) a x).toNat < S264x256.size a := fun v6 v8 v10 v12 v14 v16 v18 v20 v22 v24 v26 v28 v30 v32 v34 v36 v4057 k0_hw62 => k0_hw62.2.2.1
theorem k0_idx980_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v12] : Fin 2 → IVec S16 32) a x).toNat < S264x256.size a := fun v6 v8 v10 v12 v14 v16 v18 v20 v22 v24 v26 v28 v30 v32 v34 v36 v4057 k0_hw62 => k0_hw62.2.2.2.1
theorem k0_idx981_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v14] : Fin 2 → IVec S16 32) a x).toNat < S264x256.size a := fun v6 v8 v10 v12 v14 v16 v18 v20 v22 v24 v26 v28 v30 v32 v34 v36 v4057 k0_hw62 => k0_hw62.2.2.2.2.1
theorem k0_idx982_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v16] : Fin 2 → IVec S16 32) a x).toNat < S264x256.size a := fun v6 v8 v10 v12 v14 v16 v18 v20 v22 v24 v26 v28 v30 v32 v34 v36 v4057 k0_hw62 => k0_hw62.2.2.2.2.2.1
theorem k0_idx983_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v18] : Fin 2 → IVec S16 32) a x).toNat < S264x256.size a := fun v6 v8 v10 v12 v14 v16 v18 v20 v22 v24 v26 v28 v30 v32 v34 v36 v4057 k0_hw62 => k0_hw62.2.2.2.2.2.2.1
theorem k0_idx984_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v20] : Fin 2 → IVec S16 32) a x).toNat < S264x256.size a := fun v6 v8 v10 v12 v14 v16 v18 v20 v22 v24 v26 v28 v30 v32 v34 v36 v4057 k0_hw62 => k0_hw62.2.2.2.2.2.2.2.1
theorem k0_idx985_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v22] : Fin 2 → IVec S16 32) a x).toNat < S264x256.size a := fun v6 v8 v10 v12 v14 v16 v18 v20 v22 v24 v26 v28 v30 v32 v34 v36 v4057 k0_hw62 => k0_hw62.2.2.2.2.2.2.2.2.1
theorem k0_idx986_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v24] : Fin 2 → IVec S16 32) a x).toNat < S264x256.size a := fun v6 v8 v10 v12 v14 v16 v18 v20 v22 v24 v26 v28 v30 v32 v34 v36 v4057 k0_hw62 => k0_hw62.2.2.2.2.2.2.2.2.2.1
theorem k0_idx987_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v26] : Fin 2 → IVec S16 32) a x).toNat < S264x256.size a := fun v6 v8 v10 v12 v14 v16 v18 v20 v22 v24 v26 v28 v30 v32 v34 v36 v4057 k0_hw62 => k0_hw62.2.2.2.2.2.2.2.2.2.2.1
theorem k0_idx988_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v28] : Fin 2 → IVec S16 32) a x).toNat < S264x256.size a := fun v6 v8 v10 v12 v14 v16 v18 v20 v22 v24 v26 v28 v30 v32 v34 v36 v4057 k0_hw62 => k0_hw62.2.2.2.2.2.2.2.2.2.2.2.1
theorem k0_idx989_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v30] : Fin 2 → IVec S16 32) a x).toNat < S264x256.size a := fun v6 v8 v10 v12 v14 v16 v18 v20 v22 v24 v26 v28 v30 v32 v34 v36 v4057 k0_hw62 => k0_hw62.2.2.2.2.2.2.2.2.2.2.2.2.1
theorem k0_idx990_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v32] : Fin 2 → IVec S16 32) a x).toNat < S264x256.size a := fun v6 v8 v10 v12 v14 v16 v18 v20 v22 v24 v26 v28 v30 v32 v34 v36 v4057 k0_hw62 => k0_hw62.2.2.2.2.2.2.2.2.2.2.2.2.2.1
theorem k0_idx991_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v34] : Fin 2 → IVec S16 32) a x).toNat < S264x256.size a := fun v6 v8 v10 v12 v14 v16 v18 v20 v22 v24 v26 v28 v30 v32 v34 v36 v4057 k0_hw62 => k0_hw62.2.2.2.2.2.2.2.2.2.2.2.2.2.2.1
theorem k0_idx992_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4057 : IVec S16 32) (k0_hw62 : k0_chk62 v6 v8 v10 v12 v14 v16 v18 v20 v22 v24 v26 v28 v30 v32 v34 v36 v4057), ∀ a x, ((![v4057, v36] : Fin 2 → IVec S16 32) a x).toNat < S264x256.size a := fun v6 v8 v10 v12 v14 v16 v18 v20 v22 v24 v26 v28 v30 v32 v34 v36 v4057 k0_hw62 => k0_hw62.2.2.2.2.2.2.2.2.2.2.2.2.2.2.2

def k0_chk63 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) : Prop :=
  (∀ a x, ((![v4123, v6] : Fin 2 → IVec S16 32) a x).toNat < S264x256.size a) ∧
  (∀ a x, ((![v4123, v8] : Fin 2 → IVec S16 32) a x).toNat < S264x256.size a) ∧
  (∀ a x, ((![v4123, v10] : Fin 2 → IVec S16 32) a x).toNat < S264x256.size a) ∧
  (∀ a x, ((![v4123, v12] : Fin 2 → IVec S16 32) a x).toNat < S264x256.size a) ∧
  (∀ a x, ((![v4123, v14] : Fin 2 → IVec S16 32) a x).toNat < S264x256.size a) ∧
  (∀ a x, ((![v4123, v16] : Fin 2 → IVec S16 32) a x).toNat < S264x256.size a) ∧
  (∀ a x, ((![v4123, v18] : Fin 2 → IVec S16 32) a x).toNat < S264x256.size a) ∧
  (∀ a x, ((![v4123, v20] : Fin 2 → IVec S16 32) a x).toNat < S264x256.size a) ∧
  (∀ a x, ((![v4123, v22] : Fin 2 → IVec S16 32) a x).toNat < S264x256.size a) ∧
  (∀ a x, ((![v4123, v24] : Fin 2 → IVec S16 32) a x).toNat < S264x256.size a) ∧
  (∀ a x, ((![v4123, v26] : Fin 2 → IVec S16 32) a x).toNat < S264x256.size a) ∧
  (∀ a x, ((![v4123, v28] : Fin 2 → IVec S16 32) a x).toNat < S264x256.size a) ∧
  (∀ a x, ((![v4123, v30] : Fin 2 → IVec S16 32) a x).toNat < S264x256.size a) ∧
  (∀ a x, ((![v4123, v32] : Fin 2 → IVec S16 32) a x).toNat < S264x256.size a) ∧
  (∀ a x, ((![v4123, v34] : Fin 2 → IVec S16 32) a x).toNat < S264x256.size a) ∧
  (∀ a x, ((![v4123, v36] : Fin 2 → IVec S16 32) a x).toNat < S264x256.size a)
theorem k0_idx993_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v6] : Fin 2 → IVec S16 32) a x).toNat < S264x256.size a := fun v6 v8 v10 v12 v14 v16 v18 v20 v22 v24 v26 v28 v30 v32 v34 v36 v4123 k0_hw63 => k0_hw63.1
theorem k0_idx994_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v8] : Fin 2 → IVec S16 32) a x).toNat < S264x256.size a := fun v6 v8 v10 v12 v14 v16 v18 v20 v22 v24 v26 v28 v30 v32 v34 v36 v4123 k0_hw63 => k0_hw63.2.1
theorem k0_idx995_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v10] : Fin 2 → IVec S16 32) a x).toNat < S264x256.size a := fun v6 v8 v10 v12 v14 v16 v18 v20 v22 v24 v26 v28 v30 v32 v34 v36 v4123 k0_hw63 => k0_hw63.2.2.1
theorem k0_idx996_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v12] : Fin 2 → IVec S16 32) a x).toNat < S264x256.size a := fun v6 v8 v10 v12 v14 v16 v18 v20 v22 v24 v26 v28 v30 v32 v34 v36 v4123 k0_hw63 => k0_hw63.2.2.2.1
theorem k0_idx997_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v14] : Fin 2 → IVec S16 32) a x).toNat < S264x256.size a := fun v6 v8 v10 v12 v14 v16 v18 v20 v22 v24 v26 v28 v30 v32 v34 v36 v4123 k0_hw63 => k0_hw63.2.2.2.2.1
theorem k0_idx998_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v16] : Fin 2 → IVec S16 32) a x).toNat < S264x256.size a := fun v6 v8 v10 v12 v14 v16 v18 v20 v22 v24 v26 v28 v30 v32 v34 v36 v4123 k0_hw63 => k0_hw63.2.2.2.2.2.1
theorem k0_idx999_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v18] : Fin 2 → IVec S16 32) a x).toNat < S264x256.size a := fun v6 v8 v10 v12 v14 v16 v18 v20 v22 v24 v26 v28 v30 v32 v34 v36 v4123 k0_hw63 => k0_hw63.2.2.2.2.2.2.1
theorem k0_idx1000_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v20] : Fin 2 → IVec S16 32) a x).toNat < S264x256.size a := fun v6 v8 v10 v12 v14 v16 v18 v20 v22 v24 v26 v28 v30 v32 v34 v36 v4123 k0_hw63 => k0_hw63.2.2.2.2.2.2.2.1
theorem k0_idx1001_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v22] : Fin 2 → IVec S16 32) a x).toNat < S264x256.size a := fun v6 v8 v10 v12 v14 v16 v18 v20 v22 v24 v26 v28 v30 v32 v34 v36 v4123 k0_hw63 => k0_hw63.2.2.2.2.2.2.2.2.1
theorem k0_idx1002_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v24] : Fin 2 → IVec S16 32) a x).toNat < S264x256.size a := fun v6 v8 v10 v12 v14 v16 v18 v20 v22 v24 v26 v28 v30 v32 v34 v36 v4123 k0_hw63 => k0_hw63.2.2.2.2.2.2.2.2.2.1
theorem k0_idx1003_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v26] : Fin 2 → IVec S16 32) a x).toNat < S264x256.size a := fun v6 v8 v10 v12 v14 v16 v18 v20 v22 v24 v26 v28 v30 v32 v34 v36 v4123 k0_hw63 => k0_hw63.2.2.2.2.2.2.2.2.2.2.1
theorem k0_idx1004_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v28] : Fin 2 → IVec S16 32) a x).toNat < S264x256.size a := fun v6 v8 v10 v12 v14 v16 v18 v20 v22 v24 v26 v28 v30 v32 v34 v36 v4123 k0_hw63 => k0_hw63.2.2.2.2.2.2.2.2.2.2.2.1
theorem k0_idx1005_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v30] : Fin 2 → IVec S16 32) a x).toNat < S264x256.size a := fun v6 v8 v10 v12 v14 v16 v18 v20 v22 v24 v26 v28 v30 v32 v34 v36 v4123 k0_hw63 => k0_hw63.2.2.2.2.2.2.2.2.2.2.2.2.1
theorem k0_idx1006_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v32] : Fin 2 → IVec S16 32) a x).toNat < S264x256.size a := fun v6 v8 v10 v12 v14 v16 v18 v20 v22 v24 v26 v28 v30 v32 v34 v36 v4123 k0_hw63 => k0_hw63.2.2.2.2.2.2.2.2.2.2.2.2.2.1
theorem k0_idx1007_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v34] : Fin 2 → IVec S16 32) a x).toNat < S264x256.size a := fun v6 v8 v10 v12 v14 v16 v18 v20 v22 v24 v26 v28 v30 v32 v34 v36 v4123 k0_hw63 => k0_hw63.2.2.2.2.2.2.2.2.2.2.2.2.2.2.1
theorem k0_idx1008_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4123 : IVec S16 32) (k0_hw63 : k0_chk63 v6 v8 v10 v12 v14 v16 v18 v20 v22 v24 v26 v28 v30 v32 v34 v36 v4123), ∀ a x, ((![v4123, v36] : Fin 2 → IVec S16 32) a x).toNat < S264x256.size a := fun v6 v8 v10 v12 v14 v16 v18 v20 v22 v24 v26 v28 v30 v32 v34 v36 v4123 k0_hw63 => k0_hw63.2.2.2.2.2.2.2.2.2.2.2.2.2.2.2

def k0_chk64 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) : Prop :=
  (∀ a x, ((![v4189, v6] : Fin 2 → IVec S16 32) a x).toNat < S264x256.size a) ∧
  (∀ a x, ((![v4189, v8] : Fin 2 → IVec S16 32) a x).toNat < S264x256.size a) ∧
  (∀ a x, ((![v4189, v10] : Fin 2 → IVec S16 32) a x).toNat < S264x256.size a) ∧
  (∀ a x, ((![v4189, v12] : Fin 2 → IVec S16 32) a x).toNat < S264x256.size a) ∧
  (∀ a x, ((![v4189, v14] : Fin 2 → IVec S16 32) a x).toNat < S264x256.size a) ∧
  (∀ a x, ((![v4189, v16] : Fin 2 → IVec S16 32) a x).toNat < S264x256.size a) ∧
  (∀ a x, ((![v4189, v18] : Fin 2 → IVec S16 32) a x).toNat < S264x256.size a) ∧
  (∀ a x, ((![v4189, v20] : Fin 2 → IVec S16 32) a x).toNat < S264x256.size a) ∧
  (∀ a x, ((![v4189, v22] : Fin 2 → IVec S16 32) a x).toNat < S264x256.size a) ∧
  (∀ a x, ((![v4189, v24] : Fin 2 → IVec S16 32) a x).toNat < S264x256.size a) ∧
  (∀ a x, ((![v4189, v26] : Fin 2 → IVec S16 32) a x).toNat < S264x256.size a) ∧
  (∀ a x, ((![v4189, v28] : Fin 2 → IVec S16 32) a x).toNat < S264x256.size a) ∧
  (∀ a x, ((![v4189, v30] : Fin 2 → IVec S16 32) a x).toNat < S264x256.size a) ∧
  (∀ a x, ((![v4189, v32] : Fin 2 → IVec S16 32) a x).toNat < S264x256.size a) ∧
  (∀ a x, ((![v4189, v34] : Fin 2 → IVec S16 32) a x).toNat < S264x256.size a) ∧
  (∀ a x, ((![v4189, v36] : Fin 2 → IVec S16 32) a x).toNat < S264x256.size a)
theorem k0_idx1009_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v6] : Fin 2 → IVec S16 32) a x).toNat < S264x256.size a := fun v6 v8 v10 v12 v14 v16 v18 v20 v22 v24 v26 v28 v30 v32 v34 v36 v4189 k0_hw64 => k0_hw64.1
theorem k0_idx1010_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v8] : Fin 2 → IVec S16 32) a x).toNat < S264x256.size a := fun v6 v8 v10 v12 v14 v16 v18 v20 v22 v24 v26 v28 v30 v32 v34 v36 v4189 k0_hw64 => k0_hw64.2.1
theorem k0_idx1011_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v10] : Fin 2 → IVec S16 32) a x).toNat < S264x256.size a := fun v6 v8 v10 v12 v14 v16 v18 v20 v22 v24 v26 v28 v30 v32 v34 v36 v4189 k0_hw64 => k0_hw64.2.2.1
theorem k0_idx1012_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v12] : Fin 2 → IVec S16 32) a x).toNat < S264x256.size a := fun v6 v8 v10 v12 v14 v16 v18 v20 v22 v24 v26 v28 v30 v32 v34 v36 v4189 k0_hw64 => k0_hw64.2.2.2.1
theorem k0_idx1013_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v14] : Fin 2 → IVec S16 32) a x).toNat < S264x256.size a := fun v6 v8 v10 v12 v14 v16 v18 v20 v22 v24 v26 v28 v30 v32 v34 v36 v4189 k0_hw64 => k0_hw64.2.2.2.2.1
theorem k0_idx1014_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v16] : Fin 2 → IVec S16 32) a x).toNat < S264x256.size a := fun v6 v8 v10 v12 v14 v16 v18 v20 v22 v24 v26 v28 v30 v32 v34 v36 v4189 k0_hw64 => k0_hw64.2.2.2.2.2.1
theorem k0_idx1015_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v18] : Fin 2 → IVec S16 32) a x).toNat < S264x256.size a := fun v6 v8 v10 v12 v14 v16 v18 v20 v22 v24 v26 v28 v30 v32 v34 v36 v4189 k0_hw64 => k0_hw64.2.2.2.2.2.2.1
theorem k0_idx1016_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v20] : Fin 2 → IVec S16 32) a x).toNat < S264x256.size a := fun v6 v8 v10 v12 v14 v16 v18 v20 v22 v24 v26 v28 v30 v32 v34 v36 v4189 k0_hw64 => k0_hw64.2.2.2.2.2.2.2.1
theorem k0_idx1017_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v22] : Fin 2 → IVec S16 32) a x).toNat < S264x256.size a := fun v6 v8 v10 v12 v14 v16 v18 v20 v22 v24 v26 v28 v30 v32 v34 v36 v4189 k0_hw64 => k0_hw64.2.2.2.2.2.2.2.2.1
theorem k0_idx1018_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v24] : Fin 2 → IVec S16 32) a x).toNat < S264x256.size a := fun v6 v8 v10 v12 v14 v16 v18 v20 v22 v24 v26 v28 v30 v32 v34 v36 v4189 k0_hw64 => k0_hw64.2.2.2.2.2.2.2.2.2.1
theorem k0_idx1019_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v26] : Fin 2 → IVec S16 32) a x).toNat < S264x256.size a := fun v6 v8 v10 v12 v14 v16 v18 v20 v22 v24 v26 v28 v30 v32 v34 v36 v4189 k0_hw64 => k0_hw64.2.2.2.2.2.2.2.2.2.2.1
theorem k0_idx1020_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v28] : Fin 2 → IVec S16 32) a x).toNat < S264x256.size a := fun v6 v8 v10 v12 v14 v16 v18 v20 v22 v24 v26 v28 v30 v32 v34 v36 v4189 k0_hw64 => k0_hw64.2.2.2.2.2.2.2.2.2.2.2.1
theorem k0_idx1021_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v30] : Fin 2 → IVec S16 32) a x).toNat < S264x256.size a := fun v6 v8 v10 v12 v14 v16 v18 v20 v22 v24 v26 v28 v30 v32 v34 v36 v4189 k0_hw64 => k0_hw64.2.2.2.2.2.2.2.2.2.2.2.2.1
theorem k0_idx1022_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v32] : Fin 2 → IVec S16 32) a x).toNat < S264x256.size a := fun v6 v8 v10 v12 v14 v16 v18 v20 v22 v24 v26 v28 v30 v32 v34 v36 v4189 k0_hw64 => k0_hw64.2.2.2.2.2.2.2.2.2.2.2.2.2.1
theorem k0_idx1023_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v34] : Fin 2 → IVec S16 32) a x).toNat < S264x256.size a := fun v6 v8 v10 v12 v14 v16 v18 v20 v22 v24 v26 v28 v30 v32 v34 v36 v4189 k0_hw64 => k0_hw64.2.2.2.2.2.2.2.2.2.2.2.2.2.2.1
theorem k0_idx1024_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v4189 : IVec S16 32) (k0_hw64 : k0_chk64 v6 v8 v10 v12 v14 v16 v18 v20 v22 v24 v26 v28 v30 v32 v34 v36 v4189), ∀ a x, ((![v4189, v36] : Fin 2 → IVec S16 32) a x).toNat < S264x256.size a := fun v6 v8 v10 v12 v14 v16 v18 v20 v22 v24 v26 v28 v30 v32 v34 v36 v4189 k0_hw64 => k0_hw64.2.2.2.2.2.2.2.2.2.2.2.2.2.2.2

def k0_chk65 (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) : Prop :=
  (∀ a x, ((![v49_0, v6] : Fin 2 → IVec S16 32) a x).toNat < S264x256.size a) ∧
  (∀ a x, ((![v49_0, v8] : Fin 2 → IVec S16 32) a x).toNat < S264x256.size a) ∧
  (∀ a x, ((![v49_0, v10] : Fin 2 → IVec S16 32) a x).toNat < S264x256.size a) ∧
  (∀ a x, ((![v49_0, v12] : Fin 2 → IVec S16 32) a x).toNat < S264x256.size a) ∧
  (∀ a x, ((![v49_0, v14] : Fin 2 → IVec S16 32) a x).toNat < S264x256.size a) ∧
  (∀ a x, ((![v49_0, v16] : Fin 2 → IVec S16 32) a x).toNat < S264x256.size a) ∧
  (∀ a x, ((![v49_0, v18] : Fin 2 → IVec S16 32) a x).toNat < S264x256.size a) ∧
  (∀ a x, ((![v49_0, v20] : Fin 2 → IVec S16 32) a x).toNat < S264x256.size a) ∧
  (∀ a x, ((![v49_0, v22] : Fin 2 → IVec S16 32) a x).toNat < S264x256.size a) ∧
  (∀ a x, ((![v49_0, v24] : Fin 2 → IVec S16 32) a x).toNat < S264x256.size a) ∧
  (∀ a x, ((![v49_0, v26] : Fin 2 → IVec S16 32) a x).toNat < S264x256.size a) ∧
  (∀ a x, ((![v49_0, v28] : Fin 2 → IVec S16 32) a x).toNat < S264x256.size a) ∧
  (∀ a x, ((![v49_0, v30] : Fin 2 → IVec S16 32) a x).toNat < S264x256.size a) ∧
  (∀ a x, ((![v49_0, v32] : Fin 2 → IVec S16 32) a x).toNat < S264x256.size a) ∧
  (∀ a x, ((![v49_0, v34] : Fin 2 → IVec S16 32) a x).toNat < S264x256.size a) ∧
  (∀ a x, ((![v49_0, v36] : Fin 2 → IVec S16 32) a x).toNat < S264x256.size a)
theorem k0_idx1025_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v6] : Fin 2 → IVec S16 32) a x).toNat < S264x256.size a := fun v6 v8 v10 v12 v14 v16 v18 v20 v22 v24 v26 v28 v30 v32 v34 v36 v49_0 k0_hw65 => k0_hw65.1
theorem k0_idx1026_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v8] : Fin 2 → IVec S16 32) a x).toNat < S264x256.size a := fun v6 v8 v10 v12 v14 v16 v18 v20 v22 v24 v26 v28 v30 v32 v34 v36 v49_0 k0_hw65 => k0_hw65.2.1
theorem k0_idx1027_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v10] : Fin 2 → IVec S16 32) a x).toNat < S264x256.size a := fun v6 v8 v10 v12 v14 v16 v18 v20 v22 v24 v26 v28 v30 v32 v34 v36 v49_0 k0_hw65 => k0_hw65.2.2.1
theorem k0_idx1028_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v12] : Fin 2 → IVec S16 32) a x).toNat < S264x256.size a := fun v6 v8 v10 v12 v14 v16 v18 v20 v22 v24 v26 v28 v30 v32 v34 v36 v49_0 k0_hw65 => k0_hw65.2.2.2.1
theorem k0_idx1029_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v14] : Fin 2 → IVec S16 32) a x).toNat < S264x256.size a := fun v6 v8 v10 v12 v14 v16 v18 v20 v22 v24 v26 v28 v30 v32 v34 v36 v49_0 k0_hw65 => k0_hw65.2.2.2.2.1
theorem k0_idx1030_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v16] : Fin 2 → IVec S16 32) a x).toNat < S264x256.size a := fun v6 v8 v10 v12 v14 v16 v18 v20 v22 v24 v26 v28 v30 v32 v34 v36 v49_0 k0_hw65 => k0_hw65.2.2.2.2.2.1
theorem k0_idx1031_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v18] : Fin 2 → IVec S16 32) a x).toNat < S264x256.size a := fun v6 v8 v10 v12 v14 v16 v18 v20 v22 v24 v26 v28 v30 v32 v34 v36 v49_0 k0_hw65 => k0_hw65.2.2.2.2.2.2.1
theorem k0_idx1032_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v20] : Fin 2 → IVec S16 32) a x).toNat < S264x256.size a := fun v6 v8 v10 v12 v14 v16 v18 v20 v22 v24 v26 v28 v30 v32 v34 v36 v49_0 k0_hw65 => k0_hw65.2.2.2.2.2.2.2.1
theorem k0_idx1033_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v22] : Fin 2 → IVec S16 32) a x).toNat < S264x256.size a := fun v6 v8 v10 v12 v14 v16 v18 v20 v22 v24 v26 v28 v30 v32 v34 v36 v49_0 k0_hw65 => k0_hw65.2.2.2.2.2.2.2.2.1
theorem k0_idx1034_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v24] : Fin 2 → IVec S16 32) a x).toNat < S264x256.size a := fun v6 v8 v10 v12 v14 v16 v18 v20 v22 v24 v26 v28 v30 v32 v34 v36 v49_0 k0_hw65 => k0_hw65.2.2.2.2.2.2.2.2.2.1
theorem k0_idx1035_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v26] : Fin 2 → IVec S16 32) a x).toNat < S264x256.size a := fun v6 v8 v10 v12 v14 v16 v18 v20 v22 v24 v26 v28 v30 v32 v34 v36 v49_0 k0_hw65 => k0_hw65.2.2.2.2.2.2.2.2.2.2.1
theorem k0_idx1036_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v28] : Fin 2 → IVec S16 32) a x).toNat < S264x256.size a := fun v6 v8 v10 v12 v14 v16 v18 v20 v22 v24 v26 v28 v30 v32 v34 v36 v49_0 k0_hw65 => k0_hw65.2.2.2.2.2.2.2.2.2.2.2.1
theorem k0_idx1037_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v30] : Fin 2 → IVec S16 32) a x).toNat < S264x256.size a := fun v6 v8 v10 v12 v14 v16 v18 v20 v22 v24 v26 v28 v30 v32 v34 v36 v49_0 k0_hw65 => k0_hw65.2.2.2.2.2.2.2.2.2.2.2.2.1
theorem k0_idx1038_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v32] : Fin 2 → IVec S16 32) a x).toNat < S264x256.size a := fun v6 v8 v10 v12 v14 v16 v18 v20 v22 v24 v26 v28 v30 v32 v34 v36 v49_0 k0_hw65 => k0_hw65.2.2.2.2.2.2.2.2.2.2.2.2.2.1
theorem k0_idx1039_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v34] : Fin 2 → IVec S16 32) a x).toNat < S264x256.size a := fun v6 v8 v10 v12 v14 v16 v18 v20 v22 v24 v26 v28 v30 v32 v34 v36 v49_0 k0_hw65 => k0_hw65.2.2.2.2.2.2.2.2.2.2.2.2.2.2.1
theorem k0_idx1040_inb : ∀ (v6 : IVec S16 32) (v8 : IVec S16 32) (v10 : IVec S16 32) (v12 : IVec S16 32) (v14 : IVec S16 32) (v16 : IVec S16 32) (v18 : IVec S16 32) (v20 : IVec S16 32) (v22 : IVec S16 32) (v24 : IVec S16 32) (v26 : IVec S16 32) (v28 : IVec S16 32) (v30 : IVec S16 32) (v32 : IVec S16 32) (v34 : IVec S16 32) (v36 : IVec S16 32) (v49_0 : IVec S16 32) (k0_hw65 : k0_chk65 v6 v8 v10 v12 v14 v16 v18 v20 v22 v24 v26 v28 v30 v32 v34 v36 v49_0), ∀ a x, ((![v49_0, v36] : Fin 2 → IVec S16 32) a x).toNat < S264x256.size a := fun v6 v8 v10 v12 v14 v16 v18 v20 v22 v24 v26 v28 v30 v32 v34 v36 v49_0 k0_hw65 => k0_hw65.2.2.2.2.2.2.2.2.2.2.2.2.2.2.2
def k0_off23 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_21_r0 : BitVec 32 := 0#32
  let c0_i32_22_r0 : BitVec 32 := 0#32
  ![v1.toNat, 0, 0]
abbrev grid1 : Pipeline.Grid := .none

abbrev stage1_0 : Fin 1 → Memref sig .tc .vmem S32x256x256 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S256x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x256 : Shape := ⟨2, ![100000, 256]⟩
abbrev S256x256 : Shape := ⟨2, ![256, 256]⟩
abbrev S100000 : Shape := ⟨1, ![100000]⟩
abbrev S256x512 : Shape := ⟨2, ![256, 512]⟩
abbrev S256 : Shape := ⟨1, ![256]⟩
abbrev S_ : Shape := ⟨0, ![]⟩
abbrev S100000x1 : Shape := ⟨2, ![100000, 1]⟩
abbrev S512x256 : Shape := ⟨2, ![512, 256]⟩
abbrev S1x256 : Shape := ⟨2, ![1, 256]⟩

abbrev nBuf : Space → Nat
  | .hbm => 15
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S256x256, .f32⟩
  | .hbm, ⟨2, _⟩ => ⟨S100000, .i32⟩
  | .hbm, ⟨3, _⟩ => ⟨S256x512, .f32⟩
  | .hbm, ⟨4, _⟩ => ⟨S256, .f32⟩
  | .hbm, ⟨5, _⟩ => ⟨S_, .f32⟩
  | .hbm, ⟨6, _⟩ => ⟨S256x256, .f32⟩
  | .hbm, ⟨7, _⟩ => ⟨S100000x1, .i32⟩
  | .hbm, ⟨8, _⟩ => ⟨S256x256, .f32⟩
  | .hbm, ⟨9, _⟩ => ⟨S256x512, .f32⟩
  | .hbm, ⟨10, _⟩ => ⟨S512x256, .f32⟩
  | .hbm, ⟨11, _⟩ => ⟨S256x256, .f32⟩
  | .hbm, ⟨12, _⟩ => ⟨S1x256, .f32⟩
  | .hbm, ⟨13, _⟩ => ⟨S256x256, .f32⟩
  | .hbm, ⟨14, _⟩ => ⟨S256x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Proof.Program.lean ====
/- The SparseCore kernel's body written as loops over rows and column groups. That the printed body is this program is
   `Body.lean`. -/
module

public import proofs.«01_k».proof.KernelIdeal

@[expose] public section

noncomputable section

namespace Cert.SegSum

open Idealize.ShloMosaic Idealize.SL.Sem
open Cert.KernelIdeal Cert.KernelIdeal.Facts₀ Cert.KernelIdeal.Facts

variable {F : FTy → Type} [FloatOps F] [Facts]

/-! ## Buffers and values -/

abbrev xM : Memref sig .scVector .hbm S100000x256 .f32 := Memref.whole main_arg0_scv
abbrev bM : Memref sig .scVector .hbm S3126x512 .i32 := Memref.whole main_v10_scv
abbrev oM : Memref sig .scVector .hbm S32x256x256 .f32 := Memref.whole main_v11_scv
abbrev idx0 : Memref sig .scVector .vmem S512 .i32 := Memref.whole cc0_scratch0
abbrev idx1 : Memref sig .scVector .vmem S512 .i32 := Memref.whole cc0_scratch1
abbrev row0 : Memref sig .scVector .vmem S32x256 .f32 := Memref.whole cc0_scratch2
abbrev row1 : Memref sig .scVector .vmem S32x256 .f32 := Memref.whole cc0_scratch3
abbrev accM : Memref sig .scVector .vmem S264x256 .f32 := Memref.whole cc0_scratch4

/-- A vector of 16 floats. -/
abbrev V (F : FTy → Type) : Type := FVec F S16 .f32
/-- A vector of 16 words. -/
abbrev W : Type := IVec S16 32
/-- The effects of the tile at grid point `i`. -/
abbrev TE (F : FTy → Type) (i : grid0.Coords) : Type → Type _ :=
  TpuEff nD τ sig (Elt F) Λ₀ (.scVector ((i 0).castLE hcore0) ((i 1).castLE hsub0))

/-- The loop-carried values: the current segment and the sixteen running column sums. -/
abbrev Carry (F : FTy → Type) : Type :=
  Vec F S16 .i32 × V F × V F × V F × V F × V F × V F × V F × V F × V F × V F × V F × V F × V F × V F × V F × V F

@[reducible] def pack (p : W) : List (V F) → Carry F
  | [a0, a1, a2, a3, a4, a5, a6, a7, a8, a9, a10, a11, a12, a13, a14, a15] =>
    (p, a0, a1, a2, a3, a4, a5, a6, a7, a8, a9, a10, a11, a12, a13, a14, a15)
  | _ => (p, fun _ => Scalar.ofBits .f32 0, fun _ => Scalar.ofBits .f32 0, fun _ => Scalar.ofBits .f32 0,
      fun _ => Scalar.ofBits .f32 0, fun _ => Scalar.ofBits .f32 0, fun _ => Scalar.ofBits .f32 0,
      fun _ => Scalar.ofBits .f32 0, fun _ => Scalar.ofBits .f32 0, fun _ => Scalar.ofBits .f32 0,
      fun _ => Scalar.ofBits .f32 0, fun _ => Scalar.ofBits .f32 0, fun _ => Scalar.ofBits .f32 0,
      fun _ => Scalar.ofBits .f32 0, fun _ => Scalar.ofBits .f32 0, fun _ => Scalar.ofBits .f32 0,
      fun _ => Scalar.ofBits .f32 0)

@[reducible] def sums : Carry F → List (V F)
  | (_, a0, a1, a2, a3, a4, a5, a6, a7, a8, a9, a10, a11, a12, a13, a14, a15) =>
    [a0, a1, a2, a3, a4, a5, a6, a7, a8, a9, a10, a11, a12, a13, a14, a15]

/-- The sixteen column groups' lane numbers, each with its group. -/
structure Cols where
  (v6 v8 v10 v12 v14 v16 v18 v20 v22 v24 v26 v28 v30 v32 v34 v36 : W)

@[reducible] def Cols.list (C : Cols) : List (Fin 16 × W) :=
  [(0, C.v6), (1, C.v8), (2, C.v10), (3, C.v12), (4, C.v14), (5, C.v16), (6, C.v18), (7, C.v20),
   (8, C.v22), (9, C.v24), (10, C.v26), (11, C.v28), (12, C.v30), (13, C.v32), (14, C.v34), (15, C.v36)]

/-- A segment and lane numbers index the accumulator in range. -/
def Inb (prev v : W) : Prop := ∀ a x, ((![prev, v] : Fin 2 → IVec S16 32) a x).toNat < S264x256.size a

/-- The check the kernel makes of a segment: it indexes the accumulator in range with each column group. -/
abbrev Chk (C : Cols) (p : W) : Prop :=
  k0_chk1 C.v6 C.v8 C.v10 C.v12 C.v14 C.v16 C.v18 C.v20 C.v22 C.v24 C.v26 C.v28 C.v30 C.v32 C.v34 C.v36 p

instance Chk.dec (C : Cols) (p : W) : Decidable (Chk C p) :=
  k0_chk1.dec C.v6 C.v8 C.v10 C.v12 C.v14 C.v16 C.v18 C.v20 C.v22 C.v24 C.v26 C.v28 C.v30 C.v32 C.v34 C.v36 p

theorem Chk.inb {C : Cols} {p : W} (h : Chk C p) : ∀ c ∈ C.list, Inb p c.2 := by
  obtain ⟨h0, h1, h2, h3, h4, h5, h6, h7, h8, h9, h10, h11, h12, h13, h14, h15⟩ := h
  simp only [Cols.list, List.forall_mem_cons]
  exact ⟨h0, h1, h2, h3, h4, h5, h6, h7, h8, h9, h10, h11, h12, h13, h14, h15, by simp⟩

theorem row_inb (r : Fin 32) (c : Fin 16) : ∀ a, (![r.val, 16 * c.val] : Fin 2 → Nat) a + S1x16.size a ≤ S32x256.size a := by
  intro a; have := r.isLt; have := c.isLt; match a with | 0 => show r.val + 1 ≤ 32; omega | 1 => show 16 * c.val + 16 ≤ 256; omega

theorem seg_inb (r : Fin 32) : ∀ a, (![16 * r.val] : Fin 1 → Nat) a + S16.size a ≤ S512.size a := by
  intro a; have := r.isLt; match a with | 0 => show 16 * r.val + 16 ≤ 512; omega

/-! ## One row -/

section
variable (i : grid0.Coords) {β : Type}

/-- The column groups of a row in order: the running sums of the segment `prev` are added into the accumulator in
    the lanes `m` (where the segment changes), and restart from the row there, go on with the row elsewhere. -/
def cols (buf : Memref sig .scVector .vmem S32x256 .f32) (r : Fin 32) (prev : W) (m : IVec S16 1) :
    (cs : List (Fin 16 × W)) → (∀ c ∈ cs, Inb prev c.2) → List (V F) → (List (V F) → Prog (TE F i) β) → Prog (TE F i) β
  | [], _, _, k => k []
  | _ :: _, _, [], k => k []
  | c :: cs, h, a :: u, k => do
    SparseCore.vectorStoreIdx accM ![prev, c.2] a m true (h c (List.mem_cons_self ..)) (View.stores_vmem_bits_univ h_S264x256 rfl)
    let ld : Vec F S1x16 .f32 ← Prog.lift (.load buf (Rect.unit (s := S32x256) ![r.val, 16 * c.1.val] S1x16.size (row_inb r c.1)).toLoadRect (View.loadsAt_vmem h_S1x16))
    cols buf r prev m cs (fun c hc => h c (List.mem_cons_of_mem _ hc)) u fun rs =>
      k (select m (shapeCast S16 ld shapeCasts_S1x16_S16) (addf a (shapeCast S16 ld shapeCasts_S1x16_S16)) :: rs)

/-- A row whose segment is checked as it is loaded. -/
def rowA (C : Cols) (ib : Memref sig .scVector .vmem S512 .i32) (buf : Memref sig .scVector .vmem S32x256 .f32) (r : Fin 32)
    (prev : W) (hp : Chk C prev) (u : List (V F)) (k : (s : W) → Chk C s → List (V F) → Prog (TE F i) β) : Prog (TE F i) β := do
  let seg : Vec F S16 .i32 ← Prog.lift (.load ib (Rect.unit (s := S512) ![16 * r.val] S16.size (seg_inb r)).toLoadRect (View.loadsAt_vmem h_S16))
  let h ← Prog.lift (TpuEff.assume (Chk C seg) (Chk.dec C seg))
  cols i buf r prev (cmpi .ne seg prev) C.list hp.inb u fun rs => k seg h.down rs

/-- A row whose segment is checked later. -/
def rowB (C : Cols) (ib : Memref sig .scVector .vmem S512 .i32) (buf : Memref sig .scVector .vmem S32x256 .f32) (r : Fin 32)
    (prev : W) (hp : Chk C prev) (u : List (V F)) (k : (s : W) → List (V F) → Prog (TE F i) β) : Prog (TE F i) β := do
  let seg : Vec F S16 .i32 ← Prog.lift (.load ib (Rect.unit (s := S512) ![16 * r.val] S16.size (seg_inb r)).toLoadRect (View.loadsAt_vmem h_S16))
  cols i buf r prev (cmpi .ne seg prev) C.list hp.inb u fun rs => k seg rs

/-- `rowA` at each row of the list in order. -/
def rowsA (C : Cols) (ib : Memref sig .scVector .vmem S512 .i32) (buf : Memref sig .scVector .vmem S32x256 .f32) :
    (rs : List (Fin 32)) → (prev : W) → Chk C prev → List (V F) → ((s : W) → Chk C s → List (V F) → Prog (TE F i) β) → Prog (TE F i) β
  | [], prev, hp, u, k => k prev hp u
  | r :: rs, prev, hp, u, k => rowA i C ib buf r prev hp u fun s hs u' => rowsA C ib buf rs s hs u' k

/-- Rows 0 to 30. -/
@[reducible] def rows31 : List (Fin 32) :=
  [0, 1, 2, 3, 4, 5, 6, 7, 8, 9, 10, 11, 12, 13, 14, 15, 16, 17, 18, 19, 20, 21, 22, 23, 24, 25, 26, 27, 28, 29, 30]

/-- All 32 rows. -/
@[reducible] def rows32 : List (Fin 32) :=
  [0, 1, 2, 3, 4, 5, 6, 7, 8, 9, 10, 11, 12, 13, 14, 15, 16, 17, 18, 19, 20, 21, 22, 23, 24, 25, 26, 27, 28, 29, 30, 31]

/-! ## One trip -/

/-- A trip: the next block is prefetched into the second buffers, the block in the first ones is waited for and
    added up; then the same with the buffers swapped. -/
def trip (C : Cols) (t : Fin k0_t2_loop.trips) (x : Carry F) : Prog (TE F i) (Carry F) := do
  let h ← Prog.lift (TpuEff.assume (Chk C x.1) (Chk.dec C x.1))
  Prog.lift (.enqueueDma ((bM.slice (Rect.unit (s := S3126x512) (k0_off19 i t) S1x512.size (k0_off19_inb i t)) (fun _ => rfl)).squeeze S512 squeezes_S1x512_S512) (.here idx1) (.dma cc0_scratch6.sem) ((View.wordExact_bits rfl).reshape _ _) (Memref.isWhole_whole _).wordExact ⟨Or.inl rfl, trivial⟩)
  Prog.lift (.enqueueDma (xM.slice (Rect.unit (s := S100000x256) (k0_off20 i t) S32x256.size (k0_off20_inb i t)) (fun _ => rfl)) (.here row1) (.dma cc0_scratch8.sem) (View.wordExact_bits rfl) (Memref.isWhole_whole _).wordExact ⟨Or.inl rfl, trivial⟩)
  Prog.lift (.waitDma2 cc0_scratch5.sem ((bM.slice (Rect.unit (s := S3126x512) ![0, 0] S1x512.size inb_S3126x512_S1x512_0_0) (fun _ => rfl)).squeeze S512 squeezes_S1x512_S512) idx0 ((View.wordExact_bits rfl).reshape _ _) (Memref.isWhole_whole _).wordExact)
  Prog.lift (.waitDma2 cc0_scratch7.sem (xM.slice (Rect.unit (s := S100000x256) ![0, 0] S32x256.size inb_S100000x256_S32x256_0_0) (fun _ => rfl)) row0 (View.wordExact_bits rfl) (Memref.isWhole_whole _).wordExact)
  rowsA i C idx0 row0 rows32 x.1 h.down (sums x) fun p hp u => do
    Prog.lift (.enqueueDma ((bM.slice (Rect.unit (s := S3126x512) (k0_off21 i t) S1x512.size (k0_off21_inb i t)) (fun _ => rfl)).squeeze S512 squeezes_S1x512_S512) (.here idx0) (.dma cc0_scratch5.sem) ((View.wordExact_bits rfl).reshape _ _) (Memref.isWhole_whole _).wordExact ⟨Or.inl rfl, trivial⟩)
    Prog.lift (.enqueueDma (xM.slice (Rect.unit (s := S100000x256) (k0_off22 i t) S32x256.size (k0_off22_inb i t)) (fun _ => rfl)) (.here row0) (.dma cc0_scratch7.sem) (View.wordExact_bits rfl) (Memref.isWhole_whole _).wordExact ⟨Or.inl rfl, trivial⟩)
    Prog.lift (.waitDma2 cc0_scratch6.sem ((bM.slice (Rect.unit (s := S3126x512) ![0, 0] S1x512.size inb_S3126x512_S1x512_0_0) (fun _ => rfl)).squeeze S512 squeezes_S1x512_S512) idx1 ((View.wordExact_bits rfl).reshape _ _) (Memref.isWhole_whole _).wordExact)
    Prog.lift (.waitDma2 cc0_scratch8.sem (xM.slice (Rect.unit (s := S100000x256) ![0, 0] S32x256.size inb_S100000x256_S32x256_0_0) (fun _ => rfl)) row1 (View.wordExact_bits rfl) (Memref.isWhole_whole _).wordExact)
    rowsA i C idx1 row1 rows31 p hp u fun p hp u =>
      rowB i C idx1 row1 31 p hp u fun p u => pure (pack p u)

/-- The last scatters: the running sums of the last segment, in every lane. -/
def flush (prev : W) : (cs : List (Fin 16 × W)) → (∀ c ∈ cs, Inb prev c.2) → List (V F) → Prog (TE F i) β → Prog (TE F i) β
  | [], _, _, k => k
  | _ :: _, _, [], k => k
  | c :: cs, h, a :: u, k => do
    SparseCore.vectorStoreIdx accM ![prev, c.2] a (fun _ => 1#1) true (h c (List.mem_cons_self ..)) (View.stores_vmem_bits_univ h_S264x256 rfl)
    flush prev cs (fun c hc => h c (List.mem_cons_of_mem _ hc)) u k

/-- The first prefetch, the loop over the blocks, and the last scatters; the prefetched indices are waited for. -/
def mid (C : Cols) (v2 : V F) : Prog (TE F i) PUnit := do
  Prog.lift (.enqueueDma ((bM.slice (Rect.unit (s := S3126x512) (k0_off17 i) S1x512.size (k0_off17_inb i)) (fun _ => rfl)).squeeze S512 squeezes_S1x512_S512) (.here idx0) (.dma cc0_scratch5.sem) ((View.wordExact_bits rfl).reshape _ _) (Memref.isWhole_whole _).wordExact ⟨Or.inl rfl, trivial⟩)
  Prog.lift (.enqueueDma (xM.slice (Rect.unit (s := S100000x256) (k0_off18 i) S32x256.size (k0_off18_inb i)) (fun _ => rfl)) (.here row0) (.dma cc0_scratch7.sem) (View.wordExact_bits rfl) (Memref.isWhole_whole _).wordExact ⟨Or.inl rfl, trivial⟩)
  let x ← Scf.Loop.for k0_t2_loop k0_t2_ok (broadcast S16 256#32, v2, v2, v2, v2, v2, v2, v2, v2, v2, v2, v2, v2, v2, v2, v2, v2) (trip i C)
  let h ← Prog.lift (TpuEff.assume (Chk C x.1) (Chk.dec C x.1))
  flush i x.1 C.list h.down.inb (sums x) do
    Prog.lift (.waitDma2 cc0_scratch5.sem ((bM.slice (Rect.unit (s := S3126x512) ![0, 0] S1x512.size inb_S3126x512_S1x512_0_0) (fun _ => rfl)).squeeze S512 squeezes_S1x512_S512) idx0 ((View.wordExact_bits rfl).reshape _ _) (Memref.isWhole_whole _).wordExact)
    pure ⟨⟩

end

/-! ## The whole body -/

section
variable (i : grid0.Coords)

/-- A place of sixteen columns in the accumulator. -/
abbrev Place : Type := Σ' off : Fin 2 → Nat, ∀ a, off a + S1x16.size a ≤ S264x256.size a

/-- The vector `z` written at each of the places in order (each is loaded first; the load's value is not used). -/
def zeroAt (z : V F) : List Place → Prog (TE F i) PUnit
  | [] => pure ⟨⟩
  | o :: os => do
    let _ : Vec F S1x16 .f32 ← Prog.lift (.load accM (Rect.unit (s := S264x256) o.1 S1x16.size o.2).toLoadRect (View.loadsAt_vmem h_S1x16))
    Prog.lift (.store accM (Rect.unit (s := S264x256) o.1 S1x16.size o.2) (shapeCast S1x16 z shapeCasts_S16_S1x16) Finset.univ (View.stores_vmem_bits_univ h_S1x16 rfl) (.inl rfl))
    zeroAt z os

/-- The sixteen places of row `t`. -/
@[reducible] def places (t : Fin k0_t1_loop.trips) : List Place :=
  [⟨k0_off1 t, k0_off1_inb t⟩,
   ⟨k0_off2 t, k0_off2_inb t⟩,
   ⟨k0_off3 t, k0_off3_inb t⟩,
   ⟨k0_off4 t, k0_off4_inb t⟩,
   ⟨k0_off5 t, k0_off5_inb t⟩,
   ⟨k0_off6 t, k0_off6_inb t⟩,
   ⟨k0_off7 t, k0_off7_inb t⟩,
   ⟨k0_off8 t, k0_off8_inb t⟩,
   ⟨k0_off9 t, k0_off9_inb t⟩,
   ⟨k0_off10 t, k0_off10_inb t⟩,
   ⟨k0_off11 t, k0_off11_inb t⟩,
   ⟨k0_off12 t, k0_off12_inb t⟩,
   ⟨k0_off13 t, k0_off13_inb t⟩,
   ⟨k0_off14 t, k0_off14_inb t⟩,
   ⟨k0_off15 t, k0_off15_inb t⟩,
   ⟨k0_off16 t, k0_off16_inb t⟩]

/-- The lane numbers of the tile's vectors. -/
abbrev lanes : W := iota .scVector S16 32 [0] iota_S16_d0_w32_scVector

/-- The lane numbers of each column group. -/
abbrev groups : Cols :=
  ⟨addi lanes (broadcast S16 0#32),
   addi lanes (broadcast S16 16#32),
   addi lanes (broadcast S16 32#32),
   addi lanes (broadcast S16 48#32),
   addi lanes (broadcast S16 64#32),
   addi lanes (broadcast S16 80#32),
   addi lanes (broadcast S16 96#32),
   addi lanes (broadcast S16 112#32),
   addi lanes (broadcast S16 128#32),
   addi lanes (broadcast S16 144#32),
   addi lanes (broadcast S16 160#32),
   addi lanes (broadcast S16 176#32),
   addi lanes (broadcast S16 192#32),
   addi lanes (broadcast S16 208#32),
   addi lanes (broadcast S16 224#32),
   addi lanes (broadcast S16 240#32)⟩

/-- Sixteen zeros. -/
abbrev zeros : V F := broadcast S16 (Scalar.ofBits .f32 0x00000000#32)

/-- The tile's whole body: the accumulator is zeroed, the blocks are added up, the last prefetched rows are waited for,
    and the accumulator's first 256 rows are copied out. -/
def tile : Prog (TE F i) PUnit := do
  Scf.Loop.for k0_t1_loop k0_t1_ok ⟨⟩ fun t _ => zeroAt i zeros (places t)
  mid i groups zeros
  Prog.lift (.waitDma2 cc0_scratch7.sem (xM.slice (Rect.unit (s := S100000x256) ![0, 0] S32x256.size inb_S100000x256_S32x256_0_0) (fun _ => rfl)) row0 (View.wordExact_bits rfl) (Memref.isWhole_whole _).wordExact)
  Prog.lift (.enqueueDma (accM.slice (Rect.unit (s := S264x256) ![0, 0] S256x256.size inb_S264x256_S256x256_0_0) (fun _ => rfl)) (.here ((oM.slice (Rect.unit (s := S32x256x256) (k0_off23 i) S1x256x256.size (k0_off23_inb i)) (fun _ => rfl)).squeeze S256x256 squeezes_S1x256x256_S256x256)) (.dma cc0_scoped0.sem) (View.wordExact_bits rfl) ((View.wordExact_bits rfl).reshape _ _) ⟨Or.inl rfl, trivial⟩)
  Prog.lift (.waitDma2 cc0_scoped0.sem (accM.slice (Rect.unit (s := S264x256) ![0, 0] S256x256.size inb_S264x256_S256x256_0_0) (fun _ => rfl)) ((oM.slice (Rect.unit (s := S32x256x256) (k0_off23 i) S1x256x256.size (k0_off23_inb i)) (fun _ => rfl)).squeeze S256x256 squeezes_S1x256x256_S256x256) (View.wordExact_bits rfl) ((View.wordExact_bits rfl).reshape _ _))
  pure ⟨⟩

end

end Cert.SegSum
-- ==== Proof.Values.lean ====
/- What the SparseCore kernel's tile computes, as functions of the arrays it reads: the accumulator and the running column
   sums after a row, after a block of 32 rows, and after all of a tile's blocks. -/
module

public import proofs.«01_k».proof.Proof.Program

@[expose] public section

noncomputable section

namespace Cert.SegSum

open Idealize.ShloMosaic Idealize.SL.Sem
open Cert.KernelIdeal Cert.KernelIdeal.Facts₀ Cert.KernelIdeal.Facts

variable {F : FTy → Type} [FloatOps F] [Facts]

/-! ## A row -/

/-- The accumulator's contents. -/
abbrev Acc (F : FTy → Type) : Type := Vec F S264x256 .f32

/-- The masked scatter-add of `a` at segments `p` and lane numbers `v`. -/
def scat (f : Acc F) (p v : W) (a : V F) (m : IVec S16 1) : Acc F :=
  open Classical in if h : Inb p v then storeIdx f ![p, v] a m true h else f

/-- The sixteen columns of group `c` of row `r` of a block. -/
def rowVec (R : Vec F S32x256 .f32) (r : Fin 32) (c : Fin 16) : V F :=
  shapeCast S16 (fun x => R ((Rect.unit (s := S32x256) ![r.val, 16 * c.val] S1x16.size (row_inb r c)).toLoadRect.idx x) : Vec F S1x16 .f32) shapeCasts_S1x16_S16

/-- The segment of row `r` of a block, in sixteen lanes. -/
def segVec (I : Vec F S512 .i32) (r : Fin 32) : W :=
  fun x => I ((Rect.unit (s := S512) ![16 * r.val] S16.size (seg_inb r)).toLoadRect.idx x)

/-- The running sums of segment `p` added into the accumulator in the lanes `m`. -/
def accF (p : W) (m : IVec S16 1) : List (Fin 16 × W) → List (V F) → Acc F → Acc F
  | c :: cs, a :: u, f => accF p m cs u (scat f p c.2 a m)
  | _, _, f => f

/-- The running sums after row `r`: the row itself in the lanes `m`, the row added elsewhere. -/
def sumF (R : Vec F S32x256 .f32) (r : Fin 32) (m : IVec S16 1) : List (Fin 16 × W) → List (V F) → List (V F)
  | c :: cs, a :: u => select m (rowVec R r c.1) (addf a (rowVec R r c.1)) :: sumF R r m cs u
  | _, _ => []

/-- What a tile carries from row to row: the current segment, its running sums, and the accumulator. -/
structure St (F : FTy → Type) where
  p : W
  u : List (V F)
  f : Acc F

/-- One row. -/
def rowF (C : Cols) (I : Vec F S512 .i32) (R : Vec F S32x256 .f32) (st : St F) (r : Fin 32) : St F :=
  ⟨segVec I r, sumF R r (cmpi .ne (segVec I r) st.p) C.list st.u, accF st.p (cmpi .ne (segVec I r) st.p) C.list st.u st.f⟩

/-- The rows of the list in order. -/
def rowsF (C : Cols) (I : Vec F S512 .i32) (R : Vec F S32x256 .f32) (rs : List (Fin 32)) (st : St F) : St F :=
  rs.foldl (rowF C I R) st

theorem sumF_length (R : Vec F S32x256 .f32) (r : Fin 32) (m : IVec S16 1) (cs : List (Fin 16 × W)) (u : List (V F)) :
    (sumF R r m cs u).length = min cs.length u.length := by
  induction cs generalizing u with
  | nil => simp [sumF]
  | cons c cs ih =>
    cases u with
    | nil => simp [sumF]
    | cons a u => simp [sumF, ih]

theorem rowF_length {C : Cols} {I : Vec F S512 .i32} {R : Vec F S32x256 .f32} {st : St F} {r : Fin 32} (h : st.u.length = 16) :
    (rowF C I R st r).u.length = 16 := by
  show (sumF _ _ _ C.list st.u).length = 16
  rw [sumF_length, h]; rfl

theorem rowsF_length {C : Cols} {I : Vec F S512 .i32} {R : Vec F S32x256 .f32} {rs : List (Fin 32)} {st : St F} (h : st.u.length = 16) :
    (rowsF C I R rs st).u.length = 16 := by
  induction rs generalizing st with
  | nil => exact h
  | cons r rs ih => exact ih (rowF_length h)

theorem pack_fst {p : W} {u : List (V F)} (h : u.length = 16) : (pack p u).1 = p := by
  match u, h with
  | [a0, a1, a2, a3, a4, a5, a6, a7, a8, a9, a10, a11, a12, a13, a14, a15], _ => rfl

theorem sums_pack {p : W} {u : List (V F)} (h : u.length = 16) : sums (pack p u) = u := by
  match u, h with
  | [a0, a1, a2, a3, a4, a5, a6, a7, a8, a9, a10, a11, a12, a13, a14, a15], _ => rfl

/-! ## A tile's blocks -/

section
variable (i : grid0.Coords)

/-- The tile's number. -/
def wN : Nat := 2 * (i 1).val + (i 0).val

/-- The tile's `k`-th block, capped at the block of no segment. -/
def blk (k : Nat) : Nat := min (wN i + 32 * k) 3125

/-- Its first row of `x`. -/
def strt (k : Nat) : Nat := min (32 * blk i k) 99968

theorem blk_inb (k : Nat) : ∀ a, (![blk i k, 0] : Fin 2 → Nat) a + S1x512.size a ≤ S3126x512.size a := by
  have : blk i k ≤ 3125 := Nat.min_le_right _ _
  intro a; match a with | 0 => show blk i k + 1 ≤ 3126; omega | 1 => show 0 + 512 ≤ 512; omega

theorem strt_inb (k : Nat) : ∀ a, (![strt i k, 0] : Fin 2 → Nat) a + S32x256.size a ≤ S100000x256.size a := by
  have : strt i k ≤ 99968 := Nat.min_le_right _ _
  intro a; match a with | 0 => show strt i k + 32 ≤ 100000; omega | 1 => show 0 + 256 ≤ 256; omega

/-- The `k`-th block's segments and rows, as the tile's copies read them. -/
abbrev bSrc (k : Nat) : Memref sig .scVector .hbm S512 .i32 :=
  (bM.slice (Rect.unit (s := S3126x512) ![blk i k, 0] S1x512.size (blk_inb i k)) (fun _ => rfl)).squeeze S512 squeezes_S1x512_S512
abbrev xSrc (k : Nat) : Memref sig .scVector .hbm S32x256 .f32 :=
  xM.slice (Rect.unit (s := S100000x256) ![strt i k, 0] S32x256.size (strt_inb i k)) (fun _ => rfl)

/-- Their contents. -/
def bVal (B : Vec F S3126x512 .i32) (k : Nat) : Vec F S512 .i32 := (bSrc i k).view.read (Elt F) B
def xVal (X : Vec F S100000x256 .f32) (k : Nat) : Vec F S32x256 .f32 := (xSrc i k).view.read (Elt F) X

/-- Nothing added up: no segment, sums and accumulator zero. -/
def st0 : St F := ⟨broadcast S16 256#32, List.replicate 16 zeros, fun _ => Scalar.ofBits .f32 0x00000000#32⟩

/-- After the first `k` blocks. -/
def stN (X : Vec F S100000x256 .f32) (B : Vec F S3126x512 .i32) : Nat → St F
  | 0 => st0
  | k + 1 => rowsF groups (bVal i B k) (xVal i X k) rows32 (stN X B k)

theorem stN_length (X : Vec F S100000x256 .f32) (B : Vec F S3126x512 .i32) (k : Nat) : (stN i X B k).u.length = 16 := by
  induction k with
  | zero => rfl
  | succ k ih => exact rowsF_length ih

/-- The accumulator at the end: all 98 blocks, the last segment's sums added too. -/
def accN (X : Vec F S100000x256 .f32) (B : Vec F S3126x512 .i32) : Acc F :=
  accF (stN i X B 98).p (fun _ => 1#1) groups.list (stN i X B 98).u (stN i X B 98).f

end

/-! ## The segments are in range -/

theorem lane_toNat (c : Nat) (hc : c ≤ 240) (x : S16.Idx) : ((addi lanes (broadcast S16 (BitVec.ofNat 32 c)) : W) x).toNat = c + (x 0).val := by
  have h16 : (x 0).val < 16 := (x 0).isLt
  show (BitVec.ofNat 32 (0 * 16 + (x 0).val) + BitVec.ofNat 32 c).toNat = _
  rw [BitVec.toNat_add, BitVec.toNat_ofNat, BitVec.toNat_ofNat]
  omega

theorem lane_lt (c : Nat) (hc : c ≤ 240) (x : S16.Idx) : ((addi lanes (broadcast S16 (BitVec.ofNat 32 c)) : W) x).toNat < 256 := by
  have h16 : (x 0).val < 16 := (x 0).isLt
  rw [lane_toNat c hc]; omega

/-- The kernel's check passes for every segment below 264. -/
theorem chk_of_lt {p : W} (h : ∀ x, (p x).toNat < 264) : Chk groups p := by
  have key : ∀ c : Nat, c ≤ 240 → Inb p (addi lanes (broadcast S16 (BitVec.ofNat 32 c))) := by
    intro c hc a x
    match a with
    | 0 => exact h x
    | 1 => exact lane_lt c hc x
  exact ⟨key 0 (by omega), key 16 (by omega), key 32 (by omega), key 48 (by omega), key 64 (by omega), key 80 (by omega), key 96 (by omega), key 112 (by omega),
    key 128 (by omega), key 144 (by omega), key 160 (by omega), key 176 (by omega), key 192 (by omega), key 208 (by omega), key 224 (by omega), key 240 (by omega)⟩

end Cert.SegSum
-- ==== Proof.Base.lean ====
/- The names the proof of the SparseCore program shares: the launch's configuration, the resource algebra (the handshakes'
   rounds beside the local transfers' counters), and two rules for a tile's local copies, each copy's source held as a
   read share of the whole array. -/
module

public import proofs.«01_k».proof.Proof.Values
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal

@[expose] public section

noncomputable section

namespace Cert.SegSum

open Cert.KernelIdeal

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀

abbrev 𝒱₀ : Variants := Variants.none
abbrev 𝒱 : Variants := 𝒱₀.lift
abbrev v₀ : 𝒱.V := Sum.inl none

/-- The handshakes' rounds, the TensorCore pipeline's rounds, and the whole user algebra: those beside the transfers'
    counters. -/
abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The transfers' counters in the algebra. -/
abbrev EC : UEmb Counters (MT nD τ sig (HIx 1) (Elt F) ℕ UU ℕ) := countersEmb

/-- The tile at grid point `i` of device `d`. -/
abbrev thr (d : Dev nD) (i : grid0.Coords) : Thread nD τ := SparseCore.V d ((i 0).castLE (by decide)) ((i 1).castLE (by decide))

variable [FloatOps F]

/-! ## A local copy and its wait -/

section Copy

variable (c : Thread nD τ) {α : Type} {sp sp' : Space} {s : Shape} {e : EltTy}

/-- What the thread owes with the waits it has made beyond `W`, all of its own copies. -/
def Ow (O : CellTallies nD τ sig (HIx 1)) (W : Waits sig (HIx 1)) : sProp 𝕄 :=
  iprop(∃ W', ⌜∀ p ∈ W', p ∈ W ∨ p.2 = none⌝ ∗ owes c O W')

/-- A copy in flight on `sem`: at its wait it delivers the destination at `g` and the source's read share; the rest of the
    source's array is kept beside it. -/
def Pend (sem : DmaSem sig) (src : Memref sig c.2.kind sp s e) (dst : Memref sig c.2.kind sp' s e) (Sd : Finset (Idx (dst.view.loc c)))
    (q : PosShare TreeShare) (fs : Buf (Elt F) (src.view.loc c)) (g : Buf (Elt F) (dst.view.loc c)) : sProp 𝕄 :=
  iprop(Transfers.Flight EC c (.dma sem) (none : HIx 1) (dst.view.amount (.dma sem)) iprop((dst.view.loc c ↦[Sd]{fullShare} g) ∗ (src.view.loc c ↦[src.view.set]{q} fs))
    ∗ (src.view.loc c ↦[Finset.univ \ src.view.set]{q} fs))

/-- Issuing a copy from a source whose whole array is held at a read share. -/
theorem wp_issue {src src' : Memref sig c.2.kind sp s e} {dst : Memref sig c.2.kind sp' s e} {sem : DmaSem sig}
    {hsrc : src.view.WordExact} {hdst : dst.view.WordExact} {hsem : DmaTarget.Typed (nD := nD) sp (.dma sem) (.here dst)}
    {k : PUnit → Prog (TpuEff nD τ sig (Elt F) Λ₀ c.2) α} {Q : α → sProp 𝕄} {q : PosShare TreeShare} {fs : Buf (Elt F) (src'.view.loc c)}
    {Sd : Finset (Idx (dst.view.loc c))} {fd g : Buf (Elt F) (dst.view.loc c)}
    (hs : src = src') (hN0 : 0 < dst.view.amount (.dma sem)) (hSd : dst.view.set ⊆ Sd)
    (hg : dst.view.write (Elt F) fd (src'.view.read (Elt F) fs) Finset.univ = g) :
    iprop((src'.view.loc c ↦{q} fs) ∗ (dst.view.loc c ↦[Sd]{fullShare} fd) ∗ semVal (c, .dma sem) 0)
      ⊢ iprop((Pend c sem src' dst Sd q fs g -∗ wp frame (wpE (defs₀ (F := F)) 𝒱₀ c none) Set.univ (k ⟨⟩) Q)
          -∗ wp frame (wpE (defs₀ (F := F)) 𝒱₀ c none) Set.univ (.op (.enqueueDma src (.here dst) (.dma sem) hsrc hdst hsem) k) Q) := by
  subst hs; subst hg
  iintro ⟨Hs, Hd, Hv⟩ Hk
  ihave Hs' := (pointsTo_split_subset (Finset.subset_univ src.view.set)).1 $$ Hs
  icases Hs' with ⟨Hs, Hr⟩
  iapply (Transfers.wp_dmaLocal EC 𝒱₀ c none (none : HIx 1) (dst.view.amount (.dma sem)) rfl hN0 hSd) $$ [Hs Hd Hv]
  · isplitl [Hs]; · iexact Hs
    isplitl [Hd]; · iexact Hd
    iexact Hv
  iintro HF
  iapply Hk
  unfold Pend
  isplitl [HF]; · iexact HF
  iexact Hr

/-- Its wait. -/
theorem wp_await {s' : Shape} {e' : EltTy} {src : Memref sig c.2.kind sp s e} {srcw : Memref sig c.2.kind sp s' e'}
    {dst dstw : Memref sig c.2.kind sp' s e} {sem : DmaSem sig}
    {hsrc : srcw.view.WordExact} {hdst : dstw.view.WordExact}
    {k : PUnit → Prog (TpuEff nD τ sig (Elt F) Λ₀ c.2) α} {Q : α → sProp 𝕄} {q : PosShare TreeShare} {fs : Buf (Elt F) (src.view.loc c)}
    {Sd : Finset (Idx (dst.view.loc c))} {g : Buf (Elt F) (dst.view.loc c)} {O : CellTallies nD τ sig (HIx 1)} {W : Waits sig (HIx 1)}
    (hd : dstw = dst) :
    iprop(Pend c sem src dst Sd q fs g ∗ Ow c O W ∗ Transfers.MayWaits c (none : HIx 1) O)
      ⊢ iprop((iprop((dst.view.loc c ↦[Sd]{fullShare} g) ∗ (src.view.loc c ↦{q} fs) ∗ semVal (c, .dma sem) 0 ∗ Ow c O W)
            -∗ wp frame (wpE (defs₀ (F := F)) 𝒱₀ c none) Set.univ (k ⟨⟩) Q)
          -∗ wp frame (wpE (defs₀ (F := F)) 𝒱₀ c none) Set.univ (.op (.waitDma2 sem srcw dstw hsrc hdst) k) Q) := by
  subst hd
  unfold Pend Ow
  iintro ⟨⟨HF, Hr⟩, ⟨%W', %hW', HO⟩, Hm⟩ Hk
  iapply (Transfers.wp_waitLocalO EC 𝒱₀ c none (none : HIx 1) rfl) $$ [HF HO Hm]
  · isplitl [HF]; · iexact HF
    isplitl [HO]; · iexact HO
    iapply (Transfers.MayWaits.elim (SemLoc.dma sem)); iexact Hm
  iintro ⟨⟨Hd, Hs⟩, Hv, HO⟩
  iapply Hk
  isplitl [Hd]; · iexact Hd
  isplitl [Hs Hr]
  · iapply (pointsTo_split_subset (Finset.subset_univ src.view.set)).2
    isplitl [Hs]; · iexact Hs
    iexact Hr
  isplitl [Hv]; · iexact Hv
  iexists (insert (SemLoc.dma sem, (none : HIx 1)) W')
  isplitr
  · ipureintro
    intro p hp
    rcases Finset.mem_insert.mp hp with h | hp
    · exact .inr (by rw [h])
    · exact hW' p hp
  iexact HO

end Copy

end Cert.SegSum
-- ==== Proof.Rows.lean ====
/- The weakest precondition of a row, of a list of rows, of the last scatters and of the zeroing of a row: each takes the
   accumulator and the running sums to the values `Values.lean` names. -/
module

public import proofs.«01_k».proof.Proof.Base

@[expose] public section

noncomputable section

namespace Cert.SegSum

open Cert.KernelIdeal

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The weakest precondition of a tile's program. -/
abbrev Wp (d : Dev nD) (i : grid0.Coords) {β : Type} (p : Prog (TE F i) β) (Q : β → sProp 𝕄) : sProp 𝕄 :=
  wp frame (wpE (defs₀ (F := F)) 𝒱₀ (thr d i) none) Set.univ p Q

section
variable (d : Dev nD) (i : grid0.Coords) {β : Type}

/-- The accumulator at `f`. -/
abbrev accPt (f : Acc F) : sProp 𝕄 := (accM.view.loc (thr d i) ↦{fullShare} f)

/-- A masked scatter-add into the accumulator at the head of a program. -/
theorem wp_scat {p v : W} {a : V F} {m : IVec S16 1} {h : Inb p v} {hs : (accM.access (.whole S264x256)).Stores Finset.univ}
    {f : Acc F} {k : PUnit → Prog (TE F i) β} {Q : β → sProp 𝕄} :
    accPt d i f ⊢ iprop((accPt d i (scat f p v a m) -∗ Wp d i (k ⟨⟩) Q)
      -∗ Wp d i (SparseCore.vectorStoreIdx accM ![p, v] a m true h hs >>= k) Q) := by
  have hset : (accM.access (.whole S264x256)).set = Finset.univ := Memref.set_access_whole cc0_scratch4
  have hw : (accM.access (.whole S264x256)).write (Elt F) f (storeIdx ((accM.access (.whole S264x256)).read (Elt F) f) ![p, v] a m true h) Finset.univ
      = scat f p v a m := by
    rw [scat, dif_pos h]
    exact (Memref.write_access_whole_univ (Elt F) cc0_scratch4 f _).trans
      (congrArg (fun g : Acc F => (storeIdx g ![p, v] a m true h : Acc F)) (Memref.read_access_whole (Elt F) cc0_scratch4 f))
  have := SparseCore.wp_vectorStoreIdx (defs := defs₀ (F := F)) 𝒱₀ (thr d i) none Set.univ (base := accM) (idxs := ![p, v]) (v := a) (mask := m) (add := true) (h := h) (hs := hs)
    (k := k) (f := f) (Q := Q)
  rw [hset, hw] at this
  exact this

/-- The column groups of a row. -/
theorem wp_cols {buf : Memref sig .scVector .vmem S32x256 .f32} {fr : Buf (Elt F) (buf.view.loc (thr d i))} {R : Vec F S32x256 .f32}
    (hR : buf.view.read (Elt F) fr = R) {r : Fin 32} {p : W} {m : IVec S16 1} {Q : β → sProp 𝕄}
    (cs : List (Fin 16 × W)) (h : ∀ c ∈ cs, Inb p c.2) (u : List (V F)) (f : Acc F) (k : List (V F) → Prog (TE F i) β) :
    iprop(accPt d i f ∗ (buf.view.loc (thr d i) ↦{fullShare} fr))
      ⊢ iprop((iprop(accPt d i (accF p m cs u f) ∗ (buf.view.loc (thr d i) ↦{fullShare} fr)) -∗ Wp d i (k (sumF R r m cs u)) Q)
        -∗ Wp d i (cols i buf r p m cs h u k) Q) := by
  induction cs generalizing u f k with
  | nil => iintro H Hk; iapply Hk; iexact H
  | cons c cs ih =>
    cases u with
    | nil => iintro H Hk; iapply Hk; iexact H
    | cons a u =>
      iintro ⟨Ha, Hb⟩ Hk
      rw [cols]
      iapply (wp_scat d i) $$ Ha
      iintro Ha
      simp only [Prog.lift, Prog.bind_op, Prog.bind_ret]
      iapply (wp_load 𝒱₀ (thr d i) none Set.univ (m := buf) (S := Finset.univ) (Finset.subset_univ _)) $$ Hb
      iintro Hb
      iapply (ih _ u (scat f p c.2 a m)) $$ [Ha Hb]
      · isplitl [Ha] <;> iassumption
      iintro H
      have hrow : shapeCast S16 (buf.view.readAt (Elt F) (Rect.unit (s := S32x256) ![r.val, 16 * c.1.val] S1x16.size (row_inb r c.1)).toLoadRect fr) Facts₀.shapeCasts_S1x16_S16
          = rowVec R r c.1 := by subst hR; rfl
      rw [hrow]
      iapply Hk
      iexact H

/-- A row whose segment is checked as it is loaded. -/
theorem wp_rowA {C : Cols} {ib : Memref sig .scVector .vmem S512 .i32} {buf : Memref sig .scVector .vmem S32x256 .f32}
    {fi : Buf (Elt F) (ib.view.loc (thr d i))} {fr : Buf (Elt F) (buf.view.loc (thr d i))} {I : Vec F S512 .i32} {R : Vec F S32x256 .f32}
    (hI : ib.view.read (Elt F) fi = I) (hR : buf.view.read (Elt F) fr = R) {r : Fin 32} {st : St F} (hp : Chk C st.p) (hs : Chk C (segVec I r))
    {k : (s : W) → Chk C s → List (V F) → Prog (TE F i) β} {Q : β → sProp 𝕄} :
    iprop(accPt d i st.f ∗ (ib.view.loc (thr d i) ↦{fullShare} fi) ∗ (buf.view.loc (thr d i) ↦{fullShare} fr))
      ⊢ iprop((iprop(accPt d i (rowF C I R st r).f ∗ (ib.view.loc (thr d i) ↦{fullShare} fi) ∗ (buf.view.loc (thr d i) ↦{fullShare} fr))
            -∗ Wp d i (k (rowF C I R st r).p hs (rowF C I R st r).u) Q)
        -∗ Wp d i (rowA i C ib buf r st.p hp st.u k) Q) := by
  iintro ⟨Ha, Hi, Hb⟩ Hk
  unfold rowA
  simp only [Prog.lift, Prog.bind_op, Prog.bind_ret]
  iapply (wp_load 𝒱₀ (thr d i) none Set.univ (m := ib) (S := Finset.univ) (Finset.subset_univ _)) $$ Hi
  iintro Hi
  have hseg : ib.view.readAt (Elt F) (Rect.unit (s := S512) ![16 * r.val] S16.size (seg_inb r)).toLoadRect fi = segVec I r := by subst hI; rfl
  rw [hseg, wp_assume_of 𝒱₀ (thr d i) none Set.univ hs]
  iapply (wp_cols d i hR C.list hp.inb st.u st.f) $$ [Ha Hb]
  · isplitl [Ha] <;> iassumption
  iintro ⟨Ha, Hb⟩
  iapply Hk
  isplitl [Ha]; · iexact Ha
  isplitl [Hi] <;> iassumption

/-- A row whose segment is checked later. -/
theorem wp_rowB {C : Cols} {ib : Memref sig .scVector .vmem S512 .i32} {buf : Memref sig .scVector .vmem S32x256 .f32}
    {fi : Buf (Elt F) (ib.view.loc (thr d i))} {fr : Buf (Elt F) (buf.view.loc (thr d i))} {I : Vec F S512 .i32} {R : Vec F S32x256 .f32}
    (hI : ib.view.read (Elt F) fi = I) (hR : buf.view.read (Elt F) fr = R) {r : Fin 32} {st : St F} (hp : Chk C st.p)
    {k : (s : W) → List (V F) → Prog (TE F i) β} {Q : β → sProp 𝕄} :
    iprop(accPt d i st.f ∗ (ib.view.loc (thr d i) ↦{fullShare} fi) ∗ (buf.view.loc (thr d i) ↦{fullShare} fr))
      ⊢ iprop((iprop(accPt d i (rowF C I R st r).f ∗ (ib.view.loc (thr d i) ↦{fullShare} fi) ∗ (buf.view.loc (thr d i) ↦{fullShare} fr))
            -∗ Wp d i (k (rowF C I R st r).p (rowF C I R st r).u) Q)
        -∗ Wp d i (rowB i C ib buf r st.p hp st.u k) Q) := by
  iintro ⟨Ha, Hi, Hb⟩ Hk
  unfold rowB
  simp only [Prog.lift, Prog.bind_op, Prog.bind_ret]
  iapply (wp_load 𝒱₀ (thr d i) none Set.univ (m := ib) (S := Finset.univ) (Finset.subset_univ _)) $$ Hi
  iintro Hi
  have hseg : ib.view.readAt (Elt F) (Rect.unit (s := S512) ![16 * r.val] S16.size (seg_inb r)).toLoadRect fi = segVec I r := by subst hI; rfl
  rw [hseg]
  iapply (wp_cols d i hR C.list hp.inb st.u st.f) $$ [Ha Hb]
  · isplitl [Ha] <;> iassumption
  iintro ⟨Ha, Hb⟩
  iapply Hk
  isplitl [Ha]; · iexact Ha
  isplitl [Hi] <;> iassumption

/-- Rows one after another. -/
theorem wp_rowsA {C : Cols} {ib : Memref sig .scVector .vmem S512 .i32} {buf : Memref sig .scVector .vmem S32x256 .f32}
    {fi : Buf (Elt F) (ib.view.loc (thr d i))} {fr : Buf (Elt F) (buf.view.loc (thr d i))} {I : Vec F S512 .i32} {R : Vec F S32x256 .f32}
    (hI : ib.view.read (Elt F) fi = I) (hR : buf.view.read (Elt F) fr = R) (hs : ∀ r, Chk C (segVec I r)) {Q : β → sProp 𝕄}
    (rs : List (Fin 32)) (st : St F) (hp : Chk C st.p) (hp' : Chk C (rowsF C I R rs st).p) (k : (s : W) → Chk C s → List (V F) → Prog (TE F i) β) :
    iprop(accPt d i st.f ∗ (ib.view.loc (thr d i) ↦{fullShare} fi) ∗ (buf.view.loc (thr d i) ↦{fullShare} fr))
      ⊢ iprop((iprop(accPt d i (rowsF C I R rs st).f ∗ (ib.view.loc (thr d i) ↦{fullShare} fi) ∗ (buf.view.loc (thr d i) ↦{fullShare} fr))
            -∗ Wp d i (k (rowsF C I R rs st).p hp' (rowsF C I R rs st).u) Q)
        -∗ Wp d i (rowsA i C ib buf rs st.p hp st.u k) Q) := by
  induction rs generalizing st with
  | nil =>
    iintro H Hk
    rw [rowsA]
    iapply Hk
    iexact H
  | cons r rs ih =>
    iintro H Hk
    rw [rowsA]
    iapply (wp_rowA d i hI hR hp (hs r)) $$ H
    iintro H
    iapply (ih (rowF C I R st r) (hs r) hp') $$ H
    iintro H
    iapply Hk
    iexact H

/-- The last scatters. -/
theorem wp_flush {p : W} {Q : β → sProp 𝕄} (cs : List (Fin 16 × W)) (h : ∀ c ∈ cs, Inb p c.2) (u : List (V F)) (f : Acc F) (k : Prog (TE F i) β) :
    accPt d i f ⊢ iprop((accPt d i (accF p (fun _ => 1#1) cs u f) -∗ Wp d i k Q) -∗ Wp d i (flush i p cs h u k) Q) := by
  induction cs generalizing u f with
  | nil => iintro H Hk; iapply Hk; iexact H
  | cons c cs ih =>
    cases u with
    | nil => iintro H Hk; iapply Hk; iexact H
    | cons a u =>
      iintro Ha Hk
      rw [flush]
      iapply (wp_scat d i) $$ Ha
      iintro Ha
      iapply (ih _ u (scat f p c.2 a (fun _ => 1#1))) $$ Ha
      iexact Hk

end

end Cert.SegSum
-- ==== Proof.Tile.lean ====
/- The weakest precondition of a tile: from read shares of the rows and of the segments, its own buffers and semaphores, and
   its slice of the output, it leaves the slice at the tile's partial sums. -/
module

public import proofs.«01_k».proof.Proof.Rows

@[expose] public section

noncomputable section

namespace Cert.SegSum

open Cert.KernelIdeal

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## Zeroing the accumulator -/

/-- The word of zero. -/
abbrev z0 : Elt F .f32 := Scalar.ofBits .f32 0x00000000#32

/-- A store of zeros leaves an element zero that is at the place or was zero. -/
theorem zero_write (o : Place) (f : Acc F) (y : S264x256.Idx)
    (h : y ∈ (Rect.unit (s := S264x256) o.1 S1x16.size o.2).set ∨ f y = z0) :
    (accM.access (Rect.unit (s := S264x256) o.1 S1x16.size o.2)).write (Elt F) f (shapeCast S1x16 zeros Facts₀.shapeCasts_S16_S1x16) Finset.univ y = z0 := by
  by_cases hy : y ∈ (accM.access (Rect.unit (s := S264x256) o.1 S1x16.size o.2)).setOn Finset.univ
  · obtain ⟨x, -, rfl⟩ := Finset.mem_map.mp hy
    rw [View.write_emb_of_mem _ _ (Finset.mem_univ _)]
    rfl
  · rw [View.write_of_not_mem _ _ _ hy]
    refine h.resolve_left fun hm => hy ?_
    have : (accM.access (Rect.unit (s := S264x256) o.1 S1x16.size o.2)).set = (Rect.unit (s := S264x256) o.1 S1x16.size o.2).set := View.set_slice_whole _ _
    show y ∈ (accM.access (Rect.unit (s := S264x256) o.1 S1x16.size o.2)).set
    rw [this]; exact hm

section
variable (d : Dev nD) (i : grid0.Coords)

/-- A store into the accumulator at the head of a program. -/
theorem wp_storeAcc {β : Type} {r : Rect S264x256} {w : r.shape.Idx → Elt F .f32} {hx : (accM.access r).Stores Finset.univ}
    {hm : (Finset.univ : Finset r.shape.Idx) = Finset.univ ∨ ∀ a, r.stride a = 1}
    {k : PUnit → Prog (TE F i) β} {f : Acc F} {Q : β → sProp 𝕄} :
    accPt d i f ⊢ iprop((accPt d i ((accM.access r).write (Elt F) f w Finset.univ) -∗ Wp d i (k ⟨⟩) Q)
      -∗ Wp d i (.op (.store accM r w Finset.univ hx hm) k) Q) := by
  have h := wp_store (Γ := .empty) (defs := defs₀ (F := F)) 𝒱₀ (thr d i) none Set.univ (m := accM) (r := r) (w := w) (hx := hx) (hm := hm) (k := k) (f := f) (Q := Q)
    (S := Finset.univ) (Finset.subset_univ _)
  exact h

/-- Zeros written at each of the places. -/
theorem wp_zeroAt (P : S264x256.Idx → Prop) {Q : PUnit → sProp 𝕄} (os : List Place) (f : Acc F)
    (h : ∀ y, P y → (∃ o ∈ os, y ∈ (Rect.unit (s := S264x256) o.1 S1x16.size o.2).set) ∨ f y = z0) :
    accPt d i f ⊢ iprop((iprop(∃ f' : Acc F, ⌜∀ y, P y → f' y = z0⌝ ∗ accPt d i f') -∗ Q ⟨⟩) -∗ Wp d i (zeroAt i zeros os) Q) := by
  induction os generalizing f with
  | nil =>
    iintro Ha Hk
    rw [zeroAt, Prog.pure_eq_ret]
    unfold Wp
    rw [wp_ret]
    imodintro
    iapply Hk
    iexists f
    isplitr
    · ipureintro; intro y hy
      exact (h y hy).resolve_left (by simp)
    · iexact Ha
  | cons o os ih =>
    have hh : ∀ y, P y → (∃ o ∈ os, y ∈ (Rect.unit (s := S264x256) o.1 S1x16.size o.2).set) ∨
        (accM.access (Rect.unit (s := S264x256) o.1 S1x16.size o.2)).write (Elt F) f (shapeCast S1x16 zeros Facts₀.shapeCasts_S16_S1x16) Finset.univ y = z0 := by
      intro y hy
      rcases h y hy with ⟨o', ho', hyo⟩ | hz
      · rcases List.mem_cons.mp ho' with rfl | ho'
        · exact .inr (zero_write _ f y (.inl hyo))
        · exact .inl ⟨o', ho', hyo⟩
      · exact .inr (zero_write o f y (.inr hz))
    iintro Ha Hk
    rw [zeroAt]
    simp only [Prog.lift, Prog.bind_op, Prog.bind_ret]
    iapply (wp_load 𝒱₀ (thr d i) none Set.univ (m := accM) (S := Finset.univ) (Finset.subset_univ _)) $$ Ha
    iintro Ha
    iapply (wp_storeAcc d i) $$ Ha
    iintro Ha
    iapply (ih _ hh) $$ Ha
    iexact Hk

/-- The places of row `t` cover it. -/
theorem places_cover (t : Fin k0_t1_loop.trips) (y : S264x256.Idx) (h : (y 0).val = t.val) :
    ∃ o ∈ places t, y ∈ (Rect.unit (s := S264x256) o.1 S1x16.size o.2).set := by
  have hy : (y 1).val < 256 := (y 1).isLt
  have key : ∀ (off : Fin 2 → Nat) (c : Nat) (inb), off = ![t.val, c] → c ≤ (y 1).val → (y 1).val < c + 16 →
      y ∈ (Rect.unit (s := S264x256) off S1x16.size inb).set := by
    intro off c inb ho h1 h2
    subst ho
    refine Rect.mem_set_unit.mpr fun a => ?_
    match a with
    | 0 => exact ⟨by show t.val ≤ (y 0).val; omega, by show (y 0).val < t.val + 1; omega⟩
    | 1 => exact ⟨h1, h2⟩
  have hm : ∀ (n : Nat) (hn : n < 16) (o : Place), (places t)[n]'hn = o → o.1 = ![t.val, 16 * n] → 16 * n ≤ (y 1).val → (y 1).val < 16 * n + 16 →
      ∃ o ∈ places t, y ∈ (Rect.unit (s := S264x256) o.1 S1x16.size o.2).set :=
    fun n hn o ho he h1 h2 => ⟨o, ho ▸ List.getElem_mem hn, key _ _ _ he h1 h2⟩
  rcases Nat.lt_or_ge (y 1).val 128 with h8 | h8
  · by_cases c1 : (y 1).val < 16; · exact hm 0 (by decide) _ rfl (Gen.k0_off1_eq t) (by omega) (by omega)
    by_cases c2 : (y 1).val < 32; · exact hm 1 (by decide) _ rfl (Gen.k0_off2_eq t) (by omega) (by omega)
    by_cases c3 : (y 1).val < 48; · exact hm 2 (by decide) _ rfl (Gen.k0_off3_eq t) (by omega) (by omega)
    by_cases c4 : (y 1).val < 64; · exact hm 3 (by decide) _ rfl (Gen.k0_off4_eq t) (by omega) (by omega)
    by_cases c5 : (y 1).val < 80; · exact hm 4 (by decide) _ rfl (Gen.k0_off5_eq t) (by omega) (by omega)
    by_cases c6 : (y 1).val < 96; · exact hm 5 (by decide) _ rfl (Gen.k0_off6_eq t) (by omega) (by omega)
    by_cases c7 : (y 1).val < 112; · exact hm 6 (by decide) _ rfl (Gen.k0_off7_eq t) (by omega) (by omega)
    exact hm 7 (by decide) _ rfl (Gen.k0_off8_eq t) (by omega) (by omega)
  · by_cases c1 : (y 1).val < 144; · exact hm 8 (by decide) _ rfl (Gen.k0_off9_eq t) (by omega) (by omega)
    by_cases c2 : (y 1).val < 160; · exact hm 9 (by decide) _ rfl (Gen.k0_off10_eq t) (by omega) (by omega)
    by_cases c3 : (y 1).val < 176; · exact hm 10 (by decide) _ rfl (Gen.k0_off11_eq t) (by omega) (by omega)
    by_cases c4 : (y 1).val < 192; · exact hm 11 (by decide) _ rfl (Gen.k0_off12_eq t) (by omega) (by omega)
    by_cases c5 : (y 1).val < 208; · exact hm 12 (by decide) _ rfl (Gen.k0_off13_eq t) (by omega) (by omega)
    by_cases c6 : (y 1).val < 224; · exact hm 13 (by decide) _ rfl (Gen.k0_off14_eq t) (by omega) (by omega)
    by_cases c7 : (y 1).val < 240; · exact hm 14 (by decide) _ rfl (Gen.k0_off15_eq t) (by omega) (by omega)
    exact hm 15 (by decide) _ rfl (Gen.k0_off16_eq t) (by omega) (by omega)

/-- The first loop leaves the accumulator zero. -/
theorem wp_zeroing {β : Type} {Q : β → sProp 𝕄} (f : Acc F) (k : PUnit → Prog (TE F i) β) :
    accPt d i f ⊢ iprop((accPt d i (st0 (F := F)).f -∗ Wp d i (k ⟨⟩) Q)
      -∗ Wp d i (Scf.Loop.for k0_t1_loop Facts₀.k0_t1_ok ⟨⟩ (fun t _ => zeroAt i zeros (places t)) >>= k) Q) := by
  iintro Ha Hk
  iapply (Scf.wp_for_bind frame (wpE (defs₀ (F := F)) 𝒱₀ (thr d i) none) Set.univ _ _ _ Facts₀.k0_t1_ok PUnit.unit (fun t _ => zeroAt i zeros (places t))
    (fun t _ => iprop(∃ f' : Acc F, ⌜∀ y : S264x256.Idx, (y 0).val < t → f' y = z0⌝ ∗ accPt d i f')) ?_) $$ [Ha]
  · intro t _
    iintro ⟨%f', %hf', Ha⟩
    have hh : ∀ y : S264x256.Idx, (y 0).val < t.val + 1 → (∃ o ∈ places t, y ∈ (Rect.unit (s := S264x256) o.1 S1x16.size o.2).set) ∨ f' y = z0 := by
      intro y hy
      by_cases h : (y 0).val < t.val
      · exact .inr (hf' y h)
      · exact .inl (places_cover t y (by omega))
    iapply (wp_zeroAt d i (fun y => (y 0).val < t.val + 1) (places t) f' hh) $$ Ha
    iintro H
    iexact H
  · iexists f
    isplitr
    · ipureintro; intro y hy; omega
    · iexact Ha
  iintro %_ ⟨%f', %hf', Ha⟩
  have : f' = (st0 (F := F)).f := by
    funext y
    exact hf' y (lt_of_lt_of_eq (y 0).isLt (by decide))
  rw [this]
  iapply Hk
  iexact Ha

end

/-! ## The blocks -/

theorem bSrc_eq (i : grid0.Coords) {off : Fin 2 → Nat} {inb} {h'} (k : Nat) (h : off = ![blk i k, 0]) :
    (bM.slice (Rect.unit (s := S3126x512) off S1x512.size inb) h').squeeze S512 Facts₀.squeezes_S1x512_S512 = bSrc i k := by
  subst h; rfl

theorem xSrc_eq (i : grid0.Coords) {off : Fin 2 → Nat} {inb} {h'} (k : Nat) (h : off = ![strt i k, 0]) :
    xM.slice (Rect.unit (s := S100000x256) off S32x256.size inb) h' = xSrc i k := by
  subst h; rfl

section
variable {B : Vec F S3126x512 .i32} (hB : ∀ j, (B j).toNat < 264) (i : grid0.Coords)

include hB in
theorem chk_seg (k : Nat) (r : Fin 32) : Chk groups (segVec (bVal i B k) r) :=
  chk_of_lt fun x => by
    show (bVal i B k _).toNat < 264
    unfold bVal
    rw [View.read_apply]
    exact hB _

theorem chk_rows {I : Vec F S512 .i32} {R : Vec F S32x256 .f32} (hs : ∀ r, Chk groups (segVec I r)) (rs : List (Fin 32)) (st : St F)
    (h : Chk groups st.p) : Chk groups (rowsF groups I R rs st).p := by
  induction rs generalizing st with
  | nil => exact h
  | cons r rs ih => exact ih _ (hs r)

include hB in
theorem chk_st (X : Vec F S100000x256 .f32) (k : Nat) : Chk groups (stN i X B k).p := by
  induction k with
  | zero => exact chk_of_lt fun x => by show (256#32).toNat < 264; decide
  | succ k ih => exact chk_rows (chk_seg hB i k) _ _ ih

end

section
variable (d : Dev nD) (i : grid0.Coords) (O : CellTallies nD τ sig (HIx 1)) (Ws : Waits sig (HIx 1))
variable (q q' : PosShare TreeShare) (X : Vec F S100000x256 .f32) (B : Vec F S3126x512 .i32)

abbrev bPt (q : PosShare TreeShare) (B : Vec F S3126x512 .i32) : sProp 𝕄 := (bM.view.loc (thr d i) ↦{q} B)
abbrev xPt (q : PosShare TreeShare) (X : Vec F S100000x256 .f32) : sProp 𝕄 := (xM.view.loc (thr d i) ↦{q} X)

/-- The prefetch of block `k` into the first buffers is outstanding, the second buffers are free. -/
abbrev PendB (sem : DmaSem sig) (ib : Memref sig .scVector .vmem S512 .i32) (k : Nat) (g : Buf (Elt F) (ib.view.loc (thr d i))) (q : PosShare TreeShare) : sProp 𝕄 :=
  Pend (thr d i) sem (bSrc i k) ib Finset.univ q B g
abbrev PendX (sem : DmaSem sig) (rb : Memref sig .scVector .vmem S32x256 .f32) (k : Nat) (g : Buf (Elt F) (rb.view.loc (thr d i))) (q : PosShare TreeShare) : sProp 𝕄 :=
  Pend (thr d i) sem (xSrc i k) rb Finset.univ q X g

section Steps

variable {β : Type}

theorem lift_bind {γ : Type} (e : TE F i γ) (k : γ → Prog (TE F i) β) : (Prog.lift e >>= k) = .op e k := by
  simp only [Prog.lift, Prog.bind_op, Prog.bind_ret]

/-- The prefetch of the segments of block `k` at the head of a program. -/
theorem wp_issueB {ib : Memref sig .scVector .vmem S512 .i32} {sem : DmaSem sig} {off : Fin 2 → Nat} {inb} {h' h1 h2 h3}
    {q : PosShare TreeShare} {fd g : Buf (Elt F) (ib.view.loc (thr d i))} {kk : PUnit → Prog (TE F i) β} {Q : β → sProp 𝕄}
    (k : Nat) (hoff : off = ![blk i k, 0]) (hg : ib.view.write (Elt F) fd (bVal i B k) Finset.univ = g) :
    iprop(bPt d i q B ∗ (ib.view.loc (thr d i) ↦{fullShare} fd) ∗ semVal (thr d i, .dma sem) 0)
      ⊢ iprop((PendB d i B sem ib k g q -∗ Wp d i (kk ⟨⟩) Q)
        -∗ Wp d i (Prog.lift (.enqueueDma ((bM.slice (Rect.unit (s := S3126x512) off S1x512.size inb) h').squeeze S512 Facts₀.squeezes_S1x512_S512)
            (.here ib) (.dma sem) h1 h2 h3) >>= kk) Q) := by
  rw [lift_bind]
  subst hoff
  exact wp_issue (thr d i) (src' := bSrc i k) rfl (View.amount_pos (s := S512) ib.view _ (by decide)) (Finset.subset_univ _) hg

/-- The prefetch of the rows of block `k` at the head of a program. -/
theorem wp_issueX {rb : Memref sig .scVector .vmem S32x256 .f32} {sem : DmaSem sig} {off : Fin 2 → Nat} {inb} {h' h1 h2 h3}
    {q : PosShare TreeShare} {fd g : Buf (Elt F) (rb.view.loc (thr d i))} {kk : PUnit → Prog (TE F i) β} {Q : β → sProp 𝕄}
    (k : Nat) (hoff : off = ![strt i k, 0]) (hg : rb.view.write (Elt F) fd (xVal i X k) Finset.univ = g) :
    iprop(xPt d i q X ∗ (rb.view.loc (thr d i) ↦{fullShare} fd) ∗ semVal (thr d i, .dma sem) 0)
      ⊢ iprop((PendX d i X sem rb k g q -∗ Wp d i (kk ⟨⟩) Q)
        -∗ Wp d i (Prog.lift (.enqueueDma (xM.slice (Rect.unit (s := S100000x256) off S32x256.size inb) h') (.here rb) (.dma sem) h1 h2 h3) >>= kk) Q) := by
  rw [lift_bind]
  subst hoff
  exact wp_issue (thr d i) (src' := xSrc i k) rfl (View.amount_pos (s := S32x256) rb.view _ (by decide)) (Finset.subset_univ _) hg

/-- The wait for the segments of block `k`. -/
theorem wp_awaitB {ib : Memref sig .scVector .vmem S512 .i32} {sem : DmaSem sig} {s' : Shape} {e' : EltTy} {srcw : Memref sig .scVector .hbm s' e'} {h1 h2}
    {q : PosShare TreeShare} {g : Buf (Elt F) (ib.view.loc (thr d i))} {kk : PUnit → Prog (TE F i) β} {Q : β → sProp 𝕄} {k : Nat} :
    iprop(PendB d i B sem ib k g q ∗ Ow (thr d i) O Ws ∗ Transfers.MayWaits (thr d i) (none : HIx 1) O)
      ⊢ iprop((iprop((ib.view.loc (thr d i) ↦{fullShare} g) ∗ bPt d i q B ∗ semVal (thr d i, .dma sem) 0 ∗ Ow (thr d i) O Ws) -∗ Wp d i (kk ⟨⟩) Q)
        -∗ Wp d i (Prog.lift (.waitDma2 sem srcw ib h1 h2) >>= kk) Q) := by
  rw [lift_bind]
  exact wp_await (thr d i) rfl

/-- The wait for the rows of block `k`. -/
theorem wp_awaitX {rb : Memref sig .scVector .vmem S32x256 .f32} {sem : DmaSem sig} {s' : Shape} {e' : EltTy} {srcw : Memref sig .scVector .hbm s' e'} {h1 h2}
    {q : PosShare TreeShare} {g : Buf (Elt F) (rb.view.loc (thr d i))} {kk : PUnit → Prog (TE F i) β} {Q : β → sProp 𝕄} {k : Nat} :
    iprop(PendX d i X sem rb k g q ∗ Ow (thr d i) O Ws ∗ Transfers.MayWaits (thr d i) (none : HIx 1) O)
      ⊢ iprop((iprop((rb.view.loc (thr d i) ↦{fullShare} g) ∗ xPt d i q X ∗ semVal (thr d i, .dma sem) 0 ∗ Ow (thr d i) O Ws) -∗ Wp d i (kk ⟨⟩) Q)
        -∗ Wp d i (Prog.lift (.waitDma2 sem srcw rb h1 h2) >>= kk) Q) := by
  rw [lift_bind]
  exact wp_await (thr d i) rfl

/-- A check that holds. -/
theorem wp_check {P : Prop} {dec : Decidable P} (h : P) {kk : PLift P → Prog (TE F i) β} {Q : β → sProp 𝕄} :
    Wp d i (kk ⟨h⟩) Q ⊢ Wp d i (Prog.lift (TpuEff.assume P dec) >>= kk) Q := by
  rw [lift_bind]
  exact Entails.of_eq (wp_assume_of 𝒱₀ (thr d i) none Set.univ h).symm

end Steps

/-- What holds before trip `t`, the carried values `x`: block `2t` is on its way into the first buffers. -/
def Inv (t : Nat) (x : Carry F) : sProp 𝕄 :=
  iprop(∃ f : Acc F, ⌜(⟨x.1, sums x, f⟩ : St F) = stN i X B (2 * t)⌝ ∗ accPt d i f
    ∗ PendB d i B cc0_scratch5.sem idx0 (2 * t) (bVal i B (2 * t)) q ∗ PendX d i X cc0_scratch7.sem row0 (2 * t) (xVal i X (2 * t)) q
    ∗ (∃ g, idx1.view.loc (thr d i) ↦{fullShare} g) ∗ (∃ g, row1.view.loc (thr d i) ↦{fullShare} g)
    ∗ bPt d i q' B ∗ xPt d i q' X
    ∗ semVal (thr d i, .dma cc0_scratch6.sem) 0 ∗ semVal (thr d i, .dma cc0_scratch8.sem) 0
    ∗ Ow (thr d i) O Ws ∗ Transfers.MayWaits (thr d i) (none : HIx 1) O)

theorem off19 (t : Fin k0_t2_loop.trips) : k0_off19 i t = ![blk i (2 * t.val + 1), 0] := by
  rw [Gen.k0_off19_eq]
  have : min (2 * (i 1).val + (i 0).val + 64 * t.val + 32) 3125 = blk i (2 * t.val + 1) := by unfold blk wN; congr 1; omega
  rw [← this]
theorem off20 (t : Fin k0_t2_loop.trips) : k0_off20 i t = ![strt i (2 * t.val + 1), 0] := by
  rw [Gen.k0_off20_eq]
  have : min (2 * (i 1).val + (i 0).val + 64 * t.val + 32) 3125 = blk i (2 * t.val + 1) := by unfold blk wN; congr 1; omega
  rw [this]; rfl
theorem off21 (t : Fin k0_t2_loop.trips) : k0_off21 i t = ![blk i (2 * t.val + 2), 0] := by
  rw [Gen.k0_off21_eq]
  have : min (2 * (i 1).val + (i 0).val + 64 * t.val + 64) 3125 = blk i (2 * t.val + 2) := by unfold blk wN; congr 1; omega
  rw [← this]
theorem off22 (t : Fin k0_t2_loop.trips) : k0_off22 i t = ![strt i (2 * t.val + 2), 0] := by
  rw [Gen.k0_off22_eq]
  have : min (2 * (i 1).val + (i 0).val + 64 * t.val + 64) 3125 = blk i (2 * t.val + 2) := by unfold blk wN; congr 1; omega
  rw [this]; rfl
theorem off17 : k0_off17 i = ![blk i 0, 0] := by
  rw [Gen.k0_off17_eq]
  have h1 : (i 1).val < 16 := (i 1).isLt
  have h0 : (i 0).val < 2 := (i 0).isLt
  have : 2 * (i 1).val + (i 0).val = blk i 0 := by unfold blk wN; omega
  rw [← this]
theorem off18 : k0_off18 i = ![strt i 0, 0] := by
  rw [Gen.k0_off18_eq]
  have h1 : (i 1).val < 16 := (i 1).isLt
  have h0 : (i 0).val < 2 := (i 0).isLt
  have : 64 * (i 1).val + 32 * (i 0).val = strt i 0 := by unfold strt blk wN; omega
  rw [← this]

/-- A trip. -/
theorem wp_trip (hB : ∀ j, (B j).toNat < 264) (t : Fin k0_t2_loop.trips) (x : Carry F) :
    Inv d i O Ws q q' X B t.val x ⊢ Wp d i (trip i groups t x) (Inv d i O Ws q q' X B (t.val + 1)) := by
  have hI0 : ∀ k, idx0.view.read (Elt F) (bVal i B k) = bVal i B k := fun k => View.read_whole _ _
  have hI1 : ∀ k, idx1.view.read (Elt F) (bVal i B k) = bVal i B k := fun k => View.read_whole _ _
  have hR0 : ∀ k, row0.view.read (Elt F) (xVal i X k) = xVal i X k := fun k => View.read_whole _ _
  have hR1 : ∀ k, row1.view.read (Elt F) (xVal i X k) = xVal i X k := fun k => View.read_whole _ _
  unfold Inv
  iintro ⟨%f, %hst, Ha, Hpb, Hpx, ⟨%g1, Hi1⟩, ⟨%g2, Hr1⟩, Hb, Hx, Hs6, Hs8, HO, #Hm⟩
  have hp : Chk groups x.1 := by
    have := chk_st hB i X (2 * t.val)
    rw [← hst] at this; exact this
  rw [trip]
  iapply (wp_check d i hp)
  iapply (wp_issueB d i B (2 * t.val + 1) (off19 i t) (View.write_whole_univ _ _ _)) $$ [Hb Hi1 Hs6]
  · isplitl [Hb]; · iexact Hb
    isplitl [Hi1]; · iexact Hi1
    iexact Hs6
  iintro Hpb1
  iapply (wp_issueX d i X (2 * t.val + 1) (off20 i t) (View.write_whole_univ _ _ _)) $$ [Hx Hr1 Hs8]
  · isplitl [Hx]; · iexact Hx
    isplitl [Hr1]; · iexact Hr1
    iexact Hs8
  iintro Hpx1
  iapply (wp_awaitB d i O Ws B) $$ [Hpb HO]
  · isplitl [Hpb]; · iexact Hpb
    isplitl [HO]; · iexact HO
    iexact Hm
  iintro ⟨Hi0, Hb, Hs5, HO⟩
  iapply (wp_awaitX d i O Ws X) $$ [Hpx HO]
  · isplitl [Hpx]; · iexact Hpx
    isplitl [HO]; · iexact HO
    iexact Hm
  iintro ⟨Hr0, Hx, Hs7, HO⟩
  iapply (wp_rowsA d i (hI0 _) (hR0 _) (chk_seg hB i (2 * t.val)) rows32 ⟨x.1, sums x, f⟩ hp (chk_rows (chk_seg hB i (2 * t.val)) _ _ hp)) $$ [Ha Hi0 Hr0]
  · isplitl [Ha]; · iexact Ha
    isplitl [Hi0] <;> iassumption
  iintro ⟨Ha, Hi0, Hr0⟩
  iapply (wp_issueB d i B (2 * t.val + 2) (off21 i t) (View.write_whole_univ _ _ _)) $$ [Hb Hi0 Hs5]
  · isplitl [Hb]; · iexact Hb
    isplitl [Hi0]; · iexact Hi0
    iexact Hs5
  iintro Hpb
  iapply (wp_issueX d i X (2 * t.val + 2) (off22 i t) (View.write_whole_univ _ _ _)) $$ [Hx Hr0 Hs7]
  · isplitl [Hx]; · iexact Hx
    isplitl [Hr0]; · iexact Hr0
    iexact Hs7
  iintro Hpx
  iapply (wp_awaitB d i O Ws B) $$ [Hpb1 HO]
  · isplitl [Hpb1]; · iexact Hpb1
    isplitl [HO]; · iexact HO
    iexact Hm
  iintro ⟨Hi1, Hb, Hs6, HO⟩
  iapply (wp_awaitX d i O Ws X) $$ [Hpx1 HO]
  · isplitl [Hpx1]; · iexact Hpx1
    isplitl [HO]; · iexact HO
    iexact Hm
  iintro ⟨Hr1, Hx, Hs8, HO⟩
  have hp1 := chk_rows (R := xVal i X (2 * t.val)) (chk_seg hB i (2 * t.val)) rows32 ⟨x.1, sums x, f⟩ hp
  iapply (wp_rowsA d i (hI1 _) (hR1 _) (chk_seg hB i (2 * t.val + 1)) rows31 _ hp1 (chk_rows (chk_seg hB i (2 * t.val + 1)) _ _ hp1)) $$ [Ha Hi1 Hr1]
  · isplitl [Ha]; · iexact Ha
    isplitl [Hi1] <;> iassumption
  iintro ⟨Ha, Hi1, Hr1⟩
  iapply (wp_rowB d i (hI1 _) (hR1 _) (chk_rows (chk_seg hB i (2 * t.val + 1)) _ _ hp1)) $$ [Ha Hi1 Hr1]
  · isplitl [Ha]; · iexact Ha
    isplitl [Hi1] <;> iassumption
  iintro ⟨Ha, Hi1, Hr1⟩
  rw [Prog.pure_eq_ret]
  unfold Wp
  rw [wp_ret]
  imodintro
  have h1 : rowF groups (bVal i B (2 * t.val + 1)) (xVal i X (2 * t.val + 1)) (rowsF groups (bVal i B (2 * t.val + 1)) (xVal i X (2 * t.val + 1)) rows31
      (rowsF groups (bVal i B (2 * t.val)) (xVal i X (2 * t.val)) rows32 ⟨x.1, sums x, f⟩)) 31 = stN i X B (2 * t.val + 2) := by rw [hst]; rfl
  rw [h1]
  have hl := stN_length i X B (2 * t.val + 2)
  have h2 : 2 * (t.val + 1) = 2 * t.val + 2 := by omega
  rw [h2]
  iexists (stN i X B (2 * t.val + 2)).f
  isplitr
  · ipureintro
    rw [pack_fst hl, sums_pack hl]
  isplitl [Ha]; · iexact Ha
  isplitl [Hpb]; · iexact Hpb
  isplitl [Hpx]; · iexact Hpx
  isplitl [Hi1]; · iexists _; iexact Hi1
  isplitl [Hr1]; · iexists _; iexact Hr1
  isplitl [Hb]; · iexact Hb
  isplitl [Hx]; · iexact Hx
  isplitl [Hs6]; · iexact Hs6
  isplitl [Hs8]; · iexact Hs8
  isplitl [HO]; · iexact HO
  iexact Hm

/-- A loop at the head of a program, its trip count a given number. -/
theorem wp_loop {β σ : Type} (l : Scf.Loop 32) (hok : l.OK) (init : σ) (body : Fin l.trips → σ → Prog (TE F i) σ) (I : Nat → σ → sProp 𝕄)
    (hbody : ∀ k x, I k.val x ⊢ Wp d i (body k x) (I (k.val + 1))) (n : Nat) (hn : l.trips = n) {kk : σ → Prog (TE F i) β} {Q : β → sProp 𝕄} :
    I 0 init ⊢ iprop((∀ x, I n x -∗ Wp d i (kk x) Q) -∗ Wp d i (Scf.Loop.for l hok init body >>= kk) Q) := by
  subst hn
  exact Scf.wp_for_bind frame (wpE (defs₀ (F := F)) 𝒱₀ (thr d i) none) Set.univ l.lb l.ub l.st hok init body I hbody

theorem trips2 : k0_t2_loop.trips = 49 := by
  simp [Scf.trips, k0_t2_loop, Scalar.addi, IntOp.addi]

/-- The values the loop starts with. -/
theorem start_eq : (⟨broadcast S16 256#32, sums (F := F) (broadcast S16 256#32, zeros, zeros, zeros, zeros, zeros, zeros, zeros, zeros, zeros, zeros, zeros, zeros,
    zeros, zeros, zeros, zeros), (st0 (F := F)).f⟩ : St F) = st0 := by
  simp only [st0, List.replicate]

/-- The copies, the loop over the blocks, and the last scatters. -/
theorem wp_mid (hB : ∀ j, (B j).toNat < 264) {Q : PUnit → sProp 𝕄} {f0 : Buf (Elt F) (idx0.view.loc (thr d i))} {f2 : Buf (Elt F) (row0.view.loc (thr d i))} :
    iprop(accPt d i (st0 (F := F)).f ∗ (idx0.view.loc (thr d i) ↦{fullShare} f0) ∗ (∃ g, idx1.view.loc (thr d i) ↦{fullShare} g)
        ∗ (row0.view.loc (thr d i) ↦{fullShare} f2) ∗ (∃ g, row1.view.loc (thr d i) ↦{fullShare} g)
        ∗ bPt d i q B ∗ bPt d i q' B ∗ xPt d i q X ∗ xPt d i q' X
        ∗ semVal (thr d i, .dma cc0_scratch5.sem) 0 ∗ semVal (thr d i, .dma cc0_scratch6.sem) 0
        ∗ semVal (thr d i, .dma cc0_scratch7.sem) 0 ∗ semVal (thr d i, .dma cc0_scratch8.sem) 0
        ∗ Ow (thr d i) O Ws ∗ Transfers.MayWaits (thr d i) (none : HIx 1) O)
      ⊢ iprop((iprop(accPt d i (accN i X B) ∗ (idx0.view.loc (thr d i) ↦{fullShare} bVal i B 98) ∗ (∃ g, idx1.view.loc (thr d i) ↦{fullShare} g)
            ∗ PendX d i X cc0_scratch7.sem row0 98 (xVal i X 98) q ∗ (∃ g, row1.view.loc (thr d i) ↦{fullShare} g)
            ∗ bPt d i q B ∗ bPt d i q' B ∗ xPt d i q' X
            ∗ semVal (thr d i, .dma cc0_scratch5.sem) 0 ∗ semVal (thr d i, .dma cc0_scratch6.sem) 0 ∗ semVal (thr d i, .dma cc0_scratch8.sem) 0
            ∗ Ow (thr d i) O Ws ∗ Transfers.MayWaits (thr d i) (none : HIx 1) O) -∗ Q ⟨⟩)
        -∗ Wp d i (mid i groups zeros) Q) := by
  iintro ⟨Ha, Hi0, Hi1, Hr0, Hr1, Hb, Hb', Hx, Hx', Hs5, Hs6, Hs7, Hs8, HO, #Hm⟩ Hk
  rw [mid]
  iapply (wp_issueB d i B 0 (off17 i) (View.write_whole_univ _ _ _)) $$ [Hb Hi0 Hs5]
  · isplitl [Hb]; · iexact Hb
    isplitl [Hi0]; · iexact Hi0
    iexact Hs5
  iintro Hpb
  iapply (wp_issueX d i X 0 (off18 i) (View.write_whole_univ _ _ _)) $$ [Hx Hr0 Hs7]
  · isplitl [Hx]; · iexact Hx
    isplitl [Hr0]; · iexact Hr0
    iexact Hs7
  iintro Hpx
  iapply (wp_loop d i k0_t2_loop Facts₀.k0_t2_ok _ (trip i groups) (Inv d i O Ws q q' X B) (wp_trip d i O Ws q q' X B hB) 49 trips2)
    $$ [Ha Hpb Hpx Hi1 Hr1 Hb' Hx' Hs6 Hs8 HO]
  · unfold Inv
    iexists (st0 (F := F)).f
    isplitr
    · ipureintro
      rw [Nat.mul_zero]
      exact start_eq
    isplitl [Ha]; · iexact Ha
    isplitl [Hpb]; · iexact Hpb
    isplitl [Hpx]; · iexact Hpx
    isplitl [Hi1]; · iexact Hi1
    isplitl [Hr1]; · iexact Hr1
    isplitl [Hb']; · iexact Hb'
    isplitl [Hx']; · iexact Hx'
    isplitl [Hs6]; · iexact Hs6
    isplitl [Hs8]; · iexact Hs8
    isplitl [HO]; · iexact HO
    iexact Hm
  iintro %x Hinv
  unfold Inv
  icases Hinv with ⟨%f, %hst, Ha, Hpb, Hpx, Hi1, Hr1, Hb', Hx', Hs6, Hs8, HO, -⟩
  have hp : Chk groups x.1 := by
    have := chk_st hB i X (2 * 49)
    rw [← hst] at this; exact this
  iapply (wp_check d i hp)
  iapply (wp_flush d i groups.list hp.inb (sums x) f) $$ Ha
  have hacc : accF x.1 (fun _ => 1#1) groups.list (sums x) f = accN i X B := by
    show _ = accF (stN i X B (2 * 49)).p (fun _ => 1#1) groups.list (stN i X B (2 * 49)).u (stN i X B (2 * 49)).f
    rw [← hst]
  rw [hacc]
  iintro Ha
  iapply (wp_awaitB d i O Ws B) $$ [Hpb HO]
  · isplitl [Hpb]; · iexact Hpb
    isplitl [HO]; · iexact HO
    iexact Hm
  iintro ⟨Hi0, Hb, Hs5, HO⟩
  rw [Prog.pure_eq_ret]
  unfold Wp
  rw [wp_ret]
  imodintro
  iapply Hk
  isplitl [Ha]; · iexact Ha
  isplitl [Hi0]; · iexact Hi0
  isplitl [Hi1]; · iexact Hi1
  isplitl [Hpx]; · iexact Hpx
  isplitl [Hr1]; · iexact Hr1
  isplitl [Hb]; · iexact Hb
  isplitl [Hb']; · iexact Hb'
  isplitl [Hx']; · iexact Hx'
  isplitl [Hs5]; · iexact Hs5
  isplitl [Hs6]; · iexact Hs6
  isplitl [Hs8]; · iexact Hs8
  isplitl [HO]; · iexact HO
  iexact Hm

/-- The tile's slice of the output. -/
abbrev oSl : Memref sig .scVector .hbm S256x256 .f32 :=
  (oM.slice (Rect.unit (s := S32x256x256) (k0_off23 i) S1x256x256.size (Facts₀.k0_off23_inb i)) (fun _ => rfl)).squeeze S256x256 Facts₀.squeezes_S1x256x256_S256x256

/-- The accumulator's first 256 rows. -/
abbrev aSl : Memref sig .scVector .vmem S256x256 .f32 :=
  accM.slice (Rect.unit (s := S264x256) ![0, 0] S256x256.size Facts₀.inb_S264x256_S256x256_0_0) (fun _ => rfl)

/-- The whole tile. -/
theorem wp_tile (hB : ∀ j, (B j).toNat < 264) (Sd : Finset S32x256x256.Idx) (hSd : (oSl i).view.set ⊆ Sd) (fo G : Vec F S32x256x256 .f32)
    (hG : ∀ y ∈ Sd, (oSl i).view.write (Elt F) fo (aSl.view.read (Elt F) (accN i X B)) Finset.univ y = G y)
    {fa : Acc F} {f0 : Buf (Elt F) (idx0.view.loc (thr d i))} {f2 : Buf (Elt F) (row0.view.loc (thr d i))} {Q : PUnit → sProp 𝕄} :
    iprop(accPt d i fa ∗ (idx0.view.loc (thr d i) ↦{fullShare} f0) ∗ (∃ g, idx1.view.loc (thr d i) ↦{fullShare} g)
        ∗ (row0.view.loc (thr d i) ↦{fullShare} f2) ∗ (∃ g, row1.view.loc (thr d i) ↦{fullShare} g)
        ∗ bPt d i q B ∗ bPt d i q' B ∗ xPt d i q X ∗ xPt d i q' X ∗ (oM.view.loc (thr d i) ↦[Sd]{fullShare} fo)
        ∗ semVal (thr d i, .dma cc0_scratch5.sem) 0 ∗ semVal (thr d i, .dma cc0_scratch6.sem) 0
        ∗ semVal (thr d i, .dma cc0_scratch7.sem) 0 ∗ semVal (thr d i, .dma cc0_scratch8.sem) 0 ∗ semVal (thr d i, .dma cc0_scoped0.sem) 0
        ∗ Ow (thr d i) O Ws ∗ Transfers.MayWaits (thr d i) (none : HIx 1) O)
      ⊢ iprop((iprop(accPt d i (accN i X B) ∗ (∃ g, idx0.view.loc (thr d i) ↦{fullShare} g) ∗ (∃ g, idx1.view.loc (thr d i) ↦{fullShare} g)
            ∗ (∃ g, row0.view.loc (thr d i) ↦{fullShare} g) ∗ (∃ g, row1.view.loc (thr d i) ↦{fullShare} g)
            ∗ bPt d i q B ∗ bPt d i q' B ∗ xPt d i q X ∗ xPt d i q' X ∗ (oM.view.loc (thr d i) ↦[Sd]{fullShare} G)
            ∗ semVal (thr d i, .dma cc0_scratch5.sem) 0 ∗ semVal (thr d i, .dma cc0_scratch6.sem) 0
            ∗ semVal (thr d i, .dma cc0_scratch7.sem) 0 ∗ semVal (thr d i, .dma cc0_scratch8.sem) 0 ∗ semVal (thr d i, .dma cc0_scoped0.sem) 0
            ∗ Ow (thr d i) O Ws) -∗ Q ⟨⟩)
        -∗ Wp d i (tile i) Q) := by
  iintro ⟨Ha, Hi0, Hi1, Hr0, Hr1, Hb, Hb', Hx, Hx', Ho, Hs5, Hs6, Hs7, Hs8, Hs0, HO, #Hm⟩ Hk
  rw [tile]
  iapply (wp_zeroing d i) $$ Ha
  iintro Ha
  unfold Wp
  rw [wp_bind]
  iapply (wp_mid d i O Ws q q' X B hB) $$ [Ha Hi0 Hi1 Hr0 Hr1 Hb Hb' Hx Hx' Hs5 Hs6 Hs7 Hs8 HO]
  · isplitl [Ha]; · iexact Ha
    isplitl [Hi0]; · iexact Hi0
    isplitl [Hi1]; · iexact Hi1
    isplitl [Hr0]; · iexact Hr0
    isplitl [Hr1]; · iexact Hr1
    isplitl [Hb]; · iexact Hb
    isplitl [Hb']; · iexact Hb'
    isplitl [Hx]; · iexact Hx
    isplitl [Hx']; · iexact Hx'
    isplitl [Hs5]; · iexact Hs5
    isplitl [Hs6]; · iexact Hs6
    isplitl [Hs7]; · iexact Hs7
    isplitl [Hs8]; · iexact Hs8
    isplitl [HO]; · iexact HO
    iexact Hm
  iintro ⟨Ha, Hi0, Hi1, Hpx, Hr1, Hb, Hb', Hx', Hs5, Hs6, Hs8, HO, -⟩
  iapply (wp_awaitX d i O Ws X) $$ [Hpx HO]
  · isplitl [Hpx]; · iexact Hpx
    isplitl [HO]; · iexact HO
    iexact Hm
  iintro ⟨Hr0, Hx, Hs7, HO⟩
  rw [lift_bind]
  iapply (wp_issue (thr d i) (src' := aSl) (dst := oSl i) (fs := accN i X B) (fd := fo) rfl (View.amount_pos (s := S256x256) (oSl i).view _ (by decide)) hSd rfl) $$ [Ha Ho Hs0]
  · isplitl [Ha]; · iexact Ha
    isplitl [Ho]; · iexact Ho
    iexact Hs0
  iintro Hp
  rw [lift_bind]
  iapply (wp_await (thr d i) (dst := oSl i) rfl) $$ [Hp HO]
  · isplitl [Hp]; · iexact Hp
    isplitl [HO]; · iexact HO
    iexact Hm
  iintro ⟨Ho, Ha, Hs0, HO⟩
  rw [Prog.pure_eq_ret, wp_ret]
  imodintro
  iapply Hk
  isplitl [Ha]; · iexact Ha
  isplitl [Hi0]; · iexists _; iexact Hi0
  isplitl [Hi1]; · iexact Hi1
  isplitl [Hr0]; · iexists _; iexact Hr0
  isplitl [Hr1]; · iexact Hr1
  isplitl [Hb]; · iexact Hb
  isplitl [Hb']; · iexact Hb'
  isplitl [Hx]; · iexact Hx
  isplitl [Hx']; · iexact Hx'
  isplitl [Ho]
  · iapply (Entails.of_eq (pointsTo_congr hG))
    iexact Ho
  isplitl [Hs5]; · iexact Hs5
  isplitl [Hs6]; · iexact Hs6
  isplitl [Hs7]; · iexact Hs7
  isplitl [Hs8]; · iexact Hs8
  isplitl [Hs0]; · iexact Hs0
  iexact HO

end

end Cert.SegSum
-- ==== Proof.Share.lean ====
/- The tiles' parts of the output array: where a tile's slice lies, what it holds at the end, and how the slices of a
   SparseCore, and of all of them, make up the array. -/
module

public import proofs.«01_k».proof.Proof.Tile

@[expose] public section

noncomputable section

namespace Cert.SegSum

open Cert.KernelIdeal

open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- The grid point of a SparseCore and a subcore. -/
def pt (c : Fin (grid0.bound 0)) (s : Fin (grid0.bound 1)) : grid0.Coords :=
  fun | 0 => c | 1 => s | ⟨_ + 2, h⟩ => absurd h (Nat.not_lt.2 (Nat.le_add_left _ _))

/-- The grid point of the tile that writes row `w` of the output. -/
def ptOf (w : Fin 32) : grid0.Coords :=
  pt ⟨w.val % 2, Nat.mod_lt _ (by decide)⟩ ⟨w.val / 2, by have := w.isLt; change _ < 16; omega⟩

theorem pt_zero (c : Fin (grid0.bound 0)) (s : Fin (grid0.bound 1)) : ((pt c s) 0).val = c.val := rfl
theorem pt_one (c : Fin (grid0.bound 0)) (s : Fin (grid0.bound 1)) : ((pt c s) 1).val = s.val := rfl

theorem wN_ptOf (w : Fin 32) : wN (ptOf w) = w.val := by
  show 2 * (w.val / 2) + w.val % 2 = w.val
  omega

theorem wN_pt (c : Fin (grid0.bound 0)) (s : Fin (grid0.bound 1)) : wN (pt c s) = 2 * s.val + c.val := rfl

theorem ptOf_eq (w : Fin 32) (c : Fin (grid0.bound 0)) (s : Fin (grid0.bound 1)) (h : w.val = 2 * s.val + c.val) : ptOf w = pt c s := by
  have hc : c.val < 2 := c.isLt
  unfold ptOf
  congr 1
  · apply Fin.ext; show w.val % 2 = c.val; omega
  · apply Fin.ext; show w.val / 2 = s.val; omega

/-- The accumulator's element at row `r`, column `k`. -/
def accIx (r k : Fin 256) : S264x256.Idx :=
  fun | 0 => ⟨r.val, Nat.lt_of_lt_of_le r.isLt (by decide)⟩ | 1 => k | ⟨_ + 2, h⟩ => absurd h (Nat.not_lt.2 (Nat.le_add_left _ _))

/-- The slice's element at row `r`, column `k`. -/
def slIx (r k : Fin 256) : S256x256.Idx :=
  fun | 0 => r | 1 => k | ⟨_ + 2, h⟩ => absurd h (Nat.not_lt.2 (Nat.le_add_left _ _))

/-- What the output array holds once every tile has written its slice. -/
def part [FloatOps F] (X : Vec F S100000x256 .f32) (B : Vec F S3126x512 .i32) : Vec F S32x256x256 .f32 := fun y =>
  accN (ptOf (y 0)) X B (accIx (y 1) (y 2))

/-- The elements of the output that the tile at `c`, `s` writes. -/
def tSet (c : Fin (grid0.bound 0)) (s : Fin (grid0.bound 1)) : Finset S32x256x256.Idx :=
  Finset.univ.filter fun y => (y 0).val = 2 * s.val + c.val

/-- Those the tiles of SparseCore `c` write. -/
def cSet (c : Fin (grid0.bound 0)) : Finset S32x256x256.Idx := Finset.univ.biUnion (tSet c)

theorem mem_tSet {c : Fin (grid0.bound 0)} {s : Fin (grid0.bound 1)} {y : S32x256x256.Idx} :
    y ∈ tSet c s ↔ (y 0).val = 2 * s.val + c.val := by simp [tSet]

theorem mem_cSet {c : Fin (grid0.bound 0)} {y : S32x256x256.Idx} : y ∈ cSet c ↔ (y 0).val % 2 = c.val := by
  have hc : c.val < 2 := c.isLt
  unfold cSet
  rw [Finset.mem_biUnion]
  constructor
  · rintro ⟨s, -, h⟩
    have := mem_tSet.1 h
    omega
  · intro h
    have hy : (y 0).val < 32 := (y 0).isLt
    refine ⟨⟨(y 0).val / 2, by change _ < 16; omega⟩, Finset.mem_univ _, mem_tSet.2 ?_⟩
    show (y 0).val = 2 * ((y 0).val / 2) + c.val
    omega

theorem tSet_disjoint (c : Fin (grid0.bound 0)) :
    ∀ s ∈ (Finset.univ : Finset (Fin (grid0.bound 1))), ∀ s' ∈ (Finset.univ : Finset (Fin (grid0.bound 1))), s ≠ s' → Disjoint (tSet c s) (tSet c s') := by
  intro s _ s' _ h
  refine Finset.disjoint_left.2 fun y hy hy' => h (Fin.ext ?_)
  have := mem_tSet.1 hy
  have := mem_tSet.1 hy'
  omega

theorem cSet_disjoint :
    ∀ c ∈ (Finset.univ : Finset (Fin (grid0.bound 0))), ∀ c' ∈ (Finset.univ : Finset (Fin (grid0.bound 0))), c ≠ c' → Disjoint (cSet c) (cSet c') := by
  intro c _ c' _ h
  refine Finset.disjoint_left.2 fun y hy hy' => h (Fin.ext ?_)
  rw [← mem_cSet.1 hy, ← mem_cSet.1 hy']

theorem cSet_cover : (Finset.univ : Finset (Fin (grid0.bound 0))).biUnion cSet = Finset.univ := by
  refine Finset.eq_univ_of_forall fun y => ?_
  rw [Finset.mem_biUnion]
  exact ⟨⟨(y 0).val % 2, Nat.mod_lt _ (by decide)⟩, Finset.mem_univ _, mem_cSet.2 rfl⟩

variable (i : grid0.Coords)

/-- Where an element of a tile's slice lies. -/
theorem oSl_emb (z : S256x256.Idx) : ∀ a, ((oSl i).view.emb z a).val = (![wN i, (z 0).val, (z 1).val] : Fin 3 → ℕ) a := by
  intro a
  show (((Rect.unit (s := S32x256x256) (k0_off23 i) S1x256x256.size (Facts₀.k0_off23_inb i)).emb
    (Shape.reshapeEquiv _ z)) a).val = _
  rw [Shape.reshapeEquiv_cons_one]
  have h := congrFun (Gen.k0_off23_eq i)
  match a with
  | 0 => have h0 := h 0; show (k0_off23 i) 0 + 1 * 0 = wN i; rw [h0]; show wN i + 1 * 0 = wN i; omega
  | 1 => have h1 := h 1; show (k0_off23 i) 1 + 1 * (z 0).val = (z 0).val; rw [h1]; show 0 + 1 * (z 0).val = (z 0).val; omega
  | 2 => have h2 := h 2; show (k0_off23 i) 2 + 1 * (z 1).val = (z 1).val; rw [h2]; show 0 + 1 * (z 1).val = (z 1).val; omega

theorem oSl_sub (c : Fin (grid0.bound 0)) (s : Fin (grid0.bound 1)) : (oSl (pt c s)).view.set ⊆ tSet c s := by
  intro y hy
  obtain ⟨z, -, rfl⟩ := Finset.mem_map.1 hy
  exact mem_tSet.2 (oSl_emb (pt c s) z 0)

theorem aSl_read [FloatOps F] (f : Acc F) (r k : Fin 256) : aSl.view.read (Elt F) f (slIx r k) = f (accIx r k) := by
  refine (View.read_apply _ _).trans ((cast_eq _ _).trans (congrArg f ?_))
  funext a
  apply Fin.ext
  match a with
  | 0 => show 0 + 1 * r.val = r.val; omega
  | 1 => show 0 + 1 * k.val = k.val; omega

theorem oSl_write [FloatOps F] (X : Vec F S100000x256 .f32) (B : Vec F S3126x512 .i32) (fo : Vec F S32x256x256 .f32)
    (c : Fin (grid0.bound 0)) (s : Fin (grid0.bound 1)) (y : S32x256x256.Idx) (hy : y ∈ tSet c s) :
    (oSl (pt c s)).view.write (Elt F) fo (aSl.view.read (Elt F) (accN (pt c s) X B)) Finset.univ y = part X B y := by
  have hy' := mem_tSet.1 hy
  have e : y = (oSl (pt c s)).view.emb (slIx (y 1) (y 2)) := by
    funext a
    apply Fin.ext
    rw [oSl_emb]
    match a with
    | 0 => exact hy'
    | 1 => rfl
    | 2 => rfl
  conv_lhs => rw [e]
  refine (View.write_emb_of_mem (v := (oSl (pt c s)).view) (Val := Elt F) fo _ (Finset.mem_univ (slIx (y 1) (y 2)))).trans ?_
  refine (cast_eq _ _).trans ?_
  refine (aSl_read _ (y 1) (y 2)).trans ?_
  unfold part
  rw [ptOf_eq (y 0) c s hy']

end Cert.SegSum
-- ==== Proof.Steps.lean ====
/- Steps for walking two programs side by side, one operation at a time: the laws of a program's sequencing, and the
   unfolding of each piece of the tile's program by one operation. -/
module

public import proofs.«01_k».proof.Proof.Program

@[expose] public section

noncomputable section

namespace Cert.SegSum

open Idealize.ShloMosaic Idealize.SL.Sem
open Cert.KernelIdeal Cert.KernelIdeal.Facts₀ Cert.KernelIdeal.Facts

variable {F : FTy → Type} [FloatOps F] [Facts]

/-! ## The printed body is this program -/

section
universe u
variable {E : Type → Type u} {α β γ : Type}

theorem assoc_step {a : Prog E β} {b : β → Prog E γ} {k : γ → Prog E α} {r : Prog E α}
    (h : (a >>= fun x => b x >>= k) = r) : ((a >>= b) >>= k) = r := by
  rw [bind_assoc, h]

theorem pure_step {v : β} {k : β → Prog E α} {r : Prog E α} (h : k v = r) : (pure v >>= k) = r := by
  rw [pure_bind, h]

theorem pure2_step {v : β} {k : β → Prog E γ} {j : γ → Prog E α} {r : Prog E α} (h : (k v >>= j) = r) : ((pure v >>= k) >>= j) = r := by
  rw [pure_bind, h]

theorem head_step {p p' : Prog E β} {k k' : β → Prog E α} (hp : p = p') (h : ∀ x, k x = k' x) : (p >>= k) = (p' >>= k') := by
  rw [hp, funext h]

theorem head2_step {p p' : Prog E β} {b : β → Prog E γ} {k : γ → Prog E α} {k' : β → Prog E α}
    (hp : p = p') (h : ∀ x, (b x >>= k) = k' x) : ((p >>= b) >>= k) = (p' >>= k') := by
  rw [hp, bind_assoc, funext h]

theorem head3_step {δ : Type} {p p' : Prog E β} {b : β → Prog E γ} {k : γ → Prog E δ} {j : δ → Prog E α} {k' : β → Prog E α}
    (hp : p = p') (h : ∀ x, ((b x >>= k) >>= j) = k' x) : (((p >>= b) >>= k) >>= j) = (p' >>= k') := by
  rw [hp, bind_assoc, bind_assoc, ← funext h]; simp only [bind_assoc]

theorem for_congr {w : Nat} {σ : Type} {lb ub st : BitVec w} {hok : Scf.OK lb ub st} {init : σ}
    {f g : Fin (Scf.trips lb ub st) → σ → Prog E σ} (h : ∀ t x, f t x = g t x) :
    Scf.for lb ub st hok init f = Scf.for lb ub st hok init g := by
  rw [funext fun t => funext (h t)]

end

section
variable {i : grid0.Coords} {β : Type} {buf : Memref sig .scVector .vmem S32x256 .f32} {ib : Memref sig .scVector .vmem S512 .i32}
  {r : Fin 32} {prev : W} {m : IVec S16 1} {c : Fin 16 × W} {cs : List (Fin 16 × W)} {a : V F} {u : List (V F)} {C : Cols}
  {hp : Chk C prev} {rs : List (Fin 32)} {l : Prog (TE F i) β}

theorem cols_nil {h : ∀ c ∈ ([] : List (Fin 16 × W)), Inb prev c.2} {k : List (V F) → Prog (TE F i) β} (hl : l = k []) :
    l = cols i buf r prev m [] h u k := hl

theorem cols_step {h : ∀ d ∈ c :: cs, Inb prev d.2} {k : List (V F) → Prog (TE F i) β}
    (hl : l = ((SparseCore.vectorStoreIdx accM ![prev, c.2] a m true (h c (List.mem_cons_self ..)) (View.stores_vmem_bits_univ h_S264x256 rfl) : Prog (TE F i) PUnit) >>= fun _ =>
      Prog.lift (.load buf (Rect.unit (s := S32x256) ![r.val, 16 * c.1.val] S1x16.size (row_inb r c.1)).toLoadRect (View.loadsAt_vmem h_S1x16)) >>= fun (ld : Vec F S1x16 .f32) =>
      cols i buf r prev m cs (fun c hc => h c (List.mem_cons_of_mem _ hc)) u fun rs =>
        k (select m (shapeCast S16 ld shapeCasts_S1x16_S16) (addf a (shapeCast S16 ld shapeCasts_S1x16_S16)) :: rs))) :
    l = cols i buf r prev m (c :: cs) h (a :: u) k := hl

theorem rowA_step {k : (s : W) → Chk C s → List (V F) → Prog (TE F i) β}
    (hl : l = (Prog.lift (.load ib (Rect.unit (s := S512) ![16 * r.val] S16.size (seg_inb r)).toLoadRect (View.loadsAt_vmem h_S16)) >>= fun (seg : Vec F S16 .i32) =>
      Prog.lift (TpuEff.assume (Chk C seg) (Chk.dec C seg)) >>= fun h =>
      cols i buf r prev (cmpi .ne seg prev) C.list hp.inb u fun rs => k seg h.down rs)) :
    l = rowA i C ib buf r prev hp u k := hl

theorem rowB_step {k : (s : W) → List (V F) → Prog (TE F i) β}
    (hl : l = (Prog.lift (.load ib (Rect.unit (s := S512) ![16 * r.val] S16.size (seg_inb r)).toLoadRect (View.loadsAt_vmem h_S16)) >>= fun (seg : Vec F S16 .i32) =>
      cols i buf r prev (cmpi .ne seg prev) C.list hp.inb u fun rs => k seg rs)) :
    l = rowB i C ib buf r prev hp u k := hl

theorem rowsA_nil {k : (s : W) → Chk C s → List (V F) → Prog (TE F i) β} (hl : l = k prev hp u) :
    l = rowsA i C ib buf [] prev hp u k := hl

theorem rowsA_step {k : (s : W) → Chk C s → List (V F) → Prog (TE F i) β}
    (hl : l = rowA i C ib buf r prev hp u fun s hs u' => rowsA i C ib buf rs s hs u' k) :
    l = rowsA i C ib buf (r :: rs) prev hp u k := hl

theorem flush_nil {h : ∀ c ∈ ([] : List (Fin 16 × W)), Inb prev c.2} {k : Prog (TE F i) β} (hl : l = k) :
    l = flush i prev [] h u k := hl

theorem flush_step {h : ∀ d ∈ c :: cs, Inb prev d.2} {k : Prog (TE F i) β}
    (hl : l = ((SparseCore.vectorStoreIdx accM ![prev, c.2] a (fun _ => 1#1) true (h c (List.mem_cons_self ..)) (View.stores_vmem_bits_univ h_S264x256 rfl) : Prog (TE F i) PUnit) >>= fun _ =>
      flush i prev cs (fun c hc => h c (List.mem_cons_of_mem _ hc)) u k)) :
    l = flush i prev (c :: cs) h (a :: u) k := hl

theorem zero_nil {z : V F} {l : Prog (TE F i) PUnit} (hl : l = pure ⟨⟩) : l = zeroAt i z [] := hl

theorem zero_step {z : V F} {o : Place} {os : List Place} {l : Prog (TE F i) PUnit}
    (hl : l = (Prog.lift (.load accM (Rect.unit (s := S264x256) o.1 S1x16.size o.2).toLoadRect (View.loadsAt_vmem h_S1x16)) >>= fun (_ : Vec F S1x16 .f32) =>
      Prog.lift (.store accM (Rect.unit (s := S264x256) o.1 S1x16.size o.2) (shapeCast S1x16 z shapeCasts_S16_S1x16) Finset.univ (View.stores_vmem_bits_univ h_S1x16 rfl) (.inl rfl)) >>= fun _ =>
      zeroAt i z os)) :
    l = zeroAt i z (o :: os) := hl

end

end Cert.SegSum
-- ==== Proof.Walk.lean ====
/- The printed main part of the SparseCore kernel is the program `mid`: the two are walked in step, one operation of the
   printed part at a time. -/
module

public import proofs.«01_k».proof.Proof.Steps

@[expose] public section

noncomputable section

namespace Cert.SegSum

open Idealize.ShloMosaic Idealize.SL.Sem
open Cert.KernelIdeal Cert.KernelIdeal.Facts₀ Cert.KernelIdeal.Facts

variable {F : FTy → Type} [FloatOps F] [Facts]

set_option maxHeartbeats 0 in
set_option pp.maxSteps 150 in
set_option maxRecDepth 1000000 in
theorem part147_eq (i : grid0.Coords) (v1 : BitVec 32) (v2 : V F) (v4 v6 v8 v10 v12 v14 v16 v18 v20 v22 v24 v26 v28 v30 v32 v34 : W) :
    k0_part147 i xM (Memref.isWhole_whole _) bM (Memref.isWhole_whole _) oM (Memref.isWhole_whole _) idx0 (Memref.isWhole_whole _)
      idx1 (Memref.isWhole_whole _) row0 (Memref.isWhole_whole _) row1 (Memref.isWhole_whole _) accM (Memref.isWhole_whole _)
      cc0_scratch5 cc0_scratch6 cc0_scratch7 cc0_scratch8 cc0_scoped0 v1 v2 v4 v6 v8 v10 v12 v14 v16 v18 v20 v22 v24 v26 v28 v30 v32 v34
    = mid (F := F) i ⟨v6, v8, v10, v12, v14, v16, v18, v20, v22, v24, v26, v28, v30, v32, v34, addi v4 (broadcast S16 240#32)⟩ v2 := by
  unfold k0_part147 mid
  refine head_step rfl fun _ => ?_
  refine head_step rfl fun _ => ?_
  refine head_step ?_ ?_
  · refine for_congr fun t x => ?_
    obtain ⟨x0, x1, x2, x3, x4, x5, x6, x7, x8, x9, x10, x11, x12, x13, x14, x15, x16⟩ := x
    unfold trip
    repeat
      fail_if_success with_reducible refine rowsA_step ?_
      first
      | refine head3_step (by exact rfl) fun _ => ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_nil ?_
    repeat
      fail_if_success with_reducible refine rowsA_step ?_
      first
      | with_reducible refine pure_step ?_
      | with_reducible refine pure2_step ?_
      | refine head3_step (by exact rfl) fun _ => ?_
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | with_reducible refine pure2_step ?_
      | refine head3_step (by exact rfl) fun _ => ?_
    with_reducible refine cols_nil ?_
    as_aux_lemma =>
    with_reducible refine rowsA_step (rowA_step ?_)
    repeat
      fail_if_success with_reducible refine pure_step ?_
      first
      | with_reducible refine cols_step ?_
      | with_reducible refine pure2_step ?_
      | refine head3_step (by exact rfl) fun _ => ?_
    with_reducible refine pure_step ?_
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_step (rowA_step ?_)
    repeat
      fail_if_success with_reducible refine cols_nil ?_
      first
      | with_reducible refine cols_step ?_
      | with_reducible refine pure_step ?_
      | refine head2_step (by exact rfl) fun _ => ?_
    with_reducible refine cols_nil ?_
    as_aux_lemma =>
    with_reducible refine rowsA_nil ?_
    with_reducible refine rowB_step ?_
    iterate 2
      repeat
        fail_if_success with_reducible refine pure_step ?_
        first
        | with_reducible refine cols_step ?_
        | refine head2_step (by exact rfl) fun _ => ?_
      with_reducible refine pure_step ?_
    repeat
      fail_if_success with_reducible refine cols_nil ?_
      first
      | with_reducible refine cols_step ?_
      | refine head_step (by exact rfl) fun _ => ?_
    with_reducible refine cols_nil ?_
    rfl
  · rintro ⟨x0, x1, x2, x3, x4, x5, x6, x7, x8, x9, x10, x11, x12, x13, x14, x15, x16⟩
    refine head_step rfl fun _ => ?_
    repeat
      with_reducible refine flush_step ?_
      refine head_step rfl fun _ => ?_
    with_reducible refine flush_nil ?_
    rfl

end Cert.SegSum
-- ==== Proof.Body.lean ====
/- The printed body of the SparseCore kernel is the program `tile`. -/
module

public import proofs.«01_k».proof.Proof.Walk

@[expose] public section

noncomputable section

namespace Cert.SegSum

open Idealize.ShloMosaic Idealize.SL.Sem
open Cert.KernelIdeal Cert.KernelIdeal.Facts₀ Cert.KernelIdeal.Facts

variable {F : FTy → Type} [FloatOps F] [Facts]

set_option maxRecDepth 100000 in
/-- The printed first part: the accumulator zeroed, and the lane numbers of the column groups. -/
theorem part146_eq (i : grid0.Coords) :
    k0_part146 (F := F) i xM (Memref.isWhole_whole _) bM (Memref.isWhole_whole _) oM (Memref.isWhole_whole _) idx0 (Memref.isWhole_whole _)
      idx1 (Memref.isWhole_whole _) row0 (Memref.isWhole_whole _) row1 (Memref.isWhole_whole _) accM (Memref.isWhole_whole _)
      cc0_scratch5 cc0_scratch6 cc0_scratch7 cc0_scratch8 cc0_scoped0
    = (Scf.Loop.for k0_t1_loop k0_t1_ok ⟨⟩ fun t _ => zeroAt i zeros (places t)) >>= fun _ =>
        pure ⟨Scalar.addi (Scalar.muli (BitVec.ofNat 32 (i 1).val) 2#32) (BitVec.ofNat 32 (i 0).val), zeros, lanes,
          groups.v6, groups.v8, groups.v10, groups.v12, groups.v14, groups.v16, groups.v18, groups.v20, groups.v22, groups.v24, groups.v26,
          groups.v28, groups.v30, groups.v32, groups.v34⟩ := by
  unfold k0_part146
  refine head_step ?_ fun _ => rfl
  refine for_congr fun t _ => ?_
  unfold k0_part1
  repeat
    first
    | with_reducible refine zero_step ?_
    | with_reducible refine zero_nil ?_
    | with_reducible refine pure_step ?_
    | refine head2_step (by exact rfl) fun _ => ?_
    | refine head_step (by exact rfl) fun _ => ?_
  rfl

/-- The printed body is `tile`. -/
theorem body_eq (i : grid0.Coords) :
    cc0_body (F := F) i xM (Memref.isWhole_whole _) bM (Memref.isWhole_whole _) oM (Memref.isWhole_whole _) idx0 (Memref.isWhole_whole _)
      idx1 (Memref.isWhole_whole _) row0 (Memref.isWhole_whole _) row1 (Memref.isWhole_whole _) accM (Memref.isWhole_whole _)
      cc0_scratch5 cc0_scratch6 cc0_scratch7 cc0_scratch8 cc0_scoped0
    = tile i := by
  unfold cc0_body tile
  refine (congrArg (· >>= _) (part146_eq i)).trans ?_
  refine assoc_step ?_
  refine head_step rfl fun _ => ?_
  refine pure_step ?_
  refine head_step (part147_eq i _ _ _ _ _ _ _ _ _ _ _ _ _ _ _ _ _ _) fun _ => ?_
  refine head_step (by exact rfl) fun _ => ?_
  refine head_step (by exact rfl) fun _ => ?_
  refine head_step (by exact rfl) fun _ => ?_
  rfl

end Cert.SegSum
-- ==== Proof.Tasks.lean ====
/- The tiles' tasks: what the launch hands a tile, what the tile hands back, and how a SparseCore's operands are split
   among its tiles and put together again. -/
module

public import proofs.«01_k».proof.Proof.Share
public import proofs.«01_k».proof.Proof.Body

@[expose] public section

noncomputable section

namespace Cert.SegSum

open Cert.KernelIdeal

open Idealize.ShloMosaic
open Idealize.ShloMosaic.SparseCore (V S)
open Idealize.ShloMosaic.SparseCore.Cfg
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The arrays and the shares of them -/

abbrev xLoc (d : Dev nD) : Loc nD τ sig := (SparseCore.T d).loc main_arg0
abbrev bLoc (d : Dev nD) : Loc nD τ sig := (SparseCore.T d).loc main_v10
abbrev oLoc (d : Dev nD) : Loc nD τ sig := (SparseCore.T d).loc main_v11

/-- A SparseCore's read share of an operand, and a tile's. -/
def qC (c : Fin (grid0.bound 0)) : PosShare TreeShare := Transfers.shareTok fullShare (grid0.bound 0) c
def qT (c : Fin (grid0.bound 0)) (s : Fin (grid0.bound 1)) : PosShare TreeShare := Transfers.shareTok (qC c) (grid0.bound 1) s

variable (X : Dev nD → Vec F S100000x256 .f32) (B : Dev nD → Vec F S3126x512 .i32) (O₀ : Dev nD → Vec F S32x256x256 .f32)

/-- A SparseCore's operands, its part of the output at `f`. -/
def coreRes (d : Dev nD) (c : Fin (grid0.bound 0)) (f : Vec F S32x256x256 .f32) : sProp 𝕄 :=
  iprop((bLoc d ↦{qC c} B d) ∗ (xLoc d ↦{qC c} X d) ∗ (oLoc d ↦[cSet c]{fullShare} f))

/-- A tile's operands, its part of the output at `f`. -/
def tileRes (d : Dev nD) (c : Fin (grid0.bound 0)) (s : Fin (grid0.bound 1)) (f : Vec F S32x256x256 .f32) : sProp 𝕄 :=
  iprop((bLoc d ↦{qT c s} B d) ∗ (xLoc d ↦{qT c s} X d) ∗ (oLoc d ↦[tSet c s]{fullShare} f))

/-- What the launch hands over and gets back. -/
def P : (K (F := F)).Pay (nD := nD) (Val := Elt F) (Name := ℕ) (U := UU) where
  st := fun q d c => match q, c with | 0, c => coreRes X B d c (O₀ d)
  dn := fun q d c => match q, c with | 0, c => coreRes X B d c (part (X d) (B d))
  go := fun q d c i => match q, c, i with | 0, c, i => tileRes X B d c i (O₀ d)
  td := fun q d c i => match q, c, i with | 0, c, i => tileRes X B d c i (part (X d) (B d))
  x := fun _ _ => iprop(emp)

instance coreRes_storable (d : Dev nD) (c : Fin (grid0.bound 0)) (f : Vec F S32x256x256 .f32) :
    BI.Storable (upEmb : UEmb _ 𝕄) (coreRes X B d c f) := by unfold coreRes; infer_instance
instance tileRes_storable (d : Dev nD) (c : Fin (grid0.bound 0)) (s : Fin (grid0.bound 1)) (f : Vec F S32x256x256 .f32) :
    BI.Storable (upEmb : UEmb _ 𝕄) (tileRes X B d c s f) := by unfold tileRes; infer_instance

instance P_storable : (P X B O₀).IsStorable where
  st q d c := match q, c with | 0, c => coreRes_storable X B d c _
  dn q d c := match q, c with | 0, c => coreRes_storable X B d c _
  go q d c i := match q, c, i with | 0, c, i => tileRes_storable X B d c i _
  td q d c i := match q, c, i with | 0, c, i => tileRes_storable X B d c i _

/-! ## A tile's own buffers and semaphores -/

section Own
variable (d : Dev nD) (i : grid0.Coords)

omit [FloatOps F] in
theorem devRef_ne {b b' : Ref sig .scVector} (h : b ≠ b') : Proc.devRef (τ := τ) (thr d i).2 b ≠ Proc.devRef (thr d i).2 b' :=
  fun e => h (Proc.devRef_injective _ e)

/-- The tile's other buffers. -/
def restBufs : sProp 𝕄 :=
  bigSep ((((((ownRefs (τ := τ) (thr d i).2).erase ((thr d i).2.devRef cc0_scratch0)).erase ((thr d i).2.devRef cc0_scratch1)).erase
    ((thr d i).2.devRef cc0_scratch2)).erase ((thr d i).2.devRef cc0_scratch3)).erase ((thr d i).2.devRef cc0_scratch4))
    fun b => iprop(∃ f, ((d, b) : Loc nD τ sig) ↦{fullShare} f)

omit [FloatOps F] in
/-- The five scratch buffers are among the tile's own. -/
theorem ownBufs_eq : (ownBufs (thr d i) : sProp 𝕄)
      = iprop((∃ f, (thr d i).loc cc0_scratch0 ↦{fullShare} f) ∗ (∃ f, (thr d i).loc cc0_scratch1 ↦{fullShare} f)
          ∗ (∃ f, (thr d i).loc cc0_scratch2 ↦{fullShare} f) ∗ (∃ f, (thr d i).loc cc0_scratch3 ↦{fullShare} f)
          ∗ (∃ f, (thr d i).loc cc0_scratch4 ↦{fullShare} f) ∗ restBufs d i) := by
  unfold SparseCore.Cfg.ownBufs restBufs
  refine (SparseCore.bigSep_erase' (SparseCore.Cfg.mem_ownRefs_of_owner (p := (thr d i).2) (b := (thr d i).2.devRef cc0_scratch0) rfl)).trans ?_
  rw [SparseCore.bigSep_erase' (Finset.mem_erase.mpr ⟨devRef_ne d i (b := cc0_scratch1) (b' := cc0_scratch0) (by decide), (SparseCore.Cfg.mem_ownRefs_of_owner (p := (thr d i).2) (b := (thr d i).2.devRef cc0_scratch1) rfl)⟩),
    SparseCore.bigSep_erase' (Finset.mem_erase.mpr ⟨devRef_ne d i (b := cc0_scratch2) (b' := cc0_scratch1) (by decide),
      Finset.mem_erase.mpr ⟨devRef_ne d i (b := cc0_scratch2) (b' := cc0_scratch0) (by decide), (SparseCore.Cfg.mem_ownRefs_of_owner (p := (thr d i).2) (b := (thr d i).2.devRef cc0_scratch2) rfl)⟩⟩),
    SparseCore.bigSep_erase' (Finset.mem_erase.mpr ⟨devRef_ne d i (b := cc0_scratch3) (b' := cc0_scratch2) (by decide),
      Finset.mem_erase.mpr ⟨devRef_ne d i (b := cc0_scratch3) (b' := cc0_scratch1) (by decide),
        Finset.mem_erase.mpr ⟨devRef_ne d i (b := cc0_scratch3) (b' := cc0_scratch0) (by decide), (SparseCore.Cfg.mem_ownRefs_of_owner (p := (thr d i).2) (b := (thr d i).2.devRef cc0_scratch3) rfl)⟩⟩⟩),
    SparseCore.bigSep_erase' (Finset.mem_erase.mpr ⟨devRef_ne d i (b := cc0_scratch4) (b' := cc0_scratch3) (by decide),
      Finset.mem_erase.mpr ⟨devRef_ne d i (b := cc0_scratch4) (b' := cc0_scratch2) (by decide),
        Finset.mem_erase.mpr ⟨devRef_ne d i (b := cc0_scratch4) (b' := cc0_scratch1) (by decide),
          Finset.mem_erase.mpr ⟨devRef_ne d i (b := cc0_scratch4) (b' := cc0_scratch0) (by decide), (SparseCore.Cfg.mem_ownRefs_of_owner (p := (thr d i).2) (b := (thr d i).2.devRef cc0_scratch4) rfl)⟩⟩⟩⟩)]

/-- The tile's cell of a DMA semaphore. -/
abbrev cell (s : DmaSem sig) : GSem nD τ sig := (thr d i, .dma s)

omit [FloatOps F] in
theorem mem_cell (s : DmaSem sig) (h : (SemLoc.dma s : SemLoc sig).isScoped .scVector = true) : cell d i s ∈ ownCells (thr d i) :=
  mem_ownCells.mpr ⟨rfl, h⟩

omit [FloatOps F] in
theorem cell_ne {s s' : DmaSem sig} (h : (SemLoc.dma s : SemLoc sig) ≠ .dma s') : cell d i s ≠ cell d i s' :=
  fun e => h (Prod.mk.inj e).2

/-- The tile's other semaphores. -/
def restSems : sProp 𝕄 :=
  bigSep ((((((ownCells (thr d i)).erase (cell d i cc0_scratch5.sem)).erase (cell d i cc0_scratch6.sem)).erase (cell d i cc0_scratch7.sem)).erase
    (cell d i cc0_scratch8.sem)).erase (cell d i cc0_scoped0.sem)) fun g => semVal g 0

omit [FloatOps F] in
/-- The five semaphores of its copies are among them. -/
theorem ownSems_eq : (ownSems0 (thr d i) : sProp 𝕄)
      = iprop(semVal (cell d i cc0_scratch5.sem) 0 ∗ semVal (cell d i cc0_scratch6.sem) 0 ∗ semVal (cell d i cc0_scratch7.sem) 0
          ∗ semVal (cell d i cc0_scratch8.sem) 0 ∗ semVal (cell d i cc0_scoped0.sem) 0 ∗ restSems d i) := by
  unfold SparseCore.Cfg.ownSems0 restSems
  rw [SparseCore.bigSep_erase' (mem_cell d i cc0_scratch5.sem (by decide)),
    SparseCore.bigSep_erase' (Finset.mem_erase.mpr ⟨cell_ne d i (s := cc0_scratch6.sem) (s' := cc0_scratch5.sem) (by decide), mem_cell d i cc0_scratch6.sem (by decide)⟩),
    SparseCore.bigSep_erase' (Finset.mem_erase.mpr ⟨cell_ne d i (s := cc0_scratch7.sem) (s' := cc0_scratch6.sem) (by decide),
      Finset.mem_erase.mpr ⟨cell_ne d i (s := cc0_scratch7.sem) (s' := cc0_scratch5.sem) (by decide), mem_cell d i cc0_scratch7.sem (by decide)⟩⟩),
    SparseCore.bigSep_erase' (Finset.mem_erase.mpr ⟨cell_ne d i (s := cc0_scratch8.sem) (s' := cc0_scratch7.sem) (by decide),
      Finset.mem_erase.mpr ⟨cell_ne d i (s := cc0_scratch8.sem) (s' := cc0_scratch6.sem) (by decide),
        Finset.mem_erase.mpr ⟨cell_ne d i (s := cc0_scratch8.sem) (s' := cc0_scratch5.sem) (by decide), mem_cell d i cc0_scratch8.sem (by decide)⟩⟩⟩),
    SparseCore.bigSep_erase' (Finset.mem_erase.mpr ⟨cell_ne d i (s := cc0_scoped0.sem) (s' := cc0_scratch8.sem) (by decide),
      Finset.mem_erase.mpr ⟨cell_ne d i (s := cc0_scoped0.sem) (s' := cc0_scratch7.sem) (by decide),
        Finset.mem_erase.mpr ⟨cell_ne d i (s := cc0_scoped0.sem) (s' := cc0_scratch6.sem) (by decide),
          Finset.mem_erase.mpr ⟨cell_ne d i (s := cc0_scoped0.sem) (s' := cc0_scratch5.sem) (by decide), mem_cell d i cc0_scoped0.sem (by decide)⟩⟩⟩⟩)]

end Own

/-! ## The task -/

/-- The task of the tile at `c`, `s`. -/
theorem task (hB : ∀ d j, (B d j).toNat < 264) (d : Dev nD) (c : Fin (grid0.bound 0)) (s : Fin (grid0.bound 1))
    (hF : (K (F := F)).Facts) (O : CellTallies nD τ sig (HIx 1)) (W : Waits sig (HIx 1)) (hO : ∀ g, O g none = 0) :
    iprop(levAts (K (F := F)).L (K (F := F)).lev ∗ emp ∗ tileRes X B d c s (O₀ d) ∗ (scopedBufs (thr d (pt c s)) : sProp 𝕄)
        ∗ scopedSems0 (thr d (pt c s)) ∗ owes (thr d (pt c s)) O W)
      ⊢ wp frame (wpE (defs₀ (F := F)) 𝒱₀ (thr d (pt c s)) none) Set.univ (tile (pt c s))
          fun _ => iprop(tileRes X B d c s (part (X d) (B d)) ∗ scopedBufs (thr d (pt c s)) ∗ scopedSems0 (thr d (pt c s))
            ∗ ∃ W', ⌜∀ p ∈ W', p ∈ W ∨ p.2 = none ∨ p.2 = some 0⌝ ∗ owes (thr d (pt c s)) O W') := by
  rw [(K (F := F)).scopedBufs_V hF d _ _, SparseCore.Cfg.scopedSems0_V (Val := Elt F) d _ _]
  rw [show (ownBufs (SparseCore.V d ((pt c s 0).castLE (by decide)) ((pt c s 1).castLE (by decide))) : sProp 𝕄) = _ from ownBufs_eq d (pt c s),
    show (ownSems0 (SparseCore.V d ((pt c s 0).castLE (by decide)) ((pt c s 1).castLE (by decide))) : sProp 𝕄) = _ from ownSems_eq d (pt c s)]
  unfold tileRes
  iintro ⟨#Hlv, -, ⟨Hb, Hx, Ho⟩, ⟨⟨%f0, H0⟩, H1, ⟨%f2, H2⟩, H3, ⟨%f4, H4⟩, Hbufs⟩, ⟨Hs5, Hs6, Hs7, Hs8, Hs0, Hsems⟩, HO⟩
  ihave Hb2 := (pointsTo_share (PosShare.mem_left_op_right (qT c s))).1 $$ Hb
  icases Hb2 with ⟨Hb, Hb'⟩
  ihave Hx2 := (pointsTo_share (PosShare.mem_left_op_right (qT c s))).1 $$ Hx
  icases Hx2 with ⟨Hx, Hx'⟩
  ihave Hmw := ((K (F := F)).mayWaits_none (thr := thr d (pt c s)) hO) $$ Hlv
  iapply (wp_tile d (pt c s) O W (qT c s).left (qT c s).right (X d) (B d) (hB d) (tSet c s) (oSl_sub c s) (O₀ d) (part (X d) (B d))
    (oSl_write (X d) (B d) (O₀ d) c s) (fa := f4) (f0 := f0) (f2 := f2)) $$ [Hb Hb' Hx Hx' Ho H0 H1 H2 H3 H4 Hs5 Hs6 Hs7 Hs8 Hs0 HO Hmw]
  · isplitl [H4]; · iexact H4
    isplitl [H0]; · iexact H0
    isplitl [H1]; · iexact H1
    isplitl [H2]; · iexact H2
    isplitl [H3]; · iexact H3
    isplitl [Hb]; · iexact Hb
    isplitl [Hb']; · iexact Hb'
    isplitl [Hx]; · iexact Hx
    isplitl [Hx']; · iexact Hx'
    isplitl [Ho]; · iexact Ho
    isplitl [Hs5]; · iexact Hs5
    isplitl [Hs6]; · iexact Hs6
    isplitl [Hs7]; · iexact Hs7
    isplitl [Hs8]; · iexact Hs8
    isplitl [Hs0]; · iexact Hs0
    isplitl [HO]
    · unfold Ow
      iexists W; isplitr
      · ipureintro; exact fun p hp => .inl hp
      · iexact HO
    iexact Hmw
  iintro ⟨H4, H0, H1, H2, H3, Hb, Hb', Hx, Hx', Ho, Hs5, Hs6, Hs7, Hs8, Hs0, HO⟩
  isplitl [Hb Hb' Hx Hx' Ho]
  · isplitl [Hb Hb']
    · iapply (pointsTo_share (PosShare.mem_left_op_right (qT c s))).2
      isplitl [Hb]; · iexact Hb
      iexact Hb'
    isplitl [Hx Hx']
    · iapply (pointsTo_share (PosShare.mem_left_op_right (qT c s))).2
      isplitl [Hx]; · iexact Hx
      iexact Hx'
    iexact Ho
  isplitl [H0 H1 H2 H3 H4 Hbufs]
  · isplitl [H0]; · iexact H0
    isplitl [H1]; · iexact H1
    isplitl [H2]; · iexact H2
    isplitl [H3]; · iexact H3
    isplitl [H4]; · iexists _; iexact H4
    iexact Hbufs
  isplitl [Hs5 Hs6 Hs7 Hs8 Hs0 Hsems]
  · isplitl [Hs5]; · iexact Hs5
    isplitl [Hs6]; · iexact Hs6
    isplitl [Hs7]; · iexact Hs7
    isplitl [Hs8]; · iexact Hs8
    isplitl [Hs0]; · iexact Hs0
    iexact Hsems
  unfold Ow
  icases HO with ⟨%W', %hW', HO⟩
  iexists W'; isplitr
  · ipureintro; exact fun p hp => (hW' p hp).imp_right .inl
  · iexact HO

theorem defs₀_tile (c : Fin τ.nSC) (s : Fin τ.nSub) :
    defs₀ (F := F) (.scVector c s) 0 ()
      = SparseCore.onTile Facts₀.hcore0 Facts₀.hsub0 (fun c s => cc0_body (pt c s) xM (Memref.isWhole_whole _) bM (Memref.isWhole_whole _) oM (Memref.isWhole_whole _)
          idx0 (Memref.isWhole_whole _) idx1 (Memref.isWhole_whole _) row0 (Memref.isWhole_whole _) row1 (Memref.isWhole_whole _)
          accM (Memref.isWhole_whole _) cc0_scratch5 cc0_scratch6 cc0_scratch7 cc0_scratch8 cc0_scoped0) ⟨⟩ c s := rfl

theorem tileObl (hF : (K (F := F)).Facts) (hB : ∀ d j, (B d j).toNat < 264) : (K (F := F)).TileObl (D (F := F)) 𝒱 (P X B O₀) v₀ 0 := by
  intro d c i O W hO _ _
  simp only [show (P X B O₀).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte, body_eq]
  exact task X B O₀ hB d ⟨_, hc.1⟩ ⟨_, hc.2⟩ hF O W hO

/-! ## A SparseCore's operands, split among its tiles -/

omit [FloatOps F] in
theorem oPts_tiles (d : Dev nD) (c : Fin (grid0.bound 0)) (f : Vec F S32x256x256 .f32) :
    (oLoc d ↦[cSet c]{fullShare} f : sProp 𝕄) = bigSep Finset.univ fun s : Fin (grid0.bound 1) => oLoc d ↦[tSet c s]{fullShare} f :=
  pointsTo_biUnion Finset.univ (ℓ := oLoc d) (tSet c) (tSet_disjoint c)

theorem core_split (d : Dev nD) (c : Fin (grid0.bound 0)) :
    coreRes X B d c (O₀ d) ⊢ |={Set.univ}=> iprop((bigSep Finset.univ fun s : Fin (grid0.bound 1) => tileRes X B d c s (O₀ d))
      ∗ ((bigSep Finset.univ fun s : Fin (grid0.bound 1) => tileRes X B d c s (part (X d) (B d))) -∗ coreRes X B d c (part (X d) (B d)))) := by
  unfold coreRes tileRes
  rw [bigSep_sep', bigSep_sep', bigSep_sep', bigSep_sep', oPts_tiles, oPts_tiles]
  iintro ⟨Hb, Hx, Ho⟩
  ihave Hb2 := (Transfers.pointsTo_toks_split (qC c) (grid0.bound 1)) $$ Hb
  icases Hb2 with ⟨Hb', Hb⟩
  ihave Hx2 := (Transfers.pointsTo_toks_split (qC c) (grid0.bound 1)) $$ Hx
  icases Hx2 with ⟨Hx', Hx⟩
  imodintro
  isplitl [Hb Hx Ho]
  · isplitl [Hb]; · iexact Hb
    isplitl [Hx]; · iexact Hx
    iexact Ho
  iintro ⟨Hb, Hx, Ho⟩
  isplitl [Hb Hb']
  · iapply (Transfers.pointsTo_toks_join (qC c) (grid0.bound 1))
    isplitl [Hb']; · iexact Hb'
    iexact Hb
  isplitl [Hx Hx']
  · iapply (Transfers.pointsTo_toks_join (qC c) (grid0.bound 1))
    isplitl [Hx']; · iexact Hx'
    iexact Hx
  iexact Ho

theorem vecSplit : (K (F := F)).VecSplit' (P X B O₀) 0 := fun d c => core_split X B O₀ d c

end Cert.SegSum
-- ==== Proof.Region.lean ====
/- The TensorCore kernel: its body run over whole staging buffers, and its region entered from any contents of the
   TensorCore's buffers and left with the result's array at the kernel's value. -/
module

public import proofs.«01_k».proof.Proof.Base
public import Idealize.ShloMosaic.Lib.VecWindow
public import Idealize.ShloMosaic.Lib.LaneScatter.Tiles
public import Idealize.ShloMosaic.Lib.Pipeline.RegionsLoop
public import proofs.«01_k».proof.Proof.Gen.KernelIdeal.Launch
public import proofs.«01_k».proof.Proof.Gen.KernelIdeal.Points

@[expose] public section

noncomputable section

namespace Cert.SegSum

open Cert.KernelIdeal Cert.KernelIdeal.Facts₀ Cert.KernelIdeal.Facts

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body -/

/-- The value the kernel stores: the partial sums `p` added up, then `g · w₁ᵀ + sum · w₂ᵀ + b`. -/
def finish (p : Vec F S32x256x256 .f32) (g w₁ w₂ : Vec F S256x256 .f32) (b : Vec F S1x256 .f32) : Vec F S256x256 .f32 :=
  addf (addf
      (matmul dot_S256x256_S256x256_S256x256_1_1_0_0_n_n none g (shapeCast S256x256 w₁ Gen.facts.shapeCasts_S256x256_S256x256) (constant S256x256 .f32 0x00000000#32))
      (matmul dot_S256x256_S256x256_S256x256_1_1_0_0_n_n none
        (multiReduction .add [0] S256x256 (shapeCast S32x256x256 p Gen.facts.shapeCasts_S32x256x256_S32x256x256) 0x00000000#32 Gen.facts.reduces_S32x256x256_S256x256 (.inl rfl) rfl)
        (shapeCast S256x256 w₂ Gen.facts.shapeCasts_S256x256_S256x256) (constant S256x256 .f32 0x00000000#32)))
    (broadcastTo S256x256 (shapeCast S1x256 b Gen.facts.shapeCasts_S1x256_S1x256) Gen.facts.broadcasts_S1x256_S256x256)

/-- A buffer of core `c` held whole at `f`. -/
abbrev tcPt (c : Dev nD) {sp : Space} {S : Shape} {e : EltTy} (M : Memref sig .tc sp S e) (f : Buf (Elt F) (M.view.loc (c : Thread nD τ))) : sProp 𝕄 :=
  M.view.loc (c : Thread nD τ) ↦{fullShare} f

theorem body_run (c : Dev nD) (fp : Buf (Elt F) ((stage1_0 0).view.loc (c : Thread nD τ))) (fg : Buf (Elt F) ((stage1_1 0).view.loc (c : Thread nD τ)))
    (f₁ : Buf (Elt F) ((stage1_2 0).view.loc (c : Thread nD τ))) (f₂ : Buf (Elt F) ((stage1_3 0).view.loc (c : Thread nD τ)))
    (fb : Buf (Elt F) ((stage1_4 0).view.loc (c : Thread nD τ))) (fo : Buf (Elt F) ((stage1_5 0).view.loc (c : Thread nD τ)))
    (E : Set ℕ) (Q : PUnit → sProp 𝕄) :
    iprop(tcPt c (stage1_0 0) fp ∗ tcPt c (stage1_1 0) fg ∗ tcPt c (stage1_2 0) f₁ ∗ tcPt c (stage1_3 0) f₂ ∗ tcPt c (stage1_4 0) fb
        ∗ tcPt c (stage1_5 0) fo
        ∗ (iprop(tcPt c (stage1_0 0) fp ∗ tcPt c (stage1_1 0) fg ∗ tcPt c (stage1_2 0) f₁ ∗ tcPt c (stage1_3 0) f₂ ∗ tcPt c (stage1_4 0) fb
            ∗ tcPt c (stage1_5 0) (finish fp fg f₁ f₂ fb)) -∗ Q ⟨⟩))
      ⊢ wp frame (wpE (defs₀ (F := F)) Variants.none c none) E
          (cc1_body (stage1_0 0) (hstage1_0 0) (stage1_1 0) (hstage1_1 0) (stage1_2 0) (hstage1_2 0) (stage1_3 0) (hstage1_3 0) (stage1_4 0) (hstage1_4 0) (stage1_5 0) (hstage1_5 0)) Q := by
  iintro ⟨H0, H1, H2, H3, H4, H5, Hk⟩
  sl_exec!
  rw [show (stage1_5 0).view.writes (Elt F) (stage1_5 0).view.junk (body_run.sl.H5_1 c fp fg f₁ f₂ fb) = finish fp fg f₁ f₂ fb from by
    refine Eq.trans (LaneScatter.read_whole_store (stage1_5 0).view _ (fun a => by fin_cases a <;> rfl) _ _ : (stage1_5 0).view.read (Elt F) _ = _) ?_
    unfold body_run.sl.v14 body_run.sl.v13 body_run.sl.v12 body_run.sl.v10 body_run.sl.v9 body_run.sl.v6 body_run.sl.v5 body_run.sl.v8 body_run.sl.v2
    unfold finish
    exact congrArg₂ addf (congrArg₂ addf
      (congrArg₂ (fun x y => matmul _ none x (shapeCast S256x256 y _) _) (View.readAt_full _ _ _) (View.readAt_full _ _ _))
      (congrArg₂ (fun x y => matmul _ none (multiReduction .add [0] S256x256 (shapeCast S32x256x256 x _) 0x00000000#32 _ (.inl rfl) rfl) (shapeCast S256x256 y _) _)
        (View.readAt_full _ _ _) (View.readAt_full _ _ _)))
      (congrArg (fun x => broadcastTo S256x256 (shapeCast S1x256 x _) _) (View.readAt_full _ _ _))]
  rw [wp_ret]
  imodintro
  iapply Hk
  isplitl [H0]; · iexact H0
  isplitl [H1]; · iexact H1
  isplitl [H2]; · iexact H2
  isplitl [H3]; · iexact H3
  isplitl [H4]; · iexact H4
  iexact H5

/-! ## The proof data, at what the TensorCore's buffers hold when the region is entered -/

section
variable (V : (c : Dev nD) → (b : Ref sig .tc) → Buf (Elt F) ((c : Thread nD τ).loc b))

/-- The result, from what the arrays hold at entry. -/
abbrev result (c : Dev nD) : Vec F S256x256 .f32 :=
  finish (V c main_v11) (V c main_arg1) (V c main_v12) (V c main_v13) (V c main_v14)

abbrev Φc (c : Dev nD) : sProp 𝕄 := Pipeline.scopedRest (Ix := HIx 1) (Name := ℕ) (U := UU) (Lvl := ℕ) (Val := Elt F) spec1 c

/-- The arrays as the region is entered; after the body the inputs' buffers as fetched and the result's at the
    kernel's value; the waits recorded before it lie at the level of the calls already made. -/
def dat (c : Dev nD) : Dat τ (Elt F) (HIx 1) ℕ UU ℕ cfg1 c where
  A w := V c (Pipeline.arrRef spec1 w)
  after w _ := match w with
    | ⟨0, _⟩ => V c main_v11
    | ⟨1, _⟩ => V c main_arg1
    | ⟨2, _⟩ => V c main_v12
    | ⟨3, _⟩ => V c main_v13
    | ⟨4, _⟩ => V c main_v14
    | ⟨5, _⟩ => result V c
  Φ _ := Φc c
  q _ := fullShare
  owed _ := 0
  recorded _ := {p | (K (F := F)).lev ((c : Thread nD τ), p.1) p.2 ≤ 8}

theorem blk_read0 (f : Vec F S32x256x256 .f32) : ((cfg1.win 0).blk Gen.t1_0).view.read (Elt F) f = f := View.readAt_full (Memref.whole main_v11).view f _
theorem blk_read1 (f : Vec F S256x256 .f32) : ((cfg1.win 1).blk Gen.t1_0).view.read (Elt F) f = f := View.readAt_full (Memref.whole main_arg1).view f _
theorem blk_read2 (f : Vec F S256x256 .f32) : ((cfg1.win 2).blk Gen.t1_0).view.read (Elt F) f = f := View.readAt_full (Memref.whole main_v12).view f _
theorem blk_read3 (f : Vec F S256x256 .f32) : ((cfg1.win 3).blk Gen.t1_0).view.read (Elt F) f = f := View.readAt_full (Memref.whole main_v13).view f _
theorem blk_read4 (f : Vec F S1x256 .f32) : ((cfg1.win 4).blk Gen.t1_0).view.read (Elt F) f = f := View.readAt_full (Memref.whole main_v14).view f _
theorem blk_read5 (f : Vec F S256x256 .f32) : ((cfg1.win 5).blk Gen.t1_0).view.read (Elt F) f = f := View.readAt_full (Memref.whole main_v15).view f _

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V c

theorem body_obligation (c : Dev nD) : BodyObligation (dat V c) (defs₀ (F := F)) 𝒱₀ (none : HIx 1) Set.univ := fun t => by
  obtain rfl := Gen.fin_N1 t
  rw [Gen.bigSep_W1, Gen.bigSep_W1]
  simp only [owns_whole_eq]
  rw [show (dat V c).Φ Gen.t1_0.castSucc = Φc c from rfl, show (dat V c).Φ Gen.t1_0.succ = Φc c from rfl,
    show (dat V c).owesAt (none : HIx 1) Gen.t1_0.succ = (dat V c).owesAt (none : HIx 1) Gen.t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  have e0 : (dat V c).before 0 Gen.t1_0 d0 = V c main_v11 := by
    unfold Dat.before; rw [if_pos (by decide)]; exact (show _ = ((cfg1.win 0).blk Gen.t1_0).view.read (Elt F) (V c main_v11) from rfl).trans (blk_read0 _)
  have e1 : (dat V c).before 1 Gen.t1_0 d1 = V c main_arg1 := by
    unfold Dat.before; rw [if_pos (by decide)]; exact (show _ = ((cfg1.win 1).blk Gen.t1_0).view.read (Elt F) (V c main_arg1) from rfl).trans (blk_read1 _)
  have e2 : (dat V c).before 2 Gen.t1_0 d2 = V c main_v12 := by
    unfold Dat.before; rw [if_pos (by decide)]; exact (show _ = ((cfg1.win 2).blk Gen.t1_0).view.read (Elt F) (V c main_v12) from rfl).trans (blk_read2 _)
  have e3 : (dat V c).before 3 Gen.t1_0 d3 = V c main_v13 := by
    unfold Dat.before; rw [if_pos (by decide)]; exact (show _ = ((cfg1.win 3).blk Gen.t1_0).view.read (Elt F) (V c main_v13) from rfl).trans (blk_read3 _)
  have e4 : (dat V c).before 4 Gen.t1_0 d4 = V c main_v14 := by
    unfold Dat.before; rw [if_pos (by decide)]; exact (show _ = ((cfg1.win 4).blk Gen.t1_0).view.read (Elt F) (V c main_v14) from rfl).trans (blk_read4 _)
  rw [e0] at hf0; rw [e1] at hf1; rw [e2] at hf2; rw [e3] at hf3; rw [e4] at hf4
  subst hf0 hf1 hf2 hf3 hf4
  iapply (body_run c _ _ _ _ _ f5 Set.univ _)
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-- The result's array after the region. -/
theorem arrAt_result (c : Dev nD) : (dat V c).arrAt 5 cfg1.N = result V c := by
  have h : (dat V c).arrAt 5 1 = result V c := by
    unfold Dat.arrAt
    rw [dif_pos (by decide)]
    refine (if_pos (Gen.flush1_5 _)).trans ?_
    exact (blk_read5 _).symm.trans (View.read_write_univ _ _)
  exact h

-- the buffers' contents when the region is left: the result's array at the kernel's value, the others as they were
variable (V' : (c : Dev nD) → (b : Ref sig .tc) → Buf (Elt F) ((c : Thread nD τ).loc b))

set_option backward.isDefEq.respectTransparency.types false in
/-- The region, entered with every unscoped buffer at `V` and left with them at `V'`. -/
def reg (hV' : ∀ c, V' c main_v15 = result V c) (hne : ∀ c (b : Ref sig .tc), b ≠ main_v15 → V' c b = V c b) :
    Pipeline.RegionSeg (pcfgs (F := F)) adm (pdats V adm) (none : HIx 1) defs₀ 𝒱₀ (K (F := F)).L (K (F := F)).lev 0 where
  win := Gen.launch1.win.to₀
  block_pos := Gen.launch1.block_pos
  stage_whole := Gen.launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜(K (F := F)).WBelow (c : Thread nD τ) W 8⌝ ∗ owes (c : Thread nD τ) (0 : CellTallies nD τ sig (HIx 1)) W)
  post c := iprop(unscopedBufs c (V' c) ∗ ∃ W, ⌜(K (F := F)).WBelow (c : Thread nD τ) W 8⌝ ∗ owes (c : Thread nD τ) (0 : CellTallies nD τ sig (HIx 1)) W)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V adm) Gen.launch1.win Gen.launch1.arr_whole c
      ((pdats V adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr
      · ipureintro; exact fun p hp => Or.inl (hW p hp)
      iexact HO
    isplitr; · iempintro
    iexact Hrest
  hin c := by
    rw [show (pdats V adm 0 c).Φ 0 = Φc c from rfl]
    iintro ⟨-, -, Hr⟩; iexact Hr
  hout c := by
    rw [Pipeline.ownSems0_none, show (pdats V adm 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) Gen.launch1.win Gen.launch1.arr_whole c
      (pdats V adm) ((pdats V adm 0 c).share_full fun _ => rfl) (V c) (V' c) ((pdats V adm 0 c).arrAt · cfg1.N)
      (fun w => by
        fin_cases w
        · exact ((pdats V adm 0 c).arrAt_in 0 rfl _).trans (hne c main_v11 (by decide)).symm
        · exact ((pdats V adm 0 c).arrAt_in 1 rfl _).trans (hne c main_arg1 (by decide)).symm
        · exact ((pdats V adm 0 c).arrAt_in 2 rfl _).trans (hne c main_v12 (by decide)).symm
        · exact ((pdats V adm 0 c).arrAt_in 3 rfl _).trans (hne c main_v13 (by decide)).symm
        · exact ((pdats V adm 0 c).arrAt_in 4 rfl _).trans (hne c main_v14 (by decide)).symm
        · exact (arrAt_result V c).trans (hV' c).symm)
      (fun b hb => hne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW (Finset.mem_coe.mpr hp) with h | ⟨w, s, h⟩
      · exact h
      · rw [h]; exact Nat.zero_le _
    iexact HO

end

end Cert.SegSum
-- ==== Proof.Run.lean ====
/- The whole program's run: @main on the TensorCore around the SparseCore call and the TensorCore kernel, the ghost state
   the launch starts from, and what memory holds at the end. -/
module

public import proofs.«01_k».proof.Proof.Tasks
public import proofs.«01_k».proof.Proof.Region
public import Idealize.ShloMosaic.Lib.Pipeline.Frame

@[expose] public section

noncomputable section

namespace Cert.SegSum

open Cert.KernelIdeal Cert.KernelIdeal.Facts₀

open Idealize.ShloMosaic
open Idealize.ShloMosaic.TcCoe
open Idealize.ShloMosaic.SparseCore.Cfg
open Idealize.ShloMosaic.SparseCore.Cfg (HIx)
open Idealize.ShloMosaic.StableHlo (held after seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## @main's StableHLO operations -/

/-- The operations before the SparseCore call: the batch laid out in rows of 32, each word 16 times. -/
def ops1 : List (HloOp τ sig (Elt F)) :=
  [StableHlo.nullary main_c (constantI S_ 32 256#32),
   StableHlo.unary main_c main_v0 (broadcastInDim S0 ![] bcast_S_S0 : (⟨S_, .i32⟩ : BufTy).Contents (Elt F) → (⟨S0, .i32⟩ : BufTy).Contents (Elt F)),
   StableHlo.unary main_arg2 main_v1 ((extractStridedSlice S32 ![99968] · slices_S100000_S32_99968) : (⟨S100000, .i32⟩ : BufTy).Contents (Elt F) → (⟨S32, .i32⟩ : BufTy).Contents (Elt F)),
   StableHlo.binary main_v0 main_v1 main_v2 ((fun a b => concatenate S32 0 [⟨S0, a⟩, ⟨S32, b⟩] concatenates_S0_S32_S32_d0) : (⟨S0, .i32⟩ : BufTy).Contents (Elt F) → (⟨S32, .i32⟩ : BufTy).Contents (Elt F) → (⟨S32, .i32⟩ : BufTy).Contents (Elt F)),
   StableHlo.nullary main_c_0 (constantI S_ 32 256#32),
   StableHlo.unary main_c_0 main_v3 (broadcastInDim S1x32 ![] bcast_S_S1x32 : (⟨S_, .i32⟩ : BufTy).Contents (Elt F) → (⟨S1x32, .i32⟩ : BufTy).Contents (Elt F)),
   StableHlo.unary main_arg2 main_v4 ((extractStridedSlice S99968 ![0] · slices_S100000_S99968_0) : (⟨S100000, .i32⟩ : BufTy).Contents (Elt F) → (⟨S99968, .i32⟩ : BufTy).Contents (Elt F)),
   StableHlo.reshape main_v4 main_v5 (rfl : (.i32 : EltTy) = .i32) shapeCasts_S99968_S3124x32,
   StableHlo.unary main_v2 main_v6 (broadcastInDim S1x32 ![1] bcast_S32_S1x32_1 : (⟨S32, .i32⟩ : BufTy).Contents (Elt F) → (⟨S1x32, .i32⟩ : BufTy).Contents (Elt F)),
   StableHlo.nary ![main_v5, main_v6, main_v3] main_v7 (fun u => (concatenate S3126x32 0 [⟨S3124x32, (u 0 : (⟨S3124x32, .i32⟩ : BufTy).Contents (Elt F))⟩, ⟨S1x32, (u 1 : (⟨S1x32, .i32⟩ : BufTy).Contents (Elt F))⟩, ⟨S1x32, (u 2 : (⟨S1x32, .i32⟩ : BufTy).Contents (Elt F))⟩] concatenates_S3124x32_S1x32_S1x32_S3126x32_d0 : (⟨S3126x32, .i32⟩ : BufTy).Contents (Elt F))),
   StableHlo.unary main_v7 main_v8 (broadcastInDim S3126x32x1 ![0, 1] bcast_S3126x32_S3126x32x1_0_1 : (⟨S3126x32, .i32⟩ : BufTy).Contents (Elt F) → (⟨S3126x32x1, .i32⟩ : BufTy).Contents (Elt F)),
   StableHlo.unary main_v8 main_v9 (broadcastInDim S3126x32x16 ![0, 1, 2] bcast_S3126x32x1_S3126x32x16_0_1_2 : (⟨S3126x32x1, .i32⟩ : BufTy).Contents (Elt F) → (⟨S3126x32x16, .i32⟩ : BufTy).Contents (Elt F)),
   StableHlo.reshape main_v9 main_v10 (rfl : (.i32 : EltTy) = .i32) shapeCasts_S3126x32x16_S3126x512]

/-- Those between it and the TensorCore kernel: the weight's two halves, and the bias as a row. -/
def ops2 : List (HloOp τ sig (Elt F)) :=
  [StableHlo.unary main_arg3 main_v12 ((extractStridedSlice S256x256 ![0, 0] · slices_S256x512_S256x256_0_0) : (⟨S256x512, .f32⟩ : BufTy).Contents (Elt F) → (⟨S256x256, .f32⟩ : BufTy).Contents (Elt F)),
   StableHlo.unary main_arg3 main_v13 ((extractStridedSlice S256x256 ![0, 256] · slices_S256x512_S256x256_0_256) : (⟨S256x512, .f32⟩ : BufTy).Contents (Elt F) → (⟨S256x256, .f32⟩ : BufTy).Contents (Elt F)),
   StableHlo.reshape main_arg4 main_v14 (rfl : (.f32 : EltTy) = .f32) shapeCasts_S256_S1x256]

theorem main_eq (d : Dev nD) : main (F := F) d
    = (seq ops1 >>= fun _ => (K (F := F)).run d 0 >>= fun _ => seq ops2 >>= fun _ =>
        SparseCore.liftProg (.op (.customCall (Pipeline.entry 0) ()) fun _ => .ret ⟨⟩)) := by
  simp only [ops1, ops2, StableHlo.seq, bind_assoc, pure_bind]
  rfl

/-- Their written buffers. -/
def w1 : List (Ref sig .tc) := [main_c, main_v0, main_v1, main_v2, main_c_0, main_v3, main_v4, main_v5, main_v6, main_v7, main_v8, main_v9, main_v10]
def w2 : List (Ref sig .tc) := [main_v12, main_v13, main_v14]

theorem ops1_writes : (ops1 (F := F)).map HloOp.writes = w1.map fun r => {Proc.devRef (τ := τ) .tc r} := rfl
theorem ops2_writes : (ops2 (F := F)).map HloOp.writes = w2.map fun r => {Proc.devRef (τ := τ) .tc r} := rfl

theorem ops1_keep (V : Valuation τ sig (Elt F)) {r : Ref sig .tc} (h : r ∉ w1) : after ops1 V r = V r :=
  StableHlo.after_of_writes_sub ops1 V (StableHlo.forall_writes_sub_of_map ops1_writes) h
theorem ops2_keep (V : Valuation τ sig (Elt F)) {r : Ref sig .tc} (h : r ∉ w2) : after ops2 V r = V r :=
  StableHlo.after_of_writes_sub ops2 V (StableHlo.forall_writes_sub_of_map ops2_writes) h

theorem ops1_sub : ∀ op ∈ ops1 (F := F), op.bufs ⊆ Pipeline.ucRefs τ sig := fun op h =>
  Pipeline.sub_ucRefs op (List.forall_iff_forall_mem.mp (show (ops1 (F := F)).Forall fun op => op.bufs ⊆ StableHlo.tcRefs τ sig from
    ⟨StableHlo.nullary_bufs_sub .., StableHlo.unary_bufs_sub .., StableHlo.unary_bufs_sub .., StableHlo.binary_bufs_sub .., StableHlo.nullary_bufs_sub .., StableHlo.unary_bufs_sub .., StableHlo.unary_bufs_sub .., StableHlo.reshape_bufs_sub .., StableHlo.unary_bufs_sub .., StableHlo.nary_bufs_sub .., StableHlo.unary_bufs_sub .., StableHlo.unary_bufs_sub .., StableHlo.reshape_bufs_sub ..⟩) op h)
theorem ops2_sub : ∀ op ∈ ops2 (F := F), op.bufs ⊆ Pipeline.ucRefs τ sig := fun op h =>
  Pipeline.sub_ucRefs op (List.forall_iff_forall_mem.mp (show (ops2 (F := F)).Forall fun op => op.bufs ⊆ StableHlo.tcRefs τ sig from
    ⟨StableHlo.unary_bufs_sub .., StableHlo.unary_bufs_sub .., StableHlo.reshape_bufs_sub ..⟩) op h)

/-! ## The TensorCore's buffers along the run -/

variable (m : (ℓ : Loc nD τ sig) → Buf (Elt F) ℓ) (ρ : Dev nD → PrngReg)

def V0 (d : Dev nD) : Valuation τ sig (Elt F) := fun b => m (d, b)
def V1 (d : Dev nD) : Valuation τ sig (Elt F) := after ops1 (V0 m d)
/-- The SparseCore call's operands. -/
def X (d : Dev nD) : Vec F S100000x256 .f32 := V1 m d main_arg0
def B (d : Dev nD) : Vec F S3126x512 .i32 := V1 m d main_v10
def O₀ (d : Dev nD) : Vec F S32x256x256 .f32 := V1 m d main_v11
def V2 (d : Dev nD) : Valuation τ sig (Elt F) := Function.update (V1 m d) main_v11 (part (X m d) (B m d))
def V3 (d : Dev nD) : Valuation τ sig (Elt F) := after ops2 (V2 m d)
def V4 (d : Dev nD) : Valuation τ sig (Elt F) := Function.update (V3 m d) main_v15 (result (fun c b => V3 m c b) d)

omit [FloatOps F] in
theorem devRef_tc_ne {b b' : Ref sig .tc} (h : b ≠ b') : (b : DevRef τ sig) ≠ b' := fun e => h (Proc.devRef_injective _ e)

theorem V4_result (d : Dev nD) : V4 m d main_v15 = result (fun c b => V3 m c b) d := by unfold V4; exact Function.update_self ..
theorem V4_ne (d : Dev nD) (b : Ref sig .tc) (h : b ≠ main_v15) : V4 m d b = V3 m d b := by
  unfold V4; exact Function.update_of_ne (devRef_tc_ne h) ..
theorem V2_ne (d : Dev nD) (b : Ref sig .tc) (h : b ≠ main_v11) : V2 m d b = V1 m d b := by
  unfold V2; exact Function.update_of_ne (devRef_tc_ne h) ..
/-- A buffer nothing writes ends as it began. -/
theorem V4_keep (d : Dev nD) (b : Ref sig .tc) (h : b ≠ main_v15) (h' : b ≠ main_v11) (h1 : b ∉ w1) (h2 : b ∉ w2) : V4 m d b = m (d, b) :=
  (V4_ne m d b h).trans ((ops2_keep _ h2).trans ((V2_ne m d b h').trans (ops1_keep _ h1)))

/-! ## The SparseCore call's operands, taken from the TensorCore's buffers and put back -/

def trio : Finset (DevRef τ sig) := {(main_v10 : DevRef τ sig), (main_arg0 : DevRef τ sig), (main_v11 : DevRef τ sig)}

omit [FloatOps F] in
theorem trio_sub : trio ⊆ Pipeline.ucRefs τ sig := by
  intro b hb
  unfold trio at hb
  simp only [Finset.mem_insert, Finset.mem_singleton] at hb
  unfold Pipeline.ucRefs StableHlo.tcRefs
  rcases hb with rfl | rfl | rfl <;>
  exact Finset.mem_filter.mpr ⟨Finset.mem_map_of_mem _ (Finset.mem_univ _), by decide⟩

omit [FloatOps F] in
theorem held_trio (d : Dev nD) (W : Valuation τ sig (Elt F)) :
    (held (d.tc : Thread nD τ) (Pipeline.ucRefs τ sig) W : sProp 𝕄)
      = iprop(((bLoc d ↦{fullShare} W main_v10) ∗ (xLoc d ↦{fullShare} W main_arg0) ∗ (oLoc d ↦{fullShare} W main_v11))
          ∗ held (d.tc : Thread nD τ) (Pipeline.ucRefs τ sig \ trio) W) := by
  rw [StableHlo.held_sub_split _ trio_sub W]
  congr 1
  unfold held trio
  rw [SparseCore.bigSep_insert' (by simp only [Finset.mem_insert, Finset.mem_singleton, not_or]; exact ⟨devRef_tc_ne (by decide), devRef_tc_ne (by decide)⟩),
    SparseCore.bigSep_insert' (by simp only [Finset.mem_singleton]; exact devRef_tc_ne (by decide)), bigSep_singleton]

omit [FloatOps F] in
theorem oPts_cores (d : Dev nD) (f : Vec F S32x256x256 .f32) :
    (oLoc d ↦{fullShare} f : sProp 𝕄) = bigSep Finset.univ fun c : Fin (grid0.bound 0) => oLoc d ↦[cSet c]{fullShare} f := by
  rw [← pointsTo_biUnion Finset.univ (ℓ := oLoc d) cSet cSet_disjoint, cSet_cover]

theorem call_split (X : Dev nD → Vec F S100000x256 .f32) (B : Dev nD → Vec F S3126x512 .i32) (d : Dev nD) (f g : Vec F S32x256x256 .f32) :
    iprop((bLoc d ↦{fullShare} B d) ∗ (xLoc d ↦{fullShare} X d) ∗ (oLoc d ↦{fullShare} f))
      ⊢ iprop((bigSep Finset.univ fun c : Fin (grid0.bound 0) => coreRes X B d c f)
          ∗ ((bigSep Finset.univ fun c : Fin (grid0.bound 0) => coreRes X B d c g)
              -∗ iprop((bLoc d ↦{fullShare} B d) ∗ (xLoc d ↦{fullShare} X d) ∗ (oLoc d ↦{fullShare} g)))) := by
  unfold coreRes
  rw [bigSep_sep', bigSep_sep', bigSep_sep', bigSep_sep', oPts_cores, oPts_cores]
  iintro ⟨Hb, Hx, Ho⟩
  ihave Hb2 := (Transfers.pointsTo_toks_split fullShare (grid0.bound 0)) $$ Hb
  icases Hb2 with ⟨Hb', Hb⟩
  ihave Hx2 := (Transfers.pointsTo_toks_split fullShare (grid0.bound 0)) $$ Hx
  icases Hx2 with ⟨Hx', Hx⟩
  isplitl [Hb Hx Ho]
  · isplitl [Hb]; · iexact Hb
    isplitl [Hx]; · iexact Hx
    iexact Ho
  iintro ⟨Hb, Hx, Ho⟩
  isplitl [Hb Hb']
  · iapply (Transfers.pointsTo_toks_join fullShare (grid0.bound 0))
    isplitl [Hb']; · iexact Hb'
    iexact Hb
  isplitl [Hx Hx']
  · iapply (Transfers.pointsTo_toks_join fullShare (grid0.bound 0))
    isplitl [Hx']; · iexact Hx'
    iexact Hx
  iexact Ho

theorem V2_trio (d : Dev nD) :
    iprop(((bLoc d ↦{fullShare} B m d) ∗ (xLoc d ↦{fullShare} X m d) ∗ (oLoc d ↦{fullShare} part (X m d) (B m d)))
        ∗ held (d.tc : Thread nD τ) (Pipeline.ucRefs τ sig \ trio) (V1 m d))
      ⊢ (held (d.tc : Thread nD τ) (Pipeline.ucRefs τ sig) (V2 m d) : sProp 𝕄) := by
  rw [held_trio d (V2 m d), show V2 m d main_v10 = B m d from V2_ne m d main_v10 (by decide), show V2 m d main_arg0 = X m d from V2_ne m d main_arg0 (by decide),
    show V2 m d main_v11 = part (X m d) (B m d) by unfold V2; exact Function.update_self ..,
    StableHlo.held_congr (d.tc : Thread nD τ) (S := Pipeline.ucRefs τ sig \ trio) (V := V2 m d) (V' := V1 m d) (fun b hb => by
      unfold V2
      refine Function.update_of_ne (fun e => (Finset.mem_sdiff.mp hb).2 ?_) ..
      rw [e]; unfold trio; simp only [Finset.mem_insert, Finset.mem_singleton, or_true])]

/-! ## The ghost state -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-- The handshakes' rounds in the algebra, and the TensorCore pipeline's. -/
def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EH_lands : (EH : Emb UH 𝕄).LandsIn (upEmb : UEmb _ 𝕄) := by unfold EH; infer_instance
instance EP_lands : (EP : Emb UP 𝕄).LandsIn (upEmb : UEmb _ 𝕄) := by unfold EP; infer_instance

abbrev adm0 : (p : Fin 1) → (pcfgs (F := F) p).Adm := fun p => (cfgs p).toPCfg_adm

def u₀ : UU := (initOf (K (F := F)).hsCells (K (F := F)).hsToks,
  (initOf (Pipeline.cells (nD := nD) (τ := τ) (Pipeline.pin (pcfgs (F := F)) adm0) Gen.cellOf_inj) (Pipeline.launchToks (nD := nD) (τ := τ) (Pipeline.pin (pcfgs (F := F)) adm0) Gen.cellOf_inj), 1))

omit [FloatOps F] in
theorem own_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- What each TensorCore is dealt: its pipeline's cells and its transfers' tokens. -/
abbrev G (d : Dev nD) : sProp 𝕄 :=
  iprop(Pipeline.cellsGhost (Pipeline.pin (pcfgs (F := F)) adm0) EP 0 d ∗ Pipeline.toksInit (Pipeline.pin (pcfgs (F := F)) adm0) EP 0 d)

theorem hu₀ : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (X m) (B m) (O₀ m)).x q thr) := by
  unfold u₀
  iintro Hu
  ihave H := (own_split _ _) $$ Hu
  icases H with ⟨HH, HP⟩
  imod (Pipeline.fund_ghost (Pipeline.pin (pcfgs (F := F)) adm0) EP Gen.cellOf_inj) $$ HP with ⟨Hg, Ht⟩
  imodintro
  isplitl [HH]; · iexact HH
  isplitl [Hg Ht]
  · rw [bigSep_sep']
    have hone (Φ : Fin 1 → Dev nD → sProp 𝕄) : (bigSep Finset.univ fun d : Dev nD => bigSep Finset.univ fun p => Φ p d) ⊢ bigSep Finset.univ fun d => Φ 0 d :=
      Entails.of_eq (bigSep_congr fun d _ => bigSep_univ_of_subsingleton (Φ := fun p => Φ p d) (0 : Fin 1))
    isplitl [Hg]
    · iapply (hone (Pipeline.cellsGhost (Pipeline.pin (pcfgs (F := F)) adm0) EP)); iexact Hg
    · iapply (hone (Pipeline.toksInit (Pipeline.pin (pcfgs (F := F)) adm0) EP)); iexact Ht
  rw [show (fun thr : Thread nD τ => bigSep Finset.univ fun q : Fin 1 => ((P (X m) (B m) (O₀ m)).x q thr : sProp 𝕄)) = fun _ => iprop(emp) from
    funext fun _ => bigSep_univ_of_subsingleton (0 : Fin 1)]
  rw [show (bigSep Finset.univ fun _ : Thread nD τ => iprop(emp)) = (iprop(emp) : sProp 𝕄) from bigSep_emp_const _]
  iempintro

/-! ## @main -/

abbrev FIN (d : Dev nD) : sProp 𝕄 := held (d.tc : Thread nD τ) (Pipeline.ucRefs τ sig) (V4 m d)

abbrev theReg : Pipeline.RegionSeg (pcfgs (F := F)) adm0 (pdats (fun c b => V3 m c b) adm0) (none : HIx 1) defs₀ 𝒱₀ (K (F := F)).L (K (F := F)).lev 0 :=
  reg (fun c b => V3 m c b) adm0 (fun c b => V4 m c b) (V4_result m) (V4_ne m)

/-- After the call the TensorCore owes nothing; its recorded waits are the call's. -/
theorem tcSt_owes (d : Dev nD) : ∃ R : sProp 𝕄, (K (F := F)).tcSt EH d 1
    = iprop((∃ W, ⌜(K (F := F)).WBelow (d.tc : Thread nD τ) W 8⌝ ∗ owes (d.tc : Thread nD τ) (0 : CellTallies nD τ sig (HIx 1)) W) ∗ R) := by
  apply Exists.intro
  unfold SparseCore.Cfg.tcSt
  rw [(K (F := F)).Otc_end d (n := 1) (le_refl _)]
  exact rfl

theorem theReg_pre (d : Dev nD) : (theReg m).pre d = iprop(unscopedBufs d (fun b => V3 m d b) ∗ ∃ W, ⌜(K (F := F)).WBelow (d.tc : Thread nD τ) W 8⌝ ∗ owes (d.tc : Thread nD τ) (0 : CellTallies nD τ sig (HIx 1)) W) := rfl
theorem theReg_post (d : Dev nD) : (theReg m).post d = iprop(unscopedBufs d (fun b => V4 m d b) ∗ ∃ W, ⌜(K (F := F)).WBelow (d.tc : Thread nD τ) W 8⌝ ∗ owes (d.tc : Thread nD τ) (0 : CellTallies nD τ sig (HIx 1)) W) := rfl

theorem region_wp [∀ e, Nonempty (Elt F e)] (d : Dev nD) (Q : PUnit → sProp 𝕄) :
    iprop((iprop(boundary (d.tc : Thread nD τ) ∗ iprop(unscopedBufs d (fun b => V4 m d b) ∗ ∃ W, ⌜(K (F := F)).WBelow (d.tc : Thread nD τ) W 8⌝ ∗ owes (d.tc : Thread nD τ) (0 : CellTallies nD τ sig (HIx 1)) W)) -∗ Q ⟨⟩) ∗ boundary (d.tc : Thread nD τ) ∗ iprop(unscopedBufs d (fun b => V3 m d b) ∗ ∃ W, ⌜(K (F := F)).WBelow (d.tc : Thread nD τ) W 8⌝ ∗ owes (d.tc : Thread nD τ) (0 : CellTallies nD τ sig (HIx 1)) W)
        ∗ levAts (K (F := F)).L (K (F := F)).lev ∗ G d)
      ⊢ wp frame (wpE ((K (F := F)).defs (D (F := F))) 𝒱 (SparseCore.T d) none) Set.univ
          (SparseCore.liftProg (.op (.customCall (Pipeline.entry 0) ()) fun _ => .ret ⟨⟩)) Q := by
  refine BI.Entails.trans ?_ ((K (F := F)).wp_liftProg (D (F := F)) 𝒱 (SparseCore.T d) Set.univ none _ _)
  have h := (theReg m).wp (pcfgs (F := F)) adm0 (pdats (fun c b => V3 m c b) adm0) none Gen.cellOf_inj EP defs₀ 𝒱₀ (K (F := F)).L (K (F := F)).lev d none
    (fun _ hu => absurd hu (by simp)) (fun _ => .ret ⟨⟩) Q
  rw [theReg_pre, theReg_post] at h
  refine BI.Entails.trans ?_ h
  change iprop(_ ∗ _) ⊢ (_ : sProp 𝕄)
  iintro ⟨Hk, Hb, Hp, Hl, Hg, Ht⟩
  isplitl [Hk]
  · iintro H; rw [wp_ret]; imodintro; iapply Hk; iexact H
  isplitl [Hb]; · iexact Hb
  isplitl [Hp]; · iexact Hp
  isplitl [Hl]; · iexact Hl
  isplitl [Hg] <;> iassumption

theorem hmain [∀ e, Nonempty (Elt F e)] (κ : GSem nD τ sig → ℕ) (d : Dev nD) :
    iprop((K (F := F)).ctx EH (P (X m) (B m) (O₀ m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq]
  obtain ⟨R, hR⟩ := tcSt_owes (F := F) d
  iintro ⟨#Hctx, Hst, ⟨Hb, Hub, Hts, -⟩, HG⟩
  ihave Hh := (Entails.of_eq (show (unscopedBufs d (fun b => m ((SparseCore.T d).loc b)) : sProp 𝕄) = held (d.tc : Thread nD τ) (Pipeline.ucRefs τ sig) (V0 m d) from
    Pipeline.unscopedBufs_held d (V0 m d))) $$ Hub
  iapply (StableHlo.wp_seq 𝒱 none Set.univ d (Pipeline.ucRefs τ sig) _ ops1
    ops1_sub
    (List.forall_iff_forall_mem.mp (StableHlo.forall_fresh_of_map rfl)) (V0 m d)) $$ [Hb Hh]
  · isplitl [Hb] <;> iassumption
  iintro ⟨Hb, Hh⟩
  ihave Hh2 := (Entails.of_eq (show (held (d.tc : Thread nD τ) (Pipeline.ucRefs τ sig) (after ops1 (V0 m d)) : sProp 𝕄) = _ from held_trio d (V1 m d))) $$ Hh
  icases Hh2 with ⟨H3, Hrest⟩
  ihave H4 := (show iprop((bLoc d ↦{fullShare} V1 m d main_v10) ∗ (xLoc d ↦{fullShare} V1 m d main_arg0) ∗ (oLoc d ↦{fullShare} V1 m d main_v11)) ⊢ _ from
    call_split (X m) (B m) d (O₀ m d) (part (X m d) (B m d))) $$ H3
  icases H4 with ⟨Hgo, Hback⟩
  rw [wp_bind]
  iapply ((K (F := F)).wp_run (D (F := F)) 𝒱 (EH := EH) (P := P (X m) (B m) (O₀ m)) κ d 0)
  isplitr; · iexact Hctx
  isplitl [Hst]; · iexact Hst
  isplitl [Hgo]; · iexact Hgo
  iintro ⟨Hst, Hdn⟩
  ihave H3 := Hback $$ [Hdn]
  · iexact Hdn
  ihave Hh := (V2_trio m d) $$ [H3 Hrest]
  · isplitl [H3] <;> iassumption
  iapply (StableHlo.wp_seq 𝒱 none Set.univ d (Pipeline.ucRefs τ sig) _ ops2
    ops2_sub
    (List.forall_iff_forall_mem.mp (StableHlo.forall_fresh_of_map rfl)) (V2 m d)) $$ [Hb Hh]
  · isplitl [Hb] <;> iassumption
  iintro ⟨Hb, Hh⟩
  ihave Hub := (Entails.of_eq (show (held (d.tc : Thread nD τ) (Pipeline.ucRefs τ sig) (after ops2 (V2 m d)) : sProp 𝕄) = _ from
    (Pipeline.unscopedBufs_held d (V3 m d)).symm)) $$ Hh
  ihave Hst2 := (show (K (F := F)).tcSt EH d ((0 : Fin 1).val + 1) ⊢ _ from Entails.of_eq hR) $$ Hst
  icases Hst2 with ⟨HO, HR⟩
  iapply (region_wp m d _)
  isplitl [HR Hts]
  · iintro ⟨Hb, Hub, HO⟩
    ihave Hh := (Entails.of_eq (Pipeline.unscopedBufs_held d (V4 m d))) $$ Hub
    isplitl [HO HR]
    · iapply (Entails.of_eq hR.symm); isplitl [HO] <;> iassumption
    isplitl [Hh]; · iexact Hh
    isplitl [Hb] <;> iassumption
  isplitl [Hb]; · iexact Hb
  isplitl [Hub HO]
  · isplitl [Hub] <;> iassumption
  isplitr; · iapply (ctx_levAts κ); iexact Hctx
  iexact HG

/-! ## What memory holds at the end -/

def fq (d : Dev nD) (s' : Phys nD τ sig (Elt F)) : Prop := ∀ b ∈ Pipeline.ucRefs τ sig, s'.mem.mem (d, b) = V4 m d b

theorem hfin (d : Dev nD) (s' : Phys nD τ sig (Elt F)) : iprop(FIN m d ∗ SI s') ⊢ (⌜fq m d s'⌝ : sProp 𝕄) := by
  unfold fq
  refine Entails.trans ?_ pure_forall.2
  refine forall_intro fun b => ?_
  refine Entails.trans ?_ pure_forall.2
  refine forall_intro fun hb => ?_
  unfold FIN held
  have he : (bigSep (Pipeline.ucRefs τ sig) fun b => (((d, b) : Loc nD τ sig) ↦{fullShare} V4 m d b : sProp 𝕄)) ⊢ (((d, b) : Loc nD τ sig) ↦{fullShare} V4 m d b) := bigSep_elim hb
  iintro ⟨Hh, HSI⟩
  ihave Hb := he $$ Hh
  ihave H := (SI_pointsTo_agree (st := s') (ℓ := (d, b)) (I := Finset.univ) (q := fullShare) (f := V4 m d b)) $$ [HSI Hb]
  · isplitl [HSI] <;> iassumption
  icases H with %h
  ipureintro
  exact funext fun i => h i (Finset.mem_univ i)

omit [FloatOps F] in
theorem mem_uc (b : Ref sig .tc) (h : ¬ b.isScoped) : (b : DevRef τ sig) ∈ Pipeline.ucRefs τ sig :=
  Finset.mem_filter.mpr ⟨Finset.mem_map_of_mem _ (Finset.mem_univ _), h⟩

/-- The end of the program: the arguments as they were, the result at the TensorCore kernel's value, every counter zero. -/
def QC : PUnit × MemSt nD τ sig (Elt F) → Prop := fun r =>
  (∀ c : Dev nD, r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_v15) = V4 m c main_v15) ∧ r.2.sem = fun _ => 0

theorem run_main [∀ e, Nonempty (Elt F e)] (hB : ∀ d j, (B m d j).toNat < 264) :
    θ_run (defs (F := F)) (threads (F := F)) ⟨m, fun _ => 0, ρ⟩ (QC m) :=
  SparseCore.Cfg.θ_run_sc_quiescent (K := K (F := F)) (D := D (F := F)) (𝒱 := 𝒱) (EH := EH) (P := P (X m) (B m) (O₀ m)) (A := ∅) facts v₀
    (fun q hq => match q with | 0 => nomatch hq)
    (fun q _ => match q with | 0 => tileObl (X m) (B m) (O₀ m) facts hB)
    (fun q _ => match q with | 0 => SparseCore.Cfg.VecSplit.of_plain (vecSplit (X m) (B m) (O₀ m)))
    m ρ main G (FIN m) (u₀ (F := F)) (sep_elim_left.trans (hu₀ m)) (hmain m ρ) (fq m) (hfin m) (QC m)
    (fun s' h hz => ⟨fun c => ⟨
      (h c _ (mem_uc main_arg0 (by decide))).trans (V4_keep m c main_arg0 (by decide) (by decide) (by decide) (by decide)),
      (h c _ (mem_uc main_arg1 (by decide))).trans (V4_keep m c main_arg1 (by decide) (by decide) (by decide) (by decide)),
      (h c _ (mem_uc main_arg2 (by decide))).trans (V4_keep m c main_arg2 (by decide) (by decide) (by decide) (by decide)),
      (h c _ (mem_uc main_arg3 (by decide))).trans (V4_keep m c main_arg3 (by decide) (by decide) (by decide) (by decide)),
      (h c _ (mem_uc main_arg4 (by decide))).trans (V4_keep m c main_arg4 (by decide) (by decide) (by decide) (by decide)),
      h c _ (mem_uc main_v15 (by decide))⟩, hz⟩)

end Cert.SegSum
-- ==== Proof.Batch.lean ====
/- The segment words the SparseCore kernel reads: what the host lays out of the batch, and their range. -/
module

public import proofs.«01_k».proof.Proof.Run
public import proofs.«01_k».proof.Pre_in_range
public import Idealize.ShloMosaic.Lib.ReduceAll
public import Idealize.ShloMosaic.Lib.Pipeline.Value
public import Idealize.ShloMosaic.Lib.Pointwise.Index
public import Idealize.ShloMosaic.Lib.StableHlo.Run
public import Idealize.ShloMosaic.Lib.Tactic

@[expose] public section

noncomputable section

namespace Cert.SegSum

open Cert.KernelIdeal Cert.KernelIdeal.Facts₀
open Idealize.ShloMosaic
open Idealize.ShloMosaic.TcCoe

variable {F : FTy → Type} [FloatOps F]

/-- The last 32 batch words (the layout prepends an empty array). -/
def lastRow (b : IVec S100000 32) : IVec S32 32 :=
  concatenate S32 0 [⟨S0, broadcastInDim S0 ![] bcast_S_S0 (constantI S_ 32 256#32)⟩, ⟨S32, extractStridedSlice S32 ![99968] b slices_S100000_S32_99968⟩] concatenates_S0_S32_S32_d0

/-- The batch in rows of 32, a row of words 256 after it. -/
def rowsOf (b : IVec S100000 32) : IVec S3126x32 32 :=
  concatenate S3126x32 0 [⟨S3124x32, shapeCast S3124x32 (extractStridedSlice S99968 ![0] b slices_S100000_S99968_0) shapeCasts_S99968_S3124x32⟩,
    ⟨S1x32, broadcastInDim S1x32 ![1] bcast_S32_S1x32_1 (lastRow b)⟩,
    ⟨S1x32, broadcastInDim S1x32 ![] bcast_S_S1x32 (constantI S_ 32 256#32)⟩] concatenates_S3124x32_S1x32_S1x32_S3126x32_d0

/-- Each word of those rows sixteen times. -/
def wordsOf (b : IVec S100000 32) : IVec S3126x512 32 :=
  shapeCast S3126x512 (broadcastInDim S3126x32x16 ![0, 1, 2] bcast_S3126x32x1_S3126x32x16_0_1_2
    (broadcastInDim S3126x32x1 ![0, 1] bcast_S3126x32_S3126x32x1_0_1 (rowsOf b))) shapeCasts_S3126x32x16_S3126x512

theorem B_eq (m : (ℓ : Loc nD τ sig) → Buf (Elt F) ℓ) (d : Dev nD) : B m d = wordsOf (m ((d.tc : Thread nD τ).loc main_arg2)) := by
  unfold B V1 ops1
  after_results
  rfl

theorem lastRow_apply (b : IVec S100000 32) (r : Fin 32) : lastRow b (ix1 r) = b (ix1 ⟨99968 + r.val, by omega⟩) := by
  unfold lastRow
  refine (concatenate_apply_piece (t := S32) 0 _ _ (ix1 r) 1 (by simp) S32 _ rfl rfl 0 rfl (ix1 r) ?_ ?_).trans ?_
  · intro a ha; match a with | 0 => exact absurd rfl ha
  · show 0 + r.val = r.val; omega
  · refine congrArg b (funext fun a => ?_)
    match a with | ⟨0, _⟩ => rfl

theorem rowsOf_apply (b : IVec S100000 32) (j : Fin 3126) (r : Fin 32) :
    rowsOf b (ix2 j r) = if h : 32 * j.val + r.val < 100000 then b (ix1 ⟨32 * j.val + r.val, h⟩) else 256#32 := by
  unfold rowsOf
  by_cases h1 : j.val < 3124
  · rw [dif_pos (by omega)]
    refine (concatenate_apply_piece (t := S3126x32) 0 _ _ (ix2 j r) 0 (by simp) S3124x32 _ rfl rfl 0 rfl (ix2 ⟨j.val, h1⟩ r) ?_ ?_).trans ?_
    · intro a ha; match a with | 0 => exact absurd rfl ha | 1 => rfl
    · show 0 + j.val = j.val; omega
    · refine (shapeCast_apply _ _ _ (ix1 ⟨32 * j.val + r.val, by omega⟩) ?_).trans ?_
      · rw [Shape.rowMajor_val_one, Shape.rowMajor_val_two]
        show 32 * j.val + r.val = j.val * 32 + r.val; omega
      · refine congrArg b (funext fun a => ?_)
        match a with | ⟨0, _⟩ => exact Fin.ext (Nat.zero_add _)
  · by_cases h2 : j.val < 3125
    · have hj : j.val = 3124 := by omega
      rw [dif_pos (by omega)]
      refine (concatenate_apply_piece (t := S3126x32) 0 _ _ (ix2 j r) 1 (by simp) S1x32 _ rfl rfl 3124 rfl (ix2 0 r) ?_ ?_).trans ?_
      · intro a ha; match a with | 0 => exact absurd rfl ha | 1 => rfl
      · show 3124 + 0 = j.val; omega
      · refine (show _ = lastRow b (ix1 r) from ?_).trans ((lastRow_apply b r).trans (congrArg b ?_))
        · refine congrArg (lastRow b) (funext fun a => ?_)
          match a with | ⟨0, _⟩ => rfl
        · refine congrArg ix1 (Fin.ext ?_)
          show 99968 + r.val = 32 * j.val + r.val; omega
    · have hj : j.val = 3125 := by omega
      rw [dif_neg (by omega)]
      refine (concatenate_apply_piece (t := S3126x32) 0 _ _ (ix2 j r) 2 (by simp) S1x32 _ rfl rfl 3125 rfl (ix2 0 r) ?_ ?_).trans rfl
      · intro a ha; match a with | 0 => exact absurd rfl ha | 1 => rfl
      · show 3125 + 0 = j.val; omega

/-- Word `q` of row `j` is the batch word of row `32 j + q / 16`, or 256 beyond the batch. -/
theorem wordsOf_apply (b : IVec S100000 32) (j : Fin 3126) (r : Fin 32) (l : Fin 16) :
    wordsOf b (ix2 j ⟨16 * r.val + l.val, by omega⟩) = if h : 32 * j.val + r.val < 100000 then b (ix1 ⟨32 * j.val + r.val, h⟩) else 256#32 := by
  rw [← rowsOf_apply]
  unfold wordsOf
  refine (shapeCast_apply _ _ _ (ix3 j r l) ?_).trans ?_
  · rw [Shape.rowMajor_val_three, Shape.rowMajor_val_two]
    show (j.val * 32 + r.val) * 16 + l.val = j.val * 512 + (16 * r.val + l.val); omega
  · unfold broadcastInDim
    refine congrArg (rowsOf b) (funext fun a => ?_)
    match a with | ⟨0, _⟩ => rfl | ⟨1, _⟩ => rfl

theorem wordsOf_lt {b : IVec S100000 32} (h : ∀ x, (b x).toNat < 256) (j : S3126x512.Idx) : (wordsOf b j).toNat < 264 := by
  obtain ⟨j', r, l, rfl⟩ : ∃ (j' : Fin 3126) (r : Fin 32) (l : Fin 16), j = ix2 j' ⟨16 * r.val + l.val, by clear h; omega⟩ := by
    have hq : (j 1).val < 512 := (j 1).isLt
    refine ⟨j 0, ⟨(j 1).val / 16, by omega⟩, ⟨(j 1).val % 16, by omega⟩, funext fun a => ?_⟩
    match a with | ⟨0, _⟩ => rfl | ⟨1, _⟩ => exact Fin.ext (Nat.div_add_mod _ _).symm
  rw [wordsOf_apply]
  split
  · have := h (ix1 ⟨_, by assumption⟩); omega
  · decide

/-- What the precondition says of the batch: every word is below 256. -/
theorem batch_lt [Cert.Pre_in_range.Facts] {x : FVec F S100000x256 .f32} {g : FVec F S256x256 .f32} {b : IVec S100000 32} {w : FVec F S256x512 .f32}
    {v : FVec F S256 .f32} (h : Cert.Pre_in_range.fn x g b w v = fun _ => 1#1) (k : S100000.Idx) : (b k).toNat < 256 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  haveI : Subsingleton Cert.Pre_in_range.S_.Idx := ⟨fun a b => funext fun i => i.elim0⟩
  have e := Host.reduce_andi_all _ _ _ _ _ (congrFun h (fun i => i.elim0)) k
  have e : IntOp.andi (IntOp.cmpi .sge (b k) 0#32) (IntOp.cmpi .slt (b k) 256#32) = 1#1 := e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

end Cert.SegSum
-- ==== Proof.Sums.lean ====
/- In exact arithmetic a tile's accumulator ends with, per segment and column, the sum of the tile's rows of that segment. -/
module

public import proofs.«01_k».proof.Proof.Values
public import Idealize.ShloMosaic.PureOps.Ideal
public import Idealize.ShloMosaic.Lib.IdealHost
public import Idealize.ShloMosaic.Lib.Pipeline.Value
public import Idealize.ShloMosaic.Lib.Pointwise.Index

@[expose] public section

noncomputable section

namespace Cert.SegSum

open Idealize.ShloMosaic
open Cert.KernelIdeal Cert.KernelIdeal.Facts₀ Cert.KernelIdeal.Facts

variable [Facts]

/-! ## A scatter-add is a sum -/

omit [Facts] in
theorem ofLane_eq (k : Fin 16) : (Shape.ofLane k : (⟨1, ![16]⟩ : Shape).Idx) = ix1 k := by
  funext a
  match a with | ⟨0, _⟩ => rfl

omit [Facts] in
/-- A choice does not depend on how its condition is decided. -/
theorem ite_inst {α : Type} {P : Prop} (d₁ d₂ : Decidable P) (x y : α) : @ite _ P d₁ x y = @ite _ P d₂ x y := by
  by_cases h : P
  · rw [if_pos h, if_pos h]
  · rw [if_neg h, if_neg h]

omit [Facts] in
/-- An element after a scatter-add: what it was, and the sum of the set lanes that name it. -/
theorem storeIdx_add {s : Shape} (f : Vec Ideal s .f32) (idxs : Fin s.rank → IVec S16 32) (v : V Ideal) (mask : IVec S16 1)
    (h : ∀ a x, (idxs a x).toNat < s.size a) (j : s.Idx) :
    (storeIdx f idxs v mask true h j : EReal)
      = f j + ∑ k : Fin 16, if mask (ix1 k) = 1 ∧ ∀ a, (j a).val = (idxs a (ix1 k)).toNat then (v (ix1 k) : EReal) else 0 := by
  have key : ∀ (o : Fin 16 → S16.Idx) (L : List (Fin 16)) (f : Vec Ideal s .f32),
      ((L.foldl (fun (g : Vec Ideal s .f32) k => if mask (o k) = 1 then
          (fun j => if ∀ a, (j a).val = (idxAt idxs h (o k) a).val then (g (idxAt idxs h (o k)) + v (o k) : EReal) else g j) else g) f : Vec Ideal s .f32) j : EReal)
        = f j + (L.map fun k => if mask (o k) = 1 ∧ ∀ a, (j a).val = (idxs a (o k)).toNat then (v (o k) : EReal) else 0).sum := by
    intro o L
    induction L with
    | nil => intro f; simp
    | cons k L ih =>
      intro f
      rw [List.foldl_cons, ih, List.map_cons, List.sum_cons, ← add_assoc]
      congr 1
      by_cases hm : mask (o k) = 1
      · rw [if_pos hm]
        by_cases hj : ∀ a, (j a).val = (idxAt idxs h (o k) a).val
        · have e : idxAt idxs h (o k) = j := funext fun a => (Fin.ext (hj a)).symm
          rw [if_pos (⟨hm, hj⟩ : mask (o k) = 1 ∧ ∀ a, (j a).val = (idxs a (o k)).toNat)]
          refine (if_pos hj).trans ?_
          rw [e]
        · rw [if_neg (fun hh => hj hh.2 : ¬ (mask (o k) = 1 ∧ ∀ a, (j a).val = (idxs a (o k)).toNat)), add_zero]
          exact if_neg hj
      · rw [if_neg hm, if_neg fun hh => hm hh.1, add_zero]
  have e := key (fun k => Shape.ofLane (d := ![16]) k) (List.finRange 16) f
  refine Eq.trans ?_ (e.trans ?_)
  · unfold storeIdx
    refine congrFun (congrArg (fun φ => List.foldl φ f (List.finRange 16)) (funext fun g => funext fun k => ?_)) j
    refine if_congr Iff.rfl (funext fun j => ?_) rfl
    exact ite_inst _ _ _ _
  rw [Fin.sum_univ_def]
  simp only [ofLane_eq]

/-- The accumulator's element of segment `s` and column `16 c + l`. -/
def aIx (s : Fin 264) (c l : Fin 16) : S264x256.Idx := ix2 s ⟨16 * c.val + l.val, by omega⟩

/-- The lane numbers of group `c`. -/
def grp (c : Fin 16) : W := addi lanes (broadcast S16 (BitVec.ofNat 32 (16 * c.val)))

theorem grp_toNat (c l : Fin 16) : (grp c (ix1 l)).toNat = 16 * c.val + l.val :=
  lane_toNat (16 * c.val) (by omega) (ix1 l)

theorem grp_inb {p : W} (hp : ∀ x, (p x).toNat < 264) (c : Fin 16) : Inb p (grp c) := by
  intro a x
  match a with
  | 0 => exact hp x
  | 1 => exact lane_lt (16 * c.val) (by omega) x

theorem scat_apply {p : W} (hp : ∀ x, (p x).toNat < 264) (f : Acc Ideal) (c c' : Fin 16) (a : V Ideal) (m : IVec S16 1) (s : Fin 264) (l : Fin 16) :
    (scat f p (grp c) a m (aIx s c' l) : EReal)
      = f (aIx s c' l) + if c = c' then (if m (ix1 l) = 1 ∧ (p (ix1 l)).toNat = s.val then (a (ix1 l) : EReal) else 0) else 0 := by
  unfold scat
  rw [dif_pos (grp_inb hp c)]
  refine (storeIdx_add f ![p, grp c] a m (grp_inb hp c) (aIx s c' l)).trans ?_
  congr 1
  have e (k : Fin 16) : (∀ b, (aIx s c' l b).val = ((![p, grp c] : Fin 2 → W) b (ix1 k)).toNat) ↔ (s.val = (p (ix1 k)).toNat ∧ c = c' ∧ k = l) := by
    rw [Fin.forall_fin_two]
    show s.val = (p (ix1 k)).toNat ∧ 16 * c'.val + l.val = (grp c (ix1 k)).toNat ↔ _
    rw [grp_toNat, Fin.ext_iff, Fin.ext_iff]
    omega
  rw [Finset.sum_eq_single l]
  · refine (if_congr (and_congr Iff.rfl (e l)) rfl rfl).trans ?_
    by_cases hc : c = c'
    · rw [if_pos hc]
      exact if_congr ⟨fun h => ⟨h.1, h.2.1.symm⟩, fun h => ⟨h.1, h.2.symm, hc, rfl⟩⟩ rfl rfl
    · rw [if_neg hc, if_neg fun h => hc h.2.2.1]
  · intro k _ hk
    exact if_neg fun h => hk ((e k).mp h.2).2.2
  · intro h; exact absurd (Finset.mem_univ l) h

theorem groups_list : groups.list = (List.finRange 16).map fun c => (c, grp c) := by
  simp only [Cols.list, List.finRange, List.ofFn_succ, List.ofFn_zero, List.map_cons, List.map_nil]
  rfl

theorem accF_apply {p : W} (hp : ∀ x, (p x).toNat < 264) (m : IVec S16 1) (U : Fin 16 → V Ideal) (f : Acc Ideal) (s : Fin 264) (c l : Fin 16) :
    (accF p m groups.list ((List.finRange 16).map U) f (aIx s c l) : EReal)
      = f (aIx s c l) + if m (ix1 l) = 1 ∧ (p (ix1 l)).toNat = s.val then (U c (ix1 l) : EReal) else 0 := by
  have key : ∀ (L : List (Fin 16)) (f : Acc Ideal), (accF p m (L.map fun c => (c, grp c)) (L.map U) f (aIx s c l) : EReal)
      = f (aIx s c l) + (L.map fun c' => if c' = c then (if m (ix1 l) = 1 ∧ (p (ix1 l)).toNat = s.val then (U c' (ix1 l) : EReal) else 0) else 0).sum := by
    intro L
    induction L with
    | nil => intro f; simp [accF]
    | cons k L ih =>
      intro f
      rw [List.map_cons, List.map_cons, List.map_cons, List.sum_cons, ← add_assoc, ← scat_apply hp]
      exact ih _
  rw [groups_list, key, ← Fin.sum_univ_def, Finset.sum_ite_eq' Finset.univ c, if_pos (Finset.mem_univ c)]

theorem sumF_map (R : Vec Ideal S32x256 .f32) (r : Fin 32) (m : IVec S16 1) (U : Fin 16 → V Ideal) :
    sumF R r m groups.list ((List.finRange 16).map U) = (List.finRange 16).map fun c => select m (rowVec R r c) (addf (U c) (rowVec R r c)) := by
  rw [groups_list]
  generalize List.finRange 16 = L
  induction L with
  | nil => rfl
  | cons k L ih => rw [List.map_cons, List.map_cons, List.map_cons, ← ih]; rfl

/-! ## What a tile has added up -/

/-- The accumulator and the running sums of the current segment together hold `S`. -/
def Sums (st : St Ideal) (S : Fin 264 → Fin 16 → Fin 16 → EReal) : Prop :=
  (∀ x, (st.p x).toNat < 264) ∧ ∃ U : Fin 16 → V Ideal, st.u = (List.finRange 16).map U
    ∧ ∀ s c l, (st.f (aIx s c l) : EReal) + (if (st.p (ix1 l)).toNat = s.val then (U c (ix1 l) : EReal) else 0) = S s c l

theorem segVec_apply (I : Vec Ideal S512 .i32) (r : Fin 32) (l : Fin 16) : segVec I r (ix1 l) = I (ix1 ⟨16 * r.val + l.val, by omega⟩) := by
  unfold segVec
  refine congrArg I (funext fun a => ?_)
  match a with
  | ⟨0, _⟩ => apply Fin.ext; show 16 * r.val + 1 * l.val = 16 * r.val + l.val; omega

theorem rowVec_apply (R : Vec Ideal S32x256 .f32) (r : Fin 32) (c l : Fin 16) : rowVec R r c (ix1 l) = R (ix2 r ⟨16 * c.val + l.val, by omega⟩) := by
  unfold rowVec
  refine (shapeCast_apply _ _ _ (ix2 0 l) ?_).trans (congrArg R (funext fun a => ?_))
  · rw [Shape.rowMajor_val_one, Shape.rowMajor_val_two]
    show 0 * 16 + l.val = l.val; omega
  · match a with
    | ⟨0, _⟩ => apply Fin.ext; show r.val + 1 * 0 = r.val; omega
    | ⟨1, _⟩ => apply Fin.ext; show 16 * c.val + 1 * l.val = 16 * c.val + l.val; omega

/-- What row `r` of a block adds. -/
def rowAdd (I : Vec Ideal S512 .i32) (R : Vec Ideal S32x256 .f32) (r : Fin 32) (s : Fin 264) (c l : Fin 16) : EReal :=
  if (I (ix1 ⟨16 * r.val + l.val, by omega⟩)).toNat = s.val then (R (ix2 r ⟨16 * c.val + l.val, by omega⟩) : EReal) else 0

theorem rowF_sums {I : Vec Ideal S512 .i32} {R : Vec Ideal S32x256 .f32} (hI : ∀ x, (I x).toNat < 264) {st : St Ideal}
    {S : Fin 264 → Fin 16 → Fin 16 → EReal} (h : Sums st S) (r : Fin 32) :
    Sums (rowF groups I R st r) fun s c l => S s c l + rowAdd I R r s c l := by
  obtain ⟨hp, U, hu, hS⟩ := h
  refine ⟨fun x => hI _, fun c => select (cmpi .ne (segVec I r) st.p) (rowVec R r c) (addf (U c) (rowVec R r c)), ?_, fun s c l => ?_⟩
  · show sumF R r _ groups.list st.u = _
    rw [hu, sumF_map]
  · show (accF st.p _ groups.list st.u st.f (aIx s c l) : EReal) + (if (segVec I r (ix1 l)).toNat = s.val then _ else 0) = _
    rw [hu, accF_apply hp]
    show _ = S s c l + rowAdd I R r s c l
    rw [← hS s c l]
    unfold rowAdd
    rw [← segVec_apply I r l, ← rowVec_apply R r c l]
    show ((st.f (aIx s c l) : EReal) + if BitVec.ofBool (segVec I r (ix1 l) != st.p (ix1 l)) = 1#1 ∧ _ then _ else 0)
        + (if _ then (if BitVec.ofBool (segVec I r (ix1 l) != st.p (ix1 l)) = 1#1 then rowVec R r c (ix1 l) else ((U c (ix1 l) : EReal) + rowVec R r c (ix1 l))) else 0) = _
    by_cases e : segVec I r (ix1 l) = st.p (ix1 l)
    · have hb : ¬ BitVec.ofBool (segVec I r (ix1 l) != st.p (ix1 l)) = 1#1 := by rw [e]; simp
      refine (congrArg₂ _ (congrArg₂ _ rfl (if_neg fun h => hb h.1)) (congrArg (fun v : EReal => if (segVec I r (ix1 l)).toNat = s.val then v else 0) (if_neg hb))).trans ?_
      rw [e, add_zero]
      by_cases hs : (st.p (ix1 l)).toNat = s.val
      · rw [if_pos hs, if_pos hs, if_pos hs, add_assoc]
      · simp only [if_neg hs, add_zero]
    · have hb : BitVec.ofBool (segVec I r (ix1 l) != st.p (ix1 l)) = 1#1 := by rw [bne_iff_ne.mpr e]; rfl
      refine congrArg₂ _ (congrArg₂ _ rfl (if_congr ⟨fun h => h.2, fun h => ⟨hb, h⟩⟩ rfl rfl)) (congrArg (fun v : EReal => if (segVec I r (ix1 l)).toNat = s.val then v else 0) (if_pos hb))

theorem rows32_eq : rows32 = List.finRange 32 := by
  simp only [rows32, List.finRange, List.ofFn_succ, List.ofFn_zero]
  rfl

theorem rowsF_sums {I : Vec Ideal S512 .i32} {R : Vec Ideal S32x256 .f32} (hI : ∀ x, (I x).toNat < 264) {st : St Ideal}
    {S : Fin 264 → Fin 16 → Fin 16 → EReal} (h : Sums st S) :
    Sums (rowsF groups I R rows32 st) fun s c l => S s c l + ∑ r : Fin 32, rowAdd I R r s c l := by
  have key : ∀ (rs : List (Fin 32)) (st : St Ideal) (S : Fin 264 → Fin 16 → Fin 16 → EReal), Sums st S →
      Sums (rowsF groups I R rs st) fun s c l => S s c l + (rs.map fun r => rowAdd I R r s c l).sum := by
    intro rs
    induction rs with
    | nil => intro st S h; simpa [rowsF] using h
    | cons r rs ih =>
      intro st S h
      have := ih _ _ (rowF_sums (R := R) hI h r)
      simp only [add_assoc] at this
      simp only [List.map_cons, List.sum_cons]
      exact this
  have := key (List.finRange 32) st S h
  rw [rows32_eq]
  simpa only [Fin.sum_univ_def] using this

/-- The running sums added in too, the accumulator alone holds `S`. -/
theorem flush_sums {st : St Ideal} {S : Fin 264 → Fin 16 → Fin 16 → EReal} (h : Sums st S) (s : Fin 264) (c l : Fin 16) :
    (accF st.p (fun _ => 1#1) groups.list st.u st.f (aIx s c l) : EReal) = S s c l := by
  obtain ⟨hp, U, hu, hS⟩ := h
  refine Eq.trans ?_ (hS s c l)
  rw [hu, accF_apply hp]
  congr 1
  exact if_congr ⟨fun h => h.2, fun h => ⟨rfl, h⟩⟩ rfl rfl

section
variable (i : grid0.Coords) (X : Vec Ideal S100000x256 .f32) (B : Vec Ideal S3126x512 .i32)

theorem bVal_apply (k : Nat) (q : Fin 512) : bVal i B k (ix1 q) = B (ix2 ⟨blk i k, by have : blk i k ≤ 3125 := Nat.min_le_right _ _; omega⟩ q) := by
  unfold bVal
  refine (View.read_apply _ _).trans ((cast_eq _ _).trans (congrArg B (funext fun a => ?_)))
  apply Fin.ext
  show (((Rect.unit (s := S3126x512) ![blk i k, 0] S1x512.size (blk_inb i k)).emb (Shape.reshapeEquiv _ (ix1 q))) a).val = _
  rw [Shape.reshapeEquiv_cons_one]
  match a with
  | ⟨0, _⟩ => show blk i k + 1 * 0 = blk i k; omega
  | ⟨1, _⟩ => show 0 + 1 * q.val = q.val; omega

theorem xVal_apply (k : Nat) (r : Fin 32) (d : Fin 256) :
    xVal i X k (ix2 r d) = X (ix2 ⟨strt i k + r.val, by have : strt i k ≤ 99968 := Nat.min_le_right _ _; omega⟩ d) := by
  unfold xVal
  refine (View.read_apply _ _).trans ((cast_eq _ _).trans (congrArg X (funext fun a => ?_)))
  match a with
  | ⟨0, _⟩ => apply Fin.ext; show strt i k + 1 * r.val = strt i k + r.val; omega
  | ⟨1, _⟩ => apply Fin.ext; show 0 + 1 * d.val = d.val; omega

/-- What the tile's `k`-th block adds to segment `s`, column `16 c + l`. -/
def blkAdd (k : Nat) (s : Fin 264) (c l : Fin 16) : EReal := ∑ r : Fin 32, rowAdd (bVal i B k) (xVal i X k) r s c l

theorem st0_sums : Sums st0 fun _ _ _ => 0 := by
  refine ⟨fun x => ?_, fun _ => zeros, ?_, fun s c l => ?_⟩
  · show (256#32).toNat < 264; decide
  · rw [List.map_const', List.length_finRange]; rfl
  · show (Ideal.ofBits .f32 0x00000000#32 : EReal) + (if _ then (Ideal.ofBits .f32 0x00000000#32 : EReal) else 0) = 0
    rw [Ideal.ofBits_zero_f32]; simp

theorem stN_sums (hB : ∀ j, (B j).toNat < 264) (k : Nat) : Sums (stN i X B k) fun s c l => ∑ n ∈ Finset.range k, blkAdd i X B n s c l := by
  induction k with
  | zero => simp only [Finset.range_zero, Finset.sum_empty]; exact st0_sums
  | succ k ih =>
    have hI : ∀ x, (bVal i B k x).toNat < 264 := by
      intro x
      obtain ⟨q, rfl⟩ : ∃ q, x = ix1 q := ⟨x 0, funext fun a => by match a with | ⟨0, _⟩ => rfl⟩
      rw [bVal_apply]; exact hB _
    have := rowsF_sums (R := xVal i X k) hI ih
    simp only [Finset.sum_range_succ]
    exact this

/-- The accumulator at the end: the sums over the tile's blocks. -/
theorem accN_apply (hB : ∀ j, (B j).toNat < 264) (s : Fin 264) (c l : Fin 16) :
    (accN i X B (aIx s c l) : EReal) = ∑ n ∈ Finset.range 98, blkAdd i X B n s c l := by
  unfold accN
  exact flush_sums (stN_sums i X B hB 98) s c l

end

end Cert.SegSum
-- ==== Proof.Total.lean ====
/- The sum over all the tiles is the sum over all the nodes, and the reference's scatter-add is the same sum. -/
module

public import proofs.«01_k».proof.Proof.Sums
public import proofs.«01_k».proof.Proof.Batch
public import proofs.«01_k».proof.ReferenceIdeal

@[expose] public section

noncomputable section

namespace Cert.SegSum

open Cert.KernelIdeal Cert.KernelIdeal.Facts₀
open Idealize.ShloMosaic

/-! ## Sums over ranges -/

theorem sum_range_mul {M : Type} [AddCommMonoid M] (f : ℕ → M) (a b : ℕ) :
    ∑ k ∈ Finset.range a, ∑ r ∈ Finset.range b, f (b * k + r) = ∑ n ∈ Finset.range (b * a), f n := by
  induction a with
  | zero => simp
  | succ a ih => rw [Finset.sum_range_succ, ih, Nat.mul_succ, Finset.sum_range_add]

/-- Tile `w` takes the blocks `w + 32 k`: together they are the blocks in order, and their rows all the rows. -/
theorem sum_tiles {M : Type} [AddCommMonoid M] (f : ℕ → M) :
    ∑ w : Fin 32, ∑ k ∈ Finset.range 98, ∑ r : Fin 32, f (32 * (w.val + 32 * k) + r.val) = ∑ n ∈ Finset.range 100352, f n := by
  have h1 : ∀ j, ∑ r : Fin 32, f (32 * j + r.val) = ∑ r ∈ Finset.range 32, f (32 * j + r) := fun j =>
    (Finset.sum_range fun r => f (32 * j + r)).symm
  simp only [h1]
  rw [Finset.sum_comm]
  have h2 : ∀ k, ∑ w : Fin 32, ∑ r ∈ Finset.range 32, f (32 * (w.val + 32 * k) + r) = ∑ w ∈ Finset.range 32, ∑ r ∈ Finset.range 32, f (32 * (32 * k + w) + r) := fun k => by
    rw [Finset.sum_range]; simp only [Nat.add_comm]
  simp only [h2]
  rw [sum_range_mul (fun j => ∑ r ∈ Finset.range 32, f (32 * j + r)) 98 32, sum_range_mul f (32 * 98) 32]

/-! ## The tiles' sums -/

variable [Facts]

section
variable (X : Vec Ideal S100000x256 .f32) (b : IVec S100000 32)

/-- Node `t`'s element of column `d` if the batch puts the node in segment `s`; past the nodes, nothing. -/
def hit (s : ℕ) (d : Fin 256) (t : ℕ) : EReal :=
  if h : t < 100000 then (if (b (ix1 ⟨t, h⟩)).toNat = s then (X (ix2 ⟨t, h⟩ d) : EReal) else 0) else 0

omit [Facts] in
/-- All the nodes of segment `s`, added up. -/
theorem sum_hit (s : ℕ) (d : Fin 256) :
    ∑ n ∈ Finset.range 100352, hit X b s d n = ∑ t : Fin 100000, if (b (ix1 t)).toNat = s then (X (ix2 t d) : EReal) else 0 := by
  rw [show 100352 = 100000 + 352 from rfl, Finset.sum_range_add, Finset.sum_range]
  rw [Finset.sum_eq_zero (s := Finset.range 352) (fun n _ => dif_neg (by omega)), add_zero]
  exact Finset.sum_congr rfl fun t _ => dif_pos t.isLt

theorem rowAdd_eq (w : Fin 32) (k : ℕ) (r : Fin 32) (s : Fin 264) (hs : s.val < 256) (c l : Fin 16) :
    rowAdd (bVal (ptOf w) (wordsOf b) k) (xVal (ptOf w) X k) r s c l
      = hit X b s.val ⟨16 * c.val + l.val, by omega⟩ (32 * (w.val + 32 * k) + r.val) := by
  unfold rowAdd
  rw [bVal_apply, xVal_apply, wordsOf_apply]
  have hb : blk (ptOf w) k = min (w.val + 32 * k) 3125 := by unfold blk; rw [wN_ptOf]
  have hst : strt (ptOf w) k = min (32 * blk (ptOf w) k) 99968 := rfl
  unfold hit
  by_cases h : w.val + 32 * k < 3125
  · have hb' : blk (ptOf w) k = w.val + 32 * k := by omega
    have hst' : strt (ptOf w) k = 32 * (w.val + 32 * k) := by omega
    have hr := r.isLt
    rw [dif_pos (by show 32 * blk (ptOf w) k + r.val < 100000; omega), dif_pos (by omega)]
    simp only [hb', hst']
  · have hb' : blk (ptOf w) k = 3125 := by omega
    rw [dif_neg (by show ¬ 32 * blk (ptOf w) k + r.val < 100000; omega), dif_neg (by omega)]
    refine if_neg ?_
    show ¬ 256 = s.val
    omega

/-- The partial sums of all the tiles, added up: the sum over the nodes. -/
theorem sum_part (hb : ∀ x, (b x).toNat < 256) (s d : Fin 256) :
    ∑ w : Fin 32, (part X (wordsOf b) (ix3 w s d) : EReal) = ∑ t : Fin 100000, if (b (ix1 t)).toNat = s.val then (X (ix2 t d) : EReal) else 0 := by
  rw [← sum_hit, ← sum_tiles]
  refine Finset.sum_congr rfl fun w _ => ?_
  have hd := d.isLt
  have e : accIx s d = aIx ⟨s.val, by omega⟩ ⟨d.val / 16, by omega⟩ ⟨d.val % 16, by omega⟩ := by
    unfold accIx aIx
    funext a
    match a with
    | ⟨0, _⟩ => rfl
    | ⟨1, _⟩ => apply Fin.ext; show d.val = 16 * (d.val / 16) + d.val % 16; omega
  have e' : (⟨16 * (d.val / 16) + d.val % 16, by omega⟩ : Fin 256) = d := Fin.ext (by show 16 * (d.val / 16) + d.val % 16 = d.val; omega)
  show (accN (ptOf w) X (wordsOf b) (accIx s d) : EReal) = _
  rw [e, accN_apply _ _ _ (wordsOf_lt hb)]
  refine Finset.sum_congr rfl fun k _ => ?_
  unfold blkAdd
  refine Finset.sum_congr rfl fun r _ => ?_
  rw [rowAdd_eq _ _ _ _ _ _ s.isLt]
  exact congrArg (fun d => hit X b s.val d _) e'

end

/-! ## The reference's scatter-add -/

section
variable [Cert.ReferenceIdeal.Facts] (X : Vec Ideal S100000x256 .f32) (b : IVec S100000 32)

/-- The reference's dimension numbers. -/
abbrev sdims : ScatterDims S256x256 Cert.ReferenceIdeal.S100000x1 S100000x256 := Cert.ReferenceIdeal.scatter_S256x256_S100000x1_S100000x256_1_0_0_1

/-- The batch as the scatter-add's index array. -/
abbrev bIdx : IVec Cert.ReferenceIdeal.S100000x1 32 :=
  broadcastInDim Cert.ReferenceIdeal.S100000x1 ![0] Cert.ReferenceIdeal.Facts₀.bcast_S100000_S100000x1_0 b

theorem sdims_start0 (t : Fin 100000) (d : Fin 256) : sdims.start (ix2 t d) (bIdx b) 0 = (b (ix1 t)).toInt := by
  unfold ScatterDims.start
  refine (dif_pos (show (0 : Fin 2) ∈ ([0] : List (Fin 2)) by decide)).trans ?_
  refine congrArg BitVec.toInt ?_
  unfold bIdx broadcastInDim
  refine congrArg b (funext fun a => ?_)
  match a with | ⟨0, _⟩ => rfl

theorem sdims_start1 (t : Fin 100000) (d : Fin 256) : sdims.start (ix2 t d) (bIdx b) 1 = 0 := by
  unfold ScatterDims.start
  exact dif_neg (show (1 : Fin 2) ∉ ([0] : List (Fin 2)) by decide)

theorem sdims_window0 (t : Fin 100000) (d : Fin 256) : sdims.window (ix2 t d) 0 = 0 := by
  unfold ScatterDims.window
  exact dif_neg (show (0 : Fin 2) ∉ S256x256.kept [0] by decide)

theorem sdims_window1 (t : Fin 100000) (d : Fin 256) : sdims.window (ix2 t d) 1 = d.val := by
  unfold ScatterDims.window
  exact dif_pos (show (1 : Fin 2) ∈ S256x256.kept [0] by decide)

theorem sdims_result (hb : ∀ x, (b x).toNat < 256) (t : Fin 100000) (d d' s : Fin 256) :
    sdims.resultIdx? (ix2 t d') (bIdx b) = some (ix2 s d) ↔ (b (ix1 t)).toNat = s.val ∧ d' = d := by
  have ht := hb (ix1 t)
  have hi : (b (ix1 t)).toInt = ((b (ix1 t)).toNat : Int) := by rw [BitVec.toInt_eq_toNat_of_lt]; omega
  have hd' := d'.isLt
  have hall : ∀ a, 0 ≤ sdims.start (ix2 t d') (bIdx b) a + sdims.window (ix2 t d') a ∧ sdims.start (ix2 t d') (bIdx b) a + sdims.window (ix2 t d') a < S256x256.size a := by
    intro a
    match a with
    | 0 => rw [sdims_start0, sdims_window0, hi]; show _ ∧ _ < (256 : Int); omega
    | 1 => rw [sdims_start1, sdims_window1]; show _ ∧ _ < (256 : Int); omega
  unfold ScatterDims.resultIdx?
  rw [dif_pos hall, Option.some.injEq]
  constructor
  · intro h
    have h0 := congrArg Fin.val (congrFun h 0)
    have h1 := congrArg Fin.val (congrFun h 1)
    simp only [sdims_start0, sdims_window0, hi] at h0
    simp only [sdims_start1, sdims_window1] at h1
    refine ⟨?_, Fin.ext ?_⟩
    · have : (((b (ix1 t)).toNat : Int) + ((0 : ℕ) : Int)).toNat = s.val := h0
      omega
    · have : ((0 : Int) + (d'.val : Int)).toNat = d.val := h1
      omega
  · rintro ⟨h0, rfl⟩
    funext a
    apply Fin.ext
    match a with
    | 0 =>
      show (sdims.start (ix2 t d') (bIdx b) 0 + sdims.window (ix2 t d') 0).toNat = s.val
      rw [sdims_start0, sdims_window0, hi]; omega
    | 1 =>
      show (sdims.start (ix2 t d') (bIdx b) 1 + sdims.window (ix2 t d') 1).toNat = d'.val
      rw [sdims_start1, sdims_window1]; omega

/-- The reference's scatter-add into zeros: the sum over the nodes. -/
theorem scatter_apply (hb : ∀ x, (b x).toNat < 256) (Z : Vec Ideal S256x256 .f32) (hZ : ∀ x, (Z x : EReal) = 0) (s d : Fin 256) :
    (Host.scatterAdd (F := Ideal) (φ := .f32) sdims Z (bIdx b) X (ix2 s d) : EReal) = ∑ t : Fin 100000, if (b (ix1 t)).toNat = s.val then (X (ix2 t d) : EReal) else 0 := by
  show ((Z (ix2 s d) : EReal) + ∑ j ∈ Finset.univ.filter (fun j => sdims.resultIdx? j (bIdx b) = some (ix2 s d)), (X j : EReal)) = _
  rw [hZ, zero_add, Finset.sum_filter, sum_idx2]
  refine Finset.sum_congr rfl fun t _ => ?_
  simp only [sdims_result b hb]
  by_cases h : (b (ix1 t)).toNat = s.val
  · simp [h]
  · simp [h]

end

end Cert.SegSum

end
-- ==== Proof.Result.lean ====
/- The kernel's result and the reference's, element by element. -/
module

public import proofs.«01_k».proof.Proof.Total
public import Idealize.ShloMosaic.Lib.MatmulPlain
public import Idealize.ShloMosaic.Lib.StackMember
public import Idealize.ShloMosaic.Lib.Pointwise.Reduce

@[expose] public section

noncomputable section

namespace Cert.SegSum

open Idealize.ShloMosaic

section
open Cert.ReferenceIdeal

/-- The reference's composed term. -/
def refVal [Cert.ReferenceIdeal.Facts] (x : FVec Ideal S100000x256 .f32) (g : FVec Ideal S256x256 .f32) (b : IVec S100000 32) (w : FVec Ideal S256x512 .f32) (v : FVec Ideal S256 .f32) : FVec Ideal S256x256 .f32 :=
  addf (Host.dotGeneral dot_S256x512_S512x256_S256x256_1_0_0_1_n_n none
      (concatenate S256x512 1 [⟨S256x256, g⟩, ⟨S256x256, Host.scatterAdd scatter_S256x256_S100000x1_S100000x256_1_0_0_1
        (broadcastInDim S256x256 ![] Facts₀.bcast_S_S256x256 (constant S_ .f32 0x00000000#32)) (broadcastInDim S100000x1 ![0] Facts₀.bcast_S100000_S100000x1_0 b) x⟩]
        Facts₀.concatenates_S256x256_S256x256_S256x512_d1)
      (transpose S512x256 [1, 0] w Facts₀.transposes_S256x512_S512x256_1_0))
    (broadcastInDim S256x256 ![0, 1] Facts₀.bcast_S1x256_S256x256_0_1 (broadcastInDim S1x256 ![1] Facts₀.bcast_S256_S1x256_1 v))

end

open Cert.KernelIdeal Cert.KernelIdeal.Facts₀
open Idealize.ShloMosaic.TcCoe

/-- One element of the linear layer: `g · w₁ᵀ + s · w₂ᵀ + v`, the weight's two halves side by side in `w`. -/
def layer (g s : S256x256.Idx → EReal) (w : S256x512.Idx → EReal) (v : S256.Idx → EReal) (r c : Fin 256) : EReal :=
  (∑ k : Fin 256, g (ix2 r k) * w (ix2 c ⟨k.val, by omega⟩)) + (∑ k : Fin 256, s (ix2 r k) * w (ix2 c ⟨256 + k.val, by omega⟩)) + v (ix1 c)

/-! ## The kernel's -/

theorem dotT_apply (g w : Vec Ideal S256x256 .f32) (r c : Fin 256) :
    (matmul (F := Ideal) (φ₁ := .f32) (φ₂ := .f32) dot_S256x256_S256x256_S256x256_1_1_0_0_n_n none g w (constant S256x256 .f32 0x00000000#32) (ix2 r c) : EReal)
      = ∑ k : Fin 256, (g (ix2 r k) : EReal) * w (ix2 c k) := by
  refine (Ideal.matmul_transposedRhs_apply (M := 256) (K := 256) (N := 256) (φ₁ := .f32) (φ₂ := .f32) none g w _ r c).trans ?_
  show (Ideal.ofBits .f32 0x00000000#32 : EReal) + _ = _
  rw [Ideal.ofBits_zero_f32, zero_add]
  rfl

theorem same_apply {s : Shape} {α : Type} (x : s.Idx → α) (h : s.ShapeCasts s) (j : s.Idx) : shapeCast s x h j = x j :=
  shapeCast_apply _ _ _ _ rfl

theorem finish_apply (p : Vec Ideal S32x256x256 .f32) (g w₁ w₂ : Vec Ideal S256x256 .f32) (b : Vec Ideal S1x256 .f32) (r c : Fin 256) :
    (finish p g w₁ w₂ b (ix2 r c) : EReal) = (∑ k : Fin 256, (g (ix2 r k) : EReal) * w₁ (ix2 c k))
      + (∑ k : Fin 256, (∑ t : Fin 32, (p (ix3 t r k) : EReal)) * w₂ (ix2 c k)) + b (ix2 0 c) := by
  unfold finish
  refine congrArg₂ (fun x y : EReal => x + y) (congrArg₂ (fun x y : EReal => x + y) ?_ ?_) ?_
  · refine (dotT_apply _ _ r c).trans (Finset.sum_congr rfl fun k _ => ?_)
    rw [same_apply]
  · refine (dotT_apply _ _ r c).trans (Finset.sum_congr rfl fun k _ => ?_)
    rw [same_apply]
    refine congrArg (fun x : EReal => x * w₂ (ix2 c k)) ?_
    refine (Ideal.reduceAdd_r3_a0 _ _ _).trans (Finset.sum_congr rfl fun t _ => ?_)
    exact same_apply _ _ _
  · refine (broadcastTo_apply _ _ _ (ix2 0 c) ?_).trans (same_apply _ _ _)
    intro a
    match a with
    | ⟨0, _⟩ => rfl
    | ⟨1, _⟩ => rfl

section
variable (m : (ℓ : Loc nD τ sig) → Buf (Elt Ideal) ℓ) (d : Dev nD)

theorem X_eq : X m d = m ((d.tc : Thread nD τ).loc main_arg0) := ops1_keep _ (by decide)

theorem V3_part : V3 m d main_v11 = part (X m d) (B m d) := by
  refine (ops2_keep _ (by decide)).trans ?_
  unfold V2; exact Function.update_self ..

theorem V3_arg1 : V3 m d main_arg1 = m ((d.tc : Thread nD τ).loc main_arg1) :=
  (ops2_keep _ (by decide)).trans ((V2_ne m d main_arg1 (by decide)).trans (ops1_keep _ (by decide)))

theorem V2_arg3 : V2 m d main_arg3 = m ((d.tc : Thread nD τ).loc main_arg3) :=
  (V2_ne m d main_arg3 (by decide)).trans (ops1_keep _ (by decide))

theorem V2_arg4 : V2 m d main_arg4 = m ((d.tc : Thread nD τ).loc main_arg4) :=
  (V2_ne m d main_arg4 (by decide)).trans (ops1_keep _ (by decide))

theorem V3_v12 : V3 m d main_v12 = extractStridedSlice S256x256 ![0, 0] (m ((d.tc : Thread nD τ).loc main_arg3) : S256x512.Idx → EReal) slices_S256x512_S256x256_0_0 := by
  rw [← V2_arg3 m d]; unfold V3 ops2; generalize V2 m d = V
  after_results

theorem V3_v13 : V3 m d main_v13 = extractStridedSlice S256x256 ![0, 256] (m ((d.tc : Thread nD τ).loc main_arg3) : S256x512.Idx → EReal) slices_S256x512_S256x256_0_256 := by
  rw [← V2_arg3 m d]; unfold V3 ops2; generalize V2 m d = V
  after_results

theorem V3_v14 : V3 m d main_v14 = shapeCast S1x256 (m ((d.tc : Thread nD τ).loc main_arg4) : S256.Idx → EReal) shapeCasts_S256_S1x256 := by
  rw [← V2_arg4 m d]; unfold V3 ops2; generalize V2 m d = V
  after_results
  rfl

/-- The kernel's result: the linear layer of the global features and the segment sums. -/
theorem kernel_apply (hb : ∀ x, ((m ((d.tc : Thread nD τ).loc main_arg2) : IVec S100000 32) x).toNat < 256) (r c : Fin 256) :
    ((V4 m d main_v15 : Vec Ideal S256x256 .f32) (ix2 r c) : EReal)
      = layer (m ((d.tc : Thread nD τ).loc main_arg1))
          (fun y => ∑ t : Fin 100000, if ((m ((d.tc : Thread nD τ).loc main_arg2) : IVec S100000 32) (ix1 t)).toNat = (y 0).val then
            ((m ((d.tc : Thread nD τ).loc main_arg0) : Vec Ideal S100000x256 .f32) (ix2 t (y 1)) : EReal) else 0)
          (m ((d.tc : Thread nD τ).loc main_arg3)) (m ((d.tc : Thread nD τ).loc main_arg4)) r c := by
  rw [V4_result]
  refine (finish_apply _ _ _ _ _ r c).trans ?_
  unfold layer
  refine congrArg₂ (fun x y : EReal => x + y) (congrArg₂ (fun x y : EReal => x + y) (Finset.sum_congr rfl fun k _ => ?_) (Finset.sum_congr rfl fun k _ => ?_)) ?_
  · refine congrArg₂ (fun x y : EReal => x * y) (congrFun (V3_arg1 m d) _) ((congrFun (V3_v12 m d) _).trans ?_)
    refine congrArg (m ((d.tc : Thread nD τ).loc main_arg3) : S256x512.Idx → EReal) (funext fun a => ?_)
    match a with
    | ⟨0, _⟩ => apply Fin.ext; show 0 + c.val = c.val; omega
    | ⟨1, _⟩ => apply Fin.ext; show 0 + k.val = k.val; omega
  · refine congrArg₂ (fun x y : EReal => x * y) ?_ ((congrFun (V3_v13 m d) _).trans ?_)
    · refine Eq.trans ?_ (sum_part _ _ hb r k)
      refine Finset.sum_congr rfl fun t _ => ?_
      refine (congrFun (V3_part m d) _).trans ?_
      rw [X_eq, B_eq]
    · refine congrArg (m ((d.tc : Thread nD τ).loc main_arg3) : S256x512.Idx → EReal) (funext fun a => ?_)
      match a with
      | ⟨0, _⟩ => apply Fin.ext; show 0 + c.val = c.val; omega
      | ⟨1, _⟩ => apply Fin.ext; rfl
  · refine (congrFun (V3_v14 m d) _).trans (shapeCast_apply _ _ _ (ix1 c) ?_)
    rw [Shape.rowMajor_val_one, Shape.rowMajor_val_two]
    show c.val = 0 * 256 + c.val
    omega

end

/-! ## The reference's -/

section
variable [Cert.ReferenceIdeal.Facts]

omit [Cert.ReferenceIdeal.Facts] in
theorem cat_left (g s : S256x256.Idx → EReal) (h : Shape.Concatenates [S256x256, S256x256] S256x512 1) (r k : Fin 256) :
    concatenate S256x512 1 [⟨S256x256, g⟩, ⟨S256x256, s⟩] h (ix2 r (Fin.castAdd 256 k)) = g (ix2 r k) := by
  refine concatenate_pair_apply_left (s₁ := S256x256) (s₂ := S256x256) (t := S256x512) 1 g s h _ rfl (ix2 r k) ?_
  intro a
  match a with
  | ⟨0, _⟩ => rfl
  | ⟨1, _⟩ => rfl

omit [Cert.ReferenceIdeal.Facts] in
theorem cat_right (g s : S256x256.Idx → EReal) (h : Shape.Concatenates [S256x256, S256x256] S256x512 1) (r k : Fin 256) :
    concatenate S256x512 1 [⟨S256x256, g⟩, ⟨S256x256, s⟩] h (ix2 r (Fin.natAdd 256 k)) = s (ix2 r k) := by
  refine concatenate_pair_apply_right (s₁ := S256x256) (s₂ := S256x256) (t := S256x512) 1 g s h _ rfl rfl (ix2 r k) ?_ ?_
  · intro a ha
    match a with
    | ⟨0, _⟩ => rfl
    | ⟨1, _⟩ => exact absurd rfl ha
  · show k.val + 256 = 256 + k.val; omega

theorem refVal_apply (x : Vec Ideal S100000x256 .f32) (g : Vec Ideal S256x256 .f32) (b : IVec S100000 32) (w : Vec Ideal S256x512 .f32) (v : Vec Ideal S256 .f32)
    (hb : ∀ k, (b k).toNat < 256) (r c : Fin 256) :
    (refVal x g b w v (ix2 r c) : EReal)
      = layer g (fun y => ∑ t : Fin 100000, if (b (ix1 t)).toNat = (y 0).val then (x (ix2 t (y 1)) : EReal) else 0) w v r c := by
  have ew : ∀ k : Fin 512, (transpose Cert.ReferenceIdeal.S512x256 [1, 0] w Cert.ReferenceIdeal.Facts₀.transposes_S256x512_S512x256_1_0 (ix2 k c) : EReal) = w (ix2 c k) := by
    intro k
    refine congrArg w (funext fun a => ?_)
    match a with
    | ⟨0, _⟩ => rfl
    | ⟨1, _⟩ => rfl
  unfold refVal layer
  refine congrArg₂ (fun x y : EReal => x + y) ?_ ?_
  · refine (StackMember.dotGeneral_plain_apply (m := 256) (n := 256) (k := 512) (φ₁ := .f32) (φ₂ := .f32) none _ _ r c).trans ?_
    refine (Fin.sum_univ_add (a := 256) (b := 256) _).trans ?_
    refine congrArg₂ (fun x y : EReal => x + y) (Finset.sum_congr rfl fun k _ => ?_) (Finset.sum_congr rfl fun k _ => ?_)
    · exact congrArg₂ (fun x y : EReal => x * y) (cat_left _ _ _ r k) (ew _)
    · refine congrArg₂ (fun x y : EReal => x * y) ?_ (ew _)
      refine (cat_right _ _ _ r k).trans ?_
      refine scatter_apply x b hb _ (fun y => ?_) r k
      exact Ideal.ofBits_zero_f32
  · refine congrArg v (funext fun a => ?_)
    match a with
    | ⟨0, _⟩ => rfl

end

/-- The two results are the same array. -/
theorem kernel_eq_ref [Cert.ReferenceIdeal.Facts] (m : (ℓ : Loc nD τ sig) → Buf (Elt Ideal) ℓ) (d : Dev nD)
    (hb : ∀ x, ((m ((d.tc : Thread nD τ).loc main_arg2) : IVec S100000 32) x).toNat < 256) :
    V4 m d main_v15 = refVal (m ((d.tc : Thread nD τ).loc main_arg0)) (m ((d.tc : Thread nD τ).loc main_arg1)) (m ((d.tc : Thread nD τ).loc main_arg2))
      (m ((d.tc : Thread nD τ).loc main_arg3)) (m ((d.tc : Thread nD τ).loc main_arg4)) := by
  funext y
  obtain ⟨r, c, rfl⟩ : ∃ (r c : Fin 256), y = ix2 r c := ⟨y 0, y 1, eq_ix2 y⟩
  exact (kernel_apply m d hb r c).trans (refVal_apply _ _ _ _ _ hb r c).symm

end Cert.SegSum

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_in_range
public import proofs.«01_k».proof.Proof.Batch
public import proofs.«01_k».proof.Proof.Result
public import Idealize.ShloMosaic.Adequacy
public import Idealize.ShloMosaic.Init

@[expose] public section

noncomputable section

namespace Cert.Proof

open Idealize.ShloMosaic Idealize.SL.Sem Cert.SegSum

/-- The precondition bounds every segment word the kernel reads. -/
theorem words_lt {F : FTy → Type} [FloatOps F] (m : (ℓ : Loc Cert.KernelIdeal.nD Cert.KernelIdeal.τ Cert.KernelIdeal.sig) → Buf (Elt F) ℓ)
    (h : ∀ (c : Dev Cert.KernelIdeal.nD) k, ((m ((c.tc : Thread Cert.KernelIdeal.nD Cert.KernelIdeal.τ).loc Cert.KernelIdeal.main_arg2) : IVec Cert.KernelIdeal.S100000 32) k).toNat < 256)
    (d : Dev Cert.KernelIdeal.nD) (j : Cert.KernelIdeal.S3126x512.Idx) : (B m d j).toNat < 264 := by
  rw [B_eq]; exact wordsOf_lt (h d) j

/-- The two kernels' programs have the same text: the same kernel bodies, … -/
theorem bodies_eq : @Cert.Kernel.defs₀ Bits _ _ = @Cert.KernelIdeal.defs₀ Bits _ _ := by
  funext p ℓ a
  match p, ℓ, a with
  | .tc, 0, _ => rfl
  | .tc, 1, _ => rfl
  | .scVector c s, 0, _ => rfl
  | .scVector c s, 1, _ => rfl
  | .scScalar c, 0, _ => rfl
  | .scScalar c, 1, _ => rfl

/-- … so the same body table. -/
theorem defs_eq : @Cert.Kernel.defs Bits _ _ = @Cert.KernelIdeal.defs Bits _ _ := by
  unfold Cert.Kernel.defs Cert.KernelIdeal.defs
  rw [bodies_eq]
  rfl

/-- `Cert.quiescent_Kernel`. -/
theorem frame_kernel : Cert.quiescent_Kernel := by
  intro m ρ hpre
  rw [defs_eq]
  exact (θ_run Cert.KernelIdeal.defs _ _).mono
    (fun _ h => ⟨fun c => ⟨(h.1 c).1, (h.1 c).2.1, (h.1 c).2.2.1, (h.1 c).2.2.2.1, (h.1 c).2.2.2.2.1⟩, h.2⟩)
    (run_main (F := Bits) m ρ (words_lt m fun c => batch_lt (hpre c)))

/-- `Cert.quiescent_KernelIdeal`. -/
theorem frame_kernelIdeal : Cert.quiescent_KernelIdeal := fun m ρ hpre =>
  (θ_run Cert.KernelIdeal.defs _ _).mono
    (fun _ h => ⟨fun c => ⟨(h.1 c).1, (h.1 c).2.1, (h.1 c).2.2.1, (h.1 c).2.2.2.1, (h.1 c).2.2.2.2.1⟩, h.2⟩)
    (run_main (F := Ideal) m ρ (words_lt m fun c => batch_lt (hpre c)))

/-- `Cert.quiescent_ReferenceIdeal`: it declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- `Cert.algebraic_KernelIdeal_ReferenceIdeal`: both end with the linear layer of the global features and the segment sums. -/
theorem algebraic : Cert.algebraic_KernelIdeal_ReferenceIdeal := fun m ρ m' ρ' hpre hag =>
  ⟨fun c => V4 m c ((Proc.tc : Proc Cert.KernelIdeal.τ).devRef Cert.KernelIdeal.main_v15),
    (θ_run Cert.KernelIdeal.defs _ _).mono
      (fun _ h c => ⟨(h.1 c).2.2.2.2.2, (h.1 c).1, (h.1 c).2.1, (h.1 c).2.2.1, (h.1 c).2.2.2.1, (h.1 c).2.2.2.2.1⟩)
      (run_main (F := Ideal) m ρ (words_lt m fun c => batch_lt (hpre c))),
    (θ_run Cert.ReferenceIdeal.defs _ _).mono
      (fun _ h c => ⟨(h c).1.trans (by
          obtain ⟨h0, h1, h2, h3, h4⟩ := hag c
          rw [h0, h1, h2, h3, h4]
          exact (kernel_eq_ref m c (batch_lt (hpre c))).symm), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts, Cert.Pre_in_range.Gen.facts,
    frame_kernel, frame_kernelIdeal, frame_referenceIdeal, fun m ρ _ => frame_referenceIdeal m ρ trivial, trivial, algebraic⟩

end Cert.Proof

end
